-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  IdealRules.named_const.Statement Cert.Kernel2Ideal.κ "q_scale" .f32 0x3E0293EE#32 (((Real.log 2)⁻¹ * (Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_qk.lean ====
abbrev S8192x14336 : Shape := ⟨2, ![8192, 14336]⟩
abbrev S8192x4096 : Shape := ⟨2, ![8192, 4096]⟩
abbrev S_ : Shape := ⟨0, ![]⟩

class Facts : Prop where
  slices_S8192x14336_S8192x4096_0_2048 : S8192x14336.Slices ![0, 2048] S8192x4096
  bcast_S_S8192x4096 : S_.BroadcastsInDim S8192x4096 (![] : Fin 0 → Fin S8192x4096.rank)

variable [Facts]

def fn {F : FTy → Type} [FloatOps F] (main_arg0 : FVec F S8192x14336 .bf16) : IVec S8192x4096 1 :=
  let main_v0 : FVec F S8192x4096 .bf16 := (extractStridedSlice S8192x4096 ![0, 2048] · slices_S8192x14336_S8192x4096_0_2048) main_arg0
  let main_v1 : FVec F S8192x4096 .bf16 := Host.absf main_v0
  let main_cst : FVec F S_ .bf16 := constant S_ .bf16 0x7F80#16
  let main_v2 : FVec F S8192x4096 .bf16 := broadcastInDim S8192x4096 ![] bcast_S_S8192x4096 main_cst
  let main_v3 : IVec S8192x4096 1 := cmpf .olt main_v1 main_v2
  main_v3
-- ==== Kernel.lean ====
abbrev S8192x14336 : Shape := ⟨2, ![8192, 14336]⟩
abbrev S128x4x16x14336 : Shape := ⟨4, ![128, 4, 16, 14336]⟩
abbrev S128x4x16x2048 : Shape := ⟨4, ![128, 4, 16, 2048]⟩
abbrev S128x1x16x512 : Shape := ⟨4, ![128, 1, 16, 512]⟩
abbrev S2048x128 : Shape := ⟨2, ![2048, 128]⟩
abbrev S144x2048 : Shape := ⟨2, ![144, 2048]⟩
abbrev S128x16x512 : Shape := ⟨3, ![128, 16, 512]⟩
abbrev S2048x512 : Shape := ⟨2, ![2048, 512]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S128x2048 : Shape := ⟨2, ![128, 2048]⟩
abbrev S16x2048 : Shape := ⟨2, ![16, 2048]⟩
abbrev S32x128 : Shape := ⟨2, ![32, 128]⟩
abbrev S32x2048 : Shape := ⟨2, ![32, 2048]⟩
abbrev S8x2048 : Shape := ⟨2, ![8, 2048]⟩
abbrev S1x2048 : Shape := ⟨2, ![1, 2048]⟩
abbrev S256x256 : Shape := ⟨2, ![256, 256]⟩
abbrev S256 : Shape := ⟨1, ![256]⟩
abbrev S1x256 : Shape := ⟨2, ![1, 256]⟩
abbrev S144x256 : Shape := ⟨2, ![144, 256]⟩
abbrev S512x128 : Shape := ⟨2, ![512, 128]⟩
abbrev S256x512 : Shape := ⟨2, ![256, 512]⟩
abbrev S512 : Shape := ⟨1, ![512]⟩
abbrev S1x512 : Shape := ⟨2, ![1, 512]⟩
abbrev S144x512 : Shape := ⟨2, ![144, 512]⟩
abbrev S768x128 : Shape := ⟨2, ![768, 128]⟩
abbrev S256x768 : Shape := ⟨2, ![256, 768]⟩
abbrev S768 : Shape := ⟨1, ![768]⟩
abbrev S1x768 : Shape := ⟨2, ![1, 768]⟩
abbrev S144x768 : Shape := ⟨2, ![144, 768]⟩
abbrev S1024x128 : Shape := ⟨2, ![1024, 128]⟩
abbrev S256x1024 : Shape := ⟨2, ![256, 1024]⟩
abbrev S1024 : Shape := ⟨1, ![1024]⟩
abbrev S1x1024 : Shape := ⟨2, ![1, 1024]⟩
abbrev S144x1024 : Shape := ⟨2, ![144, 1024]⟩
abbrev S1280x128 : Shape := ⟨2, ![1280, 128]⟩
abbrev S256x1280 : Shape := ⟨2, ![256, 1280]⟩
abbrev S1280 : Shape := ⟨1, ![1280]⟩
abbrev S1x1280 : Shape := ⟨2, ![1, 1280]⟩
abbrev S144x1280 : Shape := ⟨2, ![144, 1280]⟩
abbrev S1536x128 : Shape := ⟨2, ![1536, 128]⟩
abbrev S256x1536 : Shape := ⟨2, ![256, 1536]⟩
abbrev S1536 : Shape := ⟨1, ![1536]⟩
abbrev S1x1536 : Shape := ⟨2, ![1, 1536]⟩
abbrev S144x1536 : Shape := ⟨2, ![144, 1536]⟩
abbrev S1792x128 : Shape := ⟨2, ![1792, 128]⟩
abbrev S256x1792 : Shape := ⟨2, ![256, 1792]⟩
abbrev S1792 : Shape := ⟨1, ![1792]⟩
abbrev S1x1792 : Shape := ⟨2, ![1, 1792]⟩
abbrev S144x1792 : Shape := ⟨2, ![144, 1792]⟩
abbrev S256x2048 : Shape := ⟨2, ![256, 2048]⟩
abbrev S2048 : Shape := ⟨1, ![2048]⟩

abbrev nBuf : Space → Nat
  | .hbm => 3
  | .vmem => 14
  | .smem => 0
  | _ => 0

abbrev bufTy : (tb : Table) → Fin (tcTables nBuf tb) → BufTy
  | .hbm, ⟨0, _⟩ => ⟨S8192x14336, .bf16⟩
  | .hbm, ⟨1, _⟩ => ⟨S128x4x16x14336, .bf16⟩
  | .hbm, ⟨2, _⟩ => ⟨S128x4x16x2048, .bf16⟩
  | .local _ .vmem, ⟨0, _⟩ => ⟨S128x1x16x512, .bf16⟩
  | .local _ .vmem, ⟨1, _⟩ => ⟨S128x1x16x512, .bf16⟩
  | .local _ .vmem, ⟨2, _⟩ => ⟨S128x1x16x512, .bf16⟩
  | .local _ .vmem, ⟨3, _⟩ => ⟨S128x1x16x512, .bf16⟩
  | .local _ .vmem, ⟨4, _⟩ => ⟨S128x1x16x512, .bf16⟩
  | .local _ .vmem, ⟨5, _⟩ => ⟨S128x1x16x512, .bf16⟩
  | .local _ .vmem, ⟨6, _⟩ => ⟨S128x1x16x512, .bf16⟩
  | .local _ .vmem, ⟨7, _⟩ => ⟨S128x1x16x512, .bf16⟩
  | .local _ .vmem, ⟨8, _⟩ => ⟨S128x1x16x512, .bf16⟩
  | .local _ .vmem, ⟨9, _⟩ => ⟨S128x1x16x512, .bf16⟩
  | .local _ .vmem, ⟨10, _⟩ => ⟨S2048x128, .bf16⟩
  | .local _ .vmem, ⟨11, _⟩ => ⟨S2048x128, .bf16⟩
  | .local _ .vmem, ⟨12, _⟩ => ⟨S144x2048, .bf16⟩
  | .local _ .vmem, ⟨13, _⟩ => ⟨S144x2048, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S128x1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x14336 : Shape := ⟨2, ![8192, 14336]⟩
abbrev S128x4x16x14336 : Shape := ⟨4, ![128, 4, 16, 14336]⟩
abbrev S4x128x16x14336 : Shape := ⟨4, ![4, 128, 16, 14336]⟩
abbrev S4x2048x14336 : Shape := ⟨3, ![4, 2048, 14336]⟩
abbrev S4x2048x2048 : Shape := ⟨3, ![4, 2048, 2048]⟩
abbrev S4x2048x16x128 : Shape := ⟨4, ![4, 2048, 16, 128]⟩
abbrev S4x16x2048x128 : Shape := ⟨4, ![4, 16, 2048, 128]⟩
abbrev S_ : Shape := ⟨0, ![]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S4x16x8x256x128 : Shape := ⟨5, ![4, 16, 8, 256, 128]⟩
abbrev S4x16x8x128 : Shape := ⟨4, ![4, 16, 8, 128]⟩
abbrev S4x16x2048x8 : Shape := ⟨4, ![4, 16, 2048, 8]⟩
abbrev S4x16x2048x3 : Shape := ⟨4, ![4, 16, 2048, 3]⟩
abbrev S4x16x2048x3x1 : Shape := ⟨5, ![4, 16, 2048, 3, 1]⟩
abbrev S1x1x1x1x8 : Shape := ⟨5, ![1, 1, 1, 1, 8]⟩
abbrev S4x16x2048x3x8 : Shape := ⟨5, ![4, 16, 2048, 3, 8]⟩
abbrev S1x1x2048x8 : Shape := ⟨4, ![1, 1, 2048, 8]⟩
abbrev S1x2048 : Shape := ⟨2, ![1, 2048]⟩
abbrev S2048x2048 : Shape := ⟨2, ![2048, 2048]⟩
abbrev S4x16x2048x8x1 : Shape := ⟨5, ![4, 16, 2048, 8, 1]⟩
abbrev S4x16x2048x8x256 : Shape := ⟨5, ![4, 16, 2048, 8, 256]⟩
abbrev S4x16x2048x2048 : Shape := ⟨4, ![4, 16, 2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x128x16x2048 : Shape := ⟨4, ![4, 128, 16, 2048]⟩
abbrev S128x4x16x2048 : Shape := ⟨4, ![128, 4, 16, 2048]⟩

abbrev nBuf : Space → Nat
  | .hbm => 112
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S8192x14336, .f32⟩
  | .hbm, ⟨2, _⟩ => ⟨S128x4x16x14336, .f32⟩
  | .hbm, ⟨3, _⟩ => ⟨S4x128x16x14336, .f32⟩
  | .hbm, ⟨4, _⟩ => ⟨S4x2048x14336, .f32⟩
  | .hbm, ⟨5, _⟩ => ⟨S4x2048x2048, .f32⟩
  | .hbm, ⟨6, _⟩ => ⟨S4x2048x16x128, .f32⟩
  | .hbm, ⟨7, _⟩ => ⟨S4x16x2048x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16x2048x128, .f32⟩
  | .hbm, ⟨14, _⟩ => ⟨S4x16x2048x128, .f32⟩
  | .hbm, ⟨15, _⟩ => ⟨S4x2048x2048, .f32⟩
  | .hbm, ⟨16, _⟩ => ⟨S4x2048x16x128, .f32⟩
  | .hbm, ⟨17, _⟩ => ⟨S4x16x2048x128, .f32⟩
  | .hbm, ⟨18, _⟩ => ⟨S4x2048x2048, .f32⟩
  | .hbm, ⟨19, _⟩ => ⟨S4x2048x16x128, .f32⟩
  | .hbm, ⟨20, _⟩ => ⟨S4x16x2048x128, .f32⟩
  | .hbm, ⟨21, _⟩ => ⟨S4x2048x2048, .f32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S8, .i32⟩
  | .hbm, ⟨27, _⟩ => ⟨S1x8, .i32⟩
  | .hbm, ⟨28, _⟩ => ⟨S2048x1, .i32⟩
  | .hbm, ⟨29, _⟩ => ⟨S2048x8, .i32⟩
  | .hbm, ⟨30, _⟩ => ⟨S2048x8, .i32⟩
  | .hbm, ⟨31, _⟩ => ⟨S2048x8, .i1⟩
  | .hbm, ⟨32, _⟩ => ⟨S4x16x8x256x128, .f32⟩
  | .hbm, ⟨33, _⟩ => ⟨S_, .f32⟩
  | .hbm, ⟨34, _⟩ => ⟨S4x16x8x128, .f32⟩
  | .hbm, ⟨35, _⟩ => ⟨S_, .f32⟩
  | .hbm, ⟨36, _⟩ => ⟨S4x16x8x128, .f32⟩
  | .hbm, ⟨37, _⟩ => ⟨S4x16x8x128, .f32⟩
  | .hbm, ⟨38, _⟩ => ⟨S4x16x2048x8, .f32⟩
  | .hbm, ⟨39, _⟩ => ⟨S4x16x2048x8, .i1⟩
  | .hbm, ⟨40, _⟩ => ⟨S_, .f32⟩
  | .hbm, ⟨41, _⟩ => ⟨S4x16x2048x8, .f32⟩
  | .hbm, ⟨42, _⟩ => ⟨S4x16x2048x8, .f32⟩
  | .hbm, ⟨43, _⟩ => ⟨S4x16x2048x3, .f32⟩
  | .hbm, ⟨44, _⟩ => ⟨S4x16x2048x3, .i32⟩
  | .hbm, ⟨45, _⟩ => ⟨S4x16x2048x3x1, .i32⟩
  | .hbm, ⟨46, _⟩ => ⟨S1x1x1x1x8, .i32⟩
  | .hbm, ⟨47, _⟩ => ⟨S4x16x2048x3x8, .i32⟩
  | .hbm, ⟨48, _⟩ => ⟨S4x16x2048x3x8, .i32⟩
  | .hbm, ⟨49, _⟩ => ⟨S4x16x2048x3x8, .i1⟩
  | .hbm, ⟨50, _⟩ => ⟨S_, .i1⟩
  | .hbm, ⟨51, _⟩ => ⟨S4x16x2048x8, .i1⟩
  | .hbm, ⟨52, _⟩ => ⟨S1x1x2048x8, .i1⟩
  | .hbm, ⟨53, _⟩ => ⟨S4x16x2048x8, .i1⟩
  | .hbm, ⟨54, _⟩ => ⟨S4x16x2048x8, .i1⟩
  | .hbm, ⟨55, _⟩ => ⟨S1x2048, .i32⟩
  | .hbm, ⟨56, _⟩ => ⟨S2048x1, .i32⟩
  | .hbm, ⟨57, _⟩ => ⟨S2048x2048, .i32⟩
  | .hbm, ⟨58, _⟩ => ⟨S2048x2048, .i32⟩
  | .hbm, ⟨59, _⟩ => ⟨S2048x2048, .i1⟩
  | .hbm, ⟨60, _⟩ => ⟨S1x2048, .i32⟩
  | .hbm, ⟨61, _⟩ => ⟨S2048x1, .i32⟩
  | .hbm, ⟨62, _⟩ => ⟨S2048x2048, .i32⟩
  | .hbm, ⟨63, _⟩ => ⟨S2048x2048, .i32⟩
  | .hbm, ⟨64, _⟩ => ⟨S2048x2048, .i1⟩
  | .hbm, ⟨65, _⟩ => ⟨S2048x2048, .i1⟩
  | .hbm, ⟨66, _⟩ => ⟨S4x16x2048x8x1, .i1⟩
  | .hbm, ⟨67, _⟩ => ⟨S4x16x2048x8x256, .i1⟩
  | .hbm, ⟨68, _⟩ => ⟨S4x16x2048x2048, .i1⟩
  | .hbm, ⟨69, _⟩ => ⟨S1x1x2048x2048, .i1⟩
  | .hbm, ⟨70, _⟩ => ⟨S4x16x2048x2048, .i1⟩
  | .hbm, ⟨71, _⟩ => ⟨S4x16x2048x2048, .i1⟩
  | .hbm, ⟨72, _⟩ => ⟨S4x16x2048x2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4x16x2048x2048, .f32⟩
  | .hbm, ⟨78, _⟩ => ⟨S4x16x2048x2048, .f32⟩
  | .hbm, ⟨79, _⟩ => ⟨S_, .f32⟩
  | .hbm, ⟨80, _⟩ => ⟨S4x16x2048x2048, .f32⟩
  | .hbm, ⟨81, _⟩ => ⟨S4x16x2048x2048, .f32⟩
  | .hbm, ⟨82, _⟩ => ⟨S_, .f32⟩
  | .hbm, ⟨83, _⟩ => ⟨S4x16x2048, .f32⟩
  | .hbm, ⟨84, _⟩ => ⟨S_, .f32⟩
  | .hbm, ⟨85, _⟩ => ⟨S4x16x2048, .f32⟩
  | .hbm, ⟨86, _⟩ => ⟨S4x16x2048, .f32⟩
  | .hbm, ⟨87, _⟩ => ⟨S4x16x2048x1, .f32⟩
  | .hbm, ⟨88, _⟩ => ⟨S4x16x2048x2048, .f32⟩
  | .hbm, ⟨89, _⟩ => ⟨S4x16x2048x2048, .f32⟩
  | .hbm, ⟨90, _⟩ => ⟨S4x16x2048x2048, .f32⟩
  | .hbm, ⟨91, _⟩ => ⟨S_, .f32⟩
  | .hbm, ⟨92, _⟩ => ⟨S4x16x2048, .f32⟩
  | .hbm, ⟨93, _⟩ => ⟨S4x16x2048x1, .f32⟩
  | .hbm, ⟨94, _⟩ => ⟨S4x16x2048x2048, .f32⟩
  | .hbm, ⟨95, _⟩ => ⟨S4x16x2048x2048, .f32⟩
  | .hbm, ⟨96, _⟩ => ⟨S4x16x2048x128, .f32⟩
  | .hbm, ⟨97, _⟩ => ⟨S4x2048x16x128, .f32⟩
  | .hbm, ⟨98, _⟩ => ⟨S4x2048x2048, .f32⟩
  | .hbm, ⟨99, _⟩ => ⟨S4x2048x2048, .f32⟩
  | .hbm, ⟨100, _⟩ => ⟨S4x2048x2048, .f32⟩
  | .hbm, ⟨101, _⟩ => ⟨S_, .f32⟩
  | .hbm, ⟨102, _⟩ => ⟨S4x2048x2048, .f32⟩
  | .hbm, ⟨103, _⟩ => ⟨S4x2048x2048, .f32⟩
  | .hbm, ⟨104, _⟩ => ⟨S_, .f32⟩
  | .hbm, ⟨105, _⟩ => ⟨S4x2048x2048, .f32⟩
  | .hbm, ⟨106, _⟩ => ⟨S4x2048x2048, .f32⟩
  | .hbm, ⟨107, _⟩ => ⟨S4x2048x2048, .f32⟩
  | .hbm, ⟨108, _⟩ => ⟨S4x2048x2048, .f32⟩
  | .hbm, ⟨109, _⟩ => ⟨S4x128x16x2048, .f32⟩
  | .hbm, ⟨110, _⟩ => ⟨S128x4x16x2048, .f32⟩
  | .hbm, ⟨111, _⟩ => ⟨S128x4x16x2048, .bf16⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_values : Ref sig .tc := ⟨.hbm, 43, rfl⟩
abbrev main_indices : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_10 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_11 : Ref sig .tc := ⟨.hbm, 101, rfl⟩
abbrev main_v85 : Ref sig .tc := ⟨.hbm, 102, rfl⟩
abbrev main_v86 : Ref sig .tc := ⟨.hbm, 103, rfl⟩
abbrev main_cst_12 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩

abbrev nD : Nat := 1
abbrev τ : Topo := Topo.v7x

variable {F : FTy → Type} [FloatOps F]
-- ==== Kernel2.lean ====
abbrev S8192x2048 : Shape := ⟨2, ![8192, 2048]⟩
abbrev S2x2048x14336 : Shape := ⟨3, ![2, 2048, 14336]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S8192x14336 : Shape := ⟨2, ![8192, 14336]⟩
abbrev S2048x2048 : Shape := ⟨2, ![2048, 2048]⟩
abbrev S1x2048x1024 : Shape := ⟨3, ![1, 2048, 1024]⟩
abbrev S512x128 : Shape := ⟨2, ![512, 128]⟩
abbrev S2048x1024 : Shape := ⟨2, ![2048, 1024]⟩
abbrev S32x1x16x128 : Shape := ⟨4, ![32, 1, 16, 128]⟩
abbrev S2048x256 : Shape := ⟨2, ![2048, 256]⟩
abbrev S32x4x16x128 : Shape := ⟨4, ![32, 4, 16, 128]⟩

abbrev nBuf : Space → Nat
  | .hbm => 32
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x14336, .f32⟩
  | .hbm, ⟨2, _⟩ => ⟨S2048, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S_, .f32⟩
  | .hbm, ⟨25, _⟩ => ⟨S2048x96, .f32⟩
  | .hbm, ⟨26, _⟩ => ⟨S2048x128, .f32⟩
  | .hbm, ⟨27, _⟩ => ⟨S2048x16, .f32⟩
  | .hbm, ⟨28, _⟩ => ⟨S_, .f32⟩
  | .hbm, ⟨29, _⟩ => ⟨S2048x96, .f32⟩
  | .hbm, ⟨30, _⟩ => ⟨S2048x128, .f32⟩
  | .hbm, ⟨31, _⟩ => ⟨S8192x14336, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![14, 4], ![false, false]⟩

def k0_cond2 (i : grid0.Coords) : BitVec 1 :=
  let arg0 : BitVec 32 := BitVec.ofNat 32 (i 0).val
  let c2_i32 : BitVec 32 := 2#32
  let v3 : BitVec 1 := Scalar.cmpi .sge arg0 c2_i32
  let c4_i32 : BitVec 32 := 4#32
  let v4 : BitVec 1 := Scalar.cmpi .slt arg0 c4_i32
  let v5 : BitVec 1 := Scalar.andi v3 v4
  let c4_i32_1 : BitVec 32 := 4#32
  let v6 : BitVec 1 := Scalar.cmpi .sge arg0 c4_i32_1
  let c6_i32 : BitVec 32 := 6#32
  let v7 : BitVec 1 := Scalar.cmpi .slt arg0 c6_i32
  let v8 : BitVec 1 := Scalar.andi v6 v7
  let v9 : BitVec 1 := Scalar.ori v5 v8
  let v_true : BitVec 1 := 1#1
  let v10 : BitVec 1 := Scalar.xori v9 v_true
  let v11 : BitVec 32 := Scalar.extui v10
  let c0_i32_2 : BitVec 32 := 0#32
  let v12 : BitVec 1 := Scalar.cmpi .ne v11 c0_i32_2
  v12

def k0_cond3 (i : grid0.Coords) : BitVec 1 :=
  let arg0 : BitVec 32 := BitVec.ofNat 32 (i 0).val
  let c2_i32 : BitVec 32 := 2#32
  let v3 : BitVec 1 := Scalar.cmpi .sge arg0 c2_i32
  let c4_i32 : BitVec 32 := 4#32
  let v4 : BitVec 1 := Scalar.cmpi .slt arg0 c4_i32
  let v5 : BitVec 1 := Scalar.andi v3 v4
  let c4_i32_1 : BitVec 32 := 4#32
  let v6 : BitVec 1 := Scalar.cmpi .sge arg0 c4_i32_1
  let c6_i32 : BitVec 32 := 6#32
  let v7 : BitVec 1 := Scalar.cmpi .slt arg0 c6_i32
  let v8 : BitVec 1 := Scalar.andi v6 v7
  let v13 : BitVec 1 := Scalar.ori v5 v8
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "q_scale" => some (((Real.log 2)⁻¹ * (Real.sqrt 128)⁻¹ : ℝ) : EReal)
  | _ => none
-- ==== Reference2Ideal.lean ====
abbrev S8192x2048 : Shape := ⟨2, ![8192, 2048]⟩
abbrev S2x2048x14336 : Shape := ⟨3, ![2, 2048, 14336]⟩
abbrev S128x4x16x2048 : Shape := ⟨4, ![128, 4, 16, 2048]⟩
abbrev S4x128x16x2048 : Shape := ⟨4, ![4, 128, 16, 2048]⟩
abbrev S4x2048x2048 : Shape := ⟨3, ![4, 2048, 2048]⟩
abbrev S1x2048x14336 : Shape := ⟨3, ![1, 2048, 14336]⟩
abbrev S2048x14336 : Shape := ⟨2, ![2048, 14336]⟩
abbrev S4x2048x14336 : Shape := ⟨3, ![4, 2048, 14336]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x16x128 : Shape := ⟨4, ![4, 2048, 16, 128]⟩
abbrev S4x2048x16x16 : Shape := ⟨4, ![4, 2048, 16, 16]⟩
abbrev S1x2048x1x16 : Shape := ⟨4, ![1, 2048, 1, 16]⟩
abbrev S4x2048x16x96 : Shape := ⟨4, ![4, 2048, 16, 96]⟩
abbrev S4x2048x8192 : Shape := ⟨3, ![4, 2048, 8192]⟩
abbrev S4x128x16x14336 : Shape := ⟨4, ![4, 128, 16, 14336]⟩
abbrev S128x4x16x14336 : Shape := ⟨4, ![128, 4, 16, 14336]⟩
abbrev S8192x14336 : Shape := ⟨2, ![8192, 14336]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14336, .f32⟩
  | .hbm, ⟨2, _⟩ => ⟨S8192x2048, .f32⟩
  | .hbm, ⟨3, _⟩ => ⟨S128x4x16x2048, .f32⟩
  | .hbm, ⟨4, _⟩ => ⟨S4x128x16x2048, .f32⟩
  | .hbm, ⟨5, _⟩ => ⟨S4x2048x2048, .f32⟩
  | .hbm, ⟨6, _⟩ => ⟨S1x2048x14336, .f32⟩
  | .hbm, ⟨7, _⟩ => ⟨S2048x14336, .f32⟩
  | .hbm, ⟨8, _⟩ => ⟨S4x2048x14336, .f32⟩
  | .hbm, ⟨9, _⟩ => ⟨S2048, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x1x16, .f32⟩
  | .hbm, ⟨31, _⟩ => ⟨S2048x16, .f32⟩
  | .hbm, ⟨32, _⟩ => ⟨S2048x1x16, .f32⟩
  | .hbm, ⟨33, _⟩ => ⟨S4x2048x2048, .f32⟩
  | .hbm, ⟨34, _⟩ => ⟨S4x2048x16x128, .f32⟩
  | .hbm, ⟨35, _⟩ => ⟨S4x2048x16x16, .f32⟩
  | .hbm, ⟨36, _⟩ => ⟨S4x2048x16x16, .f32⟩
  | .hbm, ⟨37, _⟩ => ⟨S1x2048x1x16, .f32⟩
  | .hbm, ⟨38, _⟩ => ⟨S4x2048x16x16, .f32⟩
  | .hbm, ⟨39, _⟩ => ⟨S4x2048x16x16, .f32⟩
  | .hbm, ⟨40, _⟩ => ⟨S1x2048x1x16, .f32⟩
  | .hbm, ⟨41, _⟩ => ⟨S4x2048x16x16, .f32⟩
  | .hbm, ⟨42, _⟩ => ⟨S4x2048x16x16, .f32⟩
  | .hbm, ⟨43, _⟩ => ⟨S4x2048x16x16, .f32⟩
  | .hbm, ⟨44, _⟩ => ⟨S1x2048x1x16, .f32⟩
  | .hbm, ⟨45, _⟩ => ⟨S4x2048x16x16, .f32⟩
  | .hbm, ⟨46, _⟩ => ⟨S4x2048x16x16, .f32⟩
  | .hbm, ⟨47, _⟩ => ⟨S1x2048x1x16, .f32⟩
  | .hbm, ⟨48, _⟩ => ⟨S4x2048x16x16, .f32⟩
  | .hbm, ⟨49, _⟩ => ⟨S4x2048x16x16, .f32⟩
  | .hbm, ⟨50, _⟩ => ⟨S4x2048x16x16, .f32⟩
  | .hbm, ⟨51, _⟩ => ⟨S4x2048x16x96, .f32⟩
  | .hbm, ⟨52, _⟩ => ⟨S4x2048x16x128, .f32⟩
  | .hbm, ⟨53, _⟩ => ⟨S4x2048x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S4x2048x16x128, .f32⟩
  | .hbm, ⟨65, _⟩ => ⟨S4x2048x16x16, .f32⟩
  | .hbm, ⟨66, _⟩ => ⟨S4x2048x16x16, .f32⟩
  | .hbm, ⟨67, _⟩ => ⟨S1x2048x1x16, .f32⟩
  | .hbm, ⟨68, _⟩ => ⟨S4x2048x16x16, .f32⟩
  | .hbm, ⟨69, _⟩ => ⟨S4x2048x16x16, .f32⟩
  | .hbm, ⟨70, _⟩ => ⟨S1x2048x1x16, .f32⟩
  | .hbm, ⟨71, _⟩ => ⟨S4x2048x16x16, .f32⟩
  | .hbm, ⟨72, _⟩ => ⟨S4x2048x16x16, .f32⟩
  | .hbm, ⟨73, _⟩ => ⟨S4x2048x16x16, .f32⟩
  | .hbm, ⟨74, _⟩ => ⟨S1x2048x1x16, .f32⟩
  | .hbm, ⟨75, _⟩ => ⟨S4x2048x16x16, .f32⟩
  | .hbm, ⟨76, _⟩ => ⟨S4x2048x16x16, .f32⟩
  | .hbm, ⟨77, _⟩ => ⟨S1x2048x1x16, .f32⟩
  | .hbm, ⟨78, _⟩ => ⟨S4x2048x16x16, .f32⟩
  | .hbm, ⟨79, _⟩ => ⟨S4x2048x16x16, .f32⟩
  | .hbm, ⟨80, _⟩ => ⟨S4x2048x16x16, .f32⟩
  | .hbm, ⟨81, _⟩ => ⟨S4x2048x16x96, .f32⟩
  | .hbm, ⟨82, _⟩ => ⟨S4x2048x16x128, .f32⟩
  | .hbm, ⟨83, _⟩ => ⟨S4x2048x2048, .f32⟩
  | .hbm, ⟨84, _⟩ => ⟨S4x2048x2048, .f32⟩
  | .hbm, ⟨85, _⟩ => ⟨S4x2048x8192, .f32⟩
  | .hbm, ⟨86, _⟩ => ⟨S4x2048x14336, .f32⟩
  | .hbm, ⟨87, _⟩ => ⟨S4x128x16x14336, .f32⟩
  | .hbm, ⟨88, _⟩ => ⟨S128x4x16x14336, .f32⟩
  | .hbm, ⟨89, _⟩ => ⟨S8192x14336, .f32⟩
  | .hbm, ⟨90, _⟩ => ⟨S8192x14336, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_3 : Ref sig .tc := ⟨.hbm, 54, rfl⟩
abbrev main_v48 : Ref sig .tc := ⟨.hbm, 55, rfl⟩
abbrev main_cst_4 : Ref sig .tc := ⟨.hbm, 56, rfl⟩
abbrev main_v49 : Ref sig .tc := ⟨.hbm, 57, rfl⟩
abbrev main_v50 : Ref sig .tc := ⟨.hbm, 58, rfl⟩
abbrev main_cst_5 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S128x4x16x2048 : Shape := ⟨4, ![128, 4, 16, 2048]⟩
abbrev S2048 : Shape := ⟨1, ![2048]⟩
abbrev S1x2048 : Shape := ⟨2, ![1, 2048]⟩
abbrev S4x128x16x2048 : Shape := ⟨4, ![4, 128, 16, 2048]⟩
abbrev S512x2048 : Shape := ⟨2, ![512, 2048]⟩
abbrev S8x4x16x2048 : Shape := ⟨4, ![8, 4, 16, 2048]⟩
abbrev S4x8x16x2048 : Shape := ⟨4, ![4, 8, 16, 2048]⟩
abbrev S512 : Shape := ⟨1, ![512]⟩
abbrev S512x1 : Shape := ⟨2, ![512, 1]⟩
abbrev S8x1x16x2048 : Shape := ⟨4, ![8, 1, 16, 2048]⟩
abbrev S8x16x2048 : Shape := ⟨3, ![8, 16, 2048]⟩
abbrev S1x8x16x2048 : Shape := ⟨4, ![1, 8, 16, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S128x4x16x2048, .f32⟩
  | .hbm, ⟨3, _⟩ => ⟨S2048, .f32⟩
  | .hbm, ⟨4, _⟩ => ⟨S1x2048, .f32⟩
  | .hbm, ⟨5, _⟩ => ⟨S4x128x16x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S8x4x16x2048, .f32⟩
  | .local _ .vmem, ⟨4, _⟩ => ⟨S8x4x16x2048, .f32⟩
  | .local _ .vmem, ⟨5, _⟩ => ⟨S1x2048, .f32⟩
  | .local _ .vmem, ⟨6, _⟩ => ⟨S4x8x16x2048, .f32⟩
  | .local _ .vmem, ⟨7, _⟩ => ⟨S4x8x16x2048, .f32⟩
  | .local _ .vmem, ⟨8, _⟩ => ⟨S8x4x16x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x8x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x2048 : Shape := ⟨2, ![8192, 2048]⟩
abbrev S2048x2048 : Shape := ⟨2, ![2048, 2048]⟩
abbrev S128x4x16x2048 : Shape := ⟨4, ![128, 4, 16, 2048]⟩
abbrev S2048 : Shape := ⟨1, ![2048]⟩
abbrev S4x128x16x2048 : Shape := ⟨4, ![4, 128, 16, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S128x4x16x2048, .f32⟩
  | .hbm, ⟨3, _⟩ => ⟨S2048, .f32⟩
  | .hbm, ⟨4, _⟩ => ⟨S8192x2048, .f32⟩
  | .hbm, ⟨5, _⟩ => ⟨S128x4x16x2048, .f32⟩
  | .hbm, ⟨6, _⟩ => ⟨S4x128x16x2048, .f32⟩
  | .hbm, ⟨7, _⟩ => ⟨S4x2048x2048, .f32⟩
  | .hbm, ⟨8, _⟩ => ⟨S2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x128x16x2048, .f32⟩
  | .hbm, ⟨18, _⟩ => ⟨S4x2048x2048, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x128x16x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S8192x1024 : Shape := ⟨2, ![8192, 1024]⟩
abbrev S8192x2048 : Shape := ⟨2, ![8192, 2048]⟩
abbrev S8192x14336 : Shape := ⟨2, ![8192, 14336]⟩
abbrev S2x1024x2048 : Shape := ⟨3, ![2, 1024, 2048]⟩
abbrev S2x2048x2048 : Shape := ⟨3, ![2, 2048, 2048]⟩
abbrev S2048x2048 : Shape := ⟨2, ![2048, 2048]⟩
abbrev S1024x1024 : Shape := ⟨2, ![1024, 1024]⟩
abbrev S1x1024x1024 : Shape := ⟨3, ![1, 1024, 1024]⟩
abbrev S1x2048x1024 : Shape := ⟨3, ![1, 2048, 1024]⟩
abbrev S1024x2048 : Shape := ⟨2, ![1024, 2048]⟩
abbrev S1x128x2048 : Shape := ⟨3, ![1, 128, 2048]⟩
abbrev S128x2048 : Shape := ⟨2, ![128, 2048]⟩
abbrev S2048x1024 : Shape := ⟨2, ![2048, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x14336, .bf16⟩
  | .hbm, ⟨3, _⟩ => ⟨S2x1024x2048, .f32⟩
  | .hbm, ⟨4, _⟩ => ⟨S2x2048x2048, .f32⟩
  | .hbm, ⟨5, _⟩ => ⟨S2x2048x2048, .f32⟩
  | .hbm, ⟨6, _⟩ => ⟨S8192x2048, .bf16⟩
  | .hbm, ⟨7, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x2048x1024, .f32⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x128x2048, .f32⟩
  | .local _ .vmem, ⟨11, _⟩ => ⟨S1x128x2048, .f32⟩
  | .local _ .vmem, ⟨12, _⟩ => ⟨S1024x1024, .bf16⟩
  | .local _ .vmem, ⟨13, _⟩ => ⟨S1024x1024, .bf16⟩
  | .local _ .vmem, ⟨14, _⟩ => ⟨S128x2048, .bf16⟩
  | .local _ .vmem, ⟨15, _⟩ => ⟨S128x2048, .bf16⟩
  | .local _ .vmem, ⟨16, _⟩ => ⟨S1024x1024, .bf16⟩
  | .local _ .vmem, ⟨17, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x1024 : Shape := ⟨2, ![8192, 1024]⟩
abbrev S8192x2048 : Shape := ⟨2, ![8192, 2048]⟩
abbrev S8192x14336 : Shape := ⟨2, ![8192, 14336]⟩
abbrev S2x1024x2048 : Shape := ⟨3, ![2, 1024, 2048]⟩
abbrev S2x2048x2048 : Shape := ⟨3, ![2, 2048, 2048]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x14336, .bf16⟩
  | .hbm, ⟨3, _⟩ => ⟨S2x1024x2048, .f32⟩
  | .hbm, ⟨4, _⟩ => ⟨S2x2048x2048, .f32⟩
  | .hbm, ⟨5, _⟩ => ⟨S2x2048x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S1x1024x2048, .f32⟩
  | .hbm, ⟨20, _⟩ => ⟨S1024x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x2048x2048, .f32⟩
  | .hbm, ⟨33, _⟩ => ⟨S2048x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | .hbm, ⟨38, _⟩ => ⟨S1x2048x2048, .f32⟩
  | .hbm, ⟨39, _⟩ => ⟨S2048x2048, .f32⟩
  | .hbm, ⟨40, _⟩ => ⟨S2048x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S4x2048x2048 : Shape := ⟨3, ![4, 2048, 2048]⟩
abbrev S2048 : Shape := ⟨1, ![2048]⟩
abbrev S4x128x16x2048 : Shape := ⟨4, ![4, 128, 16, 2048]⟩
abbrev S1x2048 : Shape := ⟨2, ![1, 2048]⟩
abbrev S128x4x16x2048 : Shape := ⟨4, ![128, 4, 16, 2048]⟩
abbrev S512x2048 : Shape := ⟨2, ![512, 2048]⟩
abbrev S4x8x16x2048 : Shape := ⟨4, ![4, 8, 16, 2048]⟩
abbrev S8x4x16x2048 : Shape := ⟨4, ![8, 4, 16, 2048]⟩
abbrev S512 : Shape := ⟨1, ![512]⟩
abbrev S512x1 : Shape := ⟨2, ![512, 1]⟩
abbrev S1x8x16x2048 : Shape := ⟨4, ![1, 8, 16, 2048]⟩
abbrev S8x16x2048 : Shape := ⟨3, ![8, 16, 2048]⟩
abbrev S8x1x16x2048 : Shape := ⟨4, ![8, 1, 16, 2048]⟩
abbrev S8x16 : Shape := ⟨2, ![8, 16]⟩
abbrev S8x16x1 : Shape := ⟨3, ![8, 16, 1]⟩
abbrev S1x1x2048 : Shape := ⟨3, ![1, 1, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S4x128x16x2048, .f32⟩
  | .hbm, ⟨6, _⟩ => ⟨S1x2048, .f32⟩
  | .hbm, ⟨7, _⟩ => ⟨S1x2048, .f32⟩
  | .hbm, ⟨8, _⟩ => ⟨S128x4x16x2048, .f32⟩
  | .hbm, ⟨9, _⟩ => ⟨S128x4x16x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S4x8x16x2048, .f32⟩
  | .local _ .vmem, ⟨4, _⟩ => ⟨S4x8x16x2048, .f32⟩
  | .local _ .vmem, ⟨5, _⟩ => ⟨S1x2048, .f32⟩
  | .local _ .vmem, ⟨6, _⟩ => ⟨S1x2048, .f32⟩
  | .local _ .vmem, ⟨7, _⟩ => ⟨S8x4x16x2048, .f32⟩
  | .local _ .vmem, ⟨8, _⟩ => ⟨S8x4x16x2048, .f32⟩
  | .local _ .vmem, ⟨9, _⟩ => ⟨S8x4x16x2048, .bf16⟩
  | .local _ .vmem, ⟨10, _⟩ => ⟨S8x4x16x2048, .bf16⟩
  | .local _ .vmem, ⟨11, _⟩ => ⟨S8x4x16x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x8x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x2048 : Shape := ⟨2, ![8192, 2048]⟩
abbrev S2048x2048 : Shape := ⟨2, ![2048, 2048]⟩
abbrev S4x2048x2048 : Shape := ⟨3, ![4, 2048, 2048]⟩
abbrev S2048 : Shape := ⟨1, ![2048]⟩
abbrev S128x4x16x2048 : Shape := ⟨4, ![128, 4, 16, 2048]⟩
abbrev S4x128x16x2048 : Shape := ⟨4, ![4, 128, 16, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S128x4x16x2048, .f32⟩
  | .hbm, ⟨7, _⟩ => ⟨S4x128x16x2048, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x128x16x2048, .f32⟩
  | .hbm, ⟨29, _⟩ => ⟨S128x4x16x2048, .f32⟩
  | .hbm, ⟨30, _⟩ => ⟨S4x2048x2048, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S1x1x2048, .f32⟩
  | .hbm, ⟨44, _⟩ => ⟨S4x2048x2048, .f32⟩
  | .hbm, ⟨45, _⟩ => ⟨S4x2048x2048, .f32⟩
  | .hbm, ⟨46, _⟩ => ⟨S4x128x16x2048, .f32⟩
  | .hbm, ⟨47, _⟩ => ⟨S128x4x16x2048, .f32⟩
  | .hbm, ⟨48, _⟩ => ⟨S128x4x16x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel6.lean ====
abbrev S8192x1024 : Shape := ⟨2, ![8192, 1024]⟩
abbrev S8192x14336 : Shape := ⟨2, ![8192, 14336]⟩
abbrev S1024 : Shape := ⟨1, ![1024]⟩
abbrev S2x1024x1024 : Shape := ⟨3, ![2, 1024, 1024]⟩
abbrev S1x1024 : Shape := ⟨2, ![1, 1024]⟩
abbrev S1024x1024 : Shape := ⟨2, ![1024, 1024]⟩
abbrev S1x1024x1024 : Shape := ⟨3, ![1, 1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x14336, .bf16⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8192x1024 : Shape := ⟨2, ![8192, 1024]⟩
abbrev S8192x14336 : Shape := ⟨2, ![8192, 14336]⟩
abbrev S1024 : Shape := ⟨1, ![1024]⟩
abbrev S2x1024x1024 : Shape := ⟨3, ![2, 1024, 1024]⟩
abbrev S1x1024 : Shape := ⟨2, ![1, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x14336, .bf16⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024x1024, .f32⟩
  | .hbm, ⟨31, _⟩ => ⟨S1024x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel7.lean ====
abbrev S4x2048x2048 : Shape := ⟨3, ![4, 2048, 2048]⟩
abbrev S2048 : Shape := ⟨1, ![2048]⟩
abbrev S4x128x16x2048 : Shape := ⟨4, ![4, 128, 16, 2048]⟩
abbrev S1x2048 : Shape := ⟨2, ![1, 2048]⟩
abbrev S128x4x16x2048 : Shape := ⟨4, ![128, 4, 16, 2048]⟩
abbrev S4x16x16x2048 : Shape := ⟨4, ![4, 16, 16, 2048]⟩
abbrev S16x4x16x2048 : Shape := ⟨4, ![16, 4, 16, 2048]⟩
abbrev S1x16x16x2048 : Shape := ⟨4, ![1, 16, 16, 2048]⟩
abbrev S16x16x2048 : Shape := ⟨3, ![16, 16, 2048]⟩
abbrev S16x16 : Shape := ⟨2, ![16, 16]⟩
abbrev S16x16x1 : Shape := ⟨3, ![16, 16, 1]⟩
abbrev S1x1x2048 : Shape := ⟨3, ![1, 1, 2048]⟩
abbrev S16x1x16x2048 : Shape := ⟨4, ![16, 1, 16, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x128x16x2048, .f32⟩
  | .hbm, ⟨3, _⟩ => ⟨S1x2048, .f32⟩
  | .hbm, ⟨4, _⟩ => ⟨S128x4x16x2048, .bf16⟩
  | .local _ .vmem, ⟨0, _⟩ => ⟨S4x16x16x2048, .f32⟩
  | .local _ .vmem, ⟨1, _⟩ => ⟨S4x16x16x2048, .f32⟩
  | .local _ .vmem, ⟨2, _⟩ => ⟨S1x2048, .f32⟩
  | .local _ .vmem, ⟨3, _⟩ => ⟨S16x4x16x2048, .bf16⟩
  | .local _ .vmem, ⟨4, _⟩ => ⟨S16x4x16x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x16x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x128x16x2048 : Shape := ⟨4, ![4, 128, 16, 2048]⟩
abbrev S128x4x16x2048 : Shape := ⟨4, ![128, 4, 16, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048x2048, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S4x128x16x2048, .f32⟩
  | .hbm, ⟨19, _⟩ => ⟨S128x4x16x2048, .f32⟩
  | .hbm, ⟨20, _⟩ => ⟨S128x4x16x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Rep.lean ====
/-
  Two-dimensional vectors of extended reals, READ AS FUNCTIONS OF TWO NATURAL NUMBERS: `Rep x f` says that the entry of
  `x` in row `i` and column `j` is `f i j`. Every operation of the attention kernel on such vectors has one lemma here,
  at arbitrary extents: the function of the result in terms of the functions of the operands.
-/
module

public import Idealize.ShloMosaic.Lib.Pointwise
public import Idealize.ShloMosaic.Lib.MatmulPlain

@[expose] public section

noncomputable section

namespace Cert.Moba

open Idealize.ShloMosaic Idealize.ShloMosaic.TcCoe

/-- The entry of `x` in row `i` and column `j` is `f i j`. -/
def Rep {a b : ℕ} {β : Type} (x : (⟨2, ![a, b]⟩ : Shape).Idx → β) (f : ℕ → ℕ → β) : Prop :=
  ∀ (i : Fin a) (j : Fin b), x (ix2 i j) = f i.val j.val

section
variable {a b : ℕ}

/-- Two functions that agree inside the extents represent the same vector. -/
theorem Rep.congr {β : Type} {x : (⟨2, ![a, b]⟩ : Shape).Idx → β} {f g : ℕ → ℕ → β} (hx : Rep x f)
    (h : ∀ i < a, ∀ j < b, f i j = g i j) : Rep x g :=
  fun i j => (hx i j).trans (h _ i.2 _ j.2)

/-- A splat is a constant function. -/
theorem Rep.broadcast {β : Type} (c : β) : Rep (Idealize.ShloMosaic.broadcast ⟨2, ![a, b]⟩ c) fun _ _ => c := fun _ _ => rfl

/-- A rectangle cut out of a vector. -/
theorem Rep.slice {β : Type} {a' b' o p : ℕ} {x : (⟨2, ![a, b]⟩ : Shape).Idx → β} {f : ℕ → ℕ → β} (hx : Rep x f)
    (h : (⟨2, ![a, b]⟩ : Shape).Slices ![o, p] ⟨2, ![a', b']⟩) :
    Rep (extractStridedSlice ⟨2, ![a', b']⟩ ![o, p] x h) fun i j => f (o + i) (p + j) := by
  intro i j
  have h0 : o + i.val < a := lt_of_lt_of_le (Nat.add_lt_add_left i.2 o) (h.2 0)
  have h1 : p + j.val < b := lt_of_lt_of_le (Nat.add_lt_add_left j.2 p) (h.2 1)
  refine Eq.trans ?_ (hx ⟨o + i, h0⟩ ⟨p + j, h1⟩)
  pointwise
  congr 1
  funext q
  match q with
  | 0 => rfl
  | 1 => rfl

/-- One row repeated. -/
theorem Rep.broadcastRow {β : Type} {x : (⟨2, ![1, b]⟩ : Shape).Idx → β} {f : ℕ → ℕ → β} (hx : Rep x f)
    (h : (⟨2, ![1, b]⟩ : Shape).Broadcasts ⟨2, ![a, b]⟩) :
    Rep (broadcastTo ⟨2, ![a, b]⟩ x h) fun _ j => f 0 j := by
  intro i j
  refine Eq.trans ?_ (hx 0 j)
  pointwise
  congr 1
  funext q
  match q with
  | 0 => rfl
  | 1 =>
    by_cases hb : b = 1
    · subst hb
      exact Subsingleton.elim (α := Fin 1) _ _
    · exact dif_neg hb

/-- Two vectors side by side. -/
theorem Rep.concatCols {β : Type} {b₁ b₂ : ℕ} {x : (⟨2, ![a, b₁]⟩ : Shape).Idx → β} {y : (⟨2, ![a, b₂]⟩ : Shape).Idx → β}
    {f g : ℕ → ℕ → β} (hx : Rep x f) (hy : Rep y g)
    (h : Shape.Concatenates [⟨2, ![a, b₁]⟩, ⟨2, ![a, b₂]⟩] (⟨2, ![a, b]⟩ : Shape) 1) :
    Rep (concatenate ⟨2, ![a, b]⟩ 1 [⟨⟨2, ![a, b₁]⟩, x⟩, ⟨⟨2, ![a, b₂]⟩, y⟩] h)
      fun i j => if j < b₁ then f i j else g i (j - b₁) := by
  intro i j
  pointwise
  have hb : b₁ + b₂ = b := by simpa using h.2.2
  split
  · next hj =>
    refine Eq.trans ?_ (hx i ⟨j, hj⟩)
    congr 1
    funext q
    match q with
    | 0 => rfl
    | 1 => rfl
  · next hj =>
    have hj2 : j.val - b₁ < b₂ := by have := j.2; omega
    refine Eq.trans ?_ (hy i ⟨j - b₁, hj2⟩)
    congr 1
    funext q
    match q with
    | 0 => rfl
    | 1 => rfl

/-- A cast to the same shape. -/
theorem Rep.shapeCast {β : Type} {x : (⟨2, ![a, b]⟩ : Shape).Idx → β} {f : ℕ → ℕ → β} (hx : Rep x f)
    (h : (⟨2, ![a, b]⟩ : Shape).ShapeCasts ⟨2, ![a, b]⟩) : Rep (Idealize.ShloMosaic.shapeCast ⟨2, ![a, b]⟩ x h) f := by
  intro i j
  refine Eq.trans ?_ (hx i j)
  pointwise

/-- The transpose. -/
theorem Rep.transpose {β : Type} {x : (⟨2, ![a, b]⟩ : Shape).Idx → β} {f : ℕ → ℕ → β} (hx : Rep x f)
    (h : (⟨2, ![a, b]⟩ : Shape).Transposes [1, 0] ⟨2, ![b, a]⟩) :
    Rep (Idealize.ShloMosaic.transpose ⟨2, ![b, a]⟩ [1, 0] x h) fun i j => f j i := by
  intro i j
  refine Eq.trans ?_ (hx j i)
  pointwise
  congr 1
  funext q
  match q with
  | 0 => rfl
  | 1 => rfl

/-- A row-by-row product: entry (i, j) is the sum over the common columns of row `i` times row `j`. -/
theorem Rep.matmulT {K : ℕ} {x : FVec Ideal ⟨2, ![a, K]⟩ .bf16} {y : FVec Ideal ⟨2, ![b, K]⟩ .bf16} {f g : ℕ → ℕ → EReal}
    (hx : Rep x f) (hy : Rep y g) :
    Rep (matmul (DotDims.transposedRhs a K b) none x y (constant ⟨2, ![a, b]⟩ .f32 0x00000000#32))
      fun i j => ∑ d : Fin K, f i d * g j d := by
  intro i j
  refine (Ideal.matmul_transposedRhs_apply none x y _ i j).trans ?_
  show Ideal.ofBits .f32 0x00000000#32 + _ = _
  rw [Ideal.ofBits_zero_f32, zero_add]
  exact Finset.sum_congr rfl fun d _ => congrArg₂ (fun u v : EReal => u * v) (hx i d) (hy j d)

/-- The product of two matrices. -/
theorem Rep.matmul {K : ℕ} {x : FVec Ideal ⟨2, ![a, K]⟩ .bf16} {y : FVec Ideal ⟨2, ![K, b]⟩ .bf16} {f g : ℕ → ℕ → EReal}
    (hx : Rep x f) (hy : Rep y g) :
    Rep (Idealize.ShloMosaic.matmul (DotDims.plain a K b) none x y (constant ⟨2, ![a, b]⟩ .f32 0x00000000#32))
      fun i j => ∑ d : Fin K, f i d * g d j := by
  intro i j
  refine (Ideal.matmul_plain_apply none x y _ i j).trans ?_
  show Ideal.ofBits .f32 0x00000000#32 + _ = _
  rw [Ideal.ofBits_zero_f32, zero_add]
  exact Finset.sum_congr rfl fun d _ => congrArg₂ (fun u v : EReal => u * v) (hx i d) (hy d j)

theorem ofBits_neg_inf_f32 : (FloatOps.ofBits (F := Ideal) .f32 0xFF800000#32 : EReal) = ⊥ := by
  show Ideal.ofBits .f32 0xFF800000#32 = ⊥
  simp [Ideal.ofBits, Ideal.ieee]

/-- Entry `j` of a vector is entry (0, j) of the row it is cast to. -/
theorem row_apply {β : Type} (x : (⟨1, ![b]⟩ : Shape).Idx → β) (h : (⟨1, ![b]⟩ : Shape).ShapeCasts ⟨2, ![1, b]⟩)
    (i : Fin 1) (j : Fin b) : Idealize.ShloMosaic.shapeCast ⟨2, ![1, b]⟩ x h (ix2 i j) = x (ix1 j) := by
  show x (Shape.reshapeEquiv h (ix2 i j)) = _
  rw [Shape.reshapeEquiv_eq_of_vals h (ix2 i j) (ix1 j) j.val j.val (rowMajor_val1 _)
    ((rowMajor_val2 _ _ rfl).trans (by rw [Subsingleton.elim i 0]; simp)) rfl]

/-- The largest entry of every column, as a row. -/
theorem Rep.maxRows {x : FVec Ideal ⟨2, ![a, b]⟩ .f32} {f : ℕ → ℕ → EReal} (hx : Rep x f)
    (h : (⟨2, ![a, b]⟩ : Shape).Reduces [0] ⟨1, ![b]⟩) (h1 h2) (h' : (⟨1, ![b]⟩ : Shape).ShapeCasts ⟨2, ![1, b]⟩) :
    Rep (Idealize.ShloMosaic.shapeCast ⟨2, ![1, b]⟩ (multiReduction .maximumf [0] ⟨1, ![b]⟩ x 0xFF800000#32 h h1 h2) h')
      fun _ j => Finset.univ.sup fun i : Fin a => f i j := by
  intro i j
  rw [row_apply]
  pointwise
  show Finset.fold max (FloatOps.ofBits (F := Ideal) .f32 0xFF800000#32 : EReal) _ _ = Finset.fold max ⊥ _ _
  rw [ofBits_neg_inf_f32]
  refine Finset.fold_congr fun k _ => ?_
  refine Eq.trans ?_ (hx k j)
  congr 1

/-- The sum of every column, as a row. -/
theorem Rep.sumRows {x : FVec Ideal ⟨2, ![a, b]⟩ .f32} {f : ℕ → ℕ → EReal} (hx : Rep x f)
    (h : (⟨2, ![a, b]⟩ : Shape).Reduces [0] ⟨1, ![b]⟩) (h1 h2) (h' : (⟨1, ![b]⟩ : Shape).ShapeCasts ⟨2, ![1, b]⟩) :
    Rep (Idealize.ShloMosaic.shapeCast ⟨2, ![1, b]⟩ (multiReduction .add [0] ⟨1, ![b]⟩ x 0x00000000#32 h h1 h2) h')
      fun _ j => ∑ i : Fin a, f i j := by
  intro i j
  rw [row_apply]
  pointwise
  refine Finset.sum_congr rfl fun k _ => ?_
  refine Eq.trans ?_ (hx k j)
  congr 1

section
variable {φ : FTy} {x y : FVec Ideal ⟨2, ![a, b]⟩ φ} {f g : ℕ → ℕ → EReal}

theorem Rep.addf (hx : Rep x f) (hy : Rep y g) : Rep (Idealize.ShloMosaic.addf x y) fun i j => f i j + g i j :=
  fun i j => congrArg₂ (fun u v : EReal => u + v) (hx i j) (hy i j)
theorem Rep.subf (hx : Rep x f) (hy : Rep y g) : Rep (Idealize.ShloMosaic.subf x y) fun i j => f i j - g i j :=
  fun i j => congrArg₂ (fun u v : EReal => u - v) (hx i j) (hy i j)
theorem Rep.mulf (hx : Rep x f) (hy : Rep y g) : Rep (Idealize.ShloMosaic.mulf x y) fun i j => f i j * g i j :=
  fun i j => congrArg₂ (fun u v : EReal => u * v) (hx i j) (hy i j)
theorem Rep.divf (hx : Rep x f) (hy : Rep y g) : Rep (Idealize.ShloMosaic.divf x y) fun i j => Ideal.div (f i j) (g i j) :=
  fun i j => congrArg₂ Ideal.div (hx i j) (hy i j)
theorem Rep.maximumf (hx : Rep x f) (hy : Rep y g) : Rep (Idealize.ShloMosaic.maximumf x y) fun i j => max (f i j) (g i j) :=
  fun i j => congrArg₂ (fun u v : EReal => max u v) (hx i j) (hy i j)
theorem Rep.exp2 (hx : Rep x f) : Rep (Idealize.ShloMosaic.exp2 x) fun i j => Ideal.exp2 (f i j) :=
  fun i j => congrArg Ideal.exp2 (hx i j)
theorem Rep.tanh (hx : Rep x f) : Rep (Idealize.ShloMosaic.tanh x) fun i j => Ideal.tanh (f i j) :=
  fun i j => congrArg Ideal.tanh (hx i j)
end

theorem Rep.truncf {x : FVec Ideal ⟨2, ![a, b]⟩ .f32} {f : ℕ → ℕ → EReal} (hx : Rep x f) (h) :
    Rep (Idealize.ShloMosaic.truncf .bf16 x h : FVec Ideal ⟨2, ![a, b]⟩ .bf16) f := hx
theorem Rep.extf {x : FVec Ideal ⟨2, ![a, b]⟩ .bf16} {f : ℕ → ℕ → EReal} (hx : Rep x f) (h) :
    Rep (Idealize.ShloMosaic.extf .f32 x h : FVec Ideal ⟨2, ![a, b]⟩ .f32) f := hx

/-- A choice by a mask of one-bit words. -/
theorem Rep.select {β : Type} {c : IVec ⟨2, ![a, b]⟩ 1} {x y : (⟨2, ![a, b]⟩ : Shape).Idx → β} {p : ℕ → ℕ → Prop}
    [∀ i j, Decidable (p i j)] {f g : ℕ → ℕ → β} (hc : ∀ (i : Fin a) (j : Fin b), c (ix2 i j) = 1#1 ↔ p i j)
    (hx : Rep x f) (hy : Rep y g) : Rep (Idealize.ShloMosaic.select c x y) fun i j => if p i j then f i j else g i j := by
  intro i j
  pointwise
  show (if c (ix2 i j) = 1#1 then _ else _) = _
  by_cases h : p i j
  · rw [if_pos ((hc i j).2 h), if_pos h]; exact hx i j
  · rw [if_neg (fun h' => h ((hc i j).1 h')), if_neg h]; exact hy i j

end

end Cert.Moba
-- ==== Proof.Window.lean ====
/-
  Two-dimensional scratch buffers. The contents after a list of stores of rectangles, newest first, at one position: the
  newest store if it covers the position, the older ones if not; and what a load of a rectangle reads.
-/
module

public import Idealize.ShloMosaic.Lib.Pipeline.ReadBack
public import proofs.«01_k».proof.Proof.Rep

@[expose] public section

noncomputable section

namespace Cert.Moba

open Idealize.ShloMosaic Idealize.ShloMosaic.TcCoe

variable {A W a w o p : ℕ} {e : EltTy}

/-- The stores made to a buffer of `A` rows and `W` columns. -/
abbrev Stores (A W : ℕ) (e : EltTy) := List (View.Piece (Elt Ideal) (⟨2, ![A, W]⟩ : Shape) e)

/-- The newest store, at a position that it covers. -/
theorem canon_on {inb} {x : (⟨2, ![a, w]⟩ : Shape).Idx → Elt Ideal e} (L : Stores A W e) {g : ℕ → ℕ → Elt Ideal e}
    (hx : Rep x g) (r : Fin A) (q : Fin W) (hr : o ≤ r.val ∧ r.val < o + a) (hq : p ≤ q.val ∧ q.val < p + w) :
    View.canon (⟨Rect.unit (s := (⟨2, ![A, W]⟩ : Shape)) ![o, p] (⟨2, ![a, w]⟩ : Shape).size inb, x⟩ :: L) (ix2 r q) = g (r.val - o) (q.val - p) := by
  have h1 : r.val - o < a := by omega
  have h2 : q.val - p < w := by omega
  refine Eq.trans ?_ (hx ⟨r.val - o, h1⟩ ⟨q.val - p, h2⟩)
  refine Eq.trans (congrArg _ ?_) (View.canon_cons_emb (Rect.unit (s := (⟨2, ![A, W]⟩ : Shape)) ![o, p] (⟨2, ![a, w]⟩ : Shape).size inb) x L
    (ix2 ⟨r.val - o, h1⟩ ⟨q.val - p, h2⟩))
  funext k
  apply Fin.ext
  match k with
  | 0 => show r.val = o + 1 * (r.val - o); omega
  | 1 => show q.val = p + 1 * (q.val - p); omega

/-- The newest store, at a position that it does not cover. -/
theorem canon_off {inb} {x : (⟨2, ![a, w]⟩ : Shape).Idx → Elt Ideal e} (L : Stores A W e) (r : Fin A) (q : Fin W)
    (h : r.val < o ∨ o + a ≤ r.val ∨ q.val < p ∨ p + w ≤ q.val) :
    View.canon (⟨Rect.unit (s := (⟨2, ![A, W]⟩ : Shape)) ![o, p] (⟨2, ![a, w]⟩ : Shape).size inb, x⟩ :: L) (ix2 r q) = View.canon L (ix2 r q) := by
  refine View.canon_cons_of_not_mem _ L ?_
  intro hm
  obtain ⟨i, hi, he⟩ := (LoadRect.mem_set _).mp hm (0 : Fin 2)
  obtain ⟨j, hj, hf⟩ := (LoadRect.mem_set _).mp hm (1 : Fin 2)
  have hi' : i < a := hi
  have hj' : j < w := hj
  have he' : r.val = o + 1 * i := he
  have hf' : q.val = p + 1 * j := hf
  omega

/-- The load of a rectangle reads what the stores left there. -/
theorem Rep.load {sig : RefSig} {κ : Kind} {sp : Space} (v : View sig κ sp (⟨2, ![A, W]⟩ : Shape) e) {L : Stores A W e} {inb}
    {f : ℕ → ℕ → Elt Ideal e}
    (h : ∀ (i : Fin A) (j : Fin W), o ≤ i.val → i.val < o + a → p ≤ j.val → j.val < p + w →
      View.canon L (ix2 i j) = f i.val j.val) :
    Rep (v.readCov L (Rect.unit (s := (⟨2, ![A, W]⟩ : Shape)) ![o, p] (⟨2, ![a, w]⟩ : Shape).size inb).toLoadRect : (⟨2, ![a, w]⟩ : Shape).Idx → Elt Ideal e)
      fun i j => f (o + i) (p + j) := by
  intro i j
  rw [View.readCov_eq_canon']
  have h0 : o + a ≤ A := inb 0
  have h1 : p + w ≤ W := inb 1
  refine Eq.trans (congrArg (View.canon L) ?_) (h ⟨o + i.val, by omega⟩ ⟨p + j.val, by omega⟩ (Nat.le_add_right _ _)
    (Nat.add_lt_add_left i.2 _) (Nat.le_add_right _ _) (Nat.add_lt_add_left j.2 _))
  funext k
  apply Fin.ext
  match k with
  | 0 => show o + 1 * i.val = o + i.val; omega
  | 1 => show p + 1 * j.val = p + j.val; omega

end Cert.Moba
-- ==== Proof.OnlineSoftmax.lean ====
/-
  Softmax to base two over the extended reals, one block of keys at a time. Scores are real numbers or `⊥` (a key that the
  query does not see); the values they weigh are arbitrary extended reals.
-/
module

public import Idealize.ShloMosaic.PureOps.Ideal.Laws

@[expose] public section

noncomputable section

namespace Cert.Moba

open Idealize.ShloMosaic

variable {ι : Type*}

/-- A finite sum times a real number that is not negative. -/
theorem mul_sum_real (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A score that is not `⊤` is `⊥` or real. -/
theorem eq_bot_or_coe {x : EReal} (h : x ≠ ⊤) : x = ⊥ ∨ ∃ r : ℝ, x = r := by
  induction x with
  | bot => exact .inl rfl
  | top => exact absurd rfl h
  | coe r => exact .inr ⟨r, rfl⟩

theorem exp2_coe' (r : ℝ) : Ideal.exp2 (r : EReal) = ((2 : ℝ) ^ r : ℝ) := rfl

/-- Changing the reference point of an exponential from `b` to `c`. -/
theorem exp2_rebase {a : EReal} (ha : a ≠ ⊤) (b c : ℝ) :
    Ideal.exp2 ((b : EReal) - c) * Ideal.exp2 (a - b) = Ideal.exp2 (a - c) := by
  rcases eq_bot_or_coe ha with rfl | ⟨r, rfl⟩
  · have h : ∀ x : ℝ, (⊥ : EReal) - x = ⊥ := fun x => EReal.bot_sub x
    rw [h, h]
    show _ * (0 : EReal) = 0
    rw [mul_zero]
  · rw [← EReal.coe_sub, ← EReal.coe_sub, ← EReal.coe_sub, exp2_coe', exp2_coe', exp2_coe', ← EReal.coe_mul,
      ← Real.rpow_add (by norm_num)]
    congr 2
    ring

/-- A weighted sum of exponentials changes its reference point by one factor. -/
theorem rescale (s : Finset ι) (V T : ι → EReal) (hT : ∀ i ∈ s, T i ≠ ⊤) (b c : ℝ) :
    Ideal.exp2 ((b : EReal) - c) * ∑ i ∈ s, V i * Ideal.exp2 (T i - b) = ∑ i ∈ s, V i * Ideal.exp2 (T i - c) := by
  rw [← EReal.coe_sub, exp2_coe', mul_sum_real _ _ _ (Real.rpow_nonneg (by norm_num) _)]
  refine Finset.sum_congr rfl fun i hi => ?_
  rw [← exp2_rebase (hT i hi) b c, ← EReal.coe_sub, exp2_coe', mul_left_comm]

/-- The exponentials of a score relative to a real number: natural exponential of `log 2` times the scores. -/
theorem exp_ln2 {a : EReal} (ha : a ≠ ⊤) (c : ℝ) :
    Ideal.exp (((Real.log 2 : ℝ) : EReal) * a - ((Real.log 2 : ℝ) : EReal) * c) = Ideal.exp2 (a - c) := by
  have hl : 0 < Real.log 2 := Real.log_pos (by norm_num)
  rcases eq_bot_or_coe ha with rfl | ⟨r, rfl⟩
  · rw [EReal.coe_mul_bot_of_pos hl, ← EReal.coe_mul, EReal.bot_sub, EReal.bot_sub]
    rfl
  · rw [← EReal.coe_mul, ← EReal.coe_mul, ← EReal.coe_sub, ← EReal.coe_sub, exp2_coe']
    show ((Real.exp _ : ℝ) : EReal) = _
    rw [Real.rpow_def_of_pos (by norm_num)]
    congr 2
    ring

/-- The exponential of a score relative to a real number is a real number that is not negative. -/
theorem exp2_sub_real {a : EReal} (ha : a ≠ ⊤) (c : ℝ) : ∃ r : ℝ, 0 ≤ r ∧ Ideal.exp2 (a - c) = r := by
  rcases eq_bot_or_coe ha with rfl | ⟨r, rfl⟩
  · exact ⟨0, le_rfl, by rw [EReal.bot_sub]; rfl⟩
  · exact ⟨(2 : ℝ) ^ (r - c), Real.rpow_nonneg (by norm_num) _, by rw [← EReal.coe_sub, exp2_coe']⟩

/-- The sum of the exponentials of scores, one of which is real, is a positive real number. -/
theorem sum_exp2_pos [Fintype ι] (T : ι → EReal) (hT : ∀ i, T i ≠ ⊤) (c : ℝ) (i₀ : ι) (h₀ : T i₀ ≠ ⊥) :
    ∃ L : ℝ, 0 < L ∧ ∑ i, Ideal.exp2 (T i - c) = L := by
  choose e he0 he using fun i => exp2_sub_real (hT i) c
  refine ⟨∑ i, e i, ?_, ?_⟩
  · refine Finset.sum_pos' (fun i _ => he0 i) ⟨i₀, Finset.mem_univ _, ?_⟩
    obtain ⟨r, hr⟩ := (eq_bot_or_coe (hT i₀)).resolve_left h₀
    have h := he i₀
    rw [hr, ← EReal.coe_sub, exp2_coe', EReal.coe_eq_coe_iff] at h
    rw [← h]
    exact Real.rpow_pos_of_pos (by norm_num) _
  · rw [Finset.sum_congr rfl fun i _ => he i]
    classical
    induction (Finset.univ : Finset ι) using Finset.induction_on with
    | empty => simp
    | insert a s ha ih => rw [Finset.sum_insert ha, Finset.sum_insert ha, EReal.coe_add, ih]

theorem div_real (x : EReal) {L : ℝ} (hL : 0 < L) : Ideal.div x L = x * ((L⁻¹ : ℝ) : EReal) := by
  unfold Ideal.div
  rw [if_neg (by exact_mod_cast hL.ne'), EReal.coe_inv]

/-- **The weighted sum divided once equals the sum weighted by the divided exponentials**: the softmax to base two of scores
    of which one is real, against the softmax to base e of `log 2` times the scores. -/
theorem softmax_eq [Fintype ι] (V T : ι → EReal) (hT : ∀ i, T i ≠ ⊤) (c : ℝ) (i₀ : ι) (h₀ : T i₀ ≠ ⊥) :
    (∑ i, V i * Ideal.exp2 (T i - c)) * Ideal.div 1 (∑ i, 1 * Ideal.exp2 (T i - c))
      = ∑ i, Ideal.div (Ideal.exp (((Real.log 2 : ℝ) : EReal) * T i - ((Real.log 2 : ℝ) : EReal) * c))
          (∑ k, Ideal.exp (((Real.log 2 : ℝ) : EReal) * T k - ((Real.log 2 : ℝ) : EReal) * c)) * V i := by
  obtain ⟨L, hL, hsum⟩ := sum_exp2_pos T hT c i₀ h₀
  rw [Finset.sum_congr rfl fun i _ => one_mul _, Finset.sum_congr (g := fun k => Ideal.exp2 (T k - c)) rfl
    fun k _ => exp_ln2 (hT k) c, hsum, div_real 1 hL, one_mul, mul_comm, mul_sum_real _ _ _ (inv_nonneg.2 hL.le)]
  refine Finset.sum_congr rfl fun i _ => ?_
  rw [exp_ln2 (hT i) c, div_real _ hL, mul_left_comm, mul_comm (V i), mul_assoc, mul_left_comm, mul_assoc]

/-! ## One query after another block of keys

Keys and queries are numbered from 0, and every 256 of them are a block. `K`, `Q` hold the keys and queries, `V` in row `r`
and column `p` the r-th coordinate of the p-th value, and `B n q` is `0` where query `q` sees all of the block `n` of its past
and `⊥` where it sees none of it. -/

variable (K Q V B : ℕ → ℕ → EReal)

/-- The product of key `p` with query `q`. -/
def sc (p q : ℕ) : EReal := ∑ d : Fin 128, K p d * Q q d

/-- The score of key `i` of block `n` for query `q`: causal in the query's own block, masked by `B` in the past ones. -/
def T (n i q : ℕ) : EReal :=
  if q < 256 * (n + 1) then (if i ≤ q - 256 * n then sc K Q (256 * n + i) q else ⊥) else sc K Q (256 * n + i) q + B n q

/-- The largest score of query `q` among the blocks from `n` to its own. -/
def Mx (n q : ℕ) : EReal := (Finset.Icc n (q / 256)).sup fun n' => Finset.univ.sup fun i : Fin 256 => T K Q B n' i q

/-- The values of those blocks weighted by their exponentials. -/
def Acc (n r q : ℕ) : EReal :=
  ∑ n' ∈ Finset.Icc n (q / 256), ∑ i : Fin 256, V r (256 * n' + i) * Ideal.exp2 (T K Q B n' i q - Mx K Q B n q)

variable {K Q V B}

/-- What the claims ask of keys, queries and masks. -/
structure Scores (K Q B : ℕ → ℕ → EReal) : Prop where
  key : ∀ p d, ∃ r : ℝ, K p d = r
  query : ∀ p d, ∃ r : ℝ, Q p d = r
  mask : ∀ n q, B n q = 0 ∨ B n q = ⊥

variable (h : Scores K Q B)
include h

theorem sc_real (p q : ℕ) : ∃ r : ℝ, sc K Q p q = r := by
  choose k hk using h.key
  choose u hu using h.query
  refine ⟨∑ d : Fin 128, k p d * u q d, ?_⟩
  unfold sc
  rw [Finset.sum_congr rfl fun d _ => by rw [hk, hu, ← EReal.coe_mul]]
  induction (Finset.univ : Finset (Fin 128)) using Finset.induction_on with
  | empty => simp
  | insert a s ha ih => rw [Finset.sum_insert ha, Finset.sum_insert ha, EReal.coe_add, ih]

theorem T_ne_top (n i q : ℕ) : T K Q B n i q ≠ ⊤ := by
  obtain ⟨r, hr⟩ := sc_real h (256 * n + i) q
  unfold T
  rw [hr]
  split
  · split
    · exact EReal.coe_ne_top r
    · exact bot_ne_top
  · rcases h.mask n q with hb | hb <;> rw [hb]
    · rw [add_zero]; exact EReal.coe_ne_top r
    · rw [EReal.add_bot]; exact bot_ne_top

/-- A query sees itself. -/
theorem T_own (q : ℕ) : ∃ r : ℝ, T K Q B (q / 256) (q % 256) q = r := by
  unfold T
  rw [if_pos (by omega), if_pos (by omega)]
  exact sc_real h _ _

theorem Mx_real {n q : ℕ} (hn : 256 * n ≤ q) : ∃ r : ℝ, Mx K Q B n q = r := by
  refine (eq_bot_or_coe ?_).resolve_left ?_
  · refine ((Finset.sup_lt_iff bot_lt_top).2 fun n' _ => (Finset.sup_lt_iff bot_lt_top).2 fun i _ => ?_).ne
    exact lt_top_iff_ne_top.2 (T_ne_top h _ _ _)
  · obtain ⟨r, hr⟩ := T_own h q
    have h1 : T K Q B (q / 256) (q % 256) q ≤ Mx K Q B n q := by
      refine le_trans ?_ (Finset.le_sup (f := fun n' => Finset.univ.sup fun i : Fin 256 => T K Q B n' i q)
        (Finset.mem_Icc.2 ⟨by omega, le_rfl⟩ : q / 256 ∈ Finset.Icc n (q / 256)))
      exact Finset.le_sup (f := fun i : Fin 256 => T K Q B (q / 256) i q)
        (Finset.mem_univ (⟨q % 256, by omega⟩ : Fin 256))
    intro hb
    rw [hb, hr] at h1
    exact absurd h1 (by simp)

omit h in
theorem Mx_own {n q : ℕ} (hn : q / 256 = n) : Mx K Q B n q = Finset.univ.sup fun i : Fin 256 => T K Q B n i q := by
  unfold Mx
  rw [hn, Finset.Icc_self, Finset.sup_singleton]

omit h in
theorem Acc_own {n r q : ℕ} (hn : q / 256 = n) :
    Acc K Q V B n r q = ∑ i : Fin 256, V r (256 * n + i) * Ideal.exp2 (T K Q B n i q - Mx K Q B n q) := by
  unfold Acc
  rw [hn, Finset.Icc_self, Finset.sum_singleton]

omit h in
theorem Icc_step {n b : ℕ} (hn : n < b) : Finset.Icc n b = insert n (Finset.Icc (n + 1) b) := by
  ext x; simp only [Finset.mem_Icc, Finset.mem_insert]; omega

omit h in
theorem Mx_step {n q : ℕ} (hn : n < q / 256) :
    Mx K Q B n q = max (Mx K Q B (n + 1) q) (Finset.univ.sup fun i : Fin 256 => T K Q B n i q) := by
  unfold Mx
  rw [Icc_step hn, Finset.sup_insert, max_comm]

theorem Acc_step {n r q : ℕ} (hn : n < q / 256) :
    Acc K Q V B n r q = Ideal.exp2 (Mx K Q B (n + 1) q - Mx K Q B n q) * Acc K Q V B (n + 1) r q
      + ∑ i : Fin 256, V r (256 * n + i) * Ideal.exp2 (T K Q B n i q - Mx K Q B n q) := by
  obtain ⟨b, hb⟩ := Mx_real h (n := n + 1) (q := q) (by omega)
  obtain ⟨c, hc⟩ := Mx_real h (n := n) (q := q) (by omega)
  unfold Acc
  rw [Icc_step hn, Finset.sum_insert (by simp), add_comm, hb, hc, ← EReal.coe_sub, exp2_coe',
    mul_sum_real _ _ _ (Real.rpow_nonneg (by norm_num) _)]
  congr 1
  refine Finset.sum_congr rfl fun n' _ => ?_
  rw [← exp2_coe', EReal.coe_sub, rescale _ _ _ (fun i _ => T_ne_top h _ _ _)]

end Cert.Moba
-- ==== Proof.Steps.lean ====
/-
  One head of the attention kernel, one block of keys after another, the last block first. The values of the operations at
  block `n`, at the extents that block has, and what they are in terms of `T`, `Mx` and `Acc` (OnlineSoftmax.lean): after
  block `n` the running row of maxima holds `Mx n`, and the accumulator's columns from block `n` on hold `Acc n`.
-/
module

public import proofs.«01_k».proof.Proof.Window
public import proofs.«01_k».proof.Proof.OnlineSoftmax

@[expose] public section

noncomputable section

namespace Cert.Moba

open Idealize.ShloMosaic Idealize.ShloMosaic.TcCoe

/-- The extents of block `n`: `w` queries from its first one on, `t` of them, from `lo` on, after the block itself. -/
structure StageFacts (n lo w t : ℕ) : Prop where
  hlo : lo = 256 * (n + 1)
  hw : w = 256 + t
  hn : 256 * n + w = 2048
  s0 : (⟨2, ![256, w]⟩ : Shape).Slices ![0, 0] ⟨2, ![256, 256]⟩
  s1 : (⟨2, ![256, w]⟩ : Shape).Slices ![0, 256] ⟨2, ![256, t]⟩
  sb : (⟨2, ![8, 2048]⟩ : Shape).Slices ![n, lo] ⟨2, ![1, t]⟩
  bb : (⟨2, ![1, t]⟩ : Shape).Broadcasts ⟨2, ![256, t]⟩
  cc : Shape.Concatenates [⟨2, ![256, 256]⟩, ⟨2, ![256, t]⟩] (⟨2, ![256, w]⟩ : Shape) 1
  red : (⟨2, ![256, w]⟩ : Shape).Reduces [0] ⟨1, ![w]⟩
  row : (⟨1, ![w]⟩ : Shape).ShapeCasts ⟨2, ![1, w]⟩
  m0 : (⟨2, ![1, w]⟩ : Shape).Slices ![0, 0] ⟨2, ![1, 256]⟩
  m1 : (⟨2, ![1, w]⟩ : Shape).Slices ![0, 256] ⟨2, ![1, t]⟩
  mc : Shape.Concatenates [⟨2, ![1, 256]⟩, ⟨2, ![1, t]⟩] (⟨2, ![1, w]⟩ : Shape) 1
  bm : (⟨2, ![1, w]⟩ : Shape).Broadcasts ⟨2, ![256, w]⟩
  p0 : (⟨2, ![144, w]⟩ : Shape).Slices ![0, 0] ⟨2, ![144, 256]⟩
  p1 : (⟨2, ![144, w]⟩ : Shape).Slices ![0, 256] ⟨2, ![144, t]⟩
  ba : (⟨2, ![1, t]⟩ : Shape).Broadcasts ⟨2, ![144, t]⟩
  cl : (⟨2, ![144, 256]⟩ : Shape).ShapeCasts ⟨2, ![144, 256]⟩
  cr : (⟨2, ![144, t]⟩ : Shape).ShapeCasts ⟨2, ![144, t]⟩

namespace Stage

variable {n lo w t : ℕ} (F : StageFacts n lo w t)
variable (bias : FVec Ideal ⟨2, ![8, 2048]⟩ .f32) (c : IVec ⟨2, ![256, 256]⟩ 1)
variable (m : FVec Ideal ⟨2, ![1, t]⟩ .f32)
variable (kb : FVec Ideal ⟨2, ![256, 128]⟩ .bf16) (qb : FVec Ideal ⟨2, ![w, 128]⟩ .bf16)
variable (vt : FVec Ideal ⟨2, ![144, 256]⟩ .bf16) (acc : FVec Ideal ⟨2, ![144, t]⟩ .f32)

/-- Every key of the block times every query from the block on. -/
def qk : FVec Ideal ⟨2, ![256, w]⟩ .f32 :=
  matmul (DotDims.transposedRhs 256 128 w) none kb qb (constant ⟨2, ![256, w]⟩ .f32 0x00000000#32)

/-- The masked scores. -/
def scores : FVec Ideal ⟨2, ![256, w]⟩ .f32 :=
  concatenate ⟨2, ![256, w]⟩ 1
    [⟨⟨2, ![256, 256]⟩, select c (extractStridedSlice ⟨2, ![256, 256]⟩ ![0, 0] (qk kb qb) F.s0) (broadcast _ (⊥ : EReal))⟩,
     ⟨⟨2, ![256, t]⟩, addf (extractStridedSlice ⟨2, ![256, t]⟩ ![0, 256] (qk kb qb) F.s1)
        (broadcastTo ⟨2, ![256, t]⟩ (extractStridedSlice ⟨2, ![1, t]⟩ ![n, lo] bias F.sb) F.bb)⟩] F.cc

/-- The largest score of every query in the block. -/
def top : FVec Ideal ⟨2, ![1, w]⟩ .f32 :=
  shapeCast ⟨2, ![1, w]⟩
    (multiReduction .maximumf [0] ⟨1, ![w]⟩ (scores F bias c kb qb) 0xFF800000#32 F.red (.inl rfl) rfl) F.row

/-- The running maxima after the block. -/
def mnew : FVec Ideal ⟨2, ![1, w]⟩ .f32 :=
  concatenate ⟨2, ![1, w]⟩ 1
    [⟨⟨2, ![1, 256]⟩, extractStridedSlice ⟨2, ![1, 256]⟩ ![0, 0] (top F bias c kb qb) F.m0⟩,
     ⟨⟨2, ![1, t]⟩, maximumf m (extractStridedSlice ⟨2, ![1, t]⟩ ![0, 256] (top F bias c kb qb) F.m1)⟩] F.mc

/-- The values weighted by the block's exponentials. -/
def pv : FVec Ideal ⟨2, ![144, w]⟩ .f32 :=
  matmul (DotDims.plain 144 256 w) none vt
    (truncf .bf16 (exp2 (subf (scores F bias c kb qb) (broadcastTo ⟨2, ![256, w]⟩ (mnew F bias c m kb qb) F.bm))) (by decide))
    (constant ⟨2, ![144, w]⟩ .f32 0x00000000#32)

/-- What is stored for the block's own queries. -/
def left : FVec Ideal ⟨2, ![144, 256]⟩ .f32 :=
  shapeCast ⟨2, ![144, 256]⟩ (extractStridedSlice ⟨2, ![144, 256]⟩ ![0, 0] (pv F bias c m kb qb vt) F.p0) F.cl

/-- What is stored for the later queries. -/
def right : FVec Ideal ⟨2, ![144, t]⟩ .f32 :=
  shapeCast ⟨2, ![144, t]⟩
    (addf (mulf (broadcastTo ⟨2, ![144, t]⟩
        (exp2 (subf m (extractStridedSlice ⟨2, ![1, t]⟩ ![0, 256] (mnew F bias c m kb qb) F.m1))) F.ba) acc)
      (extractStridedSlice ⟨2, ![144, t]⟩ ![0, 256] (pv F bias c m kb qb vt) F.p1)) F.cr

variable {F bias c m kb qb vt acc} {K Q V B : ℕ → ℕ → EReal}
variable (hS : Scores K Q B)
variable (hb : Rep bias B) (hc : ∀ i j : Fin 256, c (ix2 i j) = 1#1 ↔ i.val ≤ j.val)
variable (hm : Rep m fun _ j => Mx K Q B (n + 1) (lo + j))
variable (hk : Rep kb fun i d => K (256 * n + i) d) (hq : Rep qb fun j d => Q (256 * n + j) d)
variable (hv : Rep vt fun r i => V r (256 * n + i)) (ha : Rep acc fun r j => Acc K Q V B (n + 1) r (lo + j))

include hb hc hk hq in
theorem scores_rep : Rep (scores F bias c kb qb) fun i j => T K Q B n i (256 * n + j) := by
  have h0 := F.hlo
  have hqk := Rep.matmulT hk hq
  refine ((Rep.select hc (hqk.slice F.s0) (Rep.broadcast _)).concatCols
    ((hqk.slice F.s1).addf ((hb.slice F.sb).broadcastRow F.bb)) F.cc).congr fun i hi j hj => ?_
  unfold T
  by_cases hj' : j < 256
  · rw [if_pos hj', if_pos (show 256 * n + j < 256 * (n + 1) by omega), Nat.add_sub_cancel_left]
    simp only [Nat.zero_add]
    rfl
  · rw [if_neg hj', if_neg (show ¬ 256 * n + j < 256 * (n + 1) by omega), show 256 * n + (256 + (j - 256)) = 256 * n + j by omega, Nat.zero_add, Nat.add_zero,
      show lo + (j - 256) = 256 * n + j by omega]
    rfl

include hb hc hk hq in
theorem top_rep : Rep (top F bias c kb qb) fun _ j => Finset.univ.sup fun i : Fin 256 => T K Q B n i (256 * n + j) :=
  (scores_rep hb hc hk hq).maxRows F.red _ _ F.row

include hb hc hk hq hm in
theorem mnew_rep : Rep (mnew F bias c m kb qb) fun _ j => Mx K Q B n (256 * n + j) := by
  have h0 := F.hlo
  have ht := top_rep (F := F) hb hc hk hq
  refine ((ht.slice F.m0).concatCols (hm.maximumf (ht.slice F.m1)) F.mc).congr fun i hi j hj => ?_
  by_cases hj' : j < 256
  · rw [if_pos hj', Nat.zero_add, Mx_own (by omega)]
  · rw [if_neg hj', show 256 * n + (256 + (j - 256)) = 256 * n + j by omega, show lo + (j - 256) = 256 * n + j by omega,
      Mx_step (n := n) (by omega)]

include hb hc hk hq hm hv in
theorem pv_rep : Rep (pv F bias c m kb qb vt) fun r j => ∑ i : Fin 256, V r (256 * n + i)
    * Ideal.exp2 (T K Q B n i (256 * n + j) - Mx K Q B n (256 * n + j)) :=
  Rep.matmul hv (((scores_rep hb hc hk hq).subf ((mnew_rep hb hc hm hk hq).broadcastRow F.bm)).exp2.truncf _)

include hb hc hk hq hm hv in
theorem left_rep : Rep (left F bias c m kb qb vt) fun r j => Acc K Q V B n r (256 * n + j) := by
  refine (((pv_rep hb hc hm hk hq hv).slice F.p0).shapeCast F.cl).congr fun r hr j hj => ?_
  simp only [Nat.zero_add]
  rw [Acc_own (by omega)]

include hS hb hc hk hq hm hv ha in
theorem right_rep : Rep (right F bias c m kb qb vt acc) fun r j => Acc K Q V B n r (lo + j) := by
  have h0 := F.hlo
  refine ((((hm.subf ((mnew_rep hb hc hm hk hq).slice F.m1)).exp2.broadcastRow F.ba).mulf ha).addf
    ((pv_rep hb hc hm hk hq hv).slice F.p1) |>.shapeCast F.cr).congr fun r hr j hj => ?_
  rw [show 256 * n + (256 + j) = lo + j by omega, Nat.zero_add, Acc_step hS (n := n) (by omega)]

end Stage

/-! ## The last block -/

namespace Last

variable (c : IVec ⟨2, ![256, 256]⟩ 1)
variable (kb : FVec Ideal ⟨2, ![256, 128]⟩ .bf16) (qb : FVec Ideal ⟨2, ![256, 128]⟩ .bf16)
variable (vt : FVec Ideal ⟨2, ![144, 256]⟩ .bf16)

/-- The extents of the last block. -/
structure Facts : Prop where
  red : (⟨2, ![256, 256]⟩ : Shape).Reduces [0] ⟨1, ![256]⟩
  row : (⟨1, ![256]⟩ : Shape).ShapeCasts ⟨2, ![1, 256]⟩
  bm : (⟨2, ![1, 256]⟩ : Shape).Broadcasts ⟨2, ![256, 256]⟩
  cl : (⟨2, ![144, 256]⟩ : Shape).ShapeCasts ⟨2, ![144, 256]⟩

variable (F : Facts)

/-- The causal scores. -/
def scores : FVec Ideal ⟨2, ![256, 256]⟩ .f32 := select c (Stage.qk kb qb) (broadcast _ (⊥ : EReal))

/-- Their maxima. -/
def mnew : FVec Ideal ⟨2, ![1, 256]⟩ .f32 :=
  shapeCast ⟨2, ![1, 256]⟩
    (multiReduction .maximumf [0] ⟨1, ![256]⟩ (scores c kb qb) 0xFF800000#32 F.red (.inl rfl) rfl) F.row

/-- The weighted values. -/
def left : FVec Ideal ⟨2, ![144, 256]⟩ .f32 :=
  shapeCast ⟨2, ![144, 256]⟩ (matmul (DotDims.plain 144 256 256) none vt
    (truncf .bf16 (exp2 (subf (scores c kb qb) (broadcastTo ⟨2, ![256, 256]⟩ (mnew c kb qb F) F.bm))) (by decide))
    (constant ⟨2, ![144, 256]⟩ .f32 0x00000000#32)) F.cl

variable {F c kb qb vt} {K Q V B : ℕ → ℕ → EReal}
variable (hc : ∀ i j : Fin 256, c (ix2 i j) = 1#1 ↔ i.val ≤ j.val)
variable (hk : Rep kb fun i d => K (1792 + i) d) (hq : Rep qb fun j d => Q (1792 + j) d)
variable (hv : Rep vt fun r i => V r (1792 + i))

include hc hk hq in
theorem scores_rep : Rep (scores c kb qb) fun i j => T K Q B 7 i (1792 + j) := by
  refine (Rep.select hc (Rep.matmulT hk hq) (Rep.broadcast _)).congr fun i hi j hj => ?_
  unfold T
  rw [if_pos (show 1792 + j < 256 * (7 + 1) by omega), show 1792 + j - 256 * 7 = j by omega]
  rfl

include hc hk hq in
theorem mnew_rep : Rep (mnew c kb qb F) fun _ j => Mx K Q B 7 (1792 + j) := by
  refine ((scores_rep (B := B) hc hk hq).maxRows F.red _ _ F.row).congr fun i hi j hj => ?_
  rw [Mx_own (by omega)]

include hc hk hq hv in
theorem left_rep : Rep (left c kb qb vt F) fun r j => Acc K Q V B 7 r (1792 + j) := by
  refine ((Rep.matmul hv (((scores_rep (B := B) hc hk hq).subf
    ((mnew_rep (B := B) hc hk hq).broadcastRow F.bm)).exp2.truncf _)).shapeCast F.cl).congr fun r hr j hj => ?_
  rw [Acc_own (by omega)]

end Last

/-! ## The accumulator -/

section
variable {K Q V B : ℕ → ℕ → EReal} {n lo w t : ℕ}

/-- After block `n`: the columns from block `n` on hold `Acc n`. -/
def Good (K Q V B : ℕ → ℕ → EReal) (n : ℕ) (L : Stores 144 2048 .f32) : Prop :=
  ∀ (r : Fin 144) (q : Fin 2048), 256 * n ≤ q.val → View.canon L (ix2 r q) = Acc K Q V B n r q

/-- Between the two stores of block `n`: its own columns hold `Acc n`, the later ones still `Acc (n + 1)`. -/
def Half (K Q V B : ℕ → ℕ → EReal) (n : ℕ) (L : Stores 144 2048 .f32) : Prop :=
  ∀ (r : Fin 144) (q : Fin 2048),
    (256 * n ≤ q.val → q.val < 256 * (n + 1) → View.canon L (ix2 r q) = Acc K Q V B n r q)
    ∧ (256 * (n + 1) ≤ q.val → View.canon L (ix2 r q) = Acc K Q V B (n + 1) r q)

theorem Good.half {L : Stores 144 2048 .f32} (h : Good K Q V B (n + 1) L) {x : FVec Ideal ⟨2, ![144, 256]⟩ .f32} {p : ℕ}
    (hp : p = 256 * n) {inb} (hx : Rep x fun r j => Acc K Q V B n r (256 * n + j)) :
    Half K Q V B n (⟨Rect.unit (s := (⟨2, ![144, 2048]⟩ : Shape)) ![0, p] (⟨2, ![144, 256]⟩ : Shape).size inb, x⟩ :: L) := by
  subst hp
  refine fun r q => ⟨fun h1 h2 => ?_, fun h1 => ?_⟩
  · rw [canon_on L hx r q (by omega) (by omega), Nat.sub_zero, show 256 * n + (q.val - 256 * n) = q.val by omega]
  · rw [canon_off L r q (by omega), h r q h1]

theorem Half.load {L : Stores 144 2048 .f32} (h : Half K Q V B n L) (hlo : lo = 256 * (n + 1)) {sig : RefSig} {κ : Kind}
    {sp : Space} (v : View sig κ sp (⟨2, ![144, 2048]⟩ : Shape) .f32) {inb} :
    Rep (v.readCov L (Rect.unit (s := (⟨2, ![144, 2048]⟩ : Shape)) ![0, lo] (⟨2, ![144, t]⟩ : Shape).size inb).toLoadRect :
      FVec Ideal ⟨2, ![144, t]⟩ .f32) fun r j => Acc K Q V B (n + 1) r (lo + j) := by
  refine (Rep.load (f := Acc K Q V B (n + 1)) v fun i j _ _ h1 _ => (h i j).2 (by omega)).congr fun r _ j _ => ?_
  rw [Nat.zero_add]

theorem Half.good {L : Stores 144 2048 .f32} (h : Half K Q V B n L) (F : StageFacts n lo w t)
    {x : FVec Ideal ⟨2, ![144, t]⟩ .f32} {inb} (hx : Rep x fun r j => Acc K Q V B n r (lo + j)) :
    Good K Q V B n (⟨Rect.unit (s := (⟨2, ![144, 2048]⟩ : Shape)) ![0, lo] (⟨2, ![144, t]⟩ : Shape).size inb, x⟩ :: L) := by
  intro r q hq
  have h0 := F.hlo
  have h1 := F.hw
  have h2 := F.hn
  by_cases hq' : q.val < lo
  · rw [canon_off L r q (by omega)]
    exact (h r q).1 hq (by omega)
  · rw [canon_on L hx r q (by omega) (by omega), Nat.sub_zero, show lo + (q.val - lo) = q.val by omega]

/-- The last block is stored once. -/
theorem good_last {L : Stores 144 2048 .f32} {x : FVec Ideal ⟨2, ![144, 256]⟩ .f32} {inb}
    (hx : Rep x fun r j => Acc K Q V B 7 r (1792 + j)) :
    Good K Q V B 7 (⟨Rect.unit (s := (⟨2, ![144, 2048]⟩ : Shape)) ![0, 1792] (⟨2, ![144, 256]⟩ : Shape).size inb, x⟩ :: L) := by
  intro r q hq
  rw [canon_on L hx r q (by omega) (by omega), Nat.sub_zero, show 1792 + (q.val - 1792) = q.val by omega]

end

end Cert.Moba
-- ==== Proof.Head.lean ====
/-
  One head of the kernel: the stores to its accumulator from the last block of keys to the first, with the loads they are
  made of, and what the accumulator holds after the first block.
-/
module

public import proofs.«01_k».proof.Proof.Steps

@[expose] public section

noncomputable section

namespace Cert.Moba

open Idealize.ShloMosaic Idealize.ShloMosaic.TcCoe

theorem inb2 {A W a w o p : ℕ} (h0 : o + a ≤ A) (h1 : p + w ≤ W) :
    ∀ k, (![o, p] : Fin 2 → ℕ) k + (⟨2, ![a, w]⟩ : Shape).size k ≤ (⟨2, ![A, W]⟩ : Shape).size k := by
  intro k
  match k with
  | 0 => exact h0
  | 1 => exact h1

/-- The rectangle of `a` rows from `o` on and `w` columns from `p` on. -/
abbrev rect {A W : ℕ} (a w o p : ℕ) (h0 : o + a ≤ A) (h1 : p + w ≤ W) : Rect (⟨2, ![A, W]⟩ : Shape) :=
  Rect.unit (s := (⟨2, ![A, W]⟩ : Shape)) ![o, p] (⟨2, ![a, w]⟩ : Shape).size (inb2 h0 h1)

theorem facts6 : StageFacts 6 1792 512 256 :=
  ⟨by decide, by decide, by decide, by decide, by decide, by decide, by decide, by decide, by decide, by decide, by decide, by decide, by decide, by decide, by decide, by decide, by decide, by decide, by decide⟩

theorem facts5 : StageFacts 5 1536 768 512 :=
  ⟨by decide, by decide, by decide, by decide, by decide, by decide, by decide, by decide, by decide, by decide, by decide, by decide, by decide, by decide, by decide, by decide, by decide, by decide, by decide⟩

theorem facts4 : StageFacts 4 1280 1024 768 :=
  ⟨by decide, by decide, by decide, by decide, by decide, by decide, by decide, by decide, by decide, by decide, by decide, by decide, by decide, by decide, by decide, by decide, by decide, by decide, by decide⟩

theorem facts3 : StageFacts 3 1024 1280 1024 :=
  ⟨by decide, by decide, by decide, by decide, by decide, by decide, by decide, by decide, by decide, by decide, by decide, by decide, by decide, by decide, by decide, by decide, by decide, by decide, by decide⟩

theorem facts2 : StageFacts 2 768 1536 1280 :=
  ⟨by decide, by decide, by decide, by decide, by decide, by decide, by decide, by decide, by decide, by decide, by decide, by decide, by decide, by decide, by decide, by decide, by decide, by decide, by decide⟩

theorem facts1 : StageFacts 1 512 1792 1536 :=
  ⟨by decide, by decide, by decide, by decide, by decide, by decide, by decide, by decide, by decide, by decide, by decide, by decide, by decide, by decide, by decide, by decide, by decide, by decide, by decide⟩

theorem facts0 : StageFacts 0 256 2048 1792 :=
  ⟨by decide, by decide, by decide, by decide, by decide, by decide, by decide, by decide, by decide, by decide, by decide, by decide, by decide, by decide, by decide, by decide, by decide, by decide, by decide⟩

theorem factsLast : Last.Facts := ⟨by decide, by decide, by decide, by decide⟩

section

variable {sig : RefSig} {κ7 κ8 κ9 κ10 : Kind} {s7 s8 s9 s10 : Space}
variable (v7 : View sig κ7 s7 (⟨2, ![2048, 128]⟩ : Shape) .bf16) (v8 : View sig κ8 s8 (⟨2, ![2048, 128]⟩ : Shape) .bf16)
variable (v9 : View sig κ9 s9 (⟨2, ![144, 2048]⟩ : Shape) .bf16) (v10 : View sig κ10 s10 (⟨2, ![144, 2048]⟩ : Shape) .f32)
variable (LK LQ : Stores 2048 128 .bf16) (LV : Stores 144 2048 .bf16)

/-- The 256 keys from `o` on. -/
def keys (o : ℕ) (h : o + 256 ≤ 2048) : FVec Ideal ⟨2, ![256, 128]⟩ .bf16 :=
  v7.readCov LK (rect 256 128 o 0 h (by decide)).toLoadRect

/-- The `w` queries from `o` on. -/
def queries (w o : ℕ) (h : o + w ≤ 2048) : FVec Ideal ⟨2, ![w, 128]⟩ .bf16 :=
  v8.readCov LQ (rect w 128 o 0 h (by decide)).toLoadRect

/-- The values of the 256 keys from `o` on, and below them rows of ones. -/
def values (o : ℕ) (h : o + 256 ≤ 2048) : FVec Ideal ⟨2, ![144, 256]⟩ .bf16 :=
  v9.readCov LV (rect 144 256 0 o (by decide) h).toLoadRect

/-- The accumulator's `w` columns from `o` on. -/
def accum (L : Stores 144 2048 .f32) (w o : ℕ) (h : o + w ≤ 2048) : FVec Ideal ⟨2, ![144, w]⟩ .f32 :=
  v10.readCov L (rect 144 w 0 o (by decide) h).toLoadRect

variable {v7 v8 v9 v10 LK LQ LV} {K Q V B : ℕ → ℕ → EReal}

theorem keys_rep (hK : ∀ i j, View.canon LK (ix2 i j) = K i.val j.val) (o h) :
    Rep (keys v7 LK o h) fun i d => K (o + i) d :=
  (Rep.load (f := K) v7 fun i j _ _ _ _ => hK i j).congr fun i _ d _ => by rw [Nat.zero_add]

theorem queries_rep (hQ : ∀ i j, View.canon LQ (ix2 i j) = Q i.val j.val) (w o h) :
    Rep (queries v8 LQ w o h) fun i d => Q (o + i) d :=
  (Rep.load (f := Q) v8 fun i j _ _ _ _ => hQ i j).congr fun i _ d _ => by rw [Nat.zero_add]

theorem values_rep (hV : ∀ i j, View.canon LV (ix2 i j) = V i.val j.val) (o h) :
    Rep (values v9 LV o h) fun r i => V r (o + i) :=
  (Rep.load (f := V) v9 fun i j _ _ _ _ => hV i j).congr fun i _ d _ => by rw [Nat.zero_add]

/-- After the first block the accumulator holds `Acc 0`: the weighted sums over all the blocks a query sees. The `m`s are the
    rows of running maxima, the `L`s the stores made so far whenever the accumulator is read. -/
theorem head_good {bias : FVec Ideal ⟨2, ![8, 2048]⟩ .f32} {c : IVec ⟨2, ![256, 256]⟩ 1}
    (hS : Scores K Q B) (hb : Rep bias B) (hc : ∀ i j : Fin 256, c (ix2 i j) = 1#1 ↔ i.val ≤ j.val)
    (hK : ∀ i j, View.canon LK (ix2 i j) = K i.val j.val) (hQ : ∀ i j, View.canon LQ (ix2 i j) = Q i.val j.val)
    (hV : ∀ i j, View.canon LV (ix2 i j) = V i.val j.val) (base : Stores 144 2048 .f32)
    {m7 : FVec Ideal ⟨2, ![1, 256]⟩ .f32}
    {m6 : FVec Ideal ⟨2, ![1, 512]⟩ .f32}
    {m5 : FVec Ideal ⟨2, ![1, 768]⟩ .f32}
    {m4 : FVec Ideal ⟨2, ![1, 1024]⟩ .f32}
    {m3 : FVec Ideal ⟨2, ![1, 1280]⟩ .f32}
    {m2 : FVec Ideal ⟨2, ![1, 1536]⟩ .f32}
    {m1 : FVec Ideal ⟨2, ![1, 1792]⟩ .f32}
    {L6 L5 L4 L3 L2 L1 L0 L : Stores 144 2048 .f32}
    (e7 : m7 = Last.mnew c (keys v7 LK 1792 (by decide)) (queries v8 LQ 256 1792 (by decide)) factsLast)
    (e6 : m6 = Stage.mnew facts6 bias c m7 (keys v7 LK 1536 (by decide)) (queries v8 LQ 512 1536 (by decide)))
    (e5 : m5 = Stage.mnew facts5 bias c m6 (keys v7 LK 1280 (by decide)) (queries v8 LQ 768 1280 (by decide)))
    (e4 : m4 = Stage.mnew facts4 bias c m5 (keys v7 LK 1024 (by decide)) (queries v8 LQ 1024 1024 (by decide)))
    (e3 : m3 = Stage.mnew facts3 bias c m4 (keys v7 LK 768 (by decide)) (queries v8 LQ 1280 768 (by decide)))
    (e2 : m2 = Stage.mnew facts2 bias c m3 (keys v7 LK 512 (by decide)) (queries v8 LQ 1536 512 (by decide)))
    (e1 : m1 = Stage.mnew facts1 bias c m2 (keys v7 LK 256 (by decide)) (queries v8 LQ 1792 256 (by decide)))
    (l6 : L6 = ⟨rect 144 256 0 1536 (by decide) (by decide), Stage.left facts6 bias c m7 (keys v7 LK 1536 (by decide)) (queries v8 LQ 512 1536 (by decide)) (values v9 LV 1536 (by decide))⟩
      :: ⟨rect 144 256 0 1792 (by decide) (by decide), Last.left c (keys v7 LK 1792 (by decide)) (queries v8 LQ 256 1792 (by decide)) (values v9 LV 1792 (by decide)) factsLast⟩ :: base)
    (l5 : L5 = ⟨rect 144 256 0 1280 (by decide) (by decide), Stage.left facts5 bias c m6 (keys v7 LK 1280 (by decide)) (queries v8 LQ 768 1280 (by decide)) (values v9 LV 1280 (by decide))⟩
      :: ⟨rect 144 256 0 1792 (by decide) (by decide), Stage.right facts6 bias c m7 (keys v7 LK 1536 (by decide)) (queries v8 LQ 512 1536 (by decide)) (values v9 LV 1536 (by decide))
        (accum v10 L6 256 1792 (by decide))⟩ :: L6)
    (l4 : L4 = ⟨rect 144 256 0 1024 (by decide) (by decide), Stage.left facts4 bias c m5 (keys v7 LK 1024 (by decide)) (queries v8 LQ 1024 1024 (by decide)) (values v9 LV 1024 (by decide))⟩
      :: ⟨rect 144 512 0 1536 (by decide) (by decide), Stage.right facts5 bias c m6 (keys v7 LK 1280 (by decide)) (queries v8 LQ 768 1280 (by decide)) (values v9 LV 1280 (by decide))
        (accum v10 L5 512 1536 (by decide))⟩ :: L5)
    (l3 : L3 = ⟨rect 144 256 0 768 (by decide) (by decide), Stage.left facts3 bias c m4 (keys v7 LK 768 (by decide)) (queries v8 LQ 1280 768 (by decide)) (values v9 LV 768 (by decide))⟩
      :: ⟨rect 144 768 0 1280 (by decide) (by decide), Stage.right facts4 bias c m5 (keys v7 LK 1024 (by decide)) (queries v8 LQ 1024 1024 (by decide)) (values v9 LV 1024 (by decide))
        (accum v10 L4 768 1280 (by decide))⟩ :: L4)
    (l2 : L2 = ⟨rect 144 256 0 512 (by decide) (by decide), Stage.left facts2 bias c m3 (keys v7 LK 512 (by decide)) (queries v8 LQ 1536 512 (by decide)) (values v9 LV 512 (by decide))⟩
      :: ⟨rect 144 1024 0 1024 (by decide) (by decide), Stage.right facts3 bias c m4 (keys v7 LK 768 (by decide)) (queries v8 LQ 1280 768 (by decide)) (values v9 LV 768 (by decide))
        (accum v10 L3 1024 1024 (by decide))⟩ :: L3)
    (l1 : L1 = ⟨rect 144 256 0 256 (by decide) (by decide), Stage.left facts1 bias c m2 (keys v7 LK 256 (by decide)) (queries v8 LQ 1792 256 (by decide)) (values v9 LV 256 (by decide))⟩
      :: ⟨rect 144 1280 0 768 (by decide) (by decide), Stage.right facts2 bias c m3 (keys v7 LK 512 (by decide)) (queries v8 LQ 1536 512 (by decide)) (values v9 LV 512 (by decide))
        (accum v10 L2 1280 768 (by decide))⟩ :: L2)
    (l0 : L0 = ⟨rect 144 256 0 0 (by decide) (by decide), Stage.left facts0 bias c m1 (keys v7 LK 0 (by decide)) (queries v8 LQ 2048 0 (by decide)) (values v9 LV 0 (by decide))⟩
      :: ⟨rect 144 1536 0 512 (by decide) (by decide), Stage.right facts1 bias c m2 (keys v7 LK 256 (by decide)) (queries v8 LQ 1792 256 (by decide)) (values v9 LV 256 (by decide))
        (accum v10 L1 1536 512 (by decide))⟩ :: L1)
    (l : L = ⟨rect 144 1792 0 256 (by decide) (by decide), Stage.right facts0 bias c m1 (keys v7 LK 0 (by decide)) (queries v8 LQ 2048 0 (by decide)) (values v9 LV 0 (by decide))
        (accum v10 L0 1792 256 (by decide))⟩ :: L0) :
    Good K Q V B 0 L := by
  have k := fun o h => keys_rep (v7 := v7) hK o h
  have q := fun w o h => queries_rep (v8 := v8) hQ w o h
  have v := fun o h => values_rep (v9 := v9) hV o h
  have h7 : Rep m7 _ := e7 ▸ Last.mnew_rep (B := B) hc (k 1792 (by decide)) (q 256 1792 (by decide))
  have h6 : Rep m6 _ := e6 ▸ Stage.mnew_rep (n := 6) (lo := 1792) (F := facts6) hb hc h7 (k 1536 (by decide)) (q 512 1536 (by decide))
  have h5 : Rep m5 _ := e5 ▸ Stage.mnew_rep (n := 5) (lo := 1536) (F := facts5) hb hc h6 (k 1280 (by decide)) (q 768 1280 (by decide))
  have h4 : Rep m4 _ := e4 ▸ Stage.mnew_rep (n := 4) (lo := 1280) (F := facts4) hb hc h5 (k 1024 (by decide)) (q 1024 1024 (by decide))
  have h3 : Rep m3 _ := e3 ▸ Stage.mnew_rep (n := 3) (lo := 1024) (F := facts3) hb hc h4 (k 768 (by decide)) (q 1280 768 (by decide))
  have h2 : Rep m2 _ := e2 ▸ Stage.mnew_rep (n := 2) (lo := 768) (F := facts2) hb hc h3 (k 512 (by decide)) (q 1536 512 (by decide))
  have h1 : Rep m1 _ := e1 ▸ Stage.mnew_rep (n := 1) (lo := 512) (F := facts1) hb hc h2 (k 256 (by decide)) (q 1792 256 (by decide))
  have g6 : Half K Q V B 6 L6 := l6 ▸ Good.half (n := 6)
    (good_last (Last.left_rep (B := B) (F := factsLast) hc (k 1792 (by decide)) (q 256 1792 (by decide)) (v 1792 (by decide)))) rfl
    (Stage.left_rep (F := facts6) hb hc h7 (k 1536 (by decide)) (q 512 1536 (by decide)) (v 1536 (by decide)))
  have g5 : Half K Q V B 5 L5 := l5 ▸ Good.half (n := 5) (g6.good facts6 (Stage.right_rep (F := facts6) hS hb hc h7 (k 1536 (by decide)) (q 512 1536 (by decide)) (v 1536 (by decide))
      (g6.load (t := 256) (lo := 1792) rfl v10))) rfl
    (Stage.left_rep (F := facts5) hb hc h6 (k 1280 (by decide)) (q 768 1280 (by decide)) (v 1280 (by decide)))
  have g4 : Half K Q V B 4 L4 := l4 ▸ Good.half (n := 4) (g5.good facts5 (Stage.right_rep (F := facts5) hS hb hc h6 (k 1280 (by decide)) (q 768 1280 (by decide)) (v 1280 (by decide))
      (g5.load (t := 512) (lo := 1536) rfl v10))) rfl
    (Stage.left_rep (F := facts4) hb hc h5 (k 1024 (by decide)) (q 1024 1024 (by decide)) (v 1024 (by decide)))
  have g3 : Half K Q V B 3 L3 := l3 ▸ Good.half (n := 3) (g4.good facts4 (Stage.right_rep (F := facts4) hS hb hc h5 (k 1024 (by decide)) (q 1024 1024 (by decide)) (v 1024 (by decide))
      (g4.load (t := 768) (lo := 1280) rfl v10))) rfl
    (Stage.left_rep (F := facts3) hb hc h4 (k 768 (by decide)) (q 1280 768 (by decide)) (v 768 (by decide)))
  have g2 : Half K Q V B 2 L2 := l2 ▸ Good.half (n := 2) (g3.good facts3 (Stage.right_rep (F := facts3) hS hb hc h4 (k 768 (by decide)) (q 1280 768 (by decide)) (v 768 (by decide))
      (g3.load (t := 1024) (lo := 1024) rfl v10))) rfl
    (Stage.left_rep (F := facts2) hb hc h3 (k 512 (by decide)) (q 1536 512 (by decide)) (v 512 (by decide)))
  have g1 : Half K Q V B 1 L1 := l1 ▸ Good.half (n := 1) (g2.good facts2 (Stage.right_rep (F := facts2) hS hb hc h3 (k 512 (by decide)) (q 1536 512 (by decide)) (v 512 (by decide))
      (g2.load (t := 1280) (lo := 768) rfl v10))) rfl
    (Stage.left_rep (F := facts1) hb hc h2 (k 256 (by decide)) (q 1792 256 (by decide)) (v 256 (by decide)))
  have g0 : Half K Q V B 0 L0 := l0 ▸ Good.half (n := 0) (g1.good facts1 (Stage.right_rep (F := facts1) hS hb hc h2 (k 256 (by decide)) (q 1792 256 (by decide)) (v 256 (by decide))
      (g1.load (t := 1536) (lo := 512) rfl v10))) rfl
    (Stage.left_rep (F := facts0) hb hc h1 (k 0 (by decide)) (q 2048 0 (by decide)) (v 0 (by decide)))
  exact l ▸ g0.good facts0 (Stage.right_rep (F := facts0) hS hb hc h1 (k 0 (by decide)) (q 2048 0 (by decide)) (v 0 (by decide))
      (g0.load (t := 1792) (lo := 256) rfl v10))

end

end Cert.Moba
-- ==== Proof.Gate.lean ====
/-
  The gate of one head: the means of the blocks of keys, their products with the queries, and the mask that keeps, for every
  query, the three best of the blocks of its past.
-/
module

public import Idealize.ShloMosaic.Lib.WordCmp
public import proofs.«01_k».proof.Proof.Rep
public import proofs.«01_k».proof.Proof.OnlineSoftmax

@[expose] public section

noncomputable section

namespace Cert.Moba

open Idealize.ShloMosaic Idealize.ShloMosaic.TcCoe

namespace Gate

/-- The mean of the 256 keys from `o` on. -/
def meanRow (k : FVec Ideal ⟨2, ![2048, 128]⟩ .bf16) (o : ℕ) (h : (⟨2, ![2048, 128]⟩ : Shape).Slices ![o, 0] ⟨2, ![256, 128]⟩) :
    FVec Ideal ⟨2, ![1, 128]⟩ .f32 :=
  mulf (shapeCast ⟨2, ![1, 128]⟩ (multiReduction .add [0] ⟨1, ![128]⟩
      (extractStridedSlice ⟨2, ![256, 128]⟩ ![o, 0] (extf .f32 k (by decide)) h) 0x00000000#32 (by decide) (.inl rfl) rfl)
      (by decide))
    (broadcast _ (FloatOps.ofBits .f32 0x3B800000#32))

theorem cat_means : Shape.Concatenates [⟨2, ![1, 128]⟩, ⟨2, ![1, 128]⟩, ⟨2, ![1, 128]⟩, ⟨2, ![1, 128]⟩, ⟨2, ![1, 128]⟩,
    ⟨2, ![1, 128]⟩, ⟨2, ![1, 128]⟩, ⟨2, ![1, 128]⟩] (⟨2, ![8, 128]⟩ : Shape) 0 := by decide

theorem cat_parts : Shape.Concatenates [⟨2, ![8, 128]⟩, ⟨2, ![8, 128]⟩, ⟨2, ![8, 128]⟩, ⟨2, ![8, 128]⟩]
    (⟨2, ![32, 128]⟩ : Shape) 0 := by decide

/-- The means of the eight blocks. -/
def mean (k : FVec Ideal ⟨2, ![2048, 128]⟩ .bf16) : FVec Ideal ⟨2, ![8, 128]⟩ .f32 :=
  concatenate ⟨2, ![8, 128]⟩ 0
    [⟨⟨2, ![1, 128]⟩, meanRow k 0 (by decide)⟩, ⟨⟨2, ![1, 128]⟩, meanRow k 256 (by decide)⟩,
     ⟨⟨2, ![1, 128]⟩, meanRow k 512 (by decide)⟩, ⟨⟨2, ![1, 128]⟩, meanRow k 768 (by decide)⟩,
     ⟨⟨2, ![1, 128]⟩, meanRow k 1024 (by decide)⟩, ⟨⟨2, ![1, 128]⟩, meanRow k 1280 (by decide)⟩,
     ⟨⟨2, ![1, 128]⟩, meanRow k 1536 (by decide)⟩, ⟨⟨2, ![1, 128]⟩, meanRow k 1792 (by decide)⟩] cat_means

/-- What the first sixteen-bit part of the means leaves of them, -/
def rest (m : FVec Ideal ⟨2, ![8, 128]⟩ .f32) : FVec Ideal ⟨2, ![8, 128]⟩ .f32 :=
  subf m (extf .f32 (truncf .bf16 m (by decide)) (by decide))

/-- The three parts of the means one below another, and rows of zeros. -/
def parts (m : FVec Ideal ⟨2, ![8, 128]⟩ .f32) : FVec Ideal ⟨2, ![32, 128]⟩ .bf16 :=
  truncf .bf16 (concatenate ⟨2, ![32, 128]⟩ 0
    [⟨⟨2, ![8, 128]⟩, extf .f32 (truncf .bf16 m (by decide)) (by decide)⟩,
     ⟨⟨2, ![8, 128]⟩, extf .f32 (truncf .bf16 (rest m) (by decide)) (by decide)⟩,
     ⟨⟨2, ![8, 128]⟩, extf .f32 (truncf .bf16 (rest (rest m)) (by decide)) (by decide)⟩,
     ⟨⟨2, ![8, 128]⟩, broadcast _ (FloatOps.ofBits .f32 0x00000000#32)⟩] cat_parts) (by decide)

/-- The products of the parts with the queries. -/
def prods (k q : FVec Ideal ⟨2, ![2048, 128]⟩ .bf16) : FVec Ideal ⟨2, ![32, 2048]⟩ .f32 :=
  matmul (DotDims.transposedRhs 32 128 2048) none (parts (mean k)) q (constant ⟨2, ![32, 2048]⟩ .f32 0x00000000#32)

/-- The gate: block means times queries. -/
def gate (k q : FVec Ideal ⟨2, ![2048, 128]⟩ .bf16) : FVec Ideal ⟨2, ![8, 2048]⟩ .f32 :=
  addf (addf (extractStridedSlice ⟨2, ![8, 2048]⟩ ![0, 0] (prods k q) (by decide))
      (extractStridedSlice ⟨2, ![8, 2048]⟩ ![8, 0] (prods k q) (by decide)))
    (extractStridedSlice ⟨2, ![8, 2048]⟩ ![16, 0] (prods k q) (by decide))

/-- The number of the block. -/
def bid : IVec ⟨2, ![8, 2048]⟩ 32 := iota .tc ⟨2, ![8, 2048]⟩ 32 [0] (by decide)

/-- The number of the query. -/
def qid : IVec ⟨2, ![8, 2048]⟩ 32 := iota .tc ⟨2, ![8, 2048]⟩ 32 [1] (by decide)

/-- The query's own block, by a division that rounds down. -/
def own : IVec ⟨2, ![8, 2048]⟩ 32 :=
  select
    (andi
      (cmpi .ne
        (subi (extui 32 (cmpi .sgt qid (broadcast ⟨2, ![8, 2048]⟩ 0#32)) (by decide))
          (extui 32 (cmpi .slt qid (broadcast ⟨2, ![8, 2048]⟩ 0#32)) (by decide)))
        (broadcast ⟨2, ![8, 2048]⟩
          (Scalar.subi (Scalar.extui (Scalar.cmpi .sgt 256#32 0#32)) (Scalar.extui (Scalar.cmpi .slt 256#32 0#32)))))
      (cmpi .ne (remsi qid (broadcast ⟨2, ![8, 2048]⟩ 256#32)) (broadcast ⟨2, ![8, 2048]⟩ 0#32)))
    (subi (divsi qid (broadcast ⟨2, ![8, 2048]⟩ 256#32)) (broadcast ⟨2, ![8, 2048]⟩ 1#32))
    (divsi qid (broadcast ⟨2, ![8, 2048]⟩ 256#32))

/-- One where block `n` lies in the query's past and comes before the block of the row. -/
def beat (g : FVec Ideal ⟨2, ![8, 2048]⟩ .f32) (n : ℕ) (w : BitVec 32)
    (h : (⟨2, ![8, 2048]⟩ : Shape).Slices ![n, 0] ⟨2, ![1, 2048]⟩) : FVec Ideal ⟨2, ![8, 2048]⟩ .f32 :=
  select
    (andi
      (ori (cmpf .ogt (broadcastTo ⟨2, ![8, 2048]⟩ (extractStridedSlice ⟨2, ![1, 2048]⟩ ![n, 0] g h) (by decide)) g)
        (andi (cmpf .oeq (broadcastTo ⟨2, ![8, 2048]⟩ (extractStridedSlice ⟨2, ![1, 2048]⟩ ![n, 0] g h) (by decide)) g)
          (cmpi .sgt bid (broadcast ⟨2, ![8, 2048]⟩ w))))
      (cmpi .sgt own (broadcast ⟨2, ![8, 2048]⟩ w)))
    (broadcast ⟨2, ![8, 2048]⟩ (FloatOps.ofBits .f32 0x3F800000#32)) (broadcast ⟨2, ![8, 2048]⟩ (FloatOps.ofBits .f32 0x00000000#32))

/-- How many blocks of the past come before the row's. -/
def rank (g : FVec Ideal ⟨2, ![8, 2048]⟩ .f32) : FVec Ideal ⟨2, ![8, 2048]⟩ .f32 :=
  addf (addf (addf (addf (addf (addf (addf (broadcast ⟨2, ![8, 2048]⟩ (FloatOps.ofBits .f32 0x00000000#32))
    (beat g 0 0#32 (by decide))) (beat g 1 1#32 (by decide))) (beat g 2 2#32 (by decide))) (beat g 3 3#32 (by decide)))
    (beat g 4 4#32 (by decide))) (beat g 5 5#32 (by decide))) (beat g 6 6#32 (by decide))

/-- Zero where the block is one of the three best of the past, minus infinity elsewhere. -/
def bias (g : FVec Ideal ⟨2, ![8, 2048]⟩ .f32) : FVec Ideal ⟨2, ![8, 2048]⟩ .f32 :=
  select (andi (cmpi .slt bid own) (cmpf .olt (rank g) (broadcast ⟨2, ![8, 2048]⟩ (FloatOps.ofBits .f32 0x40400000#32))))
    (broadcast ⟨2, ![8, 2048]⟩ (FloatOps.ofBits .f32 0x00000000#32)) (broadcast ⟨2, ![8, 2048]⟩ (⊥ : EReal))

/-- Which keys of its own block a query sees. -/
def causal : IVec ⟨2, ![256, 256]⟩ 1 :=
  cmpi .sle (iota .tc ⟨2, ![256, 256]⟩ 32 [0] (by decide)) (iota .tc ⟨2, ![256, 256]⟩ 32 [1] (by decide))

theorem f32_zero : (FloatOps.ofBits (F := Ideal) .f32 0x00000000#32 : EReal) = 0 := by
  show Ideal.ofBits .f32 _ = _; simp [Ideal.ofBits, Ideal.ieee]
theorem f32_one : (FloatOps.ofBits (F := Ideal) .f32 0x3F800000#32 : EReal) = 1 := by
  show Ideal.ofBits .f32 _ = _; simp [Ideal.ofBits, Ideal.ieee]; rw [← EReal.coe_mul]; norm_num
theorem f32_three : (FloatOps.ofBits (F := Ideal) .f32 0x40400000#32 : EReal) = ((3 : ℝ) : EReal) := by
  show Ideal.ofBits .f32 _ = _; simp [Ideal.ofBits, Ideal.ieee]; rw [← EReal.coe_mul]; norm_num
theorem f32_256th : (FloatOps.ofBits (F := Ideal) .f32 0x3B800000#32 : EReal) = ((1 / 256 : ℝ) : EReal) := by
  show Ideal.ofBits .f32 _ = _; simp [Ideal.ofBits, Ideal.ieee]; rw [← EReal.coe_mul]; norm_num

theorem causal_iff (i j : Fin 256) : causal (ix2 i j) = 1#1 ↔ i.val ≤ j.val := by
  unfold causal
  pointwise
  exact WordCmp.cmpi_sle_ofNat_eq_one_iff (by omega) (by omega)

theorem bid_apply (i : Fin 8) (j : Fin 2048) : bid (ix2 i j) = BitVec.ofNat 32 i.val := by
  unfold bid
  pointwise

theorem own_word : ∀ j : Fin 2048, Scalar.select
    (IntOp.andi
      (IntOp.cmpi .ne
        (IntOp.subi (BitVec.setWidth 32 (IntOp.cmpi .sgt (BitVec.ofNat 32 j.val) 0#32))
          (BitVec.setWidth 32 (IntOp.cmpi .slt (BitVec.ofNat 32 j.val) 0#32)))
        (Scalar.subi (Scalar.extui (Scalar.cmpi .sgt 256#32 0#32)) (Scalar.extui (Scalar.cmpi .slt 256#32 0#32))))
      (IntOp.cmpi .ne (IntOp.remsi ArithUnit.vector (BitVec.ofNat 32 j.val) 256#32) 0#32))
    (IntOp.subi (IntOp.divsi ArithUnit.vector (BitVec.ofNat 32 j.val) 256#32) 1#32)
    (IntOp.divsi ArithUnit.vector (BitVec.ofNat 32 j.val) 256#32) = BitVec.ofNat 32 (j.val / 256) := by
  decide +kernel

theorem own_apply (i : Fin 8) (j : Fin 2048) : own (ix2 i j) = BitVec.ofNat 32 (j.val / 256) := by
  unfold own qid
  pointwise
  exact own_word j

theorem and_bit : ∀ a b : BitVec 1, IntOp.andi a b = 1#1 ↔ a = 1#1 ∧ b = 1#1 := by decide
theorem or_bit : ∀ a b : BitVec 1, IntOp.ori a b = 1#1 ↔ a = 1#1 ∨ b = 1#1 := by decide

variable {K Q G : ℕ → ℕ → EReal} {k q : FVec Ideal ⟨2, ![2048, 128]⟩ .bf16} {g : FVec Ideal ⟨2, ![8, 2048]⟩ .f32}

theorem meanRow_rep (hk : Rep k K) (o h) : Rep (meanRow k o h) fun _ d => (∑ i : Fin 256, K (o + i) d) * ((1 / 256 : ℝ) : EReal) := by
  refine (((hk.extf _).slice h).sumRows _ _ _ _ |>.mulf (Rep.broadcast _)).congr fun i _ j _ => ?_
  rw [f32_256th]
  simp only [Nat.zero_add]

/-- The mean of block `n` of the keys. -/
def km (K : ℕ → ℕ → EReal) (n d : ℕ) : EReal := (∑ i : Fin 256, K (256 * n + i) d) * ((1 / 256 : ℝ) : EReal)

theorem mean_rep (hk : Rep k K) : Rep (mean k) (km K) := by
  intro n d
  unfold mean km
  pointwise
  split_ifs <;> refine (meanRow_rep hk _ _ _ _).trans (congrArg (fun x : EReal => x * ((1 / 256 : ℝ) : EReal))
    (Finset.sum_congr rfl fun i _ => congrArg₂ K ?_ rfl)) <;> omega

theorem km_real (hK : ∀ p d, ∃ r : ℝ, K p d = r) (n d : ℕ) : ∃ r : ℝ, km K n d = r := by
  choose u hu using hK
  refine ⟨(∑ i : Fin 256, u (256 * n + i) d) * (1 / 256), ?_⟩
  unfold km
  rw [EReal.coe_mul]
  congr 1
  rw [Finset.sum_congr rfl fun i _ => hu _ _]
  induction (Finset.univ : Finset (Fin 256)) using Finset.induction_on with
  | empty => simp
  | insert a s ha ih => rw [Finset.sum_insert ha, Finset.sum_insert ha, EReal.coe_add, ih]

theorem rest_rep {m : FVec Ideal ⟨2, ![8, 128]⟩ .f32} {f : ℕ → ℕ → EReal} (hm : Rep m f) (hf : ∀ i j, ∃ r : ℝ, f i j = r) :
    Rep (rest m) fun _ _ => 0 := by
  refine (hm.subf ((hm.truncf _).extf _)).congr fun i _ j _ => ?_
  obtain ⟨r, hr⟩ := hf i j
  rw [hr, ← EReal.coe_sub, sub_self, EReal.coe_zero]

theorem parts_rep {m : FVec Ideal ⟨2, ![8, 128]⟩ .f32} {f : ℕ → ℕ → EReal} (hm : Rep m f) (hf : ∀ i j, ∃ r : ℝ, f i j = r) :
    Rep (parts m) fun i d => if i < 8 then f i d else 0 := by
  have h1 := rest_rep hm hf
  have h2 := rest_rep h1 fun _ _ => ⟨0, EReal.coe_zero.symm⟩
  refine Rep.truncf ?_ _
  intro i d
  pointwise
  split_ifs
  all_goals first | exact hm _ _ | exact h1 _ _ | exact h2 _ _ | exact f32_zero | rfl

/-- The gate of block `n` for query `q`. -/
def gt (K Q : ℕ → ℕ → EReal) (n q : ℕ) : EReal := ∑ d : Fin 128, km K n d * Q q d

theorem gate_rep (hk : Rep k K) (hq : Rep q Q) (hK : ∀ p d, ∃ r : ℝ, K p d = r) : Rep (gate k q) (gt K Q) := by
  have hp : Rep (prods k q) _ := Rep.matmulT (parts_rep (mean_rep hk) (km_real hK)) hq
  refine (((hp.slice _).addf (hp.slice _)).addf (hp.slice _)).congr fun i hi j hj => ?_
  simp only [Nat.zero_add]
  simp only [if_pos hi, if_neg (show ¬ 8 + i < 8 by omega), if_neg (show ¬ 16 + i < 8 by omega), zero_mul, Finset.sum_const_zero, add_zero]
  rfl

/-- Block `n'` comes before block `n` in the order of the gate `G` for query `q`: it lies in the query's past, and its gate is
    larger, or equal and `n'` is the smaller number. -/
def Before (G : ℕ → ℕ → EReal) (q n' n : ℕ) : Prop := (G n q < G n' q ∨ (G n' q = G n q ∧ n' < n)) ∧ n' < q / 256

open Classical in
theorem beat_rep (hg : Rep g G) (n : ℕ) (hn : n < 8) (h) :
    Rep (beat g n (BitVec.ofNat 32 n) h) fun i q => if Before G q n i then 1 else 0 := by
  have hr := (hg.slice h).broadcastRow (a := 8) (by decide)
  refine (Rep.select (p := fun i q => Before G q n i) (fun i j => ?_) (Rep.broadcast _) (Rep.broadcast _)).congr
    fun i _ j _ => by rw [f32_one, f32_zero]
  refine (and_bit _ _).trans (and_congr ((or_bit _ _).trans (or_congr ?_ ((and_bit _ _).trans (and_congr ?_ ?_)))) ?_)
  · show Ideal.cmp .ogt _ _ = _ ↔ _
    rw [hr i j, hg i j]
    simp only [Ideal.cmp, WordCmp.ofBool_decide_eq_one_iff, Nat.add_zero, Nat.zero_add]
  · show Ideal.cmp .oeq _ _ = _ ↔ _
    rw [hr i j, hg i j]
    simp only [Ideal.cmp, WordCmp.ofBool_decide_eq_one_iff, Nat.add_zero, Nat.zero_add]
  · show IntOp.cmpi .sgt (bid (ix2 i j)) (BitVec.ofNat 32 n) = _ ↔ _
    rw [bid_apply]
    exact WordCmp.cmpi_sgt_ofNat_eq_one_iff (by omega) (by omega)
  · show IntOp.cmpi .sgt (own (ix2 i j)) (BitVec.ofNat 32 n) = _ ↔ _
    rw [own_apply]
    exact WordCmp.cmpi_sgt_ofNat_eq_one_iff (by omega) (by omega)

open Classical in
/-- How many blocks come before block `n`. -/
def rk (G : ℕ → ℕ → EReal) (n q : ℕ) : ℕ := (Finset.univ.filter fun n' : Fin 8 => Before G q n' n).card

theorem rank_rep (hg : Rep g G) : Rep (rank g) fun n q => ((rk G n q : ℕ) : EReal) := by
  classical
  refine ((((((((Rep.broadcast _).addf (beat_rep hg 0 (by omega) _)).addf (beat_rep hg 1 (by omega) _)).addf
    (beat_rep hg 2 (by omega) _)).addf (beat_rep hg 3 (by omega) _)).addf (beat_rep hg 4 (by omega) _)).addf
    (beat_rep hg 5 (by omega) _)).addf (beat_rep hg 6 (by omega) _)).congr fun n hn q hq => ?_
  unfold rk
  rw [Finset.card_filter, Fin.sum_univ_eight, if_neg (show ¬ Before G q (7 : Fin 8).val n from fun h => by
    have h2 : 7 < q / 256 := h.2
    omega), f32_zero]
  push_cast
  rw [zero_add, add_zero]
  rfl

open Classical in
/-- Whether query `q` sees block `n` of its past. -/
def Bm (G : ℕ → ℕ → EReal) (n q : ℕ) : EReal := if n < q / 256 ∧ rk G n q < 3 then 0 else ⊥

theorem bias_rep (hg : Rep g G) : Rep (bias g) (Bm G) := by
  classical
  refine (Rep.select (p := fun n q => n < q / 256 ∧ rk G n q < 3) (fun i j => ?_) (Rep.broadcast _) (Rep.broadcast _)).congr
    fun i _ j _ => by rw [f32_zero]; rfl
  refine (and_bit _ _).trans (and_congr ?_ ?_)
  · show IntOp.cmpi .slt (bid (ix2 i j)) (own (ix2 i j)) = _ ↔ _
    rw [bid_apply, own_apply]
    exact WordCmp.cmpi_slt_ofNat_eq_one_iff (by omega) (by omega)
  · show Ideal.cmp .olt _ (FloatOps.ofBits (F := Ideal) .f32 0x40400000#32 : EReal) = _ ↔ _
    rw [rank_rep hg i j, f32_three]
    show Ideal.cmp .olt ((rk G i j : ℕ) : EReal) _ = _ ↔ _
    rw [← EReal.coe_coe_eq_natCast]
    simp only [Ideal.cmp, WordCmp.ofBool_decide_eq_one_iff, EReal.coe_lt_coe_iff]
    exact_mod_cast Iff.rfl

end Gate

end Cert.Moba
-- ==== Proof.Head0.lean ====
/-
  The first head: its stores to the accumulator are those of `head_good`.
-/
module

public import proofs.«01_k».proof.Proof.Head
public import proofs.«01_k».proof.Proof.Gate
public import proofs.«01_k».proof.Proof.Gen.KernelIdeal.Frame.RunA

@[expose] public section

set_option maxRecDepth 16384

noncomputable section

namespace Cert.Moba

open Idealize.ShloMosaic Idealize.ShloMosaic.TcCoe Idealize.SL.Sem
open Cert.KernelIdeal Cert.KernelIdeal.Gen

variable (c : Dev nD) (arg2 arg3 arg4 : Memref sig .tc .vmem S128x1x16x512 .bf16)
variable (harg2 : arg2.IsWhole) (harg3 : arg3.IsWhole) (harg4 : arg4.IsWhole)
variable (arg7 arg8 : Memref sig .tc .vmem S2048x128 .bf16)
variable (arg9 : Memref sig .tc .vmem S144x2048 .bf16) (arg10 : Memref sig .tc .vmem S144x2048 .f32)
variable (x0 x1 x2 : FVec Ideal S128x1x16x512 .bf16) {K Q V B : ℕ → ℕ → EReal}

theorem good0 (hS : Scores K Q B) (hb : Rep (kernelRun0_A.sl.r (F := Ideal) c arg2 harg2 arg3 harg3 x0 x1) B)
    (hK : ∀ i j, View.canon (kernelRun0_A.sl.HS0_1 (F := Ideal) c arg3 harg3 x1) (ix2 i j) = K i.val j.val)
    (hQ : ∀ i j, View.canon (kernelRun0_A.sl.HS1_1 (F := Ideal) c arg2 harg2 x0) (ix2 i j) = Q i.val j.val)
    (hV : ∀ i j, View.canon (kernelRun0_A.sl.HS2_2 (F := Ideal) c arg4 harg4 x2) (ix2 i j) = V i.val j.val) :
    Good K Q V B 0 (kernelRun0_A.sl.HS3_15 (F := Ideal) c arg2 harg2 arg3 harg3 arg4 harg4 arg7 arg8 arg9 arg10 x0 x1 x2) := by
  refine head_good (v7 := arg7.view) (v8 := arg8.view) (v9 := arg9.view) (v10 := arg10.view)
    (LK := (kernelRun0_A.sl.HS0_1 (F := Ideal) c arg3 harg3 x1)) (LQ := (kernelRun0_A.sl.HS1_1 (F := Ideal) c arg2 harg2 x0))
    (LV := (kernelRun0_A.sl.HS2_2 (F := Ideal) c arg4 harg4 x2))
    (c := k0_pay34) (bias := (kernelRun0_A.sl.r (F := Ideal) c arg2 harg2 arg3 harg3 x0 x1))
    (m7 := (kernelRun0_A.sl.r_1 (F := Ideal) c arg2 harg2 arg3 harg3 arg7 arg8 x0 x1))
    (m6 := (kernelRun0_A.sl.r_2 (F := Ideal) c arg2 harg2 arg3 harg3 arg7 arg8 x0 x1))
    (m5 := (kernelRun0_A.sl.r_3 (F := Ideal) c arg2 harg2 arg3 harg3 arg7 arg8 x0 x1))
    (m4 := (kernelRun0_A.sl.r_6 (F := Ideal) c arg2 harg2 arg3 harg3 arg7 arg8 x0 x1))
    (m3 := (kernelRun0_A.sl.r_10 (F := Ideal) c arg2 harg2 arg3 harg3 arg7 arg8 x0 x1))
    (m2 := (kernelRun0_A.sl.r_12 (F := Ideal) c arg2 harg2 arg3 harg3 arg7 arg8 x0 x1))
    (L6 := (kernelRun0_A.sl.HS3_2 (F := Ideal) c arg2 harg2 arg3 harg3 arg4 harg4 arg7 arg8 arg9 x0 x1 x2))
    (L5 := (kernelRun0_A.sl.HS3_4 (F := Ideal) c arg2 harg2 arg3 harg3 arg4 harg4 arg7 arg8 arg9 arg10 x0 x1 x2))
    (L4 := (kernelRun0_A.sl.HS3_6 (F := Ideal) c arg2 harg2 arg3 harg3 arg4 harg4 arg7 arg8 arg9 arg10 x0 x1 x2))
    (L3 := (kernelRun0_A.sl.HS3_8 (F := Ideal) c arg2 harg2 arg3 harg3 arg4 harg4 arg7 arg8 arg9 arg10 x0 x1 x2))
    (L2 := (kernelRun0_A.sl.HS3_10 (F := Ideal) c arg2 harg2 arg3 harg3 arg4 harg4 arg7 arg8 arg9 arg10 x0 x1 x2))
    (L1 := (kernelRun0_A.sl.HS3_12 (F := Ideal) c arg2 harg2 arg3 harg3 arg4 harg4 arg7 arg8 arg9 arg10 x0 x1 x2))
    (L0 := (kernelRun0_A.sl.HS3_14 (F := Ideal) c arg2 harg2 arg3 harg3 arg4 harg4 arg7 arg8 arg9 arg10 x0 x1 x2))
    hS hb Gate.causal_iff hK hQ hV [] ?_ ?_ ?_ ?_ ?_ ?_ rfl ?_ ?_ ?_ ?_ ?_ ?_ ?_ ?_
  all_goals rfl

end Cert.Moba
-- ==== Proof.Head1.lean ====
/-
  The second head: its stores to the accumulator are those of `head_good`.
-/
module

public import proofs.«01_k».proof.Proof.Head
public import proofs.«01_k».proof.Proof.Gate
public import proofs.«01_k».proof.Proof.Gen.KernelIdeal.Frame.RunA

@[expose] public section

set_option maxRecDepth 16384

noncomputable section

namespace Cert.Moba

open Idealize.ShloMosaic Idealize.ShloMosaic.TcCoe Idealize.SL.Sem
open Cert.KernelIdeal Cert.KernelIdeal.Gen

variable (c : Dev nD) (arg2 arg3 arg4 : Memref sig .tc .vmem S128x1x16x512 .bf16)
variable (harg2 : arg2.IsWhole) (harg3 : arg3.IsWhole) (harg4 : arg4.IsWhole)
variable (arg7 arg8 : Memref sig .tc .vmem S2048x128 .bf16)
variable (arg9 : Memref sig .tc .vmem S144x2048 .bf16) (arg10 : Memref sig .tc .vmem S144x2048 .f32)
variable (x0 x1 x2 : FVec Ideal S128x1x16x512 .bf16) {K Q V B : ℕ → ℕ → EReal}

theorem good1 (hS : Scores K Q B) (hb : Rep (kernelRun0_A.sl.r_19 (F := Ideal) c arg2 harg2 arg3 harg3 x0 x1) B)
    (hK : ∀ i j, View.canon (kernelRun0_A.sl.HS0_2 (F := Ideal) c arg3 harg3 x1) (ix2 i j) = K i.val j.val)
    (hQ : ∀ i j, View.canon (kernelRun0_A.sl.HS1_2 (F := Ideal) c arg2 harg2 x0) (ix2 i j) = Q i.val j.val)
    (hV : ∀ i j, View.canon (kernelRun0_A.sl.HS2_4 (F := Ideal) c arg4 harg4 x2) (ix2 i j) = V i.val j.val) :
    Good K Q V B 0 (kernelRun0_A.sl.HS3_30 (F := Ideal) c arg2 harg2 arg3 harg3 arg4 harg4 arg7 arg8 arg9 arg10 x0 x1 x2) := by
  refine head_good (v7 := arg7.view) (v8 := arg8.view) (v9 := arg9.view) (v10 := arg10.view)
    (LK := (kernelRun0_A.sl.HS0_2 (F := Ideal) c arg3 harg3 x1)) (LQ := (kernelRun0_A.sl.HS1_2 (F := Ideal) c arg2 harg2 x0))
    (LV := (kernelRun0_A.sl.HS2_4 (F := Ideal) c arg4 harg4 x2))
    (c := k0_pay115) (bias := (kernelRun0_A.sl.r_19 (F := Ideal) c arg2 harg2 arg3 harg3 x0 x1))
    (m6 := (kernelRun0_A.sl.r_20 (F := Ideal) c arg2 harg2 arg3 harg3 arg7 arg8 x0 x1))
    (m5 := (kernelRun0_A.sl.r_23 (F := Ideal) c arg2 harg2 arg3 harg3 arg7 arg8 x0 x1))
    (m4 := (kernelRun0_A.sl.r_27 (F := Ideal) c arg2 harg2 arg3 harg3 arg7 arg8 x0 x1))
    (m3 := (kernelRun0_A.sl.r_30 (F := Ideal) c arg2 harg2 arg3 harg3 arg7 arg8 x0 x1))
    (m2 := (kernelRun0_A.sl.r_33 (F := Ideal) c arg2 harg2 arg3 harg3 arg7 arg8 x0 x1))
    (m1 := (kernelRun0_A.sl.r_35 (F := Ideal) c arg2 harg2 arg3 harg3 arg7 arg8 x0 x1))
    (L6 := (kernelRun0_A.sl.HS3_17 (F := Ideal) c arg2 harg2 arg3 harg3 arg4 harg4 arg7 arg8 arg9 arg10 x0 x1 x2))
    (L5 := (kernelRun0_A.sl.HS3_19 (F := Ideal) c arg2 harg2 arg3 harg3 arg4 harg4 arg7 arg8 arg9 arg10 x0 x1 x2))
    (L4 := (kernelRun0_A.sl.HS3_21 (F := Ideal) c arg2 harg2 arg3 harg3 arg4 harg4 arg7 arg8 arg9 arg10 x0 x1 x2))
    (L3 := (kernelRun0_A.sl.HS3_23 (F := Ideal) c arg2 harg2 arg3 harg3 arg4 harg4 arg7 arg8 arg9 arg10 x0 x1 x2))
    (L2 := (kernelRun0_A.sl.HS3_25 (F := Ideal) c arg2 harg2 arg3 harg3 arg4 harg4 arg7 arg8 arg9 arg10 x0 x1 x2))
    (L1 := (kernelRun0_A.sl.HS3_27 (F := Ideal) c arg2 harg2 arg3 harg3 arg4 harg4 arg7 arg8 arg9 arg10 x0 x1 x2))
    (L0 := (kernelRun0_A.sl.HS3_29 (F := Ideal) c arg2 harg2 arg3 harg3 arg4 harg4 arg7 arg8 arg9 arg10 x0 x1 x2))
    hS hb Gate.causal_iff hK hQ hV (kernelRun0_A.sl.HS3_15 (F := Ideal) c arg2 harg2 arg3 harg3 arg4 harg4 arg7 arg8 arg9 arg10 x0 x1 x2) rfl ?_ ?_ ?_ ?_ ?_ ?_ ?_ ?_ ?_ ?_ ?_ ?_ ?_ ?_
  all_goals rfl

end Cert.Moba
-- ==== Proof.Head2.lean ====
/-
  The third head: its stores to the accumulator are those of `head_good`.
-/
module

public import proofs.«01_k».proof.Proof.Head
public import proofs.«01_k».proof.Proof.Gate
public import proofs.«01_k».proof.Proof.Gen.KernelIdeal.Frame.RunA

@[expose] public section

set_option maxRecDepth 16384

noncomputable section

namespace Cert.Moba

open Idealize.ShloMosaic Idealize.ShloMosaic.TcCoe Idealize.SL.Sem
open Cert.KernelIdeal Cert.KernelIdeal.Gen

variable (c : Dev nD) (arg2 arg3 arg4 : Memref sig .tc .vmem S128x1x16x512 .bf16)
variable (harg2 : arg2.IsWhole) (harg3 : arg3.IsWhole) (harg4 : arg4.IsWhole)
variable (arg7 arg8 : Memref sig .tc .vmem S2048x128 .bf16)
variable (arg9 : Memref sig .tc .vmem S144x2048 .bf16) (arg10 : Memref sig .tc .vmem S144x2048 .f32)
variable (x0 x1 x2 : FVec Ideal S128x1x16x512 .bf16) {K Q V B : ℕ → ℕ → EReal}

theorem good2 (hS : Scores K Q B) (hb : Rep (kernelRun0_A.sl.r_37 (F := Ideal) c arg2 harg2 arg3 harg3 x0 x1) B)
    (hK : ∀ i j, View.canon (kernelRun0_A.sl.HS0_3 (F := Ideal) c arg3 harg3 x1) (ix2 i j) = K i.val j.val)
    (hQ : ∀ i j, View.canon (kernelRun0_A.sl.HS1_3 (F := Ideal) c arg2 harg2 x0) (ix2 i j) = Q i.val j.val)
    (hV : ∀ i j, View.canon (kernelRun0_A.sl.HS2_6 (F := Ideal) c arg4 harg4 x2) (ix2 i j) = V i.val j.val) :
    Good K Q V B 0 (kernelRun0_A.sl.HS3_45 (F := Ideal) c arg2 harg2 arg3 harg3 arg4 harg4 arg7 arg8 arg9 arg10 x0 x1 x2) := by
  refine head_good (v7 := arg7.view) (v8 := arg8.view) (v9 := arg9.view) (v10 := arg10.view)
    (LK := (kernelRun0_A.sl.HS0_3 (F := Ideal) c arg3 harg3 x1)) (LQ := (kernelRun0_A.sl.HS1_3 (F := Ideal) c arg2 harg2 x0))
    (LV := (kernelRun0_A.sl.HS2_6 (F := Ideal) c arg4 harg4 x2))
    (c := k0_pay192) (bias := (kernelRun0_A.sl.r_37 (F := Ideal) c arg2 harg2 arg3 harg3 x0 x1))
    (m7 := (kernelRun0_A.sl.r_38 (F := Ideal) c arg2 harg2 arg3 harg3 arg7 arg8 x0 x1))
    (m6 := (kernelRun0_A.sl.r_41 (F := Ideal) c arg2 harg2 arg3 harg3 arg7 arg8 x0 x1))
    (m5 := (kernelRun0_A.sl.r_45 (F := Ideal) c arg2 harg2 arg3 harg3 arg7 arg8 x0 x1))
    (m4 := (kernelRun0_A.sl.r_47 (F := Ideal) c arg2 harg2 arg3 harg3 arg7 arg8 x0 x1))
    (m2 := (kernelRun0_A.sl.r_52 (F := Ideal) c arg2 harg2 arg3 harg3 arg7 arg8 x0 x1))
    (m1 := (kernelRun0_A.sl.r_54 (F := Ideal) c arg2 harg2 arg3 harg3 arg7 arg8 x0 x1))
    (L6 := (kernelRun0_A.sl.HS3_32 (F := Ideal) c arg2 harg2 arg3 harg3 arg4 harg4 arg7 arg8 arg9 arg10 x0 x1 x2))
    (L5 := (kernelRun0_A.sl.HS3_34 (F := Ideal) c arg2 harg2 arg3 harg3 arg4 harg4 arg7 arg8 arg9 arg10 x0 x1 x2))
    (L4 := (kernelRun0_A.sl.HS3_36 (F := Ideal) c arg2 harg2 arg3 harg3 arg4 harg4 arg7 arg8 arg9 arg10 x0 x1 x2))
    (L3 := (kernelRun0_A.sl.HS3_38 (F := Ideal) c arg2 harg2 arg3 harg3 arg4 harg4 arg7 arg8 arg9 arg10 x0 x1 x2))
    (L2 := (kernelRun0_A.sl.HS3_40 (F := Ideal) c arg2 harg2 arg3 harg3 arg4 harg4 arg7 arg8 arg9 arg10 x0 x1 x2))
    (L1 := (kernelRun0_A.sl.HS3_42 (F := Ideal) c arg2 harg2 arg3 harg3 arg4 harg4 arg7 arg8 arg9 arg10 x0 x1 x2))
    (L0 := (kernelRun0_A.sl.HS3_44 (F := Ideal) c arg2 harg2 arg3 harg3 arg4 harg4 arg7 arg8 arg9 arg10 x0 x1 x2))
    hS hb Gate.causal_iff hK hQ hV (kernelRun0_A.sl.HS3_30 (F := Ideal) c arg2 harg2 arg3 harg3 arg4 harg4 arg7 arg8 arg9 arg10 x0 x1 x2) ?_ ?_ ?_ ?_ rfl ?_ ?_ ?_ ?_ ?_ ?_ ?_ ?_ ?_ ?_
  all_goals rfl

end Cert.Moba
-- ==== Proof.Head3.lean ====
/-
  The fourth head: its stores to the accumulator are those of `head_good`.
-/
module

public import proofs.«01_k».proof.Proof.Head
public import proofs.«01_k».proof.Proof.Gate
public import proofs.«01_k».proof.Proof.Gen.KernelIdeal.Frame.RunA

@[expose] public section

set_option maxRecDepth 16384

noncomputable section

namespace Cert.Moba

open Idealize.ShloMosaic Idealize.ShloMosaic.TcCoe Idealize.SL.Sem
open Cert.KernelIdeal Cert.KernelIdeal.Gen

variable (c : Dev nD) (arg2 arg3 arg4 : Memref sig .tc .vmem S128x1x16x512 .bf16)
variable (harg2 : arg2.IsWhole) (harg3 : arg3.IsWhole) (harg4 : arg4.IsWhole)
variable (arg7 arg8 : Memref sig .tc .vmem S2048x128 .bf16)
variable (arg9 : Memref sig .tc .vmem S144x2048 .bf16) (arg10 : Memref sig .tc .vmem S144x2048 .f32)
variable (x0 x1 x2 : FVec Ideal S128x1x16x512 .bf16) {K Q V B : ℕ → ℕ → EReal}

theorem good3 (hS : Scores K Q B) (hb : Rep (kernelRun0_A.sl.r_59 (F := Ideal) c arg2 harg2 arg3 harg3 x0 x1) B)
    (hK : ∀ i j, View.canon (kernelRun0_A.sl.HS0_4 (F := Ideal) c arg3 harg3 x1) (ix2 i j) = K i.val j.val)
    (hQ : ∀ i j, View.canon (kernelRun0_A.sl.HS1_4 (F := Ideal) c arg2 harg2 x0) (ix2 i j) = Q i.val j.val)
    (hV : ∀ i j, View.canon (kernelRun0_A.sl.HS2_8 (F := Ideal) c arg4 harg4 x2) (ix2 i j) = V i.val j.val) :
    Good K Q V B 0 (kernelRun0_A.sl.HS3_60 (F := Ideal) c arg2 harg2 arg3 harg3 arg4 harg4 arg7 arg8 arg9 arg10 x0 x1 x2) := by
  refine head_good (v7 := arg7.view) (v8 := arg8.view) (v9 := arg9.view) (v10 := arg10.view)
    (LK := (kernelRun0_A.sl.HS0_4 (F := Ideal) c arg3 harg3 x1)) (LQ := (kernelRun0_A.sl.HS1_4 (F := Ideal) c arg2 harg2 x0))
    (LV := (kernelRun0_A.sl.HS2_8 (F := Ideal) c arg4 harg4 x2))
    (c := k0_pay270) (bias := (kernelRun0_A.sl.r_59 (F := Ideal) c arg2 harg2 arg3 harg3 x0 x1))
    (m6 := (kernelRun0_A.sl.r_62 (F := Ideal) c arg2 harg2 arg3 harg3 arg7 arg8 x0 x1))
    (m5 := (kernelRun0_A.sl.r_65 (F := Ideal) c arg2 harg2 arg3 harg3 arg7 arg8 x0 x1))
    (m4 := (kernelRun0_A.sl.r_68 (F := Ideal) c arg2 harg2 arg3 harg3 arg7 arg8 x0 x1))
    (m3 := (kernelRun0_A.sl.r_70 (F := Ideal) c arg2 harg2 arg3 harg3 arg7 arg8 x0 x1))
    (m2 := (kernelRun0_A.sl.r_71 (F := Ideal) c arg2 harg2 arg3 harg3 arg7 arg8 x0 x1))
    (m1 := (kernelRun0_A.sl.r_72 (F := Ideal) c arg2 harg2 arg3 harg3 arg7 arg8 x0 x1))
    (L6 := (kernelRun0_A.sl.HS3_47 (F := Ideal) c arg2 harg2 arg3 harg3 arg4 harg4 arg7 arg8 arg9 arg10 x0 x1 x2))
    (L5 := (kernelRun0_A.sl.HS3_49 (F := Ideal) c arg2 harg2 arg3 harg3 arg4 harg4 arg7 arg8 arg9 arg10 x0 x1 x2))
    (L4 := (kernelRun0_A.sl.HS3_51 (F := Ideal) c arg2 harg2 arg3 harg3 arg4 harg4 arg7 arg8 arg9 arg10 x0 x1 x2))
    (L3 := (kernelRun0_A.sl.HS3_53 (F := Ideal) c arg2 harg2 arg3 harg3 arg4 harg4 arg7 arg8 arg9 arg10 x0 x1 x2))
    (L2 := (kernelRun0_A.sl.HS3_55 (F := Ideal) c arg2 harg2 arg3 harg3 arg4 harg4 arg7 arg8 arg9 arg10 x0 x1 x2))
    (L1 := (kernelRun0_A.sl.HS3_57 (F := Ideal) c arg2 harg2 arg3 harg3 arg4 harg4 arg7 arg8 arg9 arg10 x0 x1 x2))
    (L0 := (kernelRun0_A.sl.HS3_59 (F := Ideal) c arg2 harg2 arg3 harg3 arg4 harg4 arg7 arg8 arg9 arg10 x0 x1 x2))
    hS hb Gate.causal_iff hK hQ hV (kernelRun0_A.sl.HS3_45 (F := Ideal) c arg2 harg2 arg3 harg3 arg4 harg4 arg7 arg8 arg9 arg10 x0 x1 x2) rfl ?_ ?_ ?_ ?_ ?_ ?_ ?_ ?_ ?_ ?_ ?_ ?_ ?_ ?_
  all_goals rfl

end Cert.Moba
-- ==== Proof.Soft.lean ====
/-
  What a head of the attention computes, for one query: the softmax over the keys that the query sees, and that the sums
  accumulated block by block are it.
-/
module

public import proofs.«01_k».proof.Proof.Gate

@[expose] public section

noncomputable section

namespace Cert.Moba

open Idealize.ShloMosaic Gate

variable (K Q : ℕ → ℕ → EReal) (G : ℕ → ℕ → EReal) (V : ℕ → ℕ → EReal)

/-- Query `p` sees key `j`: in a past block, if that block is one of the three whose gates are the largest; in its own block,
    if the key does not come after it. -/
def See (p j : ℕ) : Prop := (j / 256 < p / 256 ∧ rk G (j / 256) p < 3) ∨ (j / 256 = p / 256 ∧ j ≤ p)

open Classical in
/-- The score of key `j` for query `p`. -/
def score (p j : ℕ) : EReal := if See G p j then sc K Q j p else ⊥

/-- The largest score of query `p`. -/
def best (p : ℕ) : EReal := Finset.univ.sup fun j : Fin 2048 => score K Q G p j

/-- The `d`-th coordinate of the values weighted by the softmax of `log 2` times the scores. -/
def attn (p d : ℕ) : EReal :=
  ∑ j : Fin 2048, Ideal.div (Ideal.exp (((Real.log 2 : ℝ) : EReal) * score K Q G p j - ((Real.log 2 : ℝ) : EReal) * best K Q G p))
    (∑ k : Fin 2048, Ideal.exp (((Real.log 2 : ℝ) : EReal) * score K Q G p k - ((Real.log 2 : ℝ) : EReal) * best K Q G p)) * V d j

/-- A sum over the keys is a sum over the blocks of sums over their keys. -/
theorem sum_blocks (f : ℕ → EReal) : ∑ j : Fin 2048, f j = ∑ n ∈ Finset.range 8, ∑ i : Fin 256, f (256 * n + i) := by
  rw [Finset.sum_range, ← Equiv.sum_comp (finProdFinEquiv (m := 8) (n := 256)) (fun j => f j.val), Fintype.sum_prod_type]
  refine Finset.sum_congr rfl fun n _ => Finset.sum_congr rfl fun i _ => congrArg f ?_
  show i.val + 256 * n.val = _
  omega

variable {K Q G V}

theorem T_score {n i p : ℕ} (hi : i < 256) (hn : n ≤ p / 256) : T K Q (Bm G) n i p = score K Q G p (256 * n + i) := by
  classical
  have hb : (256 * n + i) / 256 = n := by omega
  unfold T score See Bm
  rw [hb]
  by_cases h : p < 256 * (n + 1)
  · rw [if_pos h]
    by_cases h1 : i ≤ p - 256 * n
    · rw [if_pos h1, if_pos (.inr ⟨by omega, by omega⟩)]
    · rw [if_neg h1, if_neg]
      rintro (⟨h2, -⟩ | ⟨h2, h3⟩) <;> omega
  · rw [if_neg h]
    by_cases h1 : n < p / 256 ∧ rk G n p < 3
    · rw [if_pos h1, add_zero, if_pos (.inl h1)]
    · rw [if_neg h1, EReal.add_bot, if_neg]
      rintro (h2 | ⟨h2, -⟩)
      · exact h1 h2
      · omega

theorem score_future {p j : ℕ} (h : p / 256 < j / 256) : score K Q G p j = ⊥ := by
  unfold score See
  rw [if_neg]
  rintro (⟨h1, -⟩ | ⟨h1, -⟩) <;> omega

theorem Mx_best {p : ℕ} (hp : p < 2048) : Mx K Q (Bm G) 0 p = best K Q G p := by
  refine le_antisymm (Finset.sup_le fun n hn => Finset.sup_le fun i _ => ?_) (Finset.sup_le fun j _ => ?_)
  · have hn' := (Finset.mem_Icc.1 hn).2
    rw [T_score i.2 hn']
    exact Finset.le_sup (f := fun j : Fin 2048 => score K Q G p j) (Finset.mem_univ (⟨256 * n + i.val, by omega⟩ : Fin 2048))
  · by_cases hj : j.val / 256 ≤ p / 256
    · have h1 := T_score (K := K) (Q := Q) (G := G) (n := j.val / 256) (i := j.val % 256) (p := p) (by omega) hj
      rw [show 256 * (j.val / 256) + j.val % 256 = j.val by omega] at h1
      rw [← h1]
      refine le_trans ?_ (Finset.le_sup (f := fun n' => Finset.univ.sup fun i : Fin 256 => T K Q (Bm G) n' i p)
        (Finset.mem_Icc.2 ⟨Nat.zero_le _, hj⟩ : j.val / 256 ∈ Finset.Icc 0 (p / 256)))
      exact Finset.le_sup (f := fun i : Fin 256 => T K Q (Bm G) (j.val / 256) i p)
        (Finset.mem_univ (⟨j.val % 256, by omega⟩ : Fin 256))
    · rw [score_future (by omega)]
      exact bot_le

theorem Acc_score (hS : Scores K Q (Bm G)) {r p : ℕ} (hp : p < 2048) :
    Acc K Q V (Bm G) 0 r p = ∑ j : Fin 2048, V r j * Ideal.exp2 (score K Q G p j - best K Q G p) := by
  obtain ⟨c, hc⟩ := Mx_real hS (n := 0) (q := p) (by omega)
  rw [Mx_best hp] at hc
  rw [sum_blocks fun j => V r j * Ideal.exp2 (score K Q G p j - best K Q G p)]
  unfold Acc
  have hsub : Finset.Icc 0 (p / 256) ⊆ Finset.range 8 := by
    intro n hn
    have := (Finset.mem_Icc.1 hn).2
    exact Finset.mem_range.2 (by omega)
  rw [← Finset.sum_subset hsub]
  · refine Finset.sum_congr rfl fun n hn => Finset.sum_congr rfl fun i _ => ?_
    rw [T_score i.2 (Finset.mem_Icc.1 hn).2, Mx_best hp]
  · intro n hn hn'
    refine Finset.sum_eq_zero fun i _ => ?_
    have h1 : p / 256 < n := by
      by_contra h
      exact hn' (Finset.mem_Icc.2 ⟨Nat.zero_le _, by omega⟩)
    rw [score_future (show p / 256 < (256 * n + i.val) / 256 by omega), hc, EReal.bot_sub]
    show _ * (0 : EReal) = 0
    rw [mul_zero]

theorem score_ne_top (hS : Scores K Q (Bm G)) (p j : ℕ) : score K Q G p j ≠ ⊤ := by
  obtain ⟨r, hr⟩ := sc_real hS j p
  unfold score
  split
  · rw [hr]; exact EReal.coe_ne_top r
  · exact bot_ne_top

theorem score_self (hS : Scores K Q (Bm G)) (p : ℕ) : score K Q G p p ≠ ⊥ := by
  obtain ⟨r, hr⟩ := sc_real hS p p
  unfold score
  rw [if_pos (.inr ⟨rfl, le_rfl⟩), hr]
  exact EReal.coe_ne_bot r

/-- The accumulated values, divided by the accumulated weights, are the values weighted by the softmax. -/
theorem Acc_attn (hS : Scores K Q (Bm G)) {d e p : ℕ} (hp : p < 2048) (hV : ∀ j < 2048, V e j = 1) :
    Acc K Q V (Bm G) 0 d p * Ideal.div 1 (Acc K Q V (Bm G) 0 e p) = attn K Q G V p d := by
  obtain ⟨c, hc⟩ := Mx_real hS (n := 0) (q := p) (by omega)
  rw [Mx_best hp] at hc
  have h1 : ∑ j : Fin 2048, V e j * Ideal.exp2 (score K Q G p j - best K Q G p)
      = ∑ j : Fin 2048, 1 * Ideal.exp2 (score K Q G p j - best K Q G p) :=
    Finset.sum_congr rfl fun j _ => by rw [hV j j.2]
  rw [Acc_score hS hp, Acc_score hS hp, h1]
  unfold attn
  rw [hc]
  exact softmax_eq (fun j : Fin 2048 => V d j) (fun j : Fin 2048 => score K Q G p j) (fun j => score_ne_top hS p j) c
    ⟨p, hp⟩ (score_self hS p)

theorem Bm_mask (n q : ℕ) : Bm G n q = 0 ∨ Bm G n q = ⊥ := by
  unfold Bm
  split
  · exact .inl rfl
  · exact .inr rfl

end Cert.Moba
-- ==== Proof.Out.lean ====
/-
  What one head writes: the buffers of keys, queries and values that its products read, the division by the weights, and the
  gate `z · sigmoid(z)`.
-/
module

public import proofs.«01_k».proof.Proof.Head
public import proofs.«01_k».proof.Proof.Soft

@[expose] public section

noncomputable section

namespace Cert.Moba

open Idealize.ShloMosaic Idealize.ShloMosaic.TcCoe

/-! ## The gate of the output -/

theorem f32_half : (FloatOps.ofBits (F := Ideal) .f32 0x3F000000#32 : EReal) = ((1 / 2 : ℝ) : EReal) := by
  show Ideal.ofBits .f32 _ = _; simp [Ideal.ofBits, Ideal.ieee]; rw [← EReal.coe_mul]; norm_num

theorem bf16_one : (FloatOps.ofBits (F := Ideal) .bf16 0x3F80#16 : EReal) = 1 := by
  show Ideal.ofBits .bf16 _ = _; simp [Ideal.ofBits, Ideal.ieee]; rw [← EReal.coe_mul]; norm_num

theorem half_tanh_half (r : ℝ) : 1 / 2 * Real.tanh (1 / 2 * r) + 1 / 2 = 1 / (1 + Real.exp (-r)) := by
  have h1 : Real.exp (1 / 2 * r) * Real.exp (-(1 / 2 * r)) = 1 := by rw [← Real.exp_add]; simp
  have h2 : Real.exp (-r) = Real.exp (-(1 / 2 * r)) * Real.exp (-(1 / 2 * r)) := by
    rw [← Real.exp_add]; congr 1; ring
  have hp := Real.exp_pos (1 / 2 * r)
  have hq := Real.exp_pos (-(1 / 2 * r))
  rw [Real.tanh_eq_sinh_div_cosh, Real.sinh_eq, Real.cosh_eq, h2]
  generalize Real.exp (1 / 2 * r) = a at *
  generalize Real.exp (-(1 / 2 * r)) = b at *
  have hab : a + b ≠ 0 := by positivity
  have hb : 1 + b * b ≠ 0 := by positivity
  field_simp
  linear_combination (b * 2) * h1

/-- A half plus a half of the hyperbolic tangent of the half is the logistic function, once multiplied by its argument, at
    the infinities too. -/
theorem silu (z : EReal) :
    z * (((1 / 2 : ℝ) : EReal) * Ideal.tanh (((1 / 2 : ℝ) : EReal) * z) + ((1 / 2 : ℝ) : EReal))
      = z * Ideal.div 1 (1 + Ideal.exp (-z)) := by
  induction z with
  | bot =>
    rw [EReal.coe_mul_bot_of_pos (by norm_num), EReal.neg_bot]
    show ⊥ * (((1 / 2 : ℝ) : EReal) * (-1) + ((1 / 2 : ℝ) : EReal)) = ⊥ * Ideal.div 1 (1 + ⊤)
    have h1 : (((1 / 2 : ℝ) : EReal) * (-1) + ((1 / 2 : ℝ) : EReal)) = 0 := by
      rw [show (-1 : EReal) = ((-1 : ℝ) : EReal) by norm_num, ← EReal.coe_mul, ← EReal.coe_add]; norm_num
    rw [h1, show (1 : EReal) = ((1 : ℝ) : EReal) by norm_num, EReal.coe_add_top]
    unfold Ideal.div
    rw [if_neg (by simp), EReal.inv_top, mul_zero, mul_zero, mul_zero]
  | top =>
    rw [EReal.coe_mul_top_of_pos (by norm_num), EReal.neg_top]
    show ⊤ * (((1 / 2 : ℝ) : EReal) * 1 + ((1 / 2 : ℝ) : EReal)) = ⊤ * Ideal.div 1 (1 + 0)
    have h1 : (((1 / 2 : ℝ) : EReal) * 1 + ((1 / 2 : ℝ) : EReal)) = 1 := by
      rw [mul_one, ← EReal.coe_add]; norm_num
    rw [h1, add_zero]
    unfold Ideal.div
    rw [if_neg (by simp), show (1 : EReal) = ((1 : ℝ) : EReal) by norm_num, ← EReal.coe_inv, ← EReal.coe_mul]
    norm_num
  | coe r =>
    have h1 : (1 : EReal) + Ideal.exp (-(r : EReal)) = ((1 + Real.exp (-r) : ℝ) : EReal) := by
      rw [EReal.coe_add, ← EReal.coe_neg]; rfl
    have h2 : (0 : ℝ) < 1 + Real.exp (-r) := by positivity
    rw [h1, div_real 1 h2, one_mul, ← EReal.coe_mul]
    show (r : EReal) * (((1 / 2 : ℝ) : EReal) * ((Real.tanh (1 / 2 * r) : ℝ) : EReal) + ((1 / 2 : ℝ) : EReal)) = _
    rw [← EReal.coe_mul, ← EReal.coe_add, half_tanh_half, one_div]

/-! ## The buffers -/

/-- The entries of a vector, and zero outside its extents. -/
def ent {a b : ℕ} (x : (⟨2, ![a, b]⟩ : Shape).Idx → EReal) (i j : ℕ) : EReal :=
  if h : i < a ∧ j < b then x (ix2 ⟨i, h.1⟩ ⟨j, h.2⟩) else 0

theorem rep_ent {a b : ℕ} (x : (⟨2, ![a, b]⟩ : Shape).Idx → EReal) : Rep x (ent x) := by
  intro i j
  unfold ent
  rw [dif_pos ⟨i.2, j.2⟩]

/-- The rows of values, and below them rows of ones. -/
def withOnes (v : FVec Ideal ⟨2, ![2048, 128]⟩ .bf16) (r p : ℕ) : EReal := if r < 128 then ent v p r else 1

/-- A buffer into which a whole vector was stored holds it. -/
theorem canon_whole {x : FVec Ideal ⟨2, ![2048, 128]⟩ .bf16} {L : Stores 2048 128 .bf16} {inb}
    {h : (⟨2, ![2048, 128]⟩ : Shape).ShapeCasts ⟨2, ![2048, 128]⟩} (i : Fin 2048) (j : Fin 128) :
    View.canon (⟨Rect.unit (s := (⟨2, ![2048, 128]⟩ : Shape)) ![0, 0] (⟨2, ![2048, 128]⟩ : Shape).size inb,
      shapeCast ⟨2, ![2048, 128]⟩ x h⟩ :: L) (ix2 i j) = ent x i.val j.val :=
  canon_on L ((rep_ent x).shapeCast h) i j (by omega) (by omega)

/-- The buffer of values holds their transpose, and rows of ones below it. -/
theorem canon_values {v : FVec Ideal ⟨2, ![2048, 128]⟩ .bf16} {L : Stores 144 2048 .bf16} {inb inb'} {h1 h2 h3 h4 h5}
    (i : Fin 144) (j : Fin 2048) :
    View.canon (⟨Rect.unit (s := (⟨2, ![144, 2048]⟩ : Shape)) ![128, 0] (⟨2, ![16, 2048]⟩ : Shape).size inb,
        shapeCast (s := (⟨2, ![16, 2048]⟩ : Shape)) ⟨2, ![16, 2048]⟩
          (broadcast ⟨2, ![16, 2048]⟩ (FloatOps.ofBits (F := Ideal) .bf16 0x3F80#16)) h1⟩
      :: ⟨Rect.unit (s := (⟨2, ![144, 2048]⟩ : Shape)) ![0, 0] (⟨2, ![128, 2048]⟩ : Shape).size inb',
        shapeCast (s := (⟨2, ![128, 2048]⟩ : Shape)) ⟨2, ![128, 2048]⟩
          (truncf .bf16 (transpose ⟨2, ![128, 2048]⟩ [1, 0] (extf .f32 v h2 : FVec Ideal ⟨2, ![2048, 128]⟩ .f32) h3) h4) h5⟩ :: L)
      (ix2 i j) = withOnes v i.val j.val := by
  unfold withOnes
  by_cases h : i.val < 128
  · rw [if_pos h, canon_off _ i j (by omega)]
    exact canon_on L (((((rep_ent v).extf h2).transpose h3).truncf h4).shapeCast h5) i j (by omega) (by omega)
  · rw [if_neg h, canon_on _ ((Rep.broadcast _).shapeCast h1) i j (by omega) (by omega), bf16_one]

/-! ## The output -/

section

variable {sig : RefSig} {κ : Kind} {sp : Space} (v10 : View sig κ sp (⟨2, ![144, 2048]⟩ : Shape) .f32)
variable (L : Stores 144 2048 .f32) (z : FVec Ideal ⟨2, ![2048, 128]⟩ .bf16)

/-- The accumulated values divided by the accumulated weights. -/
def quot : FVec Ideal ⟨2, ![2048, 128]⟩ .f32 :=
  transpose ⟨2, ![2048, 128]⟩ [1, 0]
    (mulf (v10.readCov L (rect 128 2048 0 0 (by decide) (by decide)).toLoadRect : FVec Ideal ⟨2, ![128, 2048]⟩ .f32)
      (broadcastTo ⟨2, ![128, 2048]⟩
        (divf (broadcast ⟨2, ![1, 2048]⟩ (FloatOps.ofBits .f32 0x3F800000#32))
          (v10.readCov L (rect 1 2048 128 0 (by decide) (by decide)).toLoadRect : FVec Ideal ⟨2, ![1, 2048]⟩ .f32)) (by decide)))
    (by decide)

/-- The gate. -/
def gateZ : FVec Ideal ⟨2, ![2048, 128]⟩ .f32 :=
  mulf (extf .f32 z (by decide))
    (addf (mulf (broadcast ⟨2, ![2048, 128]⟩ (FloatOps.ofBits .f32 0x3F000000#32))
        (tanh (mulf (broadcast ⟨2, ![2048, 128]⟩ (FloatOps.ofBits .f32 0x3F000000#32)) (extf .f32 z (by decide)))))
      (broadcast ⟨2, ![2048, 128]⟩ (FloatOps.ofBits .f32 0x3F000000#32)))

/-- A head's output. -/
def out : FVec Ideal ⟨2, ![2048, 128]⟩ .bf16 := truncf .bf16 (mulf (quot v10 L) (gateZ z)) (by decide)

variable {L z} {K Q V G Z : ℕ → ℕ → EReal}

theorem quot_rep (hS : Scores K Q (Gate.Bm G)) (hV : ∀ j < 2048, V 128 j = 1) (hL : Good K Q V (Gate.Bm G) 0 L) :
    Rep (quot v10 L) (attn K Q G V) := by
  have h0 := Rep.load (a := 128) (w := 2048) (o := 0) (p := 0) (f := Acc K Q V (Gate.Bm G) 0) v10 (inb := inb2 (by decide) (by decide))
    fun i j _ _ _ _ => hL i j (by omega)
  have h1 := Rep.load (a := 1) (w := 2048) (o := 128) (p := 0) (f := Acc K Q V (Gate.Bm G) 0) v10 (inb := inb2 (by decide) (by decide))
    fun i j _ _ _ _ => hL i j (by omega)
  refine ((h0.mulf (((Rep.broadcast _).divf h1).broadcastRow (by decide))).transpose (by decide)).congr fun p hp d _ => ?_
  rw [Gate.f32_one, Nat.zero_add, Nat.zero_add, Nat.add_zero]
  exact Acc_attn hS hp hV

theorem gateZ_rep (hz : Rep z Z) : Rep (gateZ z) fun p d => Z p d * Ideal.div 1 (1 + Ideal.exp (-Z p d)) := by
  refine ((hz.extf _).mulf (((Rep.broadcast _).mulf (((Rep.broadcast _).mulf (hz.extf _)).tanh)).addf (Rep.broadcast _))).congr
    fun p _ d _ => ?_
  rw [f32_half]
  exact silu _

/-- What a head writes. -/
theorem out_rep (hS : Scores K Q (Gate.Bm G)) (hV : ∀ j < 2048, V 128 j = 1) (hL : Good K Q V (Gate.Bm G) 0 L) (hz : Rep z Z) :
    Rep (out v10 L z) fun p d => attn K Q G V p d * (Z p d * Ideal.div 1 (1 + Ideal.exp (-Z p d))) :=
  ((quot_rep v10 hS hV hL).mulf (gateZ_rep hz)).truncf _

end

end Cert.Moba
-- ==== Proof.Heads.lean ====
/-
  The four heads of a block: their gates, buffers and outputs.
-/
module

public import proofs.«01_k».proof.Proof.Head0
public import proofs.«01_k».proof.Proof.Head1
public import proofs.«01_k».proof.Proof.Head2
public import proofs.«01_k».proof.Proof.Head3
public import proofs.«01_k».proof.Proof.Out

@[expose] public section

set_option maxRecDepth 16384

noncomputable section

namespace Cert.Moba

open Idealize.ShloMosaic Idealize.ShloMosaic.TcCoe Idealize.SL.Sem
open Cert.KernelIdeal Cert.KernelIdeal.Gen

/-- Finite keys and queries, and the mask of their gate. -/
theorem scores_of {k q : FVec Ideal ⟨2, ![2048, 128]⟩ .bf16} (hk : ∀ i, ∃ r : ℝ, k i = r) (hq : ∀ i, ∃ r : ℝ, q i = r) :
    Scores (ent k) (ent q) (Gate.Bm (Gate.gt (ent k) (ent q))) := by
  have h : ∀ x : FVec Ideal ⟨2, ![2048, 128]⟩ .bf16, (∀ i, ∃ r : ℝ, x i = r) → ∀ p d, ∃ r : ℝ, ent x p d = r := by
    intro x hx p d
    unfold ent
    split
    · exact hx _
    · exact ⟨0, EReal.coe_zero.symm⟩
  exact ⟨h k hk, h q hq, Bm_mask⟩

/-- The mask of the gate. -/
theorem bias_of {k q : FVec Ideal ⟨2, ![2048, 128]⟩ .bf16} (hk : ∀ i, ∃ r : ℝ, k i = r) (hq : ∀ i, ∃ r : ℝ, q i = r) :
    Rep (Gate.bias (Gate.gate k q)) (Gate.Bm (Gate.gt (ent k) (ent q))) :=
  Gate.bias_rep (Gate.gate_rep (rep_ent k) (rep_ent q) (scores_of hk hq).key)

theorem ones_row (v : FVec Ideal ⟨2, ![2048, 128]⟩ .bf16) : ∀ j < 2048, withOnes v 128 j = 1 := fun _ _ => rfl

/-- What one head writes for the keys `k`, queries `q`, values `v` and gates `z`. -/
def headVal (q k v z : FVec Ideal ⟨2, ![2048, 128]⟩ .bf16) (p d : ℕ) : EReal :=
  attn (ent k) (ent q) (Gate.gt (ent k) (ent q)) (withOnes v) p d * (ent z p d * Ideal.div 1 (1 + Ideal.exp (-ent z p d)))

variable (c : Dev nD) (arg2 arg3 arg4 arg5 : Memref sig .tc .vmem S128x1x16x512 .bf16)
variable (harg2 : arg2.IsWhole) (harg3 : arg3.IsWhole) (harg4 : arg4.IsWhole) (harg5 : arg5.IsWhole)
variable (arg7 arg8 : Memref sig .tc .vmem S2048x128 .bf16)
variable (arg9 : Memref sig .tc .vmem S144x2048 .bf16) (arg10 : Memref sig .tc .vmem S144x2048 .f32)
variable (x0 x1 x2 x3 : FVec Ideal S128x1x16x512 .bf16)

theorem head0_out (hk : ∀ i, ∃ r : ℝ, (kernelRun0_A.sl.v13 (F := Ideal) c arg3 harg3 x1) i = r) (hq : ∀ i, ∃ r : ℝ, (kernelRun0_A.sl.v12 (F := Ideal) c arg2 harg2 x0) i = r) :
    Rep (kernelRun0_A.sl.v540 (F := Ideal) c arg2 harg2 arg3 harg3 arg4 harg4 arg5 harg5 arg7 arg8 arg9 arg10 x0 x1 x2 x3)
      (headVal (kernelRun0_A.sl.v12 (F := Ideal) c arg2 harg2 x0) (kernelRun0_A.sl.v13 (F := Ideal) c arg3 harg3 x1) (kernelRun0_A.sl.v14 (F := Ideal) c arg4 harg4 x2) (kernelRun0_A.sl.v15 (F := Ideal) c arg5 harg5 x3)) :=
  out_rep arg10.view (V := withOnes (kernelRun0_A.sl.v14 (F := Ideal) c arg4 harg4 x2)) (scores_of hk hq) (ones_row _)
    (good0 c arg2 arg3 arg4 harg2 harg3 harg4 arg7 arg8 arg9 arg10 x0 x1 x2 (scores_of hk hq) (bias_of hk hq)
      (fun i j => canon_whole (x := (kernelRun0_A.sl.v13 (F := Ideal) c arg3 harg3 x1)) i j) (fun i j => canon_whole (x := (kernelRun0_A.sl.v12 (F := Ideal) c arg2 harg2 x0)) i j)
      (fun i j => canon_values (v := (kernelRun0_A.sl.v14 (F := Ideal) c arg4 harg4 x2)) i j))
    (rep_ent (kernelRun0_A.sl.v15 (F := Ideal) c arg5 harg5 x3))

theorem head1_out (hk : ∀ i, ∃ r : ℝ, (kernelRun0_A.sl.v542 (F := Ideal) c arg3 harg3 x1) i = r) (hq : ∀ i, ∃ r : ℝ, (kernelRun0_A.sl.v541 (F := Ideal) c arg2 harg2 x0) i = r) :
    Rep (kernelRun0_A.sl.v1069 (F := Ideal) c arg2 harg2 arg3 harg3 arg4 harg4 arg5 harg5 arg7 arg8 arg9 arg10 x0 x1 x2 x3)
      (headVal (kernelRun0_A.sl.v541 (F := Ideal) c arg2 harg2 x0) (kernelRun0_A.sl.v542 (F := Ideal) c arg3 harg3 x1) (kernelRun0_A.sl.v543 (F := Ideal) c arg4 harg4 x2) (kernelRun0_A.sl.v544 (F := Ideal) c arg5 harg5 x3)) :=
  out_rep arg10.view (V := withOnes (kernelRun0_A.sl.v543 (F := Ideal) c arg4 harg4 x2)) (scores_of hk hq) (ones_row _)
    (good1 c arg2 arg3 arg4 harg2 harg3 harg4 arg7 arg8 arg9 arg10 x0 x1 x2 (scores_of hk hq) (bias_of hk hq)
      (fun i j => canon_whole (x := (kernelRun0_A.sl.v542 (F := Ideal) c arg3 harg3 x1)) i j) (fun i j => canon_whole (x := (kernelRun0_A.sl.v541 (F := Ideal) c arg2 harg2 x0)) i j)
      (fun i j => canon_values (v := (kernelRun0_A.sl.v543 (F := Ideal) c arg4 harg4 x2)) i j))
    (rep_ent (kernelRun0_A.sl.v544 (F := Ideal) c arg5 harg5 x3))

theorem head2_out (hk : ∀ i, ∃ r : ℝ, (kernelRun0_A.sl.v1071 (F := Ideal) c arg3 harg3 x1) i = r) (hq : ∀ i, ∃ r : ℝ, (kernelRun0_A.sl.v1070 (F := Ideal) c arg2 harg2 x0) i = r) :
    Rep (kernelRun0_A.sl.v1598 (F := Ideal) c arg2 harg2 arg3 harg3 arg4 harg4 arg5 harg5 arg7 arg8 arg9 arg10 x0 x1 x2 x3)
      (headVal (kernelRun0_A.sl.v1070 (F := Ideal) c arg2 harg2 x0) (kernelRun0_A.sl.v1071 (F := Ideal) c arg3 harg3 x1) (kernelRun0_A.sl.v1072 (F := Ideal) c arg4 harg4 x2) (kernelRun0_A.sl.v1073 (F := Ideal) c arg5 harg5 x3)) :=
  out_rep arg10.view (V := withOnes (kernelRun0_A.sl.v1072 (F := Ideal) c arg4 harg4 x2)) (scores_of hk hq) (ones_row _)
    (good2 c arg2 arg3 arg4 harg2 harg3 harg4 arg7 arg8 arg9 arg10 x0 x1 x2 (scores_of hk hq) (bias_of hk hq)
      (fun i j => canon_whole (x := (kernelRun0_A.sl.v1071 (F := Ideal) c arg3 harg3 x1)) i j) (fun i j => canon_whole (x := (kernelRun0_A.sl.v1070 (F := Ideal) c arg2 harg2 x0)) i j)
      (fun i j => canon_values (v := (kernelRun0_A.sl.v1072 (F := Ideal) c arg4 harg4 x2)) i j))
    (rep_ent (kernelRun0_A.sl.v1073 (F := Ideal) c arg5 harg5 x3))

theorem head3_out (hk : ∀ i, ∃ r : ℝ, (kernelRun0_A.sl.v1600 (F := Ideal) c arg3 harg3 x1) i = r) (hq : ∀ i, ∃ r : ℝ, (kernelRun0_A.sl.v1599 (F := Ideal) c arg2 harg2 x0) i = r) :
    Rep (out arg10.view (kernelRun0_A.sl.HS3_60 (F := Ideal) c arg2 harg2 arg3 harg3 arg4 harg4 arg7 arg8 arg9 arg10 x0 x1 x2) (kernelRun0_A.sl.v1602 (F := Ideal) c arg5 harg5 x3))
      (headVal (kernelRun0_A.sl.v1599 (F := Ideal) c arg2 harg2 x0) (kernelRun0_A.sl.v1600 (F := Ideal) c arg3 harg3 x1) (kernelRun0_A.sl.v1601 (F := Ideal) c arg4 harg4 x2) (kernelRun0_A.sl.v1602 (F := Ideal) c arg5 harg5 x3)) :=
  out_rep arg10.view (V := withOnes (kernelRun0_A.sl.v1601 (F := Ideal) c arg4 harg4 x2)) (scores_of hk hq) (ones_row _)
    (good3 c arg2 arg3 arg4 harg2 harg3 harg4 arg7 arg8 arg9 arg10 x0 x1 x2 (scores_of hk hq) (bias_of hk hq)
      (fun i j => canon_whole (x := (kernelRun0_A.sl.v1600 (F := Ideal) c arg3 harg3 x1)) i j) (fun i j => canon_whole (x := (kernelRun0_A.sl.v1599 (F := Ideal) c arg2 harg2 x0)) i j)
      (fun i j => canon_values (v := (kernelRun0_A.sl.v1601 (F := Ideal) c arg4 harg4 x2)) i j))
    (rep_ent (kernelRun0_A.sl.v1602 (F := Ideal) c arg5 harg5 x3))

end Cert.Moba
-- ==== Proof.Block.lean ====
/-
  The kernel's output block, entry by entry, as a function of the blocks of queries, keys, values and gates.
-/
module

public import proofs.«01_k».proof.Proof.Heads
public import proofs.«01_k».proof.Proof.Gen.KernelIdeal.Value
public import Idealize.ShloMosaic.Lib.Pipeline.ValueKit

@[expose] public section

set_option maxRecDepth 16384

noncomputable section

namespace Cert.Moba

open Idealize.ShloMosaic Idealize.ShloMosaic.TcCoe Idealize.SL.Sem
open Cert.KernelIdeal Cert.KernelIdeal.Gen

/-- Head `h` of a block: its rows are the positions, 16 in each of 128 chunks. -/
def headOf (x : FVec Ideal S128x1x16x512 .bf16) (h : Fin 4) : FVec Ideal ⟨2, ![2048, 128]⟩ .bf16 := fun i =>
  have h0 : (i 0).val < 2048 := (i 0).2
  have h1 : (i 1).val < 128 := (i 1).2
  x (ix4 ⟨(i 0).val / 16, by omega⟩ 0 ⟨(i 0).val % 16, by omega⟩ ⟨128 * h.val + (i 1).val, by omega⟩)

/-- The block as rows of positions. -/
def rowsOf (x : FVec Ideal S128x1x16x512 .bf16) : FVec Ideal S2048x512 .bf16 :=
  shapeCast S2048x512 (shapeCast S128x16x512 x (by decide)) (by decide)

theorem rowsOf_apply (x : FVec Ideal S128x1x16x512 .bf16) (p : Fin 2048) (l : Fin 512) :
    rowsOf x (ix2 p l) = x (ix4 ⟨p.val / 16, by omega⟩ 0 ⟨p.val % 16, by omega⟩ l) := by
  unfold rowsOf
  show x (Shape.reshapeEquiv _ (Shape.reshapeEquiv _ (ix2 p l))) = _
  rw [Shape.reshapeEquiv_eq_of_vals _ (ix2 p l) (ix3 (⟨p.val / 16, by omega⟩ : Fin 128) (⟨p.val % 16, by omega⟩ : Fin 16) l) _ _
      (rowMajor_val3 _ _ _ rfl rfl) (rowMajor_val2 _ _ rfl) (by simp; omega),
    Shape.reshapeEquiv_eq_of_vals _ (ix3 (⟨p.val / 16, by omega⟩ : Fin 128) (⟨p.val % 16, by omega⟩ : Fin 16) l)
      (ix4 (⟨p.val / 16, by omega⟩ : Fin 128) (0 : Fin 1) (⟨p.val % 16, by omega⟩ : Fin 16) l) _ _
      (rowMajor_val4 _ _ _ _ rfl rfl rfl) (rowMajor_val3 _ _ _ rfl rfl) (by simp)]

theorem headOf_eq (x : FVec Ideal S128x1x16x512 .bf16) (h : Fin 4) (o : ℕ) (ho : o = 128 * h.val)
    (hs : S2048x512.Slices ![0, o] S2048x128) : extractStridedSlice S2048x128 ![0, o] (rowsOf x) hs = headOf x h := by
  subst ho
  funext i
  obtain ⟨p, d, rfl⟩ : ∃ (p : Fin 2048) (d : Fin 128), i = ix2 p d := ⟨i 0, i 1, by funext k; match k with | 0 => rfl | 1 => rfl⟩
  refine Eq.trans ?_ (rowsOf_apply x p ⟨128 * h.val + d.val, by omega⟩)
  show rowsOf x _ = _
  congr 1
  funext k
  apply Fin.ext
  match k with
  | 0 => show 0 + p.val = p.val; omega
  | 1 => rfl

section
variable (arg : Memref sig .tc .vmem S128x1x16x512 .bf16) (harg : arg.IsWhole) (x : FVec Ideal S128x1x16x512 .bf16)

/-- A load of a whole staged block reads the block. -/
theorem load_whole {inb} : View.readAt (Elt Ideal) arg.view (Rect.unit ![0, 0, 0, 0] S128x1x16x512.size inb).toLoadRect (harg.unread x) = x := by
  rw [View.readAt_eq_ld, Memref.IsWhole.read_unread]
  exact View.ld_unit_lit _ _ (by decide)

theorem word_head (h : Fin 4) (o : ℕ) (ho : o = 128 * h.val) {inb} (hs : S2048x512.Slices ![0, o] S2048x128) :
    extractStridedSlice S2048x128 ![0, o]
      (rowsOf (View.readAt (Elt Ideal) arg.view (Rect.unit ![0, 0, 0, 0] S128x1x16x512.size inb).toLoadRect (harg.unread x))) hs
      = headOf x h := by
  rw [load_whole]
  exact headOf_eq x h o ho hs

end

variable (c : Dev nD) (arg2 arg3 arg4 arg5 : Memref sig .tc .vmem S128x1x16x512 .bf16)
variable (harg2 : arg2.IsWhole) (harg3 : arg3.IsWhole) (harg4 : arg4.IsWhole) (harg5 : arg5.IsWhole)
variable (x0 x1 x2 x3 : FVec Ideal S128x1x16x512 .bf16)

theorem v13_eq : kernelRun0_A.sl.v13 (F := Ideal) c arg3 harg3 x1 = headOf x1 0 :=
  word_head arg3 harg3 x1 0 0 rfl _

theorem v12_eq : kernelRun0_A.sl.v12 (F := Ideal) c arg2 harg2 x0 = headOf x0 0 :=
  word_head arg2 harg2 x0 0 0 rfl _

theorem v14_eq : kernelRun0_A.sl.v14 (F := Ideal) c arg4 harg4 x2 = headOf x2 0 :=
  word_head arg4 harg4 x2 0 0 rfl _

theorem v15_eq : kernelRun0_A.sl.v15 (F := Ideal) c arg5 harg5 x3 = headOf x3 0 :=
  word_head arg5 harg5 x3 0 0 rfl _

theorem v542_eq : kernelRun0_A.sl.v542 (F := Ideal) c arg3 harg3 x1 = headOf x1 1 :=
  word_head arg3 harg3 x1 1 128 rfl _

theorem v541_eq : kernelRun0_A.sl.v541 (F := Ideal) c arg2 harg2 x0 = headOf x0 1 :=
  word_head arg2 harg2 x0 1 128 rfl _

theorem v543_eq : kernelRun0_A.sl.v543 (F := Ideal) c arg4 harg4 x2 = headOf x2 1 :=
  word_head arg4 harg4 x2 1 128 rfl _

theorem v544_eq : kernelRun0_A.sl.v544 (F := Ideal) c arg5 harg5 x3 = headOf x3 1 :=
  word_head arg5 harg5 x3 1 128 rfl _

theorem v1071_eq : kernelRun0_A.sl.v1071 (F := Ideal) c arg3 harg3 x1 = headOf x1 2 :=
  word_head arg3 harg3 x1 2 256 rfl _

theorem v1070_eq : kernelRun0_A.sl.v1070 (F := Ideal) c arg2 harg2 x0 = headOf x0 2 :=
  word_head arg2 harg2 x0 2 256 rfl _

theorem v1072_eq : kernelRun0_A.sl.v1072 (F := Ideal) c arg4 harg4 x2 = headOf x2 2 :=
  word_head arg4 harg4 x2 2 256 rfl _

theorem v1073_eq : kernelRun0_A.sl.v1073 (F := Ideal) c arg5 harg5 x3 = headOf x3 2 :=
  word_head arg5 harg5 x3 2 256 rfl _

theorem v1600_eq : kernelRun0_A.sl.v1600 (F := Ideal) c arg3 harg3 x1 = headOf x1 3 :=
  word_head arg3 harg3 x1 3 384 rfl _

theorem v1599_eq : kernelRun0_A.sl.v1599 (F := Ideal) c arg2 harg2 x0 = headOf x0 3 :=
  word_head arg2 harg2 x0 3 384 rfl _

theorem v1601_eq : kernelRun0_A.sl.v1601 (F := Ideal) c arg4 harg4 x2 = headOf x2 3 :=
  word_head arg4 harg4 x2 3 384 rfl _

theorem v1602_eq : kernelRun0_A.sl.v1602 (F := Ideal) c arg5 harg5 x3 = headOf x3 3 :=
  word_head arg5 harg5 x3 3 384 rfl _

/-- The four heads side by side, as a block. -/
def blockOf (y0 y1 y2 y3 : FVec Ideal ⟨2, ![2048, 128]⟩ .bf16)
    (h : Shape.Concatenates [⟨2, ![2048, 128]⟩, ⟨2, ![2048, 128]⟩, ⟨2, ![2048, 128]⟩, ⟨2, ![2048, 128]⟩] S2048x512 1) :
    FVec Ideal S128x1x16x512 .bf16 :=
  shapeCast S128x1x16x512 (shapeCast S128x16x512 (concatenate S2048x512 1
    [⟨⟨2, ![2048, 128]⟩, y0⟩, ⟨⟨2, ![2048, 128]⟩, y1⟩, ⟨⟨2, ![2048, 128]⟩, y2⟩, ⟨⟨2, ![2048, 128]⟩, y3⟩] h) (by decide)) (by decide)

theorem blockOf_apply {y0 y1 y2 y3 : FVec Ideal ⟨2, ![2048, 128]⟩ .bf16} {h} {f : Fin 4 → ℕ → ℕ → EReal}
    (h0 : Rep y0 (f 0)) (h1 : Rep y1 (f 1)) (h2 : Rep y2 (f 2)) (h3 : Rep y3 (f 3)) (a : Fin 128) (s : Fin 16) (l : Fin 512) :
    blockOf y0 y1 y2 y3 h (ix4 a (0 : Fin 1) s l) = f ⟨l.val / 128, by omega⟩ (16 * a.val + s.val) (l.val % 128) := by
  unfold blockOf
  show concatenate S2048x512 1 [⟨⟨2, ![2048, 128]⟩, y0⟩, ⟨⟨2, ![2048, 128]⟩, y1⟩, ⟨⟨2, ![2048, 128]⟩, y2⟩, ⟨⟨2, ![2048, 128]⟩, y3⟩] h
    (Shape.reshapeEquiv _ (Shape.reshapeEquiv _ (ix4 a (0 : Fin 1) s l))) = _
  rw [Shape.reshapeEquiv_eq_of_vals _ (ix4 a (0 : Fin 1) s l) (ix3 a s l) _ _
      (rowMajor_val3 _ _ _ rfl rfl) (rowMajor_val4 _ _ _ _ rfl rfl rfl) (by simp),
    Shape.reshapeEquiv_eq_of_vals _ (ix3 a s l) (ix2 (⟨16 * a.val + s.val, by omega⟩ : Fin 2048) l) _ _
      (rowMajor_val2 _ _ rfl) (rowMajor_val3 _ _ _ rfl rfl) (by simp; omega)]
  pointwise
  split_ifs
  all_goals first
    | refine (h0 _ _).trans ?_
      rw [show (⟨l.val / 128, by omega⟩ : Fin 4) = 0 from Fin.ext (show l.val / 128 = 0 by omega)]
      exact congrArg₂ (f 0) rfl (by show _ = l.val % 128; simp only; omega)
    | refine (h1 _ _).trans ?_
      rw [show (⟨l.val / 128, by omega⟩ : Fin 4) = 1 from Fin.ext (show l.val / 128 = 1 by omega)]
      exact congrArg₂ (f 1) rfl (by show _ = l.val % 128; simp only; omega)
    | refine (h2 _ _).trans ?_
      rw [show (⟨l.val / 128, by omega⟩ : Fin 4) = 2 from Fin.ext (show l.val / 128 = 2 by omega)]
      exact congrArg₂ (f 2) rfl (by show _ = l.val % 128; simp only; omega)
    | refine (h3 _ _).trans ?_
      rw [show (⟨l.val / 128, by omega⟩ : Fin 4) = 3 from Fin.ext (show l.val / 128 = 3 by omega)]
      exact congrArg₂ (f 3) rfl (by show _ = l.val % 128; simp only; omega)

variable (i : grid0.Coords) (arg6 : Memref sig .tc .vmem S128x1x16x512 .bf16) (harg6 : arg6.IsWhole)
variable (arg7 arg8 : Memref sig .tc .vmem S2048x128 .bf16) (harg7 : arg7.IsWhole) (harg8 : arg8.IsWhole)
variable (arg9 : Memref sig .tc .vmem S144x2048 .bf16) (arg10 : Memref sig .tc .vmem S144x2048 .f32)
variable (harg9 : arg9.IsWhole) (harg10 : arg10.IsWhole)

theorem cat_heads : Shape.Concatenates [⟨2, ![2048, 128]⟩, ⟨2, ![2048, 128]⟩, ⟨2, ![2048, 128]⟩, ⟨2, ![2048, 128]⟩] S2048x512 1 := by
  decide

/-- The block that a grid point writes, as its four heads. -/
theorem out_eq_blockOf :
    out0_A_4 (F := Ideal) c i arg2 harg2 arg3 harg3 arg4 harg4 arg5 harg5 arg6 harg6 arg7 harg7 arg8 harg8 arg9 harg9 arg10 harg10 x0 x1 x2 x3
      = blockOf (kernelRun0_A.sl.v540 (F := Ideal) c arg2 harg2 arg3 harg3 arg4 harg4 arg5 harg5 arg7 arg8 arg9 arg10 x0 x1 x2 x3)
          (kernelRun0_A.sl.v1069 (F := Ideal) c arg2 harg2 arg3 harg3 arg4 harg4 arg5 harg5 arg7 arg8 arg9 arg10 x0 x1 x2 x3)
          (kernelRun0_A.sl.v1598 (F := Ideal) c arg2 harg2 arg3 harg3 arg4 harg4 arg5 harg5 arg7 arg8 arg9 arg10 x0 x1 x2 x3)
          (out arg10.view (kernelRun0_A.sl.HS3_60 (F := Ideal) c arg2 harg2 arg3 harg3 arg4 harg4 arg7 arg8 arg9 arg10 x0 x1 x2) (kernelRun0_A.sl.v1602 (F := Ideal) c arg5 harg5 x3)) cat_heads := by
  unfold out0_A_4
  rw [View.read_writes_junk_eq_canon]
  exact View.canon_cons_unit_lit _ _ _ (by decide)

/-- The block that a grid point writes, entry by entry: position `16 a + s`, head `l / 128`, coordinate `l % 128`. -/
theorem out_apply (h0 : ∀ j, ∃ r : ℝ, x0 j = r) (h1 : ∀ j, ∃ r : ℝ, x1 j = r) (a : Fin 128) (s : Fin 16) (l : Fin 512) :
    out0_A_4 (F := Ideal) c i arg2 harg2 arg3 harg3 arg4 harg4 arg5 harg5 arg6 harg6 arg7 harg7 arg8 harg8 arg9 harg9 arg10 harg10 x0 x1 x2 x3
        (ix4 a (0 : Fin 1) s l)
      = (fun h : Fin 4 => headVal (headOf x0 h) (headOf x1 h) (headOf x2 h) (headOf x3 h)) ⟨l.val / 128, by omega⟩
          (16 * a.val + s.val) (l.val % 128) := by
  rw [out_eq_blockOf]
  have hk : ∀ h j, ∃ r : ℝ, headOf x1 h j = r := fun h j => h1 _
  have hq : ∀ h j, ∃ r : ℝ, headOf x0 h j = r := fun h j => h0 _
  have e0 := head0_out c arg2 arg3 arg4 arg5 harg2 harg3 harg4 harg5 arg7 arg8 arg9 arg10 x0 x1 x2 x3
    (by rw [v13_eq]; exact hk 0) (by rw [v12_eq]; exact hq 0)
  rw [v12_eq, v13_eq, v14_eq, v15_eq] at e0
  have e1 := head1_out c arg2 arg3 arg4 arg5 harg2 harg3 harg4 harg5 arg7 arg8 arg9 arg10 x0 x1 x2 x3
    (by rw [v542_eq]; exact hk 1) (by rw [v541_eq]; exact hq 1)
  rw [v541_eq, v542_eq, v543_eq, v544_eq] at e1
  have e2 := head2_out c arg2 arg3 arg4 arg5 harg2 harg3 harg4 harg5 arg7 arg8 arg9 arg10 x0 x1 x2 x3
    (by rw [v1071_eq]; exact hk 2) (by rw [v1070_eq]; exact hq 2)
  rw [v1070_eq, v1071_eq, v1072_eq, v1073_eq] at e2
  have e3 := head3_out c arg2 arg3 arg4 arg5 harg2 harg3 harg4 harg5 arg7 arg8 arg9 arg10 x0 x1 x2 x3
    (by rw [v1600_eq]; exact hk 3) (by rw [v1599_eq]; exact hq 3)
  rw [v1599_eq, v1600_eq, v1601_eq] at e3
  rw [v1602_eq] at e3 ⊢
  exact blockOf_apply (f := fun h : Fin 4 => headVal (headOf x0 h) (headOf x1 h) (headOf x2 h) (headOf x3 h)) e0 e1 e2 e3 a s l

end Cert.Moba
-- ==== Proof.Array.lean ====
/-
  The kernel's result array, entry by entry, as a function of the projected rows.
-/
module

public import proofs.«01_k».proof.Proof.Block
public import proofs.«01_k».proof.Pre_finite_qk

@[expose] public section

set_option maxRecDepth 16384

noncomputable section

namespace Cert.Moba

open Idealize.ShloMosaic Idealize.ShloMosaic.TcCoe Idealize.SL.Sem
open Cert.KernelIdeal Cert.KernelIdeal.Gen

/-- The projected rows: one row for each of the 8192 tokens, 14336 columns. -/
abbrev Rows := FVec Ideal ⟨2, ![8192, 14336]⟩ .bf16

/-- The row of batch `b` and position `p`: rows come in chunks of 16 positions, the four batches in turn. -/
def rowIx (b : Fin 4) (p : Fin 2048) : Fin 8192 := ⟨(p.val / 16 * 4 + b.val) * 16 + p.val % 16, by omega⟩

/-- Head `H` of batch `b` of the 2048 columns from `o` on: its rows are the positions. -/
def col (x : Rows) (o : ℕ) (ho : o ≤ 12288) (b : Fin 4) (H : Fin 16) : FVec Ideal ⟨2, ![2048, 128]⟩ .bf16 := fun i =>
  have h1 : (i 1).val < 128 := (i 1).2
  x (ix2 (rowIx b (i 0)) ⟨o + 128 * H.val + (i 1).val, by omega⟩)

/-- Attention's value at batch `b`, head `H`, position `p` and coordinate `d`. -/
def rowsVal (x : Rows) (b : Fin 4) (H : Fin 16) (p d : ℕ) : EReal :=
  headVal (col x 2048 (by omega) b H) (col x 4096 (by omega) b H) (col x 6144 (by omega) b H) (col x 8192 (by omega) b H) p d

/-- The keys and the queries are real numbers. -/
def RealQK (x : Rows) : Prop := ∀ (r : Fin 8192) (l : Fin 14336), 2048 ≤ l.val → l.val < 6144 → ∃ v : ℝ, x (ix2 r l) = v

theorem abs_lt_top {v : EReal} (h : max v (-v) < ⊤) : ∃ r : ℝ, v = r := by
  induction v using EReal.rec with
  | bot => simp at h
  | coe r => exact ⟨r, rfl⟩
  | top => simp at h

/-- What the precondition says: the keys and the queries are finite. -/
theorem realQK_of_pre [Cert.Pre_finite_qk.Facts] {x : Rows} (h : Cert.Pre_finite_qk.fn (F := Ideal) x = fun _ => 1#1) : RealQK x := by
  intro r l h0 h1
  have e := congrFun h (ix2 r (⟨l.val - 2048, by omega⟩ : Fin 4096))
  have inf : (FloatOps.ofBits .bf16 0x7F80#16 : Ideal .bf16) = (⊤ : EReal) := by
    show Ideal.ofBits .bf16 0x7F80#16 = _
    simp [Ideal.ofBits, Ideal.ieee]
  have e' : Ideal.cmp .olt (max (x (ix2 r l)) (-(x (ix2 r l)))) ((FloatOps.ofBits .bf16 0x7F80#16 : Ideal .bf16) : EReal) = 1#1 := by
    refine Eq.trans ?_ e
    have hi : (ix2 r l : (⟨2, ![8192, 14336]⟩ : Shape).Idx) = fun k => ⟨(![0, 2048] : Fin 2 → ℕ) k + ((ix2 r (⟨l.val - 2048, by omega⟩ : Fin 4096) : (⟨2, ![8192, 4096]⟩ : Shape).Idx) k).val, by
        match k with
        | 0 => show 0 + r.val < 8192; omega
        | 1 => show 2048 + (l.val - 2048) < 14336; omega⟩ := by
      funext k
      apply Fin.ext
      match k with
      | 0 => show r.val = 0 + r.val; omega
      | 1 => show l.val = 2048 + (l.val - 2048); omega
    rw [hi]
    rfl
  rw [inf] at e'
  exact abs_lt_top ((WordCmp.ofBool_decide_eq_one_iff _).mp e')

variable (m : (ℓ : Loc nD τ sig) → Buf (Elt Ideal) ℓ) (c : Dev nD)

/-- The argument as rows. -/
abbrev rowsOfMem : Rows := m ((c : Thread nD τ).loc main_arg0)

/-- The array the kernel's windows lie over, entry by entry. -/
theorem V_apply (a : Fin 128) (b : Fin 4) (s : Fin 16) (l : Fin 14336) :
    (V m c main_v0 : FVec Ideal S128x4x16x14336 .bf16) (ix4 a b s l) = rowsOfMem m c (ix2 (⟨(a.val * 4 + b.val) * 16 + s.val, by omega⟩ : Fin 8192) l) := by
  have e : (V m c main_v0 : FVec Ideal S128x4x16x14336 .bf16) = shapeCast S128x4x16x14336 (rowsOfMem m c) shapeCasts_S8192x14336_S128x4x16x14336 := by
    unfold V hostOps0
    rw [StableHlo.after_cons, StableHlo.after_nil, StableHlo.reshape_result]
    rfl
  rw [e]
  show rowsOfMem m c (Shape.reshapeEquiv _ _) = _
  rw [Shape.reshapeEquiv_eq_of_vals _ (ix4 a b s l) (ix2 (⟨(a.val * 4 + b.val) * 16 + s.val, by omega⟩ : Fin 8192) l) _ _
      (rowMajor_val2 _ _ rfl) (rowMajor_val4 _ _ _ _ rfl rfl rfl) (by simp; omega)]

/-- Where the blocks of a grid point lie. -/
theorem idx_facts : ∀ t : Fin cfg0.N,
    (win0_0.index t (0 : Fin 4) = 0 ∧ win0_0.index t (1 : Fin 4) = t.val / 4 ∧ win0_0.index t (2 : Fin 4) = 0 ∧ win0_0.index t (3 : Fin 4) = 4 + t.val % 4) ∧
    (win0_1.index t (0 : Fin 4) = 0 ∧ win0_1.index t (1 : Fin 4) = t.val / 4 ∧ win0_1.index t (2 : Fin 4) = 0 ∧ win0_1.index t (3 : Fin 4) = 8 + t.val % 4) ∧
    (win0_2.index t (0 : Fin 4) = 0 ∧ win0_2.index t (1 : Fin 4) = t.val / 4 ∧ win0_2.index t (2 : Fin 4) = 0 ∧ win0_2.index t (3 : Fin 4) = 12 + t.val % 4) ∧
    (win0_3.index t (0 : Fin 4) = 0 ∧ win0_3.index t (1 : Fin 4) = t.val / 4 ∧ win0_3.index t (2 : Fin 4) = 0 ∧ win0_3.index t (3 : Fin 4) = 16 + t.val % 4) ∧
    (win0_4.index t (0 : Fin 4) = 0 ∧ win0_4.index t (1 : Fin 4) = t.val / 4 ∧ win0_4.index t (2 : Fin 4) = 0 ∧ win0_4.index t (3 : Fin 4) = 0 + t.val % 4) :=
  (by decide +kernel : ∀ t : Fin grid0.N, _)

/-- The point of batch `b` and head group `g`. -/
abbrev pt (b : Fin 4) (g : Fin 4) : Fin cfg0.N := ⟨4 * b.val + g.val, by show _ < 16; omega⟩

theorem pt_div (b g : Fin 4) : (pt b g).val / 4 = b.val := by show (4 * b.val + g.val) / 4 = _; omega

theorem pt_mod (b g : Fin 4) : (pt b g).val % 4 = g.val := by show (4 * b.val + g.val) % 4 = _; omega

theorem emb0 (b g : Fin 4) (a : Fin 128) (s : Fin 16) (l : Fin 512) :
    ((cfg0.win 0).blk (pt b g)).view.emb (ix4 a (0 : Fin 1) s l) = ix4 a b s (⟨2048 + 512 * g.val + l.val, by omega⟩ : Fin 14336) := by
  obtain ⟨⟨e0, e1, e2, e3⟩, _, _, _, _⟩ := idx_facts (pt b g)
  rw [pt_div] at e1
  rw [pt_mod] at e3
  funext k; apply Fin.ext
  match k with
  | ⟨0, _⟩ => show win0_0.index (pt b g) (0 : Fin 4) * 128 + 1 * a.val = a.val; omega
  | ⟨1, _⟩ => show win0_0.index (pt b g) (1 : Fin 4) * 1 + 1 * 0 = b.val; omega
  | ⟨2, _⟩ => show win0_0.index (pt b g) (2 : Fin 4) * 16 + 1 * s.val = s.val; omega
  | ⟨3, _⟩ => show win0_0.index (pt b g) (3 : Fin 4) * 512 + 1 * l.val = 2048 + 512 * g.val + l.val; omega

theorem iblk0_apply (b g : Fin 4) (a : Fin 128) (s : Fin 16) (l : Fin 512) :
    (iblk m c 0 (pt b g) : FVec Ideal S128x1x16x512 .bf16) (ix4 a (0 : Fin 1) s l)
      = rowsOfMem m c (ix2 (⟨(a.val * 4 + b.val) * 16 + s.val, by omega⟩ : Fin 8192) (⟨2048 + 512 * g.val + l.val, by omega⟩ : Fin 14336)) := by
  show V m c main_v0 (((cfg0.win 0).blk (pt b g)).view.emb _) = _
  rw [emb0]
  exact V_apply m c _ _ _ _

theorem head_iblk0 (b g h : Fin 4) : headOf (iblk m c 0 (pt b g) : FVec Ideal S128x1x16x512 .bf16) h
    = col (rowsOfMem m c) 2048 (by omega) b ⟨4 * g.val + h.val, by omega⟩ := by
  funext i
  have h0 : (i 0).val < 2048 := (i 0).2
  have h1 : (i 1).val < 128 := (i 1).2
  refine (iblk0_apply m c b g ⟨(i 0).val / 16, by omega⟩ ⟨(i 0).val % 16, by omega⟩ ⟨128 * h.val + (i 1).val, by omega⟩).trans ?_
  refine congrArg (rowsOfMem m c) (congrArg₂ ix2 rfl (Fin.ext ?_))
  show 2048 + 512 * g.val + (128 * h.val + (i 1).val) = 2048 + 128 * (4 * g.val + h.val) + (i 1).val
  omega

theorem emb1 (b g : Fin 4) (a : Fin 128) (s : Fin 16) (l : Fin 512) :
    ((cfg0.win 1).blk (pt b g)).view.emb (ix4 a (0 : Fin 1) s l) = ix4 a b s (⟨4096 + 512 * g.val + l.val, by omega⟩ : Fin 14336) := by
  obtain ⟨_, ⟨e0, e1, e2, e3⟩, _, _, _⟩ := idx_facts (pt b g)
  rw [pt_div] at e1
  rw [pt_mod] at e3
  funext k; apply Fin.ext
  match k with
  | ⟨0, _⟩ => show win0_1.index (pt b g) (0 : Fin 4) * 128 + 1 * a.val = a.val; omega
  | ⟨1, _⟩ => show win0_1.index (pt b g) (1 : Fin 4) * 1 + 1 * 0 = b.val; omega
  | ⟨2, _⟩ => show win0_1.index (pt b g) (2 : Fin 4) * 16 + 1 * s.val = s.val; omega
  | ⟨3, _⟩ => show win0_1.index (pt b g) (3 : Fin 4) * 512 + 1 * l.val = 4096 + 512 * g.val + l.val; omega

theorem iblk1_apply (b g : Fin 4) (a : Fin 128) (s : Fin 16) (l : Fin 512) :
    (iblk m c 1 (pt b g) : FVec Ideal S128x1x16x512 .bf16) (ix4 a (0 : Fin 1) s l)
      = rowsOfMem m c (ix2 (⟨(a.val * 4 + b.val) * 16 + s.val, by omega⟩ : Fin 8192) (⟨4096 + 512 * g.val + l.val, by omega⟩ : Fin 14336)) := by
  show V m c main_v0 (((cfg0.win 1).blk (pt b g)).view.emb _) = _
  rw [emb1]
  exact V_apply m c _ _ _ _

theorem head_iblk1 (b g h : Fin 4) : headOf (iblk m c 1 (pt b g) : FVec Ideal S128x1x16x512 .bf16) h
    = col (rowsOfMem m c) 4096 (by omega) b ⟨4 * g.val + h.val, by omega⟩ := by
  funext i
  have h0 : (i 0).val < 2048 := (i 0).2
  have h1 : (i 1).val < 128 := (i 1).2
  refine (iblk1_apply m c b g ⟨(i 0).val / 16, by omega⟩ ⟨(i 0).val % 16, by omega⟩ ⟨128 * h.val + (i 1).val, by omega⟩).trans ?_
  refine congrArg (rowsOfMem m c) (congrArg₂ ix2 rfl (Fin.ext ?_))
  show 4096 + 512 * g.val + (128 * h.val + (i 1).val) = 4096 + 128 * (4 * g.val + h.val) + (i 1).val
  omega

theorem emb2 (b g : Fin 4) (a : Fin 128) (s : Fin 16) (l : Fin 512) :
    ((cfg0.win 2).blk (pt b g)).view.emb (ix4 a (0 : Fin 1) s l) = ix4 a b s (⟨6144 + 512 * g.val + l.val, by omega⟩ : Fin 14336) := by
  obtain ⟨_, _, ⟨e0, e1, e2, e3⟩, _, _⟩ := idx_facts (pt b g)
  rw [pt_div] at e1
  rw [pt_mod] at e3
  funext k; apply Fin.ext
  match k with
  | ⟨0, _⟩ => show win0_2.index (pt b g) (0 : Fin 4) * 128 + 1 * a.val = a.val; omega
  | ⟨1, _⟩ => show win0_2.index (pt b g) (1 : Fin 4) * 1 + 1 * 0 = b.val; omega
  | ⟨2, _⟩ => show win0_2.index (pt b g) (2 : Fin 4) * 16 + 1 * s.val = s.val; omega
  | ⟨3, _⟩ => show win0_2.index (pt b g) (3 : Fin 4) * 512 + 1 * l.val = 6144 + 512 * g.val + l.val; omega

theorem iblk2_apply (b g : Fin 4) (a : Fin 128) (s : Fin 16) (l : Fin 512) :
    (iblk m c 2 (pt b g) : FVec Ideal S128x1x16x512 .bf16) (ix4 a (0 : Fin 1) s l)
      = rowsOfMem m c (ix2 (⟨(a.val * 4 + b.val) * 16 + s.val, by omega⟩ : Fin 8192) (⟨6144 + 512 * g.val + l.val, by omega⟩ : Fin 14336)) := by
  show V m c main_v0 (((cfg0.win 2).blk (pt b g)).view.emb _) = _
  rw [emb2]
  exact V_apply m c _ _ _ _

theorem head_iblk2 (b g h : Fin 4) : headOf (iblk m c 2 (pt b g) : FVec Ideal S128x1x16x512 .bf16) h
    = col (rowsOfMem m c) 6144 (by omega) b ⟨4 * g.val + h.val, by omega⟩ := by
  funext i
  have h0 : (i 0).val < 2048 := (i 0).2
  have h1 : (i 1).val < 128 := (i 1).2
  refine (iblk2_apply m c b g ⟨(i 0).val / 16, by omega⟩ ⟨(i 0).val % 16, by omega⟩ ⟨128 * h.val + (i 1).val, by omega⟩).trans ?_
  refine congrArg (rowsOfMem m c) (congrArg₂ ix2 rfl (Fin.ext ?_))
  show 6144 + 512 * g.val + (128 * h.val + (i 1).val) = 6144 + 128 * (4 * g.val + h.val) + (i 1).val
  omega

theorem emb3 (b g : Fin 4) (a : Fin 128) (s : Fin 16) (l : Fin 512) :
    ((cfg0.win 3).blk (pt b g)).view.emb (ix4 a (0 : Fin 1) s l) = ix4 a b s (⟨8192 + 512 * g.val + l.val, by omega⟩ : Fin 14336) := by
  obtain ⟨_, _, _, ⟨e0, e1, e2, e3⟩, _⟩ := idx_facts (pt b g)
  rw [pt_div] at e1
  rw [pt_mod] at e3
  funext k; apply Fin.ext
  match k with
  | ⟨0, _⟩ => show win0_3.index (pt b g) (0 : Fin 4) * 128 + 1 * a.val = a.val; omega
  | ⟨1, _⟩ => show win0_3.index (pt b g) (1 : Fin 4) * 1 + 1 * 0 = b.val; omega
  | ⟨2, _⟩ => show win0_3.index (pt b g) (2 : Fin 4) * 16 + 1 * s.val = s.val; omega
  | ⟨3, _⟩ => show win0_3.index (pt b g) (3 : Fin 4) * 512 + 1 * l.val = 8192 + 512 * g.val + l.val; omega

theorem iblk3_apply (b g : Fin 4) (a : Fin 128) (s : Fin 16) (l : Fin 512) :
    (iblk m c 3 (pt b g) : FVec Ideal S128x1x16x512 .bf16) (ix4 a (0 : Fin 1) s l)
      = rowsOfMem m c (ix2 (⟨(a.val * 4 + b.val) * 16 + s.val, by omega⟩ : Fin 8192) (⟨8192 + 512 * g.val + l.val, by omega⟩ : Fin 14336)) := by
  show V m c main_v0 (((cfg0.win 3).blk (pt b g)).view.emb _) = _
  rw [emb3]
  exact V_apply m c _ _ _ _

theorem head_iblk3 (b g h : Fin 4) : headOf (iblk m c 3 (pt b g) : FVec Ideal S128x1x16x512 .bf16) h
    = col (rowsOfMem m c) 8192 (by omega) b ⟨4 * g.val + h.val, by omega⟩ := by
  funext i
  have h0 : (i 0).val < 2048 := (i 0).2
  have h1 : (i 1).val < 128 := (i 1).2
  refine (iblk3_apply m c b g ⟨(i 0).val / 16, by omega⟩ ⟨(i 0).val % 16, by omega⟩ ⟨128 * h.val + (i 1).val, by omega⟩).trans ?_
  refine congrArg (rowsOfMem m c) (congrArg₂ ix2 rfl (Fin.ext ?_))
  show 8192 + 512 * g.val + (128 * h.val + (i 1).val) = 8192 + 128 * (4 * g.val + h.val) + (i 1).val
  omega

theorem emb4 (b g : Fin 4) (a : Fin 128) (s : Fin 16) (l : Fin 512) :
    ((cfg0.win 4).blk (pt b g)).view.emb (ix4 a (0 : Fin 1) s l) = ix4 a b s (⟨0 + 512 * g.val + l.val, by omega⟩ : Fin 2048) := by
  obtain ⟨_, _, _, _, ⟨e0, e1, e2, e3⟩⟩ := idx_facts (pt b g)
  rw [pt_div] at e1
  rw [pt_mod] at e3
  funext k; apply Fin.ext
  match k with
  | ⟨0, _⟩ => show win0_4.index (pt b g) (0 : Fin 4) * 128 + 1 * a.val = a.val; omega
  | ⟨1, _⟩ => show win0_4.index (pt b g) (1 : Fin 4) * 1 + 1 * 0 = b.val; omega
  | ⟨2, _⟩ => show win0_4.index (pt b g) (2 : Fin 4) * 16 + 1 * s.val = s.val; omega
  | ⟨3, _⟩ => show win0_4.index (pt b g) (3 : Fin 4) * 512 + 1 * l.val = 0 + 512 * g.val + l.val; omega

theorem real_of_ix4 {x : FVec Ideal S128x1x16x512 .bf16} (h : ∀ (a : Fin 128) (s : Fin 16) (l : Fin 512), ∃ r : ℝ, x (ix4 a (0 : Fin 1) s l) = r) :
    ∀ j, ∃ r : ℝ, x j = r := by
  intro j
  obtain ⟨a, z, s, l, rfl⟩ : ∃ (a : Fin 128) (z : Fin 1) (s : Fin 16) (l : Fin 512), j = ix4 a z s l :=
    ⟨j 0, j 1, j 2, j 3, by funext k; match k with | 0 => rfl | 1 => rfl | 2 => rfl | 3 => rfl⟩
  obtain rfl : z = 0 := Subsingleton.elim _ _
  exact h a s l

theorem flush4 : ∀ t : Fin cfg0.N, (cfg0.win 4).flush t = true :=
  (by decide +kernel : ∀ t : Fin grid0.N, win0_4.flush t = true)

/-- The kernel's result, entry by entry: chunk `a`, batch `b`, position `s` of the chunk, column `L`. -/
theorem array_apply (hr : RealQK (rowsOfMem m c)) (a : Fin 128) (b : Fin 4) (s : Fin 16) (L : Fin 2048) :
    ((dats m 0 c).arrAt 4 cfg0.N : FVec Ideal S128x4x16x2048 .bf16) (ix4 a b s L)
      = rowsVal (rowsOfMem m c) b ⟨L.val / 128, by omega⟩ (16 * a.val + s.val) (L.val % 128) := by
  let g : Fin 4 := ⟨L.val / 512, by omega⟩
  let l : Fin 512 := ⟨L.val % 512, by omega⟩
  have e := congrFun (Cert.KernelIdeal.Value.blocks4 m c (pt b g) (flush4 _)) (ix4 a (0 : Fin 1) s l)
  rw [Cert.KernelIdeal.Value.flushed4_A] at e
  have e' : ((dats m 0 c).arrAt 4 cfg0.N : FVec Ideal S128x4x16x2048 .bf16) (((cfg0.win 4).blk (pt b g)).view.emb (ix4 a (0 : Fin 1) s l)) = _ := e
  rw [emb4, show (⟨0 + 512 * g.val + l.val, by omega⟩ : Fin 2048) = L from Fin.ext (by show 0 + 512 * (L.val / 512) + L.val % 512 = L.val; omega)] at e'
  refine e'.trans ?_
  refine (out_apply c _ _ _ _ _ _ _ _ _ _ _ _ _ _ _ _ _ _ _ _ _ _ _
    (real_of_ix4 fun a s l => ?_) (real_of_ix4 fun a s l => ?_) a s l).trans ?_
  · rw [iblk0_apply]
    exact hr _ _ (by simp only; omega) (by simp only; omega)
  · rw [iblk1_apply]
    exact hr _ _ (by simp only; omega) (by simp only; omega)
  · simp only [head_iblk0, head_iblk1, head_iblk2, head_iblk3]
    unfold rowsVal
    have hH : (⟨4 * g.val + l.val / 128, by omega⟩ : Fin 16) = ⟨L.val / 128, by omega⟩ :=
      Fin.ext (by show 4 * (L.val / 512) + L.val % 512 / 128 = L.val / 128; omega)
    have hl : l.val % 128 = L.val % 128 := by show L.val % 512 % 128 = _; omega
    rw [hH, hl]

end Cert.Moba

end
-- ==== Proof.RefRows.lean ====
/-
  The reference's queries, keys, values and gates, entry by entry, as columns of the projected rows.
-/
module

public import proofs.«01_k».proof.Proof.Array
public import proofs.«01_k».proof.Proof.Gen.ReferenceIdeal.Read

@[expose] public section

noncomputable section

namespace Cert.Moba

open Idealize.ShloMosaic Idealize.ShloMosaic.TcCoe Idealize.SL.Sem
open Cert.ReferenceIdeal Cert.ReferenceIdeal.Gen Cert.ReferenceIdeal.Read

variable (x : Rows)

/-- The rows of a batch in the order of the positions. -/
theorem v3_at (b : Fin 4) (p : Fin 2048) (l : Fin 14336) : val_main_v3 (F := Ideal) x (ix3 b p l) = x (ix2 (rowIx b p) l) := by
  rw [val_main_v3_apply, val_main_v2_apply, val_main_v1_apply, val_main_v0_apply]
  refine congrArg x (funext fun k => Fin.ext ?_)
  match k with
  | ⟨0, _⟩ => simp [rowIx, ix2, ix3]; omega
  | ⟨1, _⟩ => simp [rowIx, ix2, ix3]

/-- The queries before their scale. -/
theorem v6_at (b : Fin 4) (H : Fin 16) (p : Fin 2048) (d : Fin 128) :
    val_main_v6 (F := Ideal) x (ix4 b H p d) = col x 2048 (by omega) b H (ix2 p d) := by
  rw [val_main_v6_apply, val_main_v5_apply, val_main_v4_apply]
  refine Eq.trans (congrArg (val_main_v3 (F := Ideal) x) (a₂ := ix3 b p (⟨2048 + 128 * H.val + d.val, by omega⟩ : Fin 14336)) (funext fun k => Fin.ext ?_)) (v3_at x _ _ _)
  match k with
  | ⟨0, _⟩ => simp [ix3, ix4]; omega
  | ⟨1, _⟩ => simp [ix3, ix4]; omega
  | ⟨2, _⟩ => simp [ix3, ix4]; omega

/-- The keys. -/
theorem v14_at (b : Fin 4) (H : Fin 16) (p : Fin 2048) (d : Fin 128) :
    val_main_v14 (F := Ideal) x (ix4 b H p d) = col x 4096 (by omega) b H (ix2 p d) := by
  rw [val_main_v14_apply, val_main_v13_apply, val_main_v12_apply]
  refine Eq.trans (congrArg (val_main_v3 (F := Ideal) x) (a₂ := ix3 b p (⟨4096 + 128 * H.val + d.val, by omega⟩ : Fin 14336)) (funext fun k => Fin.ext ?_)) (v3_at x _ _ _)
  match k with
  | ⟨0, _⟩ => simp [ix3, ix4]; omega
  | ⟨1, _⟩ => simp [ix3, ix4]; omega
  | ⟨2, _⟩ => simp [ix3, ix4]; omega

/-- The values. -/
theorem v17_at (b : Fin 4) (H : Fin 16) (p : Fin 2048) (d : Fin 128) :
    val_main_v17 (F := Ideal) x (ix4 b H p d) = col x 6144 (by omega) b H (ix2 p d) := by
  rw [val_main_v17_apply, val_main_v16_apply, val_main_v15_apply]
  refine Eq.trans (congrArg (val_main_v3 (F := Ideal) x) (a₂ := ix3 b p (⟨6144 + 128 * H.val + d.val, by omega⟩ : Fin 14336)) (funext fun k => Fin.ext ?_)) (v3_at x _ _ _)
  match k with
  | ⟨0, _⟩ => simp [ix3, ix4]; omega
  | ⟨1, _⟩ => simp [ix3, ix4]; omega
  | ⟨2, _⟩ => simp [ix3, ix4]; omega

/-- The gates of the output. -/
theorem v18_at (b : Fin 4) (p : Fin 2048) (l : Fin 2048) :
    val_main_v18 (F := Ideal) x (ix3 b p l) = col x 8192 (by omega) b ⟨l.val / 128, by omega⟩ (ix2 p ⟨l.val % 128, by omega⟩) := by
  rw [val_main_v18_apply]
  refine Eq.trans (congrArg (val_main_v3 (F := Ideal) x) (a₂ := ix3 b p (⟨8192 + 128 * (l.val / 128) + l.val % 128, by omega⟩ : Fin 14336)) (funext fun k => Fin.ext ?_)) (v3_at x _ _ _)
  match k with
  | ⟨0, _⟩ => simp [ix3]
  | ⟨1, _⟩ => simp [ix3]
  | ⟨2, _⟩ => simp [ix3]; omega

end Cert.Moba

end
-- ==== Proof.StableRank.lean ====
/- The rank of an element in a stable sort: position `i` of the sort holds the element that exactly `i` others come
   before. So an element is among the first `k` positions exactly when fewer than `k` elements come before it. -/
module

public import Idealize.ShloMosaic.Lib.SortPrefix

@[expose] public section

namespace Cert.Moba

open Idealize.ShloMosaic

/-- On a list whose elements ascend, a stable sort only asks whether a later element goes before an earlier one. -/
theorem stableSort_congr_lt {n : Nat} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_lt R R' h l hl.2]
    exact insertBefore_congr R R' a _ fun b hb => h a b (hl.1 b ((perm_stableSort R' l).mem_iff.mp hb))

/-- So the sorting permutation of positions depends on those answers alone. -/
theorem sortedFrom_congr_lt {n : Nat} (R R' : Fin n → Fin n → Bool) (h : ∀ a b, a < b → R b a = R' b a) (i : Fin n) :
    sortedFrom R i = sortedFrom R' i := by
  have : sortPositions n R = sortPositions n R' := stableSort_congr_lt R R' h _ (List.pairwise_lt_finRange n)
  unfold sortedFrom
  simp only [List.get_eq_getElem, Fin.val_cast, this]

/-- Under a strict total order, the element at position `i` of the sort has exactly `i` elements before it. -/
theorem card_before_sortedFrom {n : Nat} {B : Fin n → Fin n → Bool} (hB : StrictTotalBefore B) (i : Fin n) :
    (Finset.univ.filter fun k => B k (sortedFrom B i) = true).card = i.val := by
  have hlt : ∀ j, B (sortedFrom B j) (sortedFrom B i) = true ↔ j < i := by
    intro j
    constructor
    · intro h
      by_contra hn
      rcases eq_or_lt_of_le (not_lt.mp hn) with rfl | hij
      · rw [hB.irrefl] at h; exact absurd h (by decide)
      · rw [sortedFrom_noInversion B B (fun a b h => hB.asymm a b h) (fun _ _ h => h) hB.negTrans i j hij] at h
        exact absurd h (by decide)
    · intro hji
      have hne : sortedFrom B j ≠ sortedFrom B i := fun h => absurd (sortedFrom_injective B h) (ne_of_lt hji)
      rcases hB.total _ _ hne with h | h
      · exact h
      · rw [sortedFrom_noInversion B B (fun a b h => hB.asymm a b h) (fun _ _ h => h) hB.negTrans j i hji] at h
        exact absurd h (by decide)
  have himg : (Finset.univ.filter fun k => B k (sortedFrom B i) = true) = (Finset.Iio i).image (sortedFrom B) := by
    ext k
    simp only [Finset.mem_filter, Finset.mem_univ, true_and, Finset.mem_image, Finset.mem_Iio]
    constructor
    · intro h
      obtain ⟨j, rfl⟩ := sortedFrom_surjective B k
      exact ⟨j, (hlt j).mp h, rfl⟩
    · rintro ⟨j, hj, rfl⟩
      exact (hlt j).mpr hj
  rw [himg, Finset.card_image_of_injective _ (sortedFrom_injective B), Fin.card_Iio]

/-- Element `m` is at one of the first `k` positions exactly when fewer than `k` elements come before it. -/
theorem exists_sortedFrom_eq_iff {n k : Nat} {B : Fin n → Fin n → Bool} (hB : StrictTotalBefore B) (hk : k ≤ n) (m : Fin n) :
    (∃ r : Fin k, sortedFrom B (r.castLE hk) = m) ↔ (Finset.univ.filter fun j => B j m = true).card < k := by
  constructor
  · rintro ⟨r, rfl⟩
    rw [card_before_sortedFrom hB]
    exact r.isLt
  · intro h
    obtain ⟨i, rfl⟩ := sortedFrom_surjective B m
    rw [card_before_sortedFrom hB] at h
    exact ⟨⟨i.val, h⟩, rfl⟩

/-- Greater values first, equal values in the order of their positions: a strict total order of the positions. -/
theorem strictTotalBefore_desc {n : Nat} {κ : Type} [LinearOrder κ] (g : Fin n → κ) :
    StrictTotalBefore fun a b : Fin n => decide (g b < g a) || (decide (g a = g b) && decide (a < b)) :=
  StrictTotalBefore.of_key_then_position (fun x y => decide (y < x)) g (by simp) (by
    intro a b c hab hbc
    simp only [decide_eq_true_eq] at *
    exact hbc.trans hab) (by
    intro a b
    simp only [decide_eq_true_eq]
    rcases lt_trichotomy a b with h | h | h
    · exact .inr (.inr h)
    · exact .inr (.inl h)
    · exact .inl h)

/-- The first `k` of a stable sort, greatest first: `m` is among them exactly when fewer than `k` positions hold a
    greater value, or an equal one at an earlier position. -/
theorem exists_sortedFrom_gt_iff {n k : Nat} {κ : Type} [LinearOrder κ] (g : Fin n → κ) (hk : k ≤ n) (m : Fin n) :
    (∃ r : Fin k, sortedFrom (fun a b : Fin n => decide (g b < g a)) (r.castLE hk) = m)
      ↔ (Finset.univ.filter fun j : Fin n => g m < g j ∨ (g j = g m ∧ j < m)).card < k := by
  have e : ∀ i, sortedFrom (fun a b : Fin n => decide (g b < g a)) i = sortedFrom (fun a b : Fin n => decide (g b < g a) || (decide (g a = g b) && decide (a < b))) i := fun i => sortedFrom_congr_lt _ _ (fun a b hab => by simp [not_lt_of_gt hab]) i
  simp only [e]
  rw [exists_sortedFrom_eq_iff (strictTotalBefore_desc g) hk m]
  simp

end Cert.Moba

end
-- ==== Proof.RefGate.lean ====
/-
  The reference's gate and the blocks that its top three choose.
-/
module

public import proofs.«01_k».proof.Proof.RefRows
public import proofs.«01_k».proof.Proof.StableRank
public import Idealize.ShloMosaic.Lib.Routing.OpsOrder

@[expose] public section

noncomputable section

namespace Cert.Moba

open Idealize.ShloMosaic Idealize.ShloMosaic.TcCoe Idealize.SL.Sem
open Cert.ReferenceIdeal Cert.ReferenceIdeal.Gen Cert.ReferenceIdeal.Read

/-! ## Constants -/

theorem f32_128 : (FloatOps.ofBits (F := Ideal) .f32 0x43000000#32 : EReal) = ((128 : ℝ) : EReal) := by
  show Ideal.ofBits .f32 _ = _; simp [Ideal.ofBits, Ideal.ieee]; rw [← EReal.coe_mul]; norm_num
theorem f32_two : (FloatOps.ofBits (F := Ideal) .f32 0x40000000#32 : EReal) = ((2 : ℝ) : EReal) := by
  show Ideal.ofBits .f32 _ = _; simp [Ideal.ofBits, Ideal.ieee]; rw [← EReal.coe_mul]; norm_num
theorem f32_256 : (FloatOps.ofBits (F := Ideal) .f32 0x43800000#32 : EReal) = ((256 : ℝ) : EReal) := by
  show Ideal.ofBits .f32 _ = _; simp [Ideal.ofBits, Ideal.ieee]; rw [← EReal.coe_mul]; norm_num
theorem f32_ninf : (FloatOps.ofBits (F := Ideal) .f32 0xFF800000#32 : EReal) = ⊥ := by
  show Ideal.ofBits .f32 _ = _; simp [Ideal.ofBits, Ideal.ieee]

/-- The scale of the queries: `√128 · log 2`. -/
def qscale : ℝ := Real.sqrt 128 * Real.log 2

theorem qscale_pos : 0 < qscale := mul_pos (Real.sqrt_pos.mpr (by norm_num)) (Real.log_pos (by norm_num))

theorem v9_at (i : S_.Idx) : val_main_v9 (F := Ideal) i = ((qscale : ℝ) : EReal) := by
  rw [val_main_v9_apply, val_main_v7_apply, val_main_v8_apply, val_main_cst_apply, val_main_cst_0_apply, f32_128, f32_two]
  have e1 : Ideal.sqrt ((128 : ℝ) : EReal) = ((Real.sqrt 128 : ℝ) : EReal) := if_neg (by norm_num)
  have e2 : Ideal.log ((2 : ℝ) : EReal) = ((Real.log 2 : ℝ) : EReal) := if_neg (by norm_num)
  show Ideal.sqrt ((128 : ℝ) : EReal) * Ideal.log ((2 : ℝ) : EReal) = _
  rw [e1, e2, qscale, EReal.coe_mul]

/-! ## The gate -/

variable (x : Rows)

/-- The keys and the queries of a head, at any position and coordinate. -/
abbrev keyOf (b : Fin 4) (H : Fin 16) : ℕ → ℕ → EReal := ent (col x 4096 (by omega) b H)
abbrev queryOf (b : Fin 4) (H : Fin 16) : ℕ → ℕ → EReal := ent (col x 2048 (by omega) b H)

/-- The gate of a head. -/
abbrev gateOf (b : Fin 4) (H : Fin 16) : ℕ → ℕ → EReal := Gate.gt (keyOf x b H) (queryOf x b H)

theorem ent_at {a b : ℕ} (y : (⟨2, ![a, b]⟩ : Shape).Idx → EReal) (i : Fin a) (j : Fin b) : ent y i.val j.val = y (ix2 i j) :=
  dif_pos ⟨i.2, j.2⟩

variable {x}

theorem real_col (hx : RealQK x) {o : ℕ} (h0 : 2048 ≤ o) (h1 : o ≤ 4096) (b : Fin 4) (H : Fin 16) :
    ∀ i, ∃ r : ℝ, col x o (by omega) b H i = r := fun i =>
  have h : (i 1).val < 128 := (i 1).2
  hx _ _ (by show 2048 ≤ o + 128 * H.val + (i 1).val; omega) (by show o + 128 * H.val + (i 1).val < 6144; omega)

theorem real_ent {y : FVec Ideal ⟨2, ![2048, 128]⟩ .bf16} (hy : ∀ i, ∃ r : ℝ, y i = r) (p d : ℕ) : ∃ r : ℝ, ent y p d = r := by
  unfold ent
  split
  · exact hy _
  · exact ⟨0, EReal.coe_zero.symm⟩

theorem real_key (hx : RealQK x) (b : Fin 4) (H : Fin 16) (p d : ℕ) : ∃ r : ℝ, keyOf x b H p d = r :=
  real_ent (real_col hx (by omega) (by omega) b H) p d

theorem real_query (hx : RealQK x) (b : Fin 4) (H : Fin 16) (p d : ℕ) : ∃ r : ℝ, queryOf x b H p d = r :=
  real_ent (real_col hx (by omega) (by omega) b H) p d

theorem scores_at (hx : RealQK x) (b : Fin 4) (H : Fin 16) : Scores (keyOf x b H) (queryOf x b H) (Gate.Bm (gateOf x b H)) :=
  scores_of (real_col hx (by omega) (by omega) b H) (real_col hx (by omega) (by omega) b H)

/-- A real factor leaves a sum of products of real numbers. -/
theorem sum_scaled {n : ℕ} {f g : Fin n → EReal} (hf : ∀ i, ∃ r : ℝ, f i = r) (hg : ∀ i, ∃ r : ℝ, g i = r) (c : ℝ) :
    ∑ i, f i * (c : EReal) * g i = (c : EReal) * ∑ i, g i * f i := by
  choose u hu using hf
  choose v hv using hg
  have e : ∀ (s : Finset (Fin n)), ∑ i ∈ s, f i * (c : EReal) * g i = (c : EReal) * ∑ i ∈ s, g i * f i ∧ ∃ r : ℝ, ∑ i ∈ s, g i * f i = r := by
    intro s
    induction s using Finset.induction_on with
    | empty => exact ⟨by simp, 0, by simp⟩
    | insert a s ha ih =>
      obtain ⟨e, r, hr⟩ := ih
      rw [Finset.sum_insert ha, Finset.sum_insert ha, e, hr, hu, hv]
      refine ⟨?_, v a * u a + r, by push_cast; rfl⟩
      norm_cast
      ring
  exact (e Finset.univ).1

/-- The scaled queries. -/
theorem v11_at (b : Fin 4) (H : Fin 16) (p : Fin 2048) (d : Fin 128) :
    val_main_v11 (F := Ideal) x (ix4 b H p d) = queryOf x b H p.val d.val * ((qscale : ℝ) : EReal) := by
  rw [val_main_v11_apply, val_main_v10_apply, v9_at, v6_at]
  exact congrArg (· * ((qscale : ℝ) : EReal)) (ent_at _ p d).symm

/-- The mean key of a block. -/
theorem v31_at (hx : RealQK x) (b : Fin 4) (H : Fin 16) (n : Fin 8) (d : Fin 128) :
    val_main_v31 (F := Ideal) x (ix4 b H n d) = Gate.km (keyOf x b H) n.val d.val := by
  rw [val_main_v31_apply, val_main_v29_apply, val_main_v30_apply]
  have e : ∀ k : Fin 256, val_main_v28 (F := Ideal) x (idx_main_v29 (ix4 b H n d) k) = keyOf x b H (256 * n.val + k.val) d.val := by
    intro k
    rw [val_main_v28_apply]
    refine (congrArg (val_main_v14 (F := Ideal) x) (a₂ := ix4 b H (⟨256 * n.val + k.val, by omega⟩ : Fin 2048) d) (funext fun a => Fin.ext ?_)).trans
      ((v14_at x b H _ d).trans (ent_at _ _ _).symm)
    match a with
    | ⟨0, _⟩ => simp [ix4]; omega
    | ⟨1, _⟩ => simp [ix4]; omega
    | ⟨2, _⟩ => simp [ix4]; omega
    | ⟨3, _⟩ => simp [ix4]
  rw [Finset.sum_congr rfl fun k _ => e k, val_main_cst_1_apply, Gate.f32_zero, zero_add, val_main_cst_2_apply, f32_256]
  show Ideal.div _ _ = _
  unfold Gate.km Ideal.div
  rw [if_neg (by exact_mod_cast (by norm_num : (256 : ℝ) ≠ 0))]
  congr 1
  rw [← EReal.coe_inv]
  norm_num

/-- The gate of block `n`, scaled as the queries are. -/
theorem v32_at (hx : RealQK x) (b : Fin 4) (H : Fin 16) (p : Fin 2048) (n : Fin 8) :
    val_main_v32 (F := Ideal) x (ix4 b H p n) = ((qscale : ℝ) : EReal) * gateOf x b H n.val p.val := by
  rw [val_main_v32_apply]
  have e : ∀ k : Fin 128, val_main_v11 (F := Ideal) x (lidx_main_v32 (ix4 b H p n) k) * val_main_v31 (F := Ideal) x (ridx_main_v32 (ix4 b H p n) k)
      = queryOf x b H p.val k.val * ((qscale : ℝ) : EReal) * Gate.km (keyOf x b H) n.val k.val := by
    intro k
    refine congrArg₂ (· * ·) ?_ ?_
    · refine (congrArg (val_main_v11 (F := Ideal) x) (a₂ := ix4 b H p k) (funext fun a => Fin.ext ?_)).trans (v11_at b H p k)
      match a with
      | ⟨0, _⟩ => rfl
      | ⟨1, _⟩ => rfl
      | ⟨2, _⟩ => rfl
      | ⟨3, _⟩ => rfl
    · refine (congrArg (val_main_v31 (F := Ideal) x) (a₂ := ix4 b H n k) (funext fun a => Fin.ext ?_)).trans (v31_at hx b H n k)
      match a with
      | ⟨0, _⟩ => rfl
      | ⟨1, _⟩ => rfl
      | ⟨2, _⟩ => rfl
      | ⟨3, _⟩ => rfl
  rw [Finset.sum_congr rfl fun k _ => e k]
  exact sum_scaled (fun k => real_query hx b H _ _) (fun k => Gate.km_real (real_key hx b H) _ _) qscale

/-! ## Past blocks -/

theorem div_word : ∀ p : Fin 2048, val_main_v21 (F := Ideal) (ix1 p) = BitVec.ofNat 32 (p.val / 256) := by
  intro p
  exact (by decide +kernel : ∀ p : Fin 2048, IntOp.divsi .host (BitVec.ofNat 32 p.val) 256#32 = BitVec.ofNat 32 (p.val / 256)) p

/-- Block `n` lies in the past of position `p`. -/
theorem v27_at (p : Fin 2048) (n : Fin 8) : val_main_v27 (F := Ideal) (ix2 p n) = 1#1 ↔ n.val < p.val / 256 := by
  rw [val_main_v27_apply, val_main_v26_apply, val_main_v25_apply, val_main_v24_apply, val_main_v23_apply, val_main_v22_apply]
  have e : val_main_v21 (F := Ideal) (idx_main_v24 (idx_main_v26 (ix2 p n))) = BitVec.ofNat 32 (p.val / 256) :=
    (congrArg (val_main_v21 (F := Ideal)) (funext fun a => Fin.ext (by match a with | ⟨0, _⟩ => rfl))).trans (div_word p)
  rw [e]
  exact WordCmp.cmpi_slt_ofNat_eq_one_iff (by show n.val < _; omega) (by omega)

theorem eq_zero_of_ne_one_bit {a : BitVec 1} : a ≠ 1#1 → a = 0#1 := by revert a; decide

/-- The gate, minus infinity outside the past. -/
theorem v35_at (hx : RealQK x) (b : Fin 4) (H : Fin 16) (p : Fin 2048) (n : Fin 8) :
    val_main_v35 (F := Ideal) x (ix4 b H p n)
      = if n.val < p.val / 256 then ((qscale : ℝ) : EReal) * gateOf x b H n.val p.val else ⊥ := by
  rw [val_main_v35_apply, v32_at hx, val_main_v34_apply, val_main_cst_3_apply, f32_ninf, val_main_v33_apply]
  have e : val_main_v27 (F := Ideal) (idx_main_v33 (ix4 b H p n)) = 1#1 ↔ n.val < p.val / 256 :=
    (iff_of_eq (congrArg (fun i => val_main_v27 (F := Ideal) i = 1#1) (funext fun a => Fin.ext (by match a with | ⟨0, _⟩ => rfl | ⟨1, _⟩ => rfl)))).trans (v27_at p n)
  by_cases h : n.val < p.val / 256
  · rw [if_pos h, e.mpr h]; rfl
  · rw [if_neg h, eq_zero_of_ne_one_bit (fun h' => h (e.mp h'))]; rfl

/-! ## The top three -/

theorem ix4_along {n : ℕ} (b : Fin 4) (H : Fin 16) (p : Fin 2048) (k l : Fin n) :
    (ix4 b H p l : (⟨4, ![4, 16, 2048, n]⟩ : Shape).Idx).along (3 : Fin 4) k = ix4 b H p k := by
  funext a
  match a with
  | ⟨0, _⟩ => rfl
  | ⟨1, _⟩ => rfl
  | ⟨2, _⟩ => rfl
  | ⟨3, _⟩ => rfl

theorem before_eq {n : ℕ} (y : Fin n → EReal) :
    (fun k k' : Fin n => (FloatOps.cmpfTotal (F := Ideal) (φ := .f32) .gt (y k) (y k') == 1#1)) = fun k k' => decide (y k' < y k) := by
  funext k k'
  rw [Bool.eq_iff_iff, beq_iff_eq, decide_eq_true_eq]
  show Ideal.cmp .ogt (y k) (y k') = 1#1 ↔ _
  exact WordCmp.ofBool_decide_eq_one_iff _

/-- The positions that the top three take, in order: those of the stable sort. -/
theorem topK_at (y : FVec Ideal S4x16x2048x8 .f32) (h) (b : Fin 4) (H : Fin 16) (p : Fin 2048) (r : Fin 3) :
    (Host.topK S4x16x2048x3 3 (FloatOps.cmpfTotal .gt) y h).2 (ix4 b H p r)
      = BitVec.ofNat 32 (sortedFrom (fun i j : Fin 8 => decide (y (ix4 b H p j) < y (ix4 b H p i))) (r.castLE (by omega))).val := by
  unfold Host.topK
  dsimp only
  unfold extractStridedSlice
  refine Eq.trans (congrArg (Host.sort2 S4x16x2048x8 3 _ y _).2 (a₂ := ix4 b H p (r.castLE (by omega) : Fin 8)) (funext fun a => Fin.ext ?_)) ?_
  · match a with
    | ⟨0, _⟩ => exact Nat.zero_add _
    | ⟨1, _⟩ => exact Nat.zero_add _
    | ⟨2, _⟩ => exact Nat.zero_add _
    | ⟨3, _⟩ => exact Nat.zero_add _
  · unfold Host.sort2
    rw [dif_pos (show 3 < S4x16x2048x8.rank by decide)]
    dsimp only
    have e : (fun k k' : Fin 8 => (FloatOps.cmpfTotal (F := Ideal) (φ := .f32) .gt
        (y ((ix4 b H p (r.castLE (by omega) : Fin 8) : S4x16x2048x8.Idx).along (3 : Fin 4) k))
        (y ((ix4 b H p (r.castLE (by omega) : Fin 8) : S4x16x2048x8.Idx).along (3 : Fin 4) k')) == 1#1))
          = fun i j : Fin 8 => decide (y (ix4 b H p j) < y (ix4 b H p i)) := by
      rw [← before_eq fun k => y (ix4 b H p k)]
      funext k k'
      rw [ix4_along, ix4_along]
    rw [dif_pos (show 3 < S4x16x2048x8.rank by decide)]
    show BitVec.ofNat 32 (sortedFrom (fun k k' : Fin 8 => _) (r.castLE (by omega) : Fin 8)).val = _
    exact congrArg (fun B : Fin 8 → Fin 8 → Bool => BitVec.ofNat 32 (sortedFrom B (r.castLE (by omega))).val) e

/-- Block `n` is the one at place `r` of the top three. -/
theorem v40_at (b : Fin 4) (H : Fin 16) (p : Fin 2048) (r : Fin 3) (n : Fin 8) :
    val_main_v40 (F := Ideal) x (ix5 b H p r n) = 1#1 ↔
      sortedFrom (fun i j : Fin 8 => decide (val_main_v35 (F := Ideal) x (ix4 b H p j) < val_main_v35 (F := Ideal) x (ix4 b H p i)))
        (r.castLE (by omega)) = n := by
  rw [val_main_v40_apply, val_main_v38_apply, val_main_v36_apply, val_main_v39_apply, val_main_v37_apply, val_main_v22_apply]
  have ei : val_main_indices (F := Ideal) x (idx_main_v36 (idx_main_v38 (ix5 b H p r n))) = _ :=
    (congrArg (val_main_indices (F := Ideal) x) (funext fun a => Fin.ext (by match a with | ⟨0, _⟩ => rfl | ⟨1, _⟩ => rfl | ⟨2, _⟩ => rfl | ⟨3, _⟩ => rfl))).trans
      (topK_at (val_main_v35 (F := Ideal) x) _ b H p r)
  rw [ei]
  generalize sortedFrom _ _ = k
  exact (WordCmp.cmpi_eq_ofNat_eq_one_iff (by omega) (by show n.val < _; omega)).trans Fin.ext_iff.symm

theorem lift_top (y : IVec S4x16x2048x3x8 1) (b : Fin 4) (H : Fin 16) (p : Fin 2048) (n : Fin 8) (h : S4x16x2048x3x8.Reduces [3] S4x16x2048x8) (r : Fin 3) :
    (y ∘ h.lift (ix4 b H p n)) r = y (ix5 b H p r n) :=
  congrArg y (funext fun a => Fin.ext (by match a with | ⟨0, _⟩ => rfl | ⟨1, _⟩ => rfl | ⟨2, _⟩ => rfl | ⟨3, _⟩ => rfl | ⟨4, _⟩ => rfl))

/-- Block `n` is one of the top three. -/
theorem v41_at (b : Fin 4) (H : Fin 16) (p : Fin 2048) (n : Fin 8) :
    val_main_v41 (F := Ideal) x (ix4 b H p n) = 1#1 ↔
      ∃ r : Fin 3, sortedFrom (fun i j : Fin 8 => decide (val_main_v35 (F := Ideal) x (ix4 b H p j) < val_main_v35 (F := Ideal) x (ix4 b H p i)))
        (r.castLE (by omega)) = n := by
  unfold val_main_v41
  rw [Host.reduce_eq_fold_single IntOp.ori _ _ reducesTo_S4x16x2048x3x8_S4x16x2048x8_d3 (by decide), val_main_c_4_apply, Routing.fold_ori]
  simp only [Finset.mem_univ, true_and]
  refine Iff.trans ?_ (exists_congr fun r : Fin 3 => v40_at b H p r n)
  exact exists_congr fun r : Fin 3 => iff_of_eq (congrArg (· = 1#1) (lift_top _ b H p n _ r))

theorem coe_mul_lt {c : ℝ} (hc : 0 < c) {a b : EReal} (ha : ∃ r : ℝ, a = r) (hb : ∃ r : ℝ, b = r) : (c : EReal) * a < (c : EReal) * b ↔ a < b := by
  obtain ⟨a, rfl⟩ := ha
  obtain ⟨b, rfl⟩ := hb
  rw [← EReal.coe_mul, ← EReal.coe_mul, EReal.coe_lt_coe_iff, EReal.coe_lt_coe_iff]
  exact mul_lt_mul_iff_right₀ hc

theorem coe_mul_eq {c : ℝ} (hc : 0 < c) {a b : EReal} (ha : ∃ r : ℝ, a = r) (hb : ∃ r : ℝ, b = r) : (c : EReal) * a = (c : EReal) * b ↔ a = b := by
  obtain ⟨a, rfl⟩ := ha
  obtain ⟨b, rfl⟩ := hb
  rw [← EReal.coe_mul, ← EReal.coe_mul, EReal.coe_eq_coe_iff, EReal.coe_eq_coe_iff]
  exact mul_right_inj' hc.ne'

theorem real_sum {n : ℕ} {f : Fin n → EReal} (hf : ∀ i, ∃ r : ℝ, f i = r) : ∃ r : ℝ, ∑ i, f i = r := by
  choose u hu using hf
  have e : ∀ s : Finset (Fin n), ∃ r : ℝ, ∑ i ∈ s, f i = r := by
    intro s
    induction s using Finset.induction_on with
    | empty => exact ⟨0, by simp⟩
    | insert a s ha ih =>
      obtain ⟨r, hr⟩ := ih
      exact ⟨u a + r, by rw [Finset.sum_insert ha, hu, hr, EReal.coe_add]⟩
  exact e Finset.univ

theorem real_mul {a b : EReal} (ha : ∃ r : ℝ, a = r) (hb : ∃ r : ℝ, b = r) : ∃ r : ℝ, a * b = r := by
  obtain ⟨a, rfl⟩ := ha
  obtain ⟨b, rfl⟩ := hb
  exact ⟨a * b, (EReal.coe_mul a b).symm⟩

theorem real_gate (hx : RealQK x) (b : Fin 4) (H : Fin 16) (n p : ℕ) : ∃ r : ℝ, gateOf x b H n p = r :=
  real_sum fun d => real_mul (Gate.km_real (real_key hx b H) _ _) (real_query hx b H _ _)

/-- The blocks that the top three choose among those of the past. -/
theorem v44_at (hx : RealQK x) (b : Fin 4) (H : Fin 16) (p : Fin 2048) (n : Fin 8) :
    val_main_v44 (F := Ideal) x (ix4 b H p n) = 1#1 ↔ n.val < p.val / 256 ∧ Gate.rk (gateOf x b H) n.val p.val < 3 := by
  classical
  have hp : val_main_v43 (F := Ideal) (ix4 b H p n) = 1#1 ↔ n.val < p.val / 256 := by
    rw [val_main_v43_apply, val_main_v42_apply]
    exact (iff_of_eq (congrArg (fun i => val_main_v27 (F := Ideal) i = 1#1) (funext fun a => Fin.ext (by match a with | ⟨0, _⟩ => rfl | ⟨1, _⟩ => rfl)))).trans (v27_at p n)
  rw [val_main_v44_apply]
  refine (Gate.and_bit _ _).trans ?_
  rw [hp, v41_at, exists_sortedFrom_gt_iff (fun j : Fin 8 => val_main_v35 (F := Ideal) x (ix4 b H p j)) (by omega) n, and_comm]
  refine and_congr_right fun hn => iff_of_eq (congrArg (· < 3) ?_)
  unfold Gate.rk
  congr 1
  ext j
  simp only [Finset.mem_filter, Finset.mem_univ, true_and, v35_at hx, if_pos hn]
  unfold Gate.Before
  by_cases hj : j.val < p.val / 256
  · rw [if_pos hj, coe_mul_lt qscale_pos (real_gate hx b H _ _) (real_gate hx b H _ _), coe_mul_eq qscale_pos (real_gate hx b H _ _) (real_gate hx b H _ _)]
    exact (and_iff_left hj).symm
  · rw [if_neg hj]
    obtain ⟨r, hr⟩ := real_mul ⟨qscale, rfl⟩ (real_gate hx b H n.val p.val)
    rw [hr]
    simp [hj]

/-! ## The keys that a query sees -/

theorem v47_at (p j : Fin 2048) : val_main_v47 (F := Ideal) (ix2 p j) = BitVec.ofNat 32 (j.val / 256) := by
  rw [val_main_v47_apply, val_main_v45_apply]
  exact (congrArg (val_main_v21 (F := Ideal)) (funext fun a => Fin.ext (by match a with | ⟨0, _⟩ => rfl))).trans (div_word j)

theorem v48_at (p j : Fin 2048) : val_main_v48 (F := Ideal) (ix2 p j) = BitVec.ofNat 32 (p.val / 256) := by
  rw [val_main_v48_apply, val_main_v46_apply]
  exact (congrArg (val_main_v21 (F := Ideal)) (funext fun a => Fin.ext (by match a with | ⟨0, _⟩ => rfl))).trans (div_word p)

/-- The keys of the query's own block that do not come after it. -/
theorem v55_at (p j : Fin 2048) : val_main_v55 (F := Ideal) (ix2 p j) = 1#1 ↔ j.val / 256 = p.val / 256 ∧ j.val ≤ p.val := by
  rw [val_main_v55_apply]
  refine (Gate.and_bit _ _).trans (and_congr ?_ ?_)
  · rw [val_main_v49_apply, v47_at, v48_at]
    exact WordCmp.cmpi_eq_ofNat_eq_one_iff (by omega) (by omega)
  · rw [val_main_v54_apply, val_main_v52_apply, val_main_v50_apply, val_main_v53_apply, val_main_v51_apply, val_main_v19_apply, val_main_v19_apply]
    exact WordCmp.cmpi_sle_ofNat_eq_one_iff (by show j.val < _; omega) (by show p.val < _; omega)

/-- The keys that a query sees. -/
theorem v61_at (hx : RealQK x) (b : Fin 4) (H : Fin 16) (p j : Fin 2048) :
    val_main_v61 (F := Ideal) x (ix4 b H p j) = 1#1 ↔ See (gateOf x b H) p.val j.val := by
  rw [val_main_v61_apply]
  refine (Gate.or_bit _ _).trans (or_congr ?_ ?_)
  · rw [val_main_v58_apply, val_main_v57_apply, val_main_v56_apply]
    refine Iff.trans (iff_of_eq (congrArg (fun i => val_main_v44 (F := Ideal) x i = 1#1) (a₂ := ix4 b H p (⟨j.val / 256, by omega⟩ : Fin 8)) (funext fun a => Fin.ext ?_)))
      (v44_at hx b H p _)
    match a with
    | ⟨0, _⟩ => simp [ix4]; omega
    | ⟨1, _⟩ => simp [ix4]; omega
    | ⟨2, _⟩ => simp [ix4]; omega
    | ⟨3, _⟩ => simp [ix4]; omega
  · rw [val_main_v60_apply, val_main_v59_apply]
    exact (iff_of_eq (congrArg (fun i => val_main_v55 (F := Ideal) i = 1#1) (funext fun a => Fin.ext (by match a with | ⟨0, _⟩ => rfl | ⟨1, _⟩ => rfl)))).trans (v55_at p j)

end Cert.Moba

end
-- ==== Proof.RefValue.lean ====
/-
  The reference's result, entry by entry, as a function of the projected rows.
-/
module

public import proofs.«01_k».proof.Proof.RefGate

@[expose] public section

noncomputable section

namespace Cert.Moba

open Idealize.ShloMosaic Idealize.ShloMosaic.TcCoe Idealize.SL.Sem
open Cert.ReferenceIdeal Cert.ReferenceIdeal.Gen Cert.ReferenceIdeal.Read

variable {x : Rows}

/-- Logarithm of two. -/
abbrev ln2 : EReal := ((Real.log 2 : ℝ) : EReal)

theorem ln2_pos : 0 < Real.log 2 := Real.log_pos (by norm_num)

/-- The score of a head. -/
abbrev scoreOf (x : Rows) (b : Fin 4) (H : Fin 16) : ℕ → ℕ → EReal := score (keyOf x b H) (queryOf x b H) (gateOf x b H)

/-- The largest score of a head. -/
abbrev bestOf (x : Rows) (b : Fin 4) (H : Fin 16) : ℕ → EReal := best (keyOf x b H) (queryOf x b H) (gateOf x b H)

/-- `1 / √128`. -/
theorem v64_at (i : S_.Idx) : val_main_v64 (F := Ideal) i = (((Real.sqrt 128)⁻¹ : ℝ) : EReal) := by
  rw [val_main_v64_apply, val_main_v63_apply, val_main_cst_5_apply, val_main_cst_6_apply, f32_128, Gate.f32_one]
  have e1 : Ideal.sqrt ((128 : ℝ) : EReal) = ((Real.sqrt 128 : ℝ) : EReal) := if_neg (by norm_num)
  show Ideal.div 1 (Ideal.sqrt ((128 : ℝ) : EReal)) = _
  rw [e1, Ideal.div, if_neg (by exact_mod_cast (Real.sqrt_pos.mpr (by norm_num : (0 : ℝ) < 128)).ne'), one_mul, EReal.coe_inv]

/-- The products of queries and keys, as the reference scales them. -/
theorem v66_at (hx : RealQK x) (b : Fin 4) (H : Fin 16) (p j : Fin 2048) :
    val_main_v66 (F := Ideal) x (ix4 b H p j) = ln2 * sc (keyOf x b H) (queryOf x b H) j.val p.val := by
  rw [val_main_v66_apply, val_main_v65_apply, v64_at, val_main_v62_apply]
  have e : ∀ k : Fin 128, val_main_v11 (F := Ideal) x (lidx_main_v62 (ix4 b H p j) k) * val_main_v14 (F := Ideal) x (ridx_main_v62 (ix4 b H p j) k)
      = queryOf x b H p.val k.val * ((qscale : ℝ) : EReal) * keyOf x b H j.val k.val := by
    intro k
    refine congrArg₂ (· * ·) ?_ ?_
    · refine (congrArg (val_main_v11 (F := Ideal) x) (a₂ := ix4 b H p k) (funext fun a => Fin.ext ?_)).trans (v11_at b H p k)
      match a with
      | ⟨0, _⟩ => rfl
      | ⟨1, _⟩ => rfl
      | ⟨2, _⟩ => rfl
      | ⟨3, _⟩ => rfl
    · refine (congrArg (val_main_v14 (F := Ideal) x) (a₂ := ix4 b H j k) (funext fun a => Fin.ext ?_)).trans ((v14_at x b H j k).trans (ent_at _ j k).symm)
      match a with
      | ⟨0, _⟩ => rfl
      | ⟨1, _⟩ => rfl
      | ⟨2, _⟩ => rfl
      | ⟨3, _⟩ => rfl
  rw [Finset.sum_congr rfl fun k _ => e k, sum_scaled (fun k => real_query hx b H _ _) (fun k => real_key hx b H _ _) qscale]
  show ((qscale : ℝ) : EReal) * sc (keyOf x b H) (queryOf x b H) j.val p.val * (((Real.sqrt 128)⁻¹ : ℝ) : EReal) = _
  obtain ⟨r, hr⟩ := sc_real (scores_at hx b H) j.val p.val
  rw [hr, ← EReal.coe_mul, ← EReal.coe_mul, ← EReal.coe_mul, qscale]
  refine congrArg _ ?_
  have h : Real.sqrt 128 ≠ 0 := (Real.sqrt_pos.mpr (by norm_num)).ne'
  field_simp

/-- The scores, minus infinity at the keys that a query does not see. -/
theorem v68_at (hx : RealQK x) (b : Fin 4) (H : Fin 16) (p j : Fin 2048) :
    val_main_v68 (F := Ideal) x (ix4 b H p j) = ln2 * scoreOf x b H p.val j.val := by
  classical
  rw [val_main_v68_apply, v66_at hx, val_main_v67_apply, val_main_cst_7_apply, f32_ninf]
  unfold scoreOf score
  by_cases h : See (gateOf x b H) p.val j.val
  · rw [if_pos h, (v61_at hx b H p j).mpr h]; rfl
  · rw [if_neg h, eq_zero_of_ne_one_bit (fun h' => h ((v61_at hx b H p j).mp h')), EReal.coe_mul_bot_of_pos ln2_pos]; rfl

theorem fold_max {n : ℕ} (f : Fin n → EReal) : (Finset.univ : Finset (Fin n)).fold (FloatOps.maximumf (F := Ideal) (φ := .f32)) ⊥ f = Finset.univ.sup f := by
  induction (Finset.univ : Finset (Fin n)) using Finset.induction_on with
  | empty => rfl
  | insert a s ha ih => rw [Finset.fold_insert ha, Finset.sup_insert, ih]; rfl

theorem mul_sup {n : ℕ} (f : Fin n → EReal) : Finset.univ.sup (fun j => ln2 * f j) = ln2 * Finset.univ.sup f := by
  induction (Finset.univ : Finset (Fin n)) using Finset.induction_on with
  | empty => exact (EReal.coe_mul_bot_of_pos ln2_pos).symm
  | insert a s ha ih =>
    rw [Finset.sup_insert, Finset.sup_insert, ih]
    have hm : Monotone fun y : EReal => ln2 * y := fun _ _ h => mul_le_mul_of_nonneg_left h (EReal.coe_nonneg.mpr ln2_pos.le)
    exact (hm.map_sup _ _).symm

theorem lift_key (y : FVec Ideal S4x16x2048x2048 .f32) (b : Fin 4) (H : Fin 16) (p : Fin 2048) (h : S4x16x2048x2048.Reduces [3] S4x16x2048) (j : Fin 2048) :
    (y ∘ h.lift (ix3 b H p)) j = y (ix4 b H p j) :=
  congrArg y (funext fun a => Fin.ext (by match a with | ⟨0, _⟩ => rfl | ⟨1, _⟩ => rfl | ⟨2, _⟩ => rfl | ⟨3, _⟩ => rfl))

/-- The largest score of a query. -/
theorem v71_at (hx : RealQK x) (b : Fin 4) (H : Fin 16) (p : Fin 2048) :
    val_main_v71 (F := Ideal) x (ix3 b H p) = ln2 * bestOf x b H p.val := by
  have e : val_main_v69 (F := Ideal) x (ix3 b H p) = ln2 * bestOf x b H p.val := by
    unfold val_main_v69
    rw [Host.reduce_eq_fold_single FloatOps.maximumf _ _ reducesTo_S4x16x2048x2048_S4x16x2048_d3 (by decide), val_main_cst_8_apply, f32_ninf]
    refine (fold_max _).trans (Eq.trans ?_ (mul_sup fun j : Fin 2048 => scoreOf x b H p.val j.val))
    exact congrArg (Finset.univ.sup (α := EReal)) (funext fun j : Fin 2048 => (lift_key _ b H p _ j).trans (v68_at hx b H p j))
  rw [val_main_v71_apply, e, val_main_v70_apply, val_main_cst_9_apply, f32_ninf]
  exact max_eq_right bot_le

/-- The exponentials. -/
theorem v75_at (hx : RealQK x) (b : Fin 4) (H : Fin 16) (p j : Fin 2048) :
    val_main_v75 (F := Ideal) x (ix4 b H p j) = Ideal.exp (ln2 * scoreOf x b H p.val j.val - ln2 * bestOf x b H p.val) := by
  rw [val_main_v75_apply, val_main_v74_apply, v68_at hx, val_main_v73_apply, val_main_v72_apply]
  have e : val_main_v71 (F := Ideal) x (idx_main_v72 (idx_main_v73 (ix4 b H p j))) = ln2 * bestOf x b H p.val :=
    (congrArg (val_main_v71 (F := Ideal) x) (funext fun a => Fin.ext (by match a with | ⟨0, _⟩ => rfl | ⟨1, _⟩ => rfl | ⟨2, _⟩ => rfl))).trans (v71_at hx b H p)
  rw [e]
  rfl

/-- The softmax. -/
theorem v79_at (hx : RealQK x) (b : Fin 4) (H : Fin 16) (p j : Fin 2048) :
    val_main_v79 (F := Ideal) x (ix4 b H p j)
      = Ideal.div (Ideal.exp (ln2 * scoreOf x b H p.val j.val - ln2 * bestOf x b H p.val))
          (∑ k : Fin 2048, Ideal.exp (ln2 * scoreOf x b H p.val k.val - ln2 * bestOf x b H p.val)) := by
  rw [val_main_v79_apply, v75_at hx, val_main_v78_apply, val_main_v77_apply, val_main_v76_apply, val_main_cst_10_apply, Gate.f32_zero, zero_add]
  refine congrArg (Ideal.div _) (Finset.sum_congr rfl fun k _ => ?_)
  exact (congrArg (val_main_v75 (F := Ideal) x) (funext fun a => Fin.ext (by match a with | ⟨0, _⟩ => rfl | ⟨1, _⟩ => rfl | ⟨2, _⟩ => rfl | ⟨3, _⟩ => rfl))).trans (v75_at hx b H p k)

/-- The attention of a head. -/
theorem v80_at (hx : RealQK x) (b : Fin 4) (H : Fin 16) (p : Fin 2048) (d : Fin 128) :
    val_main_v80 (F := Ideal) x (ix4 b H p d)
      = attn (keyOf x b H) (queryOf x b H) (gateOf x b H) (withOnes (col x 6144 (by omega) b H)) p.val d.val := by
  rw [val_main_v80_apply]
  unfold attn
  refine Finset.sum_congr rfl fun k _ => congrArg₂ (· * ·) ?_ ?_
  · exact (congrArg (val_main_v79 (F := Ideal) x) (funext fun a => Fin.ext (by match a with | ⟨0, _⟩ => rfl | ⟨1, _⟩ => rfl | ⟨2, _⟩ => rfl | ⟨3, _⟩ => rfl))).trans (v79_at hx b H p k)
  · unfold withOnes
    rw [if_pos d.2]
    exact (congrArg (val_main_v17 (F := Ideal) x) (a₂ := ix4 b H k d) (funext fun a => Fin.ext (by match a with | ⟨0, _⟩ => rfl | ⟨1, _⟩ => rfl | ⟨2, _⟩ => rfl | ⟨3, _⟩ => rfl))).trans
      ((v17_at x b H k d).trans (ent_at _ k d).symm)

/-- The gated attention of a batch, its heads side by side. -/
theorem v90_at (hx : RealQK x) (b : Fin 4) (p l : Fin 2048) :
    val_main_v90 (F := Ideal) x (ix3 b p l) = rowsVal x b ⟨l.val / 128, by omega⟩ p.val (l.val % 128) := by
  have e82 : val_main_v82 (F := Ideal) x (ix3 b p l)
      = attn (keyOf x b ⟨l.val / 128, by omega⟩) (queryOf x b ⟨l.val / 128, by omega⟩) (gateOf x b ⟨l.val / 128, by omega⟩)
          (withOnes (col x 6144 (by omega) b ⟨l.val / 128, by omega⟩)) p.val (l.val % 128) := by
    rw [val_main_v82_apply, val_main_v81_apply]
    refine (congrArg (val_main_v80 (F := Ideal) x) (a₂ := ix4 b (⟨l.val / 128, by omega⟩ : Fin 16) p (⟨l.val % 128, by omega⟩ : Fin 128)) (funext fun a => Fin.ext ?_)).trans
      (v80_at hx _ _ _ _)
    match a with
    | ⟨0, _⟩ => simp [ix3, ix4]; omega
    | ⟨1, _⟩ => simp [ix3, ix4]; omega
    | ⟨2, _⟩ => simp [ix3, ix4]; omega
    | ⟨3, _⟩ => simp [ix3, ix4]; omega
  rw [val_main_v90_apply, e82, val_main_v89_apply, val_main_v88_apply, val_main_v87_apply, val_main_v86_apply, val_main_v85_apply,
    val_main_v84_apply, val_main_v83_apply, v18_at, val_main_cst_11_apply, val_main_cst_12_apply, Gate.f32_one]
  unfold rowsVal headVal
  rw [show ent (col x 8192 (by omega) b ⟨l.val / 128, by omega⟩) p.val (l.val % 128) = col x 8192 (by omega) b ⟨l.val / 128, by omega⟩ (ix2 p ⟨l.val % 128, by omega⟩) from
    ent_at _ p (⟨l.val % 128, by omega⟩ : Fin 128)]
  rfl

/-- The reference's result: chunk `a`, batch `b`, position `s` of the chunk, column `L`. -/
theorem v93_at (hx : RealQK x) (a : Fin 128) (b : Fin 4) (s : Fin 16) (L : Fin 2048) :
    val_main_v93 (F := Ideal) x (ix4 a b s L) = rowsVal x b ⟨L.val / 128, by omega⟩ (16 * a.val + s.val) (L.val % 128) := by
  rw [val_main_v93_apply, val_main_v92_apply, val_main_v91_apply]
  refine (congrArg (val_main_v90 (F := Ideal) x) (a₂ := ix3 b (⟨16 * a.val + s.val, by omega⟩ : Fin 2048) L) (funext fun k => Fin.ext ?_)).trans
    (v90_at hx _ _ _)
  match k with
  | ⟨0, _⟩ => simp [ix3, ix4]; omega
  | ⟨1, _⟩ => simp [ix3, ix4]; omega
  | ⟨2, _⟩ => simp [ix3, ix4]

end Cert.Moba

end
-- ==== Proof.Attention.lean ====
/-
  The claims about the attention: the frames, the idealization, and that kernel and reference compute the same.
-/
module

public import proofs.«01_k».proof.Defs
public import proofs.«01_k».proof.Proof.RefValue
public import proofs.«01_k».proof.Proof.Gen.Kernel.Frame

@[expose] public section

noncomputable section

namespace Cert.Moba

open Idealize.ShloMosaic Idealize.ShloMosaic.TcCoe Idealize.SL.Sem

/-- The side conditions of the precondition. -/
theorem preFacts : Cert.Pre_finite_qk.Facts := ⟨by decide, by decide⟩

attribute [local instance] preFacts

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_pre : Cert.quiescent_KernelIdeal_pre_finite_qk := fun m ρ _ => Cert.KernelIdeal.Gen.frame m ρ

/-- The reference writes no argument and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_finite_qk := fun m ρ _ => frame_referenceIdeal m ρ trivial

theorem preserves : Cert.preserves_Kernel_KernelIdeal :=
  IdealRules.named_const.statement Cert.KernelIdeal.κ "mask" .f32 0xF149F2CA#32 ⊥ rfl

/-- The kernel's result array is the reference's result on the same rows. -/
theorem array_eq (m : (ℓ : Loc Cert.KernelIdeal.nD Cert.KernelIdeal.τ Cert.KernelIdeal.sig) → Buf (Elt Ideal) ℓ) (c : Dev Cert.KernelIdeal.nD)
    (hr : RealQK (rowsOfMem m c)) :
    ((Cert.KernelIdeal.Gen.dats m 0 c).arrAt 4 Cert.KernelIdeal.cfg0.N : FVec Ideal ⟨4, ![128, 4, 16, 2048]⟩ .bf16)
      = Cert.ReferenceIdeal.Read.val_main_v93 (F := Ideal) (rowsOfMem m c) := by
  funext i
  obtain ⟨a, b, s, l, rfl⟩ : ∃ (a : Fin 128) (b : Fin 4) (s : Fin 16) (l : Fin 2048), i = ix4 a b s l :=
    ⟨i 0, i 1, i 2, i 3, by funext k; match k with | 0 => rfl | 1 => rfl | 2 => rfl | 3 => rfl⟩
  exact (array_apply m c hr a b s l).trans (v93_at hr a b s l).symm

/-- Kernel and reference, on rows whose queries and keys are finite, end with the same attention. -/
theorem algebraic : Cert.algebraic_KernelIdeal_ReferenceIdeal_pre_finite_qk := by
  intro m ρ m' ρ' hpre hagree
  refine ⟨fun c => (Cert.KernelIdeal.Gen.dats m 0 c).arrAt 4 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v93_eq, hagree c]
  exact (array_eq m c (realQK_of_pre (hpre c))).symm

end Cert.Moba

end
-- ==== Proof.Rotary.lean ====
/-
  The rotary embedding of one head of a block of rows, as the projection kernel writes it: the rows times a table of
  cosines, plus the rows turned by sixteen lanes times a table of sines, times a scale. The block's rows come in chunks of
  sixteen positions, the four batches in turn, and the tables have one row per position.
-/
module

public import proofs.«01_k».proof.Proof.Window
public import Idealize.ShloMosaic.Lib.KernelVsHost

@[expose] public section

noncomputable section

namespace Cert.Proj

open Idealize.ShloMosaic Idealize.ShloMosaic.TcCoe
open Cert.Moba (Rep)

abbrev B2048x128 : Shape := ⟨2, ![2048, 128]⟩
abbrev B512x128 : Shape := ⟨2, ![512, 128]⟩
abbrev B32x1x16x128 : Shape := ⟨4, ![32, 1, 16, 128]⟩
abbrev B32x4x16x128 : Shape := ⟨4, ![32, 4, 16, 128]⟩

theorem iota_lanes : B2048x128.Iotas .tc 32 [1] := by decide
theorem turns : B2048x128.Rotates 1 none := by decide
theorem split_rows : B2048x128.ShapeCasts B32x4x16x128 := by decide
theorem join_rows : B32x4x16x128.ShapeCasts B2048x128 := by decide
theorem split_table : B512x128.ShapeCasts B32x1x16x128 := by decide
theorem same_table : B512x128.ShapeCasts B512x128 := by decide
theorem per_batch : B32x1x16x128.Broadcasts B32x4x16x128 := by decide

/-- A table, one row per position, as chunks of sixteen positions. -/
def table (x : FVec Ideal B512x128 .f32) : FVec Ideal B32x1x16x128 .f32 :=
  shapeCast B32x1x16x128 (shapeCast B512x128 x same_table) split_table

/-- The first sixteen lanes. -/
def low : IVec B2048x128 1 := cmpi .slt (iota .tc B2048x128 32 [1] iota_lanes) (broadcast B2048x128 16#32)

/-- Every lane's partner: sixteen lanes up for the first sixteen lanes, sixteen lanes down for the others. -/
def partner (t : FVec Ideal B2048x128 .f32) : FVec Ideal B2048x128 .f32 :=
  select low (dynamicRotate 1 112#32 none t turns) (dynamicRotate 1 16#32 none t turns)

/-- One head of the block, embedded and scaled. -/
def rot (t : FVec Ideal B2048x128 .f32) (x y : FVec Ideal B512x128 .f32) (μ : Ideal .f32) : FVec Ideal B2048x128 .bf16 :=
  truncf .bf16 (shapeCast B2048x128 (mulf (addf (mulf (shapeCast B32x4x16x128 t split_rows) (broadcastTo B32x4x16x128 (table x) per_batch))
    (mulf (shapeCast B32x4x16x128 (partner t) split_rows) (broadcastTo B32x4x16x128 (table y) per_batch)))
    (broadcast B32x4x16x128 μ)) join_rows) (by decide)

theorem low_iff : ∀ j : Fin 128, IntOp.cmpi .slt (BitVec.ofNat 32 j.val) 16#32 = 1#1 ↔ j.val < 16 := by decide +kernel

theorem low_apply (i : Fin 2048) (j : Fin 128) : low (ix2 i j) = 1#1 ↔ j.val < 16 := by
  refine Iff.trans ?_ (low_iff j)
  have e : low (ix2 i j) = IntOp.cmpi .slt (BitVec.ofNat 32 (0 * 128 + j.val)) 16#32 := rfl
  rw [e, Nat.zero_mul, Nat.zero_add]

theorem partner_rep {t : FVec Ideal B2048x128 .f32} {f : ℕ → ℕ → EReal} (h : Rep t f) :
    Rep (partner t) fun i j => if j < 16 then f i (j + 16) else f i ((j + 112) % 128) := by
  have up : Rep (dynamicRotate 1 112#32 none t turns) fun i j => f i ((j + 16) % 128) := by
    intro i j
    refine (dynamicRotate_apply (1 : Fin 2) 112#32 t turns (ix2 i j) (ix2 i ⟨(j.val + 16) % 128, by omega⟩) fun b => ?_).trans (h _ _)
    match b with
    | 0 => rfl
    | 1 => show (j.val + 16) % 128 = (j.val + 128 - 112) % 128; rw [Nat.add_sub_assoc (by omega)]
  have down : Rep (dynamicRotate 1 16#32 none t turns) fun i j => f i ((j + 112) % 128) := by
    intro i j
    refine (dynamicRotate_apply (1 : Fin 2) 16#32 t turns (ix2 i j) (ix2 i ⟨(j.val + 112) % 128, by omega⟩) fun b => ?_).trans (h _ _)
    match b with
    | 0 => rfl
    | 1 => show (j.val + 112) % 128 = (j.val + 128 - 16) % 128; rw [Nat.add_sub_assoc (by omega)]
  refine (Rep.select (p := fun _ j => j < 16) low_apply up down).congr ?_
  intro i _ j hj
  split_ifs
  · rw [Nat.mod_eq_of_lt (by omega)]
  · rfl

theorem table_apply {x : FVec Ideal B512x128 .f32} {f : ℕ → ℕ → EReal} (h : Rep x f) (a : Fin 32) (s : Fin 16) (l : Fin 128) :
    table x (ix4 a (0 : Fin 1) s l) = f (16 * a.val + s.val) l.val := by
  refine Eq.trans ?_ (h.shapeCast same_table ⟨16 * a.val + s.val, by omega⟩ l)
  show shapeCast B512x128 x same_table (Shape.reshapeEquiv _ (ix4 a (0 : Fin 1) s l)) = _
  rw [Shape.reshapeEquiv_eq_of_vals _ (ix4 a (0 : Fin 1) s l) (ix2 (⟨16 * a.val + s.val, by omega⟩ : Fin 512) l) _ _
      (rowMajor_val2 _ _ rfl) (rowMajor_val4 _ _ _ _ rfl rfl rfl) (by simp; omega)]

theorem split_apply {x : FVec Ideal B2048x128 .f32} {f : ℕ → ℕ → EReal} (h : Rep x f) (a : Fin 32) (b : Fin 4) (s : Fin 16) (l : Fin 128) :
    shapeCast B32x4x16x128 x split_rows (ix4 a b s l) = f ((a.val * 4 + b.val) * 16 + s.val) l.val := by
  refine Eq.trans ?_ (h ⟨(a.val * 4 + b.val) * 16 + s.val, by omega⟩ l)
  show x (Shape.reshapeEquiv _ (ix4 a b s l)) = _
  rw [Shape.reshapeEquiv_eq_of_vals _ (ix4 a b s l) (ix2 (⟨(a.val * 4 + b.val) * 16 + s.val, by omega⟩ : Fin 2048) l) _ _
      (rowMajor_val2 _ _ rfl) (rowMajor_val4 _ _ _ _ rfl rfl rfl) (by simp; omega)]

theorem spread_apply {x : FVec Ideal B512x128 .f32} {f : ℕ → ℕ → EReal} (h : Rep x f) (a : Fin 32) (b : Fin 4) (s : Fin 16) (l : Fin 128) :
    broadcastTo B32x4x16x128 (table x) per_batch (ix4 a b s l) = f (16 * a.val + s.val) l.val := by
  refine Eq.trans ?_ (table_apply h a s l)
  pointwise

/-- The embedded head, entry by entry. -/
theorem rot_rep {t : FVec Ideal B2048x128 .f32} {x y : FVec Ideal B512x128 .f32} {f g k : ℕ → ℕ → EReal} (μ : Ideal .f32)
    (ht : Rep t f) (hx : Rep x g) (hy : Rep y k) :
    Rep (rot t x y μ) fun i j => (f i j * g (i / 64 * 16 + i % 16) j
      + (if j < 16 then f i (j + 16) else f i ((j + 112) % 128)) * k (i / 64 * 16 + i % 16) j) * (μ : EReal) := by
  intro i j
  have e1 := split_apply ht ⟨i.val / 64, by omega⟩ ⟨i.val / 16 % 4, by omega⟩ ⟨i.val % 16, by omega⟩ j
  have e2 := split_apply (partner_rep ht) ⟨i.val / 64, by omega⟩ ⟨i.val / 16 % 4, by omega⟩ ⟨i.val % 16, by omega⟩ j
  have e3 := spread_apply hx ⟨i.val / 64, by omega⟩ ⟨i.val / 16 % 4, by omega⟩ ⟨i.val % 16, by omega⟩ j
  have e4 := spread_apply hy ⟨i.val / 64, by omega⟩ ⟨i.val / 16 % 4, by omega⟩ ⟨i.val % 16, by omega⟩ j
  have hi : (i.val / 64 * 4 + i.val / 16 % 4) * 16 + i.val % 16 = i.val := by omega
  have hp : 16 * (i.val / 64) + i.val % 16 = i.val / 64 * 16 + i.val % 16 := by omega
  simp only [hi] at e1 e2
  simp only [hp] at e3 e4
  unfold rot
  generalize hz : (mulf (addf _ _) _ : FVec Ideal B32x4x16x128 .f32) = z
  show z (Shape.reshapeEquiv _ (ix2 i j)) = _
  rw [Shape.reshapeEquiv_eq_of_vals _ (ix2 i j) (ix4 (⟨i.val / 64, by omega⟩ : Fin 32) (⟨i.val / 16 % 4, by omega⟩ : Fin 4) (⟨i.val % 16, by omega⟩ : Fin 16) j) _ _
      (rowMajor_val4 _ _ _ _ rfl rfl rfl) (rowMajor_val2 _ _ rfl) (by simp; omega), ← hz]
  exact congrArg (fun v : EReal => v * (μ : EReal)) (congrArg₂ (fun u v : EReal => u + v) (congrArg₂ (fun u v : EReal => u * v) e1 e3)
    (congrArg₂ (fun u v : EReal => u * v) e2 e4))

end Cert.Proj
-- ==== Proof.ProjBlock.lean ====
/-
  The projection kernel's output block, entry by entry, in the four cases of a grid point: the block of weights newly staged
  or kept, and the columns embedded or not.
-/
module

public import proofs.«01_k».proof.Proof.Rotary
public import proofs.«01_k».proof.Proof.Gen.Kernel2Ideal.Value
public import Idealize.ShloMosaic.Lib.Pipeline.ValueKit

@[expose] public section

set_option maxRecDepth 16384

noncomputable section

namespace Cert.Proj

open Idealize.ShloMosaic Idealize.ShloMosaic.TcCoe Idealize.SL.Sem
open Cert.Moba (Rep canon_on canon_off Rep.load)
open Cert.Kernel2Ideal Cert.Kernel2Ideal.Gen

/-- The product of the rows and the weights. -/
def prod (f g : ℕ → ℕ → EReal) (i j : ℕ) : EReal := ∑ d : Fin 2048, f i d * g d j

/-- One head of the products, embedded by the tables of cosines and sines, and scaled. -/
def rotVal (f : ℕ → ℕ → EReal) (C S : ℕ → ℕ → EReal) (μ : EReal) (i j : ℕ) : EReal :=
  (f i j * C (i / 64 * 16 + i % 16) j
    + (if j < 16 then f i (j + 16) else f i ((j + 112) % 128)) * S (i / 64 * 16 + i % 16) j) * μ

/-- A load of a rectangle of a whole buffer of two dimensions. -/
theorem load_rep {A W a w o p : ℕ} {e : EltTy} (arg : Memref sig .tc .vmem (⟨2, ![A, W]⟩ : Shape) e) (harg : arg.IsWhole)
    {x : (⟨2, ![A, W]⟩ : Shape).Idx → Elt Ideal e} {f : ℕ → ℕ → Elt Ideal e} (h : Rep x f) {inb} :
    Rep (View.readAt (Elt Ideal) arg.view (Rect.unit (s := (⟨2, ![A, W]⟩ : Shape)) ![o, p] (⟨2, ![a, w]⟩ : Shape).size inb).toLoadRect (harg.unread x)
      : (⟨2, ![a, w]⟩ : Shape).Idx → Elt Ideal e) fun i j => f (o + i) (p + j) := by
  intro i j
  rw [View.readAt_eq_ld, Memref.IsWhole.read_unread]
  have h0 : o + a ≤ A := inb 0
  have h1 : p + w ≤ W := inb 1
  refine Eq.trans (congrArg x ?_) (h ⟨o + i.val, by omega⟩ ⟨p + j.val, by omega⟩)
  funext k
  apply Fin.ext
  match k with
  | 0 => show o + 1 * i.val = o + i.val; omega
  | 1 => show p + 1 * j.val = p + j.val; omega

theorem load_rep0 {A W : ℕ} {e : EltTy} (arg : Memref sig .tc .vmem (⟨2, ![A, W]⟩ : Shape) e) (harg : arg.IsWhole)
    {x : (⟨2, ![A, W]⟩ : Shape).Idx → Elt Ideal e} {f : ℕ → ℕ → Elt Ideal e} (h : Rep x f) {inb} :
    Rep (View.readAt (Elt Ideal) arg.view (Rect.unit (s := (⟨2, ![A, W]⟩ : Shape)) ![0, 0] (⟨2, ![A, W]⟩ : Shape).size inb).toLoadRect (harg.unread x)
      : (⟨2, ![A, W]⟩ : Shape).Idx → Elt Ideal e) f :=
  (load_rep arg harg h).congr fun i _ j _ => by rw [Nat.zero_add, Nat.zero_add]

/-- The products of all the columns of a block. -/
theorem pay2_rep {x : FVec Ideal S2048x2048 .bf16} {w : FVec Ideal S2048x1024 .bf16} {f g : ℕ → ℕ → EReal} (hx : Rep x f) (hw : Rep w g) :
    Rep (k0_pay2 (F := Ideal) x w) (prod f g) :=
  Rep.truncf (Rep.matmul hx hw) _

/-- The products of 256 columns. -/
def prod256 (x : FVec Ideal S2048x2048 .bf16) (w : FVec Ideal S2048x256 .bf16) : FVec Ideal S2048x256 .f32 :=
  matmul dot_S2048x2048_S2048x256_S2048x256_1_0_0_1_n_n none x w (constant S2048x256 .f32 0x00000000#32)

theorem prod256_rep {x : FVec Ideal S2048x2048 .bf16} {w : FVec Ideal S2048x256 .bf16} {f g : ℕ → ℕ → EReal} (hx : Rep x f) (hw : Rep w g) :
    Rep (prod256 x w) (prod f g) :=
  Rep.matmul hx hw

/-- The block of weights as rows. -/
theorem pay1_rep {w : FVec Ideal S1x2048x1024 .f32} {g : ℕ → ℕ → EReal}
    (h : ∀ (k : Fin 2048) (l : Fin 1024), w (ix3 (0 : Fin 1) k l) = g k.val l.val) : Rep (k0_pay1 (F := Ideal) w) g := by
  refine Rep.shapeCast (x := (truncf .bf16 (shapeCast S2048x1024 w shapeCasts_S1x2048x1024_S2048x1024) bitsLt_bf16_f32 : FVec Ideal S2048x1024 .bf16))
    (fun k l => ?_) shapeCasts_S2048x1024_S2048x1024
  refine Eq.trans ?_ (h k l)
  show w (Shape.reshapeEquiv _ (ix2 k l)) = _
  rw [Shape.reshapeEquiv_eq_of_vals _ (ix2 k l) (ix3 (0 : Fin 1) k l) _ _
      (rowMajor_val3 _ _ _ rfl rfl) (rowMajor_val2 _ _ rfl) (by simp)]

/-- The two heads of 256 columns. -/
def headA (a : FVec Ideal S2048x256 .f32) : FVec Ideal B2048x128 .f32 := extractStridedSlice S2048x128 ![0, 0] a slices_S2048x256_o0_0_S2048x128
def headB (a : FVec Ideal S2048x256 .f32) : FVec Ideal B2048x128 .f32 := extractStridedSlice S2048x128 ![0, 128] a slices_S2048x256_o0_128_S2048x128

theorem headA_rot {a : FVec Ideal S2048x256 .f32} {x y : FVec Ideal S512x128 .f32} {f C S : ℕ → ℕ → EReal} {p : ℕ} (μ : Ideal .f32)
    (ha : Rep a fun i j => f i (p + j)) (hx : Rep x C) (hy : Rep y S) : Rep (rot (headA a) x y μ) (rotVal (fun i j => f i (p + j)) C S μ) :=
  rot_rep μ ((ha.slice slices_S2048x256_o0_0_S2048x128).congr fun i _ j _ => by rw [Nat.zero_add, Nat.zero_add]) hx hy

theorem headB_rot {a : FVec Ideal S2048x256 .f32} {x y : FVec Ideal S512x128 .f32} {f C S : ℕ → ℕ → EReal} {p q : ℕ} (μ : Ideal .f32)
    (ha : Rep a fun i j => f i (p + j)) (hq : q = p + 128) (hx : Rep x C) (hy : Rep y S) : Rep (rot (headB a) x y μ) (rotVal (fun i j => f i (q + j)) C S μ) :=
  rot_rep μ ((ha.slice slices_S2048x256_o0_128_S2048x128).congr fun i _ j _ => by rw [Nat.zero_add, hq, Nat.add_assoc]) hx hy

/-- The eight heads of a block, stored one after the other. -/
theorem canon_heads {a0 a1 a2 a3 : FVec Ideal S2048x256 .f32} {x y : FVec Ideal S512x128 .f32} {f C S : ℕ → ℕ → EReal} (μ : Ideal .f32)
    (h0 : Rep a0 fun i j => f i (0 + j)) (h1 : Rep a1 fun i j => f i (256 + j)) (h2 : Rep a2 fun i j => f i (512 + j))
    (h3 : Rep a3 fun i j => f i (768 + j)) (hx : Rep x C) (hy : Rep y S) {i0 i1 i2 i3 i4 i5 i6 i7} (r : Fin 2048) (q : Fin 1024) :
    View.canon (Val := Elt Ideal) (s := (⟨2, ![2048, 1024]⟩ : Shape)) (e := .bf16)
      [⟨Rect.unit (s := (⟨2, ![2048, 1024]⟩ : Shape)) ![0, 896] (⟨2, ![2048, 128]⟩ : Shape).size i7, rot (headB a3) x y μ⟩,
        ⟨Rect.unit (s := (⟨2, ![2048, 1024]⟩ : Shape)) ![0, 768] (⟨2, ![2048, 128]⟩ : Shape).size i6, rot (headA a3) x y μ⟩,
        ⟨Rect.unit (s := (⟨2, ![2048, 1024]⟩ : Shape)) ![0, 640] (⟨2, ![2048, 128]⟩ : Shape).size i5, rot (headB a2) x y μ⟩,
        ⟨Rect.unit (s := (⟨2, ![2048, 1024]⟩ : Shape)) ![0, 512] (⟨2, ![2048, 128]⟩ : Shape).size i4, rot (headA a2) x y μ⟩,
        ⟨Rect.unit (s := (⟨2, ![2048, 1024]⟩ : Shape)) ![0, 384] (⟨2, ![2048, 128]⟩ : Shape).size i3, rot (headB a1) x y μ⟩,
        ⟨Rect.unit (s := (⟨2, ![2048, 1024]⟩ : Shape)) ![0, 256] (⟨2, ![2048, 128]⟩ : Shape).size i2, rot (headA a1) x y μ⟩,
        ⟨Rect.unit (s := (⟨2, ![2048, 1024]⟩ : Shape)) ![0, 128] (⟨2, ![2048, 128]⟩ : Shape).size i1, rot (headB a0) x y μ⟩,
        ⟨Rect.unit (s := (⟨2, ![2048, 1024]⟩ : Shape)) ![0, 0] (⟨2, ![2048, 128]⟩ : Shape).size i0, rot (headA a0) x y μ⟩] (ix2 r q)
      = rotVal (fun i j => f i (q.val / 128 * 128 + j)) C S μ r.val (q.val % 128) := by
  have hr : 0 ≤ r.val ∧ r.val < 0 + 2048 := ⟨Nat.zero_le _, by omega⟩
  have fin : ∀ p : ℕ, p ≤ q.val → q.val < p + 128 → p % 128 = 0 →
      rotVal (fun i j => f i (p + j)) C S μ (r.val - 0) (q.val - p) = rotVal (fun i j => f i (q.val / 128 * 128 + j)) C S μ r.val (q.val % 128) := by
    intro p h1 h2 h3
    rw [show q.val / 128 * 128 = p by omega, show q.val % 128 = q.val - p by omega, Nat.sub_zero]
  by_cases c7 : 896 ≤ q.val
  · exact (canon_on _ (headB_rot μ h3 rfl hx hy) r q hr ⟨c7, by omega⟩).trans (fin 896 c7 (by omega) rfl)
  refine (canon_off _ r q (by omega)).trans ?_
  by_cases c6 : 768 ≤ q.val
  · exact (canon_on _ (headA_rot μ h3 hx hy) r q hr ⟨c6, by omega⟩).trans (fin 768 c6 (by omega) rfl)
  refine (canon_off _ r q (by omega)).trans ?_
  by_cases c5 : 640 ≤ q.val
  · exact (canon_on _ (headB_rot μ h2 rfl hx hy) r q hr ⟨c5, by omega⟩).trans (fin 640 c5 (by omega) rfl)
  refine (canon_off _ r q (by omega)).trans ?_
  by_cases c4 : 512 ≤ q.val
  · exact (canon_on _ (headA_rot μ h2 hx hy) r q hr ⟨c4, by omega⟩).trans (fin 512 c4 (by omega) rfl)
  refine (canon_off _ r q (by omega)).trans ?_
  by_cases c3 : 384 ≤ q.val
  · exact (canon_on _ (headB_rot μ h1 rfl hx hy) r q hr ⟨c3, by omega⟩).trans (fin 384 c3 (by omega) rfl)
  refine (canon_off _ r q (by omega)).trans ?_
  by_cases c2 : 256 ≤ q.val
  · exact (canon_on _ (headA_rot μ h1 hx hy) r q hr ⟨c2, by omega⟩).trans (fin 256 c2 (by omega) rfl)
  refine (canon_off _ r q (by omega)).trans ?_
  by_cases c1 : 128 ≤ q.val
  · exact (canon_on _ (headB_rot μ h0 rfl hx hy) r q hr ⟨c1, by omega⟩).trans (fin 128 c1 (by omega) rfl)
  refine (canon_off _ r q (by omega)).trans ?_
  exact (canon_on _ (headA_rot μ h0 hx hy) r q hr ⟨by omega, by omega⟩).trans (fin 0 (by omega) (by omega) rfl)

/-- The scale of a grid point: the queries' in the tiles of the queries, one in the others. -/
def scaleOf (i : grid0.Coords) : Ideal .f32 :=
  k0_pay7 (F := Ideal) (Scalar.andi (Scalar.cmpi .sge (BitVec.ofNat 32 (i 0).val) 2#32) (Scalar.cmpi .slt (BitVec.ofNat 32 (i 0).val) 4#32))

variable (c : Dev nD) (i : grid0.Coords)
variable (arg2 : Memref sig .tc .vmem S2048x2048 .bf16) (harg2 : arg2.IsWhole) (arg3 : Memref sig .tc .vmem S1x2048x1024 .f32) (harg3 : arg3.IsWhole)
variable (arg4 : Memref sig .tc .vmem S512x128 .f32) (harg4 : arg4.IsWhole) (arg5 : Memref sig .tc .vmem S512x128 .f32) (harg5 : arg5.IsWhole)
variable (arg6 : Memref sig .tc .vmem S2048x1024 .bf16) (harg6 : arg6.IsWhole) (arg7 : Memref sig .tc .vmem S2048x1024 .bf16) (harg7 : arg7.IsWhole)
variable (x0 : FVec Ideal S2048x2048 .bf16) (x1 : FVec Ideal S1x2048x1024 .f32) (x2 x3 : FVec Ideal S512x128 .f32) (xs : FVec Ideal S2048x1024 .bf16)
variable {H W C S : ℕ → ℕ → EReal}

/-- A load of the whole staged block of weights. -/
theorem load_w {inb} : View.readAt (Elt Ideal) arg3.view (Rect.unit ![0, 0, 0] S1x2048x1024.size inb).toLoadRect (harg3.unread x1) = x1 := by
  rw [View.readAt_eq_ld, Memref.IsWhole.read_unread]
  exact View.ld_unit_lit _ _ (by decide)

theorem outB (hc0 : ¬cond0_0 i) (hc1 : cond0_1 i) (hc2 : ¬cond0_2 i) (h0 : Rep x0 H) (hs : Rep xs W) :
    Rep (out0_B_4 (F := Ideal) c i arg2 harg2 arg3 harg3 arg4 harg4 arg5 harg5 arg6 harg6 arg7 harg7 hc0 hc1 hc2 x0 x1 x2 x3 xs) (prod H W) := by
  unfold out0_B_4
  rw [View.read_writes_junk_eq_canon]
  refine Eq.subst (motive := fun v => Rep v (prod H W)) (Eq.symm (View.canon_cons_unit_lit _ _ _ (by decide))) ?_
  exact pay2_rep (load_rep0 arg2 harg2 h0) (load_rep0 arg7 harg7 hs)

theorem soutA (hc0 : cond0_0 i) (hc1 : cond0_1 i) (hc2 : ¬cond0_2 i) (h1 : ∀ (k : Fin 2048) (l : Fin 1024), x1 (ix3 (0 : Fin 1) k l) = W k.val l.val) :
    Rep (sout0_A_0 (F := Ideal) c i arg2 harg2 arg3 harg3 arg4 harg4 arg5 harg5 arg6 harg6 arg7 harg7 hc0 hc1 hc2 x0 x1 x2 x3) W := by
  unfold sout0_A_0
  rw [View.read_writes_junk_eq_canon]
  refine Eq.subst (motive := fun v => Rep v W) (Eq.symm (View.canon_cons_unit_lit _ _ _ (by decide))) ?_
  refine pay1_rep ?_
  rw [load_w]
  exact h1

theorem soutC (hc0 : cond0_0 i) (hc1 : ¬cond0_1 i) (hc2 : cond0_2 i) (h1 : ∀ (k : Fin 2048) (l : Fin 1024), x1 (ix3 (0 : Fin 1) k l) = W k.val l.val) :
    Rep (sout0_C_0 (F := Ideal) c i arg2 harg2 arg3 harg3 arg4 harg4 arg5 harg5 arg6 harg6 arg7 harg7 hc0 hc1 hc2 x0 x1 x2 x3) W := by
  unfold sout0_C_0
  rw [View.read_writes_junk_eq_canon]
  refine Eq.subst (motive := fun v => Rep v W) (Eq.symm (View.canon_cons_unit_lit _ _ _ (by decide))) ?_
  refine pay1_rep ?_
  rw [load_w]
  exact h1

/-- A load from the scratch buffer, the block of weights just stored there. -/
theorem load_stored {L : Cert.Moba.Stores 2048 1024 .bf16} {o w : ℕ} {w1 : FVec Ideal S1x2048x1024 .f32} {inb₀ inb}
    (hL : L = [⟨Rect.unit (s := (⟨2, ![2048, 1024]⟩ : Shape)) ![0, 0] (⟨2, ![2048, 1024]⟩ : Shape).size inb₀, k0_pay1 (F := Ideal) w1⟩])
    (h1 : ∀ (k : Fin 2048) (l : Fin 1024), w1 (ix3 (0 : Fin 1) k l) = W k.val l.val) :
    Rep (arg7.view.readCov L (Rect.unit (s := (⟨2, ![2048, 1024]⟩ : Shape)) ![0, o] (⟨2, ![2048, w]⟩ : Shape).size inb).toLoadRect
      : (⟨2, ![2048, w]⟩ : Shape).Idx → Elt Ideal .bf16) fun i j => W i (o + j) := by
  refine (Rep.load (f := W) arg7.view (fun i j _ _ _ _ => ?_)).congr fun i _ j _ => by rw [Nat.zero_add]
  rw [hL, View.canon_cons_unit_lit _ _ _ (by decide)]
  exact pay1_rep h1 i j

theorem stored_A : kernelRun0_A.sl.HS0_1 (F := Ideal) c arg3 harg3 x1
    = [⟨Rect.unit (s := (⟨2, ![2048, 1024]⟩ : Shape)) ![0, 0] (⟨2, ![2048, 1024]⟩ : Shape).size inb_S2048x1024_S2048x1024_0_0, k0_pay1 (F := Ideal) x1⟩] := by
  unfold kernelRun0_A.sl.HS0_1
  rw [load_w]

theorem stored_C : kernelRun0_C.sl.HS0_1 (F := Ideal) c arg3 harg3 x1
    = [⟨Rect.unit (s := (⟨2, ![2048, 1024]⟩ : Shape)) ![0, 0] (⟨2, ![2048, 1024]⟩ : Shape).size inb_S2048x1024_S2048x1024_0_0, k0_pay1 (F := Ideal) x1⟩] := by
  unfold kernelRun0_C.sl.HS0_1
  rw [load_w]

theorem outA (hc0 : cond0_0 i) (hc1 : cond0_1 i) (hc2 : ¬cond0_2 i) (h0 : Rep x0 H) (h1 : ∀ (k : Fin 2048) (l : Fin 1024), x1 (ix3 (0 : Fin 1) k l) = W k.val l.val) :
    Rep (out0_A_4 (F := Ideal) c i arg2 harg2 arg3 harg3 arg4 harg4 arg5 harg5 arg6 harg6 arg7 harg7 hc0 hc1 hc2 x0 x1 x2 x3) (prod H W) := by
  unfold out0_A_4
  rw [View.read_writes_junk_eq_canon]
  refine Eq.subst (motive := fun v => Rep v (prod H W)) (Eq.symm (View.canon_cons_unit_lit _ _ _ (by decide))) ?_
  refine pay2_rep (load_rep0 arg2 harg2 h0) ?_
  unfold kernelRun0_A.sl.v17
  exact (load_stored arg7 (stored_A c arg3 harg3 x1) h1).congr fun i _ j _ => by rw [Nat.zero_add]

section
variable (x y : FVec Ideal S512x128 .f32) (u : FVec Ideal S2048x2048 .bf16) (v : FVec Ideal S2048x256 .bf16) (a : FVec Ideal S2048x256 .f32) (μ : Ideal .f32)
theorem pay11_eq (b : BitVec 1) : k0_pay11 (F := Ideal) b x y u v = rot (headA (prod256 u v)) x y (k0_pay7 (F := Ideal) b) := rfl
theorem pay15_eq : k0_pay15 (F := Ideal) (k0_pay6 y) μ (k0_pay13 u v) (k0_pay14 x u v) = rot (headB (prod256 u v)) x y μ := rfl
theorem pay17_eq : k0_pay17 (F := Ideal) (k0_pay5 x) (k0_pay6 y) μ k0_pay8 a = rot (headA a) x y μ := rfl
theorem pay18_eq : k0_pay18 (F := Ideal) (k0_pay5 x) (k0_pay6 y) μ k0_pay8 a = rot (headB a) x y μ := rfl
theorem pay20_eq : k0_pay20 (F := Ideal) (k0_pay5 x) (k0_pay6 y) μ k0_pay8 a = rot (headA a) x y μ := rfl
theorem pay21_eq : k0_pay21 (F := Ideal) (k0_pay5 x) (k0_pay6 y) μ k0_pay8 a = rot (headB a) x y μ := rfl
theorem pay3_eq : k0_pay3 (F := Ideal) (k0_pay22 (k0_pay5 x) (k0_pay6 y) k0_pay8 u v) (k0_pay23 μ) = rot (headA (prod256 u v)) x y μ := rfl
theorem pay10_eq : k0_pay10 (F := Ideal) u v = prod256 u v := rfl
theorem pay16_eq : k0_pay16 (F := Ideal) u v = prod256 u v := rfl
theorem pay19_eq : k0_pay19 (F := Ideal) u v = prod256 u v := rfl
theorem pay4_eq : k0_pay4 (F := Ideal) (k0_pay5 x) (k0_pay6 y) μ k0_pay8 a = rot (headB a) x y μ := rfl
end

theorem outD (hc0 : ¬cond0_0 i) (hc1 : ¬cond0_1 i) (hc2 : cond0_2 i) (h0 : Rep x0 H) (h2 : Rep x2 C) (h3 : Rep x3 S) (hs : Rep xs W) (r : Fin 2048) (q : Fin 1024) :
    out0_D_4 (F := Ideal) c i arg2 harg2 arg3 harg3 arg4 harg4 arg5 harg5 arg6 harg6 arg7 harg7 hc0 hc1 hc2 x0 x1 x2 x3 xs (ix2 r q)
      = rotVal (fun i j => prod H W i (q.val / 128 * 128 + j)) C S (scaleOf i) r.val (q.val % 128) := by
  unfold out0_D_4
  rw [View.read_writes_junk_eq_canon]
  unfold kernelRun0_D
  simp only [kernelRun0_D.sl.r, kernelRun0_D.sl.r_1, kernelRun0_D.sl.r_2, kernelRun0_D.sl.r_3, kernelRun0_D.sl.r_4, kernelRun0_D.sl.r_5,
    kernelRun0_D.sl.r_6, kernelRun0_D.sl.r_7, kernelRun0_D.sl.r_8, kernelRun0_D.sl.r_9, kernelRun0_D.sl.r_10,
    pay11_eq, pay15_eq, pay17_eq, pay18_eq, pay20_eq, pay21_eq, pay3_eq, pay4_eq, pay10_eq, pay16_eq, pay19_eq]
  have e0 := load_rep0 arg2 harg2 h0 (inb := inb_S2048x2048_S2048x2048_0_0)
  have load : ∀ {o : ℕ} {inb}, Rep (View.readAt (Elt Ideal) arg7.view (Rect.unit (s := (⟨2, ![2048, 1024]⟩ : Shape)) ![0, o] (⟨2, ![2048, 256]⟩ : Shape).size inb).toLoadRect (harg7.unread xs)
      : (⟨2, ![2048, 256]⟩ : Shape).Idx → Elt Ideal .bf16) fun i j => W i (o + j) :=
    fun {o inb} => (load_rep arg7 harg7 hs).congr fun i _ j _ => by rw [Nat.zero_add]
  exact canon_heads (scaleOf i) (f := prod H W) (prod256_rep e0 load) (prod256_rep e0 load) (prod256_rep e0 load) (prod256_rep e0 load)
    (load_rep0 arg4 harg4 h2) (load_rep0 arg5 harg5 h3) r q

theorem outC (hc0 : cond0_0 i) (hc1 : ¬cond0_1 i) (hc2 : cond0_2 i) (h0 : Rep x0 H) (h1 : ∀ (k : Fin 2048) (l : Fin 1024), x1 (ix3 (0 : Fin 1) k l) = W k.val l.val)
    (h2 : Rep x2 C) (h3 : Rep x3 S) (r : Fin 2048) (q : Fin 1024) :
    out0_C_4 (F := Ideal) c i arg2 harg2 arg3 harg3 arg4 harg4 arg5 harg5 arg6 harg6 arg7 harg7 hc0 hc1 hc2 x0 x1 x2 x3 (ix2 r q)
      = rotVal (fun i j => prod H W i (q.val / 128 * 128 + j)) C S (scaleOf i) r.val (q.val % 128) := by
  unfold out0_C_4
  rw [View.read_writes_junk_eq_canon]
  unfold kernelRun0_C
  simp only [kernelRun0_C.sl.r, kernelRun0_C.sl.r_1, kernelRun0_C.sl.r_2, kernelRun0_C.sl.r_3, kernelRun0_C.sl.r_4, kernelRun0_C.sl.r_5,
    kernelRun0_C.sl.r_6, kernelRun0_C.sl.r_7, kernelRun0_C.sl.r_8, kernelRun0_C.sl.r_9, kernelRun0_C.sl.r_10, kernelRun0_C.sl.v27,
    kernelRun0_C.sl.v29, kernelRun0_C.sl.v63, kernelRun0_C.sl.v97,
    pay11_eq, pay15_eq, pay17_eq, pay18_eq, pay20_eq, pay21_eq, pay3_eq, pay4_eq, pay10_eq, pay16_eq, pay19_eq]
  have e0 := load_rep0 arg2 harg2 h0 (inb := inb_S2048x2048_S2048x2048_0_0)
  have st := stored_C c arg3 harg3 x1
  exact canon_heads (scaleOf i) (f := prod H W) (prod256_rep e0 (load_stored arg7 st h1)) (prod256_rep e0 (load_stored arg7 st h1))
    (prod256_rep e0 (load_stored arg7 st h1)) (prod256_rep e0 (load_stored arg7 st h1)) (load_rep0 arg4 harg4 h2) (load_rep0 arg5 harg5 h3) r q

end Cert.Proj
-- ==== Proof.ProjSpec.lean ====
/-
  The projection's values: the products of the rows and the weights, the queries and keys embedded, the queries scaled; and the
  kernel's tables of cosines and sines, entry by entry.
-/
module

public import proofs.«01_k».proof.Proof.ProjBlock
public import proofs.«01_k».proof.Proof.Gen.Reference2Ideal.Read
public import Idealize.ShloMosaic.Lib.StableHlo.RunRead

@[expose] public section

set_option maxRecDepth 16384

noncomputable section

namespace Cert.Proj

open Idealize.ShloMosaic Idealize.ShloMosaic.TcCoe Idealize.SL.Sem
open Cert.Moba (Rep)
open Cert.Kernel2Ideal Cert.Kernel2Ideal.Gen

/-- A two-dimensional vector as a function of two natural numbers. -/
def nat2 {a b : ℕ} (x : (⟨2, ![a, b]⟩ : Shape).Idx → EReal) (i j : ℕ) : EReal :=
  if h : i < a ∧ j < b then x (ix2 ⟨i, h.1⟩ ⟨j, h.2⟩) else 0

theorem nat2_of {a b : ℕ} (x : (⟨2, ![a, b]⟩ : Shape).Idx → EReal) (i : Fin a) (j : Fin b) : nat2 x i.val j.val = x (ix2 i j) := by
  unfold nat2
  rw [dif_pos ⟨i.2, j.2⟩]

theorem nat2_at {a b : ℕ} (x : (⟨2, ![a, b]⟩ : Shape).Idx → EReal) {i j : ℕ} (hi : i < a) (hj : j < b) : nat2 x i j = x (ix2 ⟨i, hi⟩ ⟨j, hj⟩) :=
  nat2_of x ⟨i, hi⟩ ⟨j, hj⟩

/-- The cosines and sines of the angles: position times frequency. -/
def cosT : FVec Ideal ⟨2, ![2048, 16]⟩ .f32 := Cert.Reference2Ideal.Read.val_main_v23 (F := Ideal)
def sinT : FVec Ideal ⟨2, ![2048, 16]⟩ .f32 := Cert.Reference2Ideal.Read.val_main_v25 (F := Ideal)

/-- The rotary embedding of one head, at one position: the first sixteen coordinates turn with the next sixteen, the others stay. -/
def rotary (f cs sn : ℕ → EReal) (l : ℕ) : EReal :=
  if l < 16 then f l * cs l - f (l + 16) * sn l
  else if l < 32 then f l * cs (l - 16) + f (l - 16) * sn (l - 16)
  else f l

/-- The scale of the queries. -/
def qScale : EReal := (((Real.log 2)⁻¹ * (Real.sqrt 128)⁻¹ : ℝ) : EReal)

/-- The position of a row. -/
def posOf (R : ℕ) : ℕ := R / 64 * 16 + R % 16

/-- The head at a row and a column, embedded. -/
def embedded (P : ℕ → ℕ → EReal) (R col : ℕ) : EReal :=
  rotary (fun j => P R (col / 128 * 128 + j)) (nat2 cosT (posOf R)) (nat2 sinT (posOf R)) (col % 128)

/-- The projection at a row and a column, from the rows and the weights. -/
def projVal (f g : ℕ → ℕ → EReal) (R col : ℕ) : EReal :=
  if 2048 ≤ col ∧ col < 4096 then embedded (prod f g) R col * qScale
  else if 4096 ≤ col ∧ col < 6144 then embedded (prod f g) R col
  else prod f g R col

/-- The kernel's table of cosines: the cosines twice, then ones. -/
def cosTable (p l : ℕ) : EReal := if l < 16 then nat2 cosT p l else if l < 32 then nat2 cosT p (l - 16) else 1

/-- The kernel's table of sines: the negated sines, the sines, then zeros. -/
def sinTable (p l : ℕ) : EReal := if l < 16 then -nat2 sinT p l else if l < 32 then nat2 sinT p (l - 16) else 0

/-- The embedding by the kernel's tables. -/
theorem rotVal_tables (P : ℕ → ℕ → EReal) (μ : EReal) (R col : ℕ) :
    rotVal (fun i j => P i (col / 128 * 128 + j)) cosTable sinTable μ R (col % 128) = embedded P R col * μ := by
  unfold rotVal embedded rotary cosTable sinTable posOf
  congr 1
  split_ifs with h1 h2
  · rw [mul_neg, sub_eq_add_neg]
  · rw [show (col % 128 + 112) % 128 = col % 128 - 16 by omega]
  · rw [mul_one, mul_zero, add_zero]

theorem one_bits : (FloatOps.ofBits (F := Ideal) .f32 0x3F800000#32 : EReal) = 1 := by
  show Ideal.ofBits .f32 0x3F800000#32 = 1
  simp [Ideal.ofBits, Ideal.ieee]
  rw [← EReal.coe_mul]
  norm_num

theorem zero_bits : (FloatOps.ofBits (F := Ideal) .f32 0x00000000#32 : EReal) = 0 := by
  show Ideal.ofBits .f32 0x00000000#32 = 0
  simp [Ideal.ofBits, Ideal.ieee]

/-- A table of 128 lanes made of two tables of 16 and one of 96. -/
theorem concat_rep {x y : FVec Ideal S2048x16 .f32} {z : FVec Ideal S2048x96 .f32} {f g k : ℕ → ℕ → EReal} (hx : Rep x f) (hy : Rep y g) (hz : Rep z k)
    (h : Shape.Concatenates [S2048x16, S2048x16, S2048x96] S2048x128 1) :
    Rep (concatenate S2048x128 1 [⟨S2048x16, x⟩, ⟨S2048x16, y⟩, ⟨S2048x96, z⟩] h : FVec Ideal S2048x128 .f32)
      fun i j => if j < 16 then f i j else if j < 32 then g i (j - 16) else k i (j - 32) := by
  intro i j
  pointwise
  split_ifs
  all_goals first
    | exact hx _ _
    | exact Eq.trans (hy i ⟨j.val - 16, by omega⟩) (Eq.symm (if_pos (by omega)))
    | exact Eq.trans (hz i ⟨j.val - 16 - 16, by omega⟩) (Eq.trans (congrArg (k i.val) (by show j.val - 16 - 16 = j.val - 32; omega)) (Eq.symm (if_neg (by omega))))

variable (m : (ℓ : Loc nD τ sig) → Buf (Elt Ideal) ℓ) (c : Dev nD)

theorem V_cos : Rep (V m c main_v19 : FVec Ideal S2048x128 .f32) cosTable := by
  have e : (V m c main_v19 : FVec Ideal S2048x128 .f32) = concatenate S2048x128 1 [⟨S2048x16, cosT⟩, ⟨S2048x16, cosT⟩,
      ⟨S2048x96, broadcastInDim S2048x96 ![] bcast_S_S2048x96 (constant S_ .f32 0x3F800000#32)⟩] concatenates_S2048x16_S2048x16_S2048x96_S2048x128_d1 := by
    unfold V hostOps0
    after_reads_simp
    rfl
  rw [e]
  refine (concat_rep (k := fun _ _ => 1) (fun i j => (nat2_of cosT i j).symm) (fun i j => (nat2_of cosT i j).symm) (fun i j => ?_) _).congr ?_
  · exact one_bits
  · intro i _ j _; rfl

theorem V_sin : Rep (V m c main_v22 : FVec Ideal S2048x128 .f32) sinTable := by
  have e : (V m c main_v22 : FVec Ideal S2048x128 .f32) = concatenate S2048x128 1 [⟨S2048x16, Host.negf sinT⟩, ⟨S2048x16, sinT⟩,
      ⟨S2048x96, broadcastInDim S2048x96 ![] bcast_S_S2048x96 (constant S_ .f32 0x00000000#32)⟩] concatenates_S2048x16_S2048x16_S2048x96_S2048x128_d1 := by
    unfold V hostOps0
    after_reads_simp
    rfl
  rw [e]
  refine (concat_rep (k := fun _ _ => 0) (f := fun i j => -nat2 sinT i j) (fun i j => congrArg (fun v : EReal => -v) (nat2_of sinT i j).symm) (fun i j => (nat2_of sinT i j).symm) (fun i j => ?_) _).congr ?_
  · exact zero_bits
  · intro i _ j _; rfl

end Cert.Proj
-- ==== Proof.ProjArray.lean ====
/-
  The projection kernel's result array, entry by entry, as a function of the rows and the weights.
-/
module

public import proofs.«01_k».proof.Proof.ProjSpec
public import proofs.«01_k».proof.Proof.Gen.Kernel2Ideal.Value

@[expose] public section

set_option maxRecDepth 16384

noncomputable section

namespace Cert.Proj

open Idealize.ShloMosaic Idealize.ShloMosaic.TcCoe Idealize.SL.Sem
open Cert.Moba (Rep)
open Cert.Kernel2Ideal Cert.Kernel2Ideal.Gen

/-- The layer whose weights the kernel reads. -/
abbrev layer : Fin 2 := 0

/-- The rows. -/
def rowsOf (x : FVec Ideal ⟨2, ![8192, 2048]⟩ .bf16) : ℕ → ℕ → EReal := nat2 x

/-- The layer's weights. -/
def weightsOf (w : FVec Ideal ⟨3, ![2, 2048, 14336]⟩ .f32) : ℕ → ℕ → EReal :=
  nat2 (a := 2048) (b := 14336) fun i => w (ix3 layer (i 0) (i 1))

theorem rowsOf_at (x : FVec Ideal ⟨2, ![8192, 2048]⟩ .bf16) (i : Fin 8192) (k : Fin 2048) : rowsOf x i.val k.val = x (ix2 i k) := nat2_of x i k

theorem weightsOf_at (w : FVec Ideal ⟨3, ![2, 2048, 14336]⟩ .f32) (k : Fin 2048) (j : Fin 14336) : weightsOf w k.val j.val = w (ix3 layer k j) :=
  nat2_of (fun i : (⟨2, ![2048, 14336]⟩ : Shape).Idx => w (ix3 layer (i 0) (i 1))) k j

variable (m : (ℓ : Loc nD τ sig) → Buf (Elt Ideal) ℓ) (c : Dev nD)

/-- The rows and the layer's weights that the memory holds. -/
abbrev hOf : ℕ → ℕ → EReal := rowsOf (m ((c : Thread nD τ).loc main_arg0))
abbrev wOf : ℕ → ℕ → EReal := weightsOf (m ((c : Thread nD τ).loc main_arg1))

/-- Where the blocks of a grid point lie. -/
theorem idx_facts : ∀ t : Fin cfg0.N,
    (win0_0.index t (0 : Fin 2) = t.val % 4 ∧ win0_0.index t (1 : Fin 2) = 0) ∧
    (win0_1.index t (0 : Fin 3) = layer.val ∧ win0_1.index t (1 : Fin 3) = 0 ∧ win0_1.index t (2 : Fin 3) = t.val / 4) ∧
    (win0_2.index t (0 : Fin 2) = t.val % 4 ∧ win0_2.index t (1 : Fin 2) = 0) ∧
    (win0_3.index t (0 : Fin 2) = t.val % 4 ∧ win0_3.index t (1 : Fin 2) = 0) ∧
    (win0_4.index t (0 : Fin 2) = t.val % 4 ∧ win0_4.index t (1 : Fin 2) = t.val / 4) :=
  (by decide +kernel : ∀ t : Fin grid0.N, _)

theorem lt56 (t : Fin cfg0.N) : t.val < 56 := t.2

theorem emb0 (t : Fin cfg0.N) (r k : Fin 2048) :
    ((cfg0.win 0).blk t).view.emb (ix2 r k) = ix2 (⟨2048 * (t.val % 4) + r.val, by omega⟩ : Fin 8192) k := by
  obtain ⟨⟨e0, e1⟩, _⟩ := idx_facts t
  funext a; apply Fin.ext
  match a with
  | ⟨0, _⟩ => show win0_0.index t (0 : Fin 2) * 2048 + 1 * r.val = 2048 * (t.val % 4) + r.val; omega
  | ⟨1, _⟩ => show win0_0.index t (1 : Fin 2) * 2048 + 1 * k.val = k.val; omega

theorem iblk0 (t : Fin cfg0.N) : Rep (iblk m c 0 t : FVec Ideal S2048x2048 .bf16) fun r k => hOf m c (2048 * (t.val % 4) + r) k := by
  intro r k
  show V m c main_arg0 (((cfg0.win 0).blk t).view.emb _) = _
  rw [emb0, V_main_arg0]
  exact (rowsOf_at _ _ _).symm

theorem emb1 (t : Fin cfg0.N) (k : Fin 2048) (l : Fin 1024) :
    ((cfg0.win 1).blk t).view.emb (ix3 (0 : Fin 1) k l) = ix3 layer k (⟨1024 * (t.val / 4) + l.val, by have := lt56 t; omega⟩ : Fin 14336) := by
  obtain ⟨_, ⟨e0, e1, e2⟩, _⟩ := idx_facts t
  funext a; apply Fin.ext
  match a with
  | ⟨0, _⟩ => show win0_1.index t (0 : Fin 3) * 1 + 1 * 0 = layer.val; omega
  | ⟨1, _⟩ => show win0_1.index t (1 : Fin 3) * 2048 + 1 * k.val = k.val; omega
  | ⟨2, _⟩ => show win0_1.index t (2 : Fin 3) * 1024 + 1 * l.val = 1024 * (t.val / 4) + l.val; omega

theorem iblk1 (t : Fin cfg0.N) (k : Fin 2048) (l : Fin 1024) :
    (iblk m c 1 t : FVec Ideal S1x2048x1024 .f32) (ix3 (0 : Fin 1) k l) = wOf m c k.val (1024 * (t.val / 4) + l.val) := by
  show V m c main_arg1 (((cfg0.win 1).blk t).view.emb _) = _
  rw [emb1, V_main_arg1]
  exact (weightsOf_at _ _ _).symm

theorem emb2 (t : Fin cfg0.N) (p : Fin 512) (l : Fin 128) :
    ((cfg0.win 2).blk t).view.emb (ix2 p l) = ix2 (⟨512 * (t.val % 4) + p.val, by omega⟩ : Fin 2048) l := by
  obtain ⟨_, _, ⟨e0, e1⟩, _⟩ := idx_facts t
  funext a; apply Fin.ext
  match a with
  | ⟨0, _⟩ => show win0_2.index t (0 : Fin 2) * 512 + 1 * p.val = 512 * (t.val % 4) + p.val; omega
  | ⟨1, _⟩ => show win0_2.index t (1 : Fin 2) * 128 + 1 * l.val = l.val; omega

theorem iblk2 (t : Fin cfg0.N) : Rep (iblk m c 2 t : FVec Ideal S512x128 .f32) fun p l => cosTable (512 * (t.val % 4) + p) l := by
  intro p l
  show V m c main_v19 (((cfg0.win 2).blk t).view.emb _) = _
  rw [emb2]
  exact V_cos m c _ _

theorem emb3 (t : Fin cfg0.N) (p : Fin 512) (l : Fin 128) :
    ((cfg0.win 3).blk t).view.emb (ix2 p l) = ix2 (⟨512 * (t.val % 4) + p.val, by omega⟩ : Fin 2048) l := by
  obtain ⟨_, _, _, ⟨e0, e1⟩, _⟩ := idx_facts t
  funext a; apply Fin.ext
  match a with
  | ⟨0, _⟩ => show win0_3.index t (0 : Fin 2) * 512 + 1 * p.val = 512 * (t.val % 4) + p.val; omega
  | ⟨1, _⟩ => show win0_3.index t (1 : Fin 2) * 128 + 1 * l.val = l.val; omega

theorem iblk3 (t : Fin cfg0.N) : Rep (iblk m c 3 t : FVec Ideal S512x128 .f32) fun p l => sinTable (512 * (t.val % 4) + p) l := by
  intro p l
  show V m c main_v22 (((cfg0.win 3).blk t).view.emb _) = _
  rw [emb3]
  exact V_sin m c _ _

/-- After a grid point the scratch holds the weights of the point's columns. -/
theorem scratch : ∀ (n : ℕ) (t : Fin cfg0.N), t.val = n →
    Rep ((outsAt0 m c t.val t.isLt).2 : FVec Ideal S2048x1024 .bf16) fun k l => wOf m c k (1024 * (t.val / 4) + l) := by
  intro n
  induction n with
  | zero =>
    intro t ht
    have h0 : t.val % 4 = 0 := by omega
    have h1 : ¬(2 ≤ t.val / 4 % 14 ∧ t.val / 4 % 14 ≤ 5) := by omega
    rw [outsAt0_A m c t h0 h1 h1]
    dsimp only
    exact soutA c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (W := fun k l => wOf m c k (1024 * (t.val / 4) + l)) ((hcond0_0 t).mpr h0) ((hcond0_1 t).mpr h1) (fun h => h1 ((hcond0_2 t).mp h)) (iblk1 m c t)
  | succ n ih =>
    intro t ht
    by_cases h0 : t.val % 4 = 0
    · by_cases h1 : 2 ≤ t.val / 4 % 14 ∧ t.val / 4 % 14 ≤ 5
      · rw [outsAt0_C m c t h0 (not_not.mpr h1) h1]
        dsimp only
        exact soutC c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (W := fun k l => wOf m c k (1024 * (t.val / 4) + l)) ((hcond0_0 t).mpr h0) (fun h => (not_not.mpr h1) ((hcond0_1 t).mp h)) ((hcond0_2 t).mpr h1) (iblk1 m c t)
      · rw [outsAt0_A m c t h0 h1 h1]
        dsimp only
        exact soutA c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (W := fun k l => wOf m c k (1024 * (t.val / 4) + l)) ((hcond0_0 t).mpr h0) ((hcond0_1 t).mpr h1) (fun h => h1 ((hcond0_2 t).mp h)) (iblk1 m c t)
    · have hp := ih ⟨t.val - 1, by have := lt56 t; show _ < 56; omega⟩ (by show t.val - 1 = n; omega)
      have hd : (t.val - 1) / 4 = t.val / 4 := by omega
      simp only [hd] at hp
      by_cases h1 : 2 ≤ t.val / 4 % 14 ∧ t.val / 4 % 14 ≤ 5
      · rw [outsAt0_D m c t h0 (not_not.mpr h1) h1]
        dsimp only
        exact hp
      · rw [outsAt0_B m c t h0 h1 h1]
        dsimp only
        exact hp

/-- Before a point that isn't the first of its column tile the scratch holds the weights of the point's columns. -/
theorem scratch_before (t : Fin cfg0.N) (h0 : ¬t.val % 4 = 0) :
    Rep ((outsAt0 m c (t.val - 1) (Nat.lt_of_le_of_lt (Nat.sub_le _ _) t.isLt)).2 : FVec Ideal S2048x1024 .bf16)
      fun k l => wOf m c k (1024 * (t.val / 4) + l) := by
  have hp := scratch m c _ ⟨t.val - 1, Nat.lt_of_le_of_lt (Nat.sub_le _ _) t.isLt⟩ rfl
  have hd : (t.val - 1) / 4 = t.val / 4 := by omega
  simp only [hd] at hp
  exact hp

/-- The scale of a column tile. -/
def tileScale (j : ℕ) : EReal := if 2 ≤ j ∧ j < 4 then qScale else 1

theorem scale_pay (b : BitVec 1) : (k0_pay7 (F := Ideal) b : EReal) = if b = 1#1 then qScale else 1 := by
  by_cases h : b = 1#1
  · rw [if_pos h, h]
    rfl
  · rw [if_neg h]
    have h0 : b = 0#1 := by
      have := b.isLt
      apply BitVec.eq_of_toNat_eq
      have h1 : b.toNat ≠ 1 := fun e => h (BitVec.eq_of_toNat_eq e)
      show b.toNat = 0
      omega
    rw [h0]
    exact one_bits

theorem scale_bits : ∀ t : Fin cfg0.N,
    (Scalar.andi (Scalar.cmpi .sge (BitVec.ofNat 32 (grid0.coords t 0)) 2#32) (Scalar.cmpi .slt (BitVec.ofNat 32 (grid0.coords t 0)) 4#32) = 1#1)
      ↔ (2 ≤ t.val / 4 ∧ t.val / 4 < 4) :=
  (by decide +kernel : ∀ t : Fin grid0.N, _)

theorem scale_tile (t : Fin cfg0.N) : (scaleOf (grid0.coords t) : EReal) = tileScale (t.val / 4) := by
  unfold scaleOf tileScale
  rw [scale_pay]
  exact if_congr (scale_bits t) rfl rfl

/-- The embedding of one row and column of a block is the embedding of the array's row and column. -/
theorem rotVal_block (P : ℕ → ℕ → EReal) (C S : ℕ → ℕ → EReal) (μ : EReal) (i j r q : ℕ) :
    rotVal (fun a b => P (2048 * i + a) (1024 * j + (q / 128 * 128 + b))) (fun p l => C (512 * i + p) l) (fun p l => S (512 * i + p) l) μ r (q % 128)
      = rotVal (fun a b => P a ((1024 * j + q) / 128 * 128 + b)) C S μ (2048 * i + r) ((1024 * j + q) % 128) := by
  unfold rotVal
  have e1 : 512 * i + (r / 64 * 16 + r % 16) = (2048 * i + r) / 64 * 16 + (2048 * i + r) % 16 := by omega
  have e2 : (1024 * j + q) % 128 = q % 128 := by omega
  have e3 : ∀ b, 1024 * j + (q / 128 * 128 + b) = (1024 * j + q) / 128 * 128 + b := fun b => by omega
  simp only [e1, e2, e3]

theorem projVal_rot (f g : ℕ → ℕ → EReal) (R : ℕ) {j q : ℕ} (hq : q < 1024) (h : 2 ≤ j ∧ j ≤ 5) :
    rotVal (fun a b => prod f g a ((1024 * j + q) / 128 * 128 + b)) cosTable sinTable (tileScale j) R ((1024 * j + q) % 128)
      = projVal f g R (1024 * j + q) := by
  rw [rotVal_tables]
  unfold projVal tileScale
  split_ifs
  all_goals first
    | rfl
    | exact mul_one _
    | (exfalso; omega)

/-- What a grid point writes back, at a row and a column of its block. -/
theorem flushed_at (t : Fin cfg0.N) (r : Fin 2048) (q : Fin 1024) :
    ((outsAt0 m c t.val t.isLt).1 : FVec Ideal S2048x1024 .bf16) (ix2 r q)
      = projVal (hOf m c) (wOf m c) (2048 * (t.val % 4) + r.val) (1024 * (t.val / 4) + q.val) := by
  have ht := lt56 t
  by_cases h1 : 2 ≤ t.val / 4 % 14 ∧ t.val / 4 % 14 ≤ 5
  · have hj : 2 ≤ t.val / 4 ∧ t.val / 4 ≤ 5 := by omega
    refine Eq.trans ?_ (projVal_rot (hOf m c) (wOf m c) _ q.2 hj)
    rw [← rotVal_block, ← scale_tile]
    by_cases h0 : t.val % 4 = 0
    · rw [outsAt0_C m c t h0 (not_not.mpr h1) h1]
      dsimp only
      exact outC c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (H := fun r k => hOf m c (2048 * (t.val % 4) + r) k) (W := fun k l => wOf m c k (1024 * (t.val / 4) + l))
        (C := fun p l => cosTable (512 * (t.val % 4) + p) l) (S := fun p l => sinTable (512 * (t.val % 4) + p) l)
        ((hcond0_0 t).mpr h0) (fun h => (not_not.mpr h1) ((hcond0_1 t).mp h)) ((hcond0_2 t).mpr h1)
        (iblk0 m c t) (iblk1 m c t) (iblk2 m c t) (iblk3 m c t) r q
    · rw [outsAt0_D m c t h0 (not_not.mpr h1) h1]
      dsimp only
      exact outD c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) _ (H := fun r k => hOf m c (2048 * (t.val % 4) + r) k) (W := fun k l => wOf m c k (1024 * (t.val / 4) + l))
        (C := fun p l => cosTable (512 * (t.val % 4) + p) l) (S := fun p l => sinTable (512 * (t.val % 4) + p) l)
        (fun h => h0 ((hcond0_0 t).mp h)) (fun h => (not_not.mpr h1) ((hcond0_1 t).mp h)) ((hcond0_2 t).mpr h1)
        (iblk0 m c t) (iblk2 m c t) (iblk3 m c t) (scratch_before m c t h0) r q
  · have hj : ¬(2 ≤ t.val / 4 ∧ t.val / 4 ≤ 5) := by omega
    have hv : projVal (hOf m c) (wOf m c) (2048 * (t.val % 4) + r.val) (1024 * (t.val / 4) + q.val)
        = prod (fun r k => hOf m c (2048 * (t.val % 4) + r) k) (fun k l => wOf m c k (1024 * (t.val / 4) + l)) r.val q.val := by
      unfold projVal
      rw [if_neg (by omega), if_neg (by omega)]
      rfl
    rw [hv]
    by_cases h0 : t.val % 4 = 0
    · rw [outsAt0_A m c t h0 h1 h1]
      dsimp only
      exact outA c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (H := fun r k => hOf m c (2048 * (t.val % 4) + r) k) (W := fun k l => wOf m c k (1024 * (t.val / 4) + l))
        ((hcond0_0 t).mpr h0) ((hcond0_1 t).mpr h1) (fun h => h1 ((hcond0_2 t).mp h)) (iblk0 m c t) (iblk1 m c t) r q
    · rw [outsAt0_B m c t h0 h1 h1]
      dsimp only
      exact outB c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) _ (H := fun r k => hOf m c (2048 * (t.val % 4) + r) k) (W := fun k l => wOf m c k (1024 * (t.val / 4) + l))
        (fun h => h0 ((hcond0_0 t).mp h)) ((hcond0_1 t).mpr h1) (fun h => h1 ((hcond0_2 t).mp h)) (iblk0 m c t) (scratch_before m c t h0) r q

theorem emb4 (t : Fin cfg0.N) (r : Fin 2048) (q : Fin 1024) :
    ((cfg0.win 4).blk t).view.emb (ix2 r q) = ix2 (⟨2048 * (t.val % 4) + r.val, by omega⟩ : Fin 8192) (⟨1024 * (t.val / 4) + q.val, by have := lt56 t; omega⟩ : Fin 14336) := by
  obtain ⟨_, _, _, _, ⟨e0, e1⟩⟩ := idx_facts t
  funext a; apply Fin.ext
  match a with
  | ⟨0, _⟩ => show win0_4.index t (0 : Fin 2) * 2048 + 1 * r.val = 2048 * (t.val % 4) + r.val; omega
  | ⟨1, _⟩ => show win0_4.index t (1 : Fin 2) * 1024 + 1 * q.val = 1024 * (t.val / 4) + q.val; omega

theorem flush4 : ∀ t : Fin cfg0.N, (cfg0.win 4).flush t = true :=
  (by decide +kernel : ∀ t : Fin grid0.N, win0_4.flush t = true)

/-- The kernel's result, entry by entry. -/
theorem array_apply (R : Fin 8192) (L : Fin 14336) :
    ((dats m 0 c).arrAt 4 cfg0.N : FVec Ideal S8192x14336 .bf16) (ix2 R L) = projVal (hOf m c) (wOf m c) R.val L.val := by
  let t : Fin cfg0.N := ⟨4 * (L.val / 1024) + R.val / 2048, by show _ < 56; omega⟩
  let r : Fin 2048 := ⟨R.val % 2048, by omega⟩
  let q : Fin 1024 := ⟨L.val % 1024, by omega⟩
  have hR : 2048 * (t.val % 4) + r.val = R.val := by show 2048 * ((4 * (L.val / 1024) + R.val / 2048) % 4) + R.val % 2048 = _; omega
  have hL : 1024 * (t.val / 4) + q.val = L.val := by show 1024 * ((4 * (L.val / 1024) + R.val / 2048) / 4) + L.val % 1024 = _; omega
  have e := congrFun (Cert.Kernel2Ideal.Value.blocks4 m c t (flush4 _)) (ix2 r q)
  rw [Cert.Kernel2Ideal.Value.flushed4] at e
  have e' : ((dats m 0 c).arrAt 4 cfg0.N : FVec Ideal S8192x14336 .bf16) (((cfg0.win 4).blk t).view.emb (ix2 r q)) = _ := e
  rw [emb4, show (⟨2048 * (t.val % 4) + r.val, by omega⟩ : Fin 8192) = R from Fin.ext hR,
    show (⟨1024 * (t.val / 4) + q.val, by omega⟩ : Fin 14336) = L from Fin.ext hL] at e'
  refine e'.trans (Eq.trans (flushed_at m c t r q) ?_)
  rw [hR, hL]

end Cert.Proj
-- ==== Proof.ProjHeads.lean ====
/-
  The reference's products, and its queries and keys, embedded, entry by entry.
-/
module

public import proofs.«01_k».proof.Proof.ProjArray

@[expose] public section

set_option maxRecDepth 16384

noncomputable section

namespace Cert.Proj

open Idealize.ShloMosaic Idealize.ShloMosaic.TcCoe Idealize.SL.Sem
open Cert.Reference2Ideal Cert.Reference2Ideal.Gen Cert.Reference2Ideal.Read

variable (x : FVec Ideal ⟨2, ![8192, 2048]⟩ .bf16) (w : FVec Ideal ⟨3, ![2, 2048, 14336]⟩ .f32)

/-- The row of batch `b` and position `p`: rows come in chunks of 16 positions, the four batches in turn. -/
def rowNo (b : Fin 4) (p : Fin 2048) : Fin 8192 := ⟨(p.val / 16 * 4 + b.val) * 16 + p.val % 16, by omega⟩

theorem posOf_rowNo (b : Fin 4) (p : Fin 2048) : posOf (rowNo b p).val = p.val := by
  show ((p.val / 16 * 4 + b.val) * 16 + p.val % 16) / 64 * 16 + ((p.val / 16 * 4 + b.val) * 16 + p.val % 16) % 16 = p.val
  omega

/-- The products of the rows and the weights. -/
abbrev P : ℕ → ℕ → EReal := prod (rowsOf x) (weightsOf w)

/-- The rows of a batch in the order of the positions. -/
theorem v3_at (b : Fin 4) (p : Fin 2048) (k : Fin 2048) : val_main_v3 (F := Ideal) x (ix3 b p k) = rowsOf x (rowNo b p).val k.val := by
  rw [val_main_v3_apply, val_main_v2_apply, val_main_v1_apply, rowsOf_at]
  show x _ = _
  refine congrArg x (funext fun a => Fin.ext ?_)
  match a with
  | ⟨0, _⟩ => simp [rowNo, ix2, ix3]; omega
  | ⟨1, _⟩ => simp [rowNo, ix2, ix3]

/-- The layer's weights. -/
theorem v5_at (k : Fin 2048) (j : Fin 14336) : val_main_v5 (F := Ideal) w (ix2 k j) = weightsOf w k.val j.val := by
  rw [val_main_v5_apply, val_main_v4_apply, weightsOf_at]
  refine congrArg w (funext fun a => Fin.ext ?_)
  match a with
  | ⟨0, _⟩ => simp [ix2, ix3]
  | ⟨1, _⟩ => simp [ix2, ix3]; omega
  | ⟨2, _⟩ => simp [ix2, ix3]

/-- The products, by batch and position. -/
theorem v6_at (b : Fin 4) (p : Fin 2048) (j : Fin 14336) : val_main_v6 (F := Ideal) x w (ix3 b p j) = P x w (rowNo b p).val j.val := by
  rw [val_main_v6_apply]
  refine Finset.sum_congr rfl fun k _ => congrArg₂ (fun u v : EReal => u * v) ?_ ?_
  · refine Eq.trans (congrArg (val_main_v3 (F := Ideal) x) (a₂ := ix3 b p k) (funext fun a => ?_)) (v3_at x b p k)
    match a with
    | ⟨0, _⟩ => rfl
    | ⟨1, _⟩ => rfl
    | ⟨2, _⟩ => rfl
  · refine Eq.trans (congrArg (val_main_v5 (F := Ideal) w) (a₂ := ix2 k j) (funext fun a => ?_)) (v5_at w k j)
    match a with
    | ⟨0, _⟩ => rfl
    | ⟨1, _⟩ => rfl

/-- Products at an index that names a row and a column. -/
theorem v6_idx {i : S4x2048x14336.Idx} (b : Fin 4) (p : Fin 2048) (j : Fin 14336) (h0 : (i 0).val = b.val) (h1 : (i 1).val = p.val) (h2 : (i 2).val = j.val) :
    val_main_v6 (F := Ideal) x w i = P x w (rowNo b p).val j.val :=
  Eq.trans (congrArg (val_main_v6 (F := Ideal) x w) (a₂ := ix3 b p j) (funext fun a => Fin.ext (match a with
    | ⟨0, _⟩ => h0
    | ⟨1, _⟩ => h1
    | ⟨2, _⟩ => h2))) (v6_at x w b p j)

section
variable (b : Fin 4) (p : Fin 2048) (H : Fin 16)

theorem cos_idx {i : S2048x16.Idx} (l : Fin 16) (h0 : (i 0).val = p.val) (h1 : (i 1).val = l.val) :
    val_main_v23 (F := Ideal) i = nat2 cosT p.val l.val :=
  Eq.trans (congrArg (val_main_v23 (F := Ideal)) (a₂ := ix2 p l) (funext fun a => Fin.ext (match a with
    | ⟨0, _⟩ => h0
    | ⟨1, _⟩ => h1))) (nat2_of cosT p l).symm

theorem sin_idx {i : S2048x16.Idx} (l : Fin 16) (h0 : (i 0).val = p.val) (h1 : (i 1).val = l.val) :
    val_main_v25 (F := Ideal) i = nat2 sinT p.val l.val :=
  Eq.trans (congrArg (val_main_v25 (F := Ideal)) (a₂ := ix2 p l) (funext fun a => Fin.ext (match a with
    | ⟨0, _⟩ => h0
    | ⟨1, _⟩ => h1))) (nat2_of sinT p l).symm

theorem v32_at (l : Fin 16) : val_main_v32 (F := Ideal) (ix4 b p H l) = nat2 cosT p.val l.val := by
  rw [val_main_v32_apply, val_main_v31_apply, val_main_v24_apply]
  exact cos_idx p l rfl rfl

theorem v35_at (l : Fin 16) : val_main_v35 (F := Ideal) (ix4 b p H l) = nat2 sinT p.val l.val := by
  rw [val_main_v35_apply, val_main_v34_apply, val_main_v26_apply]
  exact sin_idx p l rfl rfl

theorem v39_at (l : Fin 16) : val_main_v39 (F := Ideal) (ix4 b p H l) = nat2 cosT p.val l.val := by
  rw [val_main_v39_apply, val_main_v38_apply, val_main_v24_apply]
  exact cos_idx p l rfl rfl

theorem v42_at (l : Fin 16) : val_main_v42 (F := Ideal) (ix4 b p H l) = nat2 sinT p.val l.val := by
  rw [val_main_v42_apply, val_main_v41_apply, val_main_v26_apply]
  exact sin_idx p l rfl rfl

theorem v59_at (l : Fin 16) : val_main_v59 (F := Ideal) (ix4 b p H l) = nat2 cosT p.val l.val := by
  rw [val_main_v59_apply, val_main_v58_apply, val_main_v24_apply]
  exact cos_idx p l rfl rfl

theorem v62_at (l : Fin 16) : val_main_v62 (F := Ideal) (ix4 b p H l) = nat2 sinT p.val l.val := by
  rw [val_main_v62_apply, val_main_v61_apply, val_main_v26_apply]
  exact sin_idx p l rfl rfl

theorem v66_at (l : Fin 16) : val_main_v66 (F := Ideal) (ix4 b p H l) = nat2 cosT p.val l.val := by
  rw [val_main_v66_apply, val_main_v65_apply, val_main_v24_apply]
  exact cos_idx p l rfl rfl

theorem v69_at (l : Fin 16) : val_main_v69 (F := Ideal) (ix4 b p H l) = nat2 sinT p.val l.val := by
  rw [val_main_v69_apply, val_main_v68_apply, val_main_v26_apply]
  exact sin_idx p l rfl rfl

/-- The embedded first sixteen coordinates, and the next sixteen. -/
def turnA (f : ℕ → EReal) (p : Fin 2048) (l : ℕ) : EReal := f l * nat2 cosT p.val l - f (l + 16) * nat2 sinT p.val l
def turnB (f : ℕ → EReal) (p : Fin 2048) (l : ℕ) : EReal := f (l + 16) * nat2 cosT p.val l + f l * nat2 sinT p.val l

theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun a => Fin.ext (match a with
    | ⟨0, _⟩ => h0
    | ⟨1, _⟩ => h1
    | ⟨2, _⟩ => h2
    | ⟨3, _⟩ => h3)

theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (match a with
    | ⟨0, _⟩ => h0
    | ⟨1, _⟩ => h1
    | ⟨2, _⟩ => h2)

/-- A head made of its first sixteen coordinates, the next sixteen and the others. -/
theorem head_concat (u v : FVec Ideal S4x2048x16x16 .f32) (z : FVec Ideal S4x2048x16x96 .f32)
    (h : Shape.Concatenates [S4x2048x16x16, S4x2048x16x16, S4x2048x16x96] S4x2048x16x128 3) {f g k : ℕ → EReal}
    (hu : ∀ l : Fin 16, u (ix4 b p H l) = f l.val) (hv : ∀ l : Fin 16, v (ix4 b p H l) = g l.val) (hz : ∀ l : Fin 96, z (ix4 b p H l) = k l.val) (d : Fin 128) :
    (concatenate S4x2048x16x128 3 [⟨S4x2048x16x16, u⟩, ⟨S4x2048x16x16, v⟩, ⟨S4x2048x16x96, z⟩] h : FVec Ideal S4x2048x16x128 .f32) (ix4 b p H d)
      = if d.val < 16 then f d.val else if d.val < 32 then g (d.val - 16) else k (d.val - 32) := by
  pointwise
  split_ifs
  all_goals first
    | exact hu _
    | exact Eq.trans (hv ⟨d.val - 16, by omega⟩) (Eq.symm (if_pos (by omega)))
    | exact Eq.trans (hz ⟨d.val - 16 - 16, by omega⟩) (Eq.trans (congrArg k (by show d.val - 16 - 16 = d.val - 32; omega)) (Eq.symm (if_neg (by omega))))

/-- The queries before their embedding, head by head. -/
theorem v28_at (d : Fin 128) : val_main_v28 (F := Ideal) x w (ix4 b p H d) = P x w (rowNo b p).val (2048 + 128 * H.val + d.val) := by
  rw [val_main_v28_apply, val_main_v27_apply]
  exact v6_idx x w b p ⟨2048 + 128 * H.val + d.val, by omega⟩ (by simp [ix4]; omega) (by simp [ix4]; omega) (by simp [ix4]; omega)

/-- The queries' first sixteen coordinates, the next sixteen, and the others. -/
theorem v29_at (l : Fin 16) : val_main_v29 (F := Ideal) x w (ix4 b p H l) = P x w (rowNo b p).val (2048 + 128 * H.val + l.val) := by
  rw [val_main_v29_apply]
  exact Eq.trans (congrArg (val_main_v28 (F := Ideal) x w) (a₂ := ix4 b p H (⟨l.val, by omega⟩ : Fin 128)) (ext4 rfl rfl rfl rfl)) (v28_at x w b p H _)

theorem v30_at (l : Fin 16) : val_main_v30 (F := Ideal) x w (ix4 b p H l) = P x w (rowNo b p).val (2048 + 128 * H.val + (l.val + 16)) := by
  rw [val_main_v30_apply]
  exact Eq.trans (congrArg (val_main_v28 (F := Ideal) x w) (a₂ := ix4 b p H (⟨l.val + 16, by omega⟩ : Fin 128)) (ext4 rfl rfl rfl (Nat.add_comm 16 l.val))) (v28_at x w b p H _)

theorem v45_at (l : Fin 96) : val_main_v45 (F := Ideal) x w (ix4 b p H l) = P x w (rowNo b p).val (2048 + 128 * H.val + (l.val + 32)) := by
  rw [val_main_v45_apply]
  exact Eq.trans (congrArg (val_main_v28 (F := Ideal) x w) (a₂ := ix4 b p H (⟨l.val + 32, by omega⟩ : Fin 128)) (ext4 rfl rfl rfl (Nat.add_comm 32 l.val))) (v28_at x w b p H _)

theorem v37_at (l : Fin 16) : val_main_v37 (F := Ideal) x w (ix4 b p H l) = turnA (fun l => P x w (rowNo b p).val (2048 + 128 * H.val + l)) p l.val := by
  rw [val_main_v37_apply, val_main_v33_apply, val_main_v36_apply, v29_at, v30_at, v32_at, v35_at]
  rfl

theorem v44_at (l : Fin 16) : val_main_v44 (F := Ideal) x w (ix4 b p H l) = turnB (fun l => P x w (rowNo b p).val (2048 + 128 * H.val + l)) p l.val := by
  rw [val_main_v44_apply, val_main_v40_apply, val_main_v43_apply, v29_at, v30_at, v39_at, v42_at]
  rfl

/-- The queries, embedded. -/
theorem v46_at (d : Fin 128) : val_main_v46 (F := Ideal) x w (ix4 b p H d) = embedded (P x w) (rowNo b p).val (2048 + 128 * H.val + d.val) := by
  unfold val_main_v46
  refine Eq.trans (head_concat b p H _ _ _ _ (v37_at x w b p H) (v44_at x w b p H) (k := fun l => P x w (rowNo b p).val (2048 + 128 * H.val + (l + 32))) (v45_at x w b p H) d) ?_
  unfold embedded rotary turnA turnB
  rw [posOf_rowNo, show (2048 + 128 * H.val + d.val) / 128 * 128 = 2048 + 128 * H.val by omega, show (2048 + 128 * H.val + d.val) % 128 = d.val by omega]
  split_ifs with h1 h2
  · rfl
  · dsimp only
    rw [Nat.sub_add_cancel (by omega)]
  · dsimp only
    rw [Nat.sub_add_cancel (by omega)]

/-- The keys before their embedding, head by head. -/
theorem v55_at (d : Fin 128) : val_main_v55 (F := Ideal) x w (ix4 b p H d) = P x w (rowNo b p).val (4096 + 128 * H.val + d.val) := by
  rw [val_main_v55_apply, val_main_v54_apply]
  exact v6_idx x w b p ⟨4096 + 128 * H.val + d.val, by omega⟩ (by simp [ix4]; omega) (by simp [ix4]; omega) (by simp [ix4]; omega)

/-- The keys' first sixteen coordinates, the next sixteen, and the others. -/
theorem v56_at (l : Fin 16) : val_main_v56 (F := Ideal) x w (ix4 b p H l) = P x w (rowNo b p).val (4096 + 128 * H.val + l.val) := by
  rw [val_main_v56_apply]
  exact Eq.trans (congrArg (val_main_v55 (F := Ideal) x w) (a₂ := ix4 b p H (⟨l.val, by omega⟩ : Fin 128)) (ext4 rfl rfl rfl rfl)) (v55_at x w b p H _)

theorem v57_at (l : Fin 16) : val_main_v57 (F := Ideal) x w (ix4 b p H l) = P x w (rowNo b p).val (4096 + 128 * H.val + (l.val + 16)) := by
  rw [val_main_v57_apply]
  exact Eq.trans (congrArg (val_main_v55 (F := Ideal) x w) (a₂ := ix4 b p H (⟨l.val + 16, by omega⟩ : Fin 128)) (ext4 rfl rfl rfl (Nat.add_comm 16 l.val))) (v55_at x w b p H _)

theorem v72_at (l : Fin 96) : val_main_v72 (F := Ideal) x w (ix4 b p H l) = P x w (rowNo b p).val (4096 + 128 * H.val + (l.val + 32)) := by
  rw [val_main_v72_apply]
  exact Eq.trans (congrArg (val_main_v55 (F := Ideal) x w) (a₂ := ix4 b p H (⟨l.val + 32, by omega⟩ : Fin 128)) (ext4 rfl rfl rfl (Nat.add_comm 32 l.val))) (v55_at x w b p H _)

theorem v64_at (l : Fin 16) : val_main_v64 (F := Ideal) x w (ix4 b p H l) = turnA (fun l => P x w (rowNo b p).val (4096 + 128 * H.val + l)) p l.val := by
  rw [val_main_v64_apply, val_main_v60_apply, val_main_v63_apply, v56_at, v57_at, v59_at, v62_at]
  rfl

theorem v71_at (l : Fin 16) : val_main_v71 (F := Ideal) x w (ix4 b p H l) = turnB (fun l => P x w (rowNo b p).val (4096 + 128 * H.val + l)) p l.val := by
  rw [val_main_v71_apply, val_main_v67_apply, val_main_v70_apply, v56_at, v57_at, v66_at, v69_at]
  rfl

/-- The keys, embedded. -/
theorem v73_at (d : Fin 128) : val_main_v73 (F := Ideal) x w (ix4 b p H d) = embedded (P x w) (rowNo b p).val (4096 + 128 * H.val + d.val) := by
  unfold val_main_v73
  refine Eq.trans (head_concat b p H _ _ _ _ (v64_at x w b p H) (v71_at x w b p H) (k := fun l => P x w (rowNo b p).val (4096 + 128 * H.val + (l + 32))) (v72_at x w b p H) d) ?_
  unfold embedded rotary turnA turnB
  rw [posOf_rowNo, show (4096 + 128 * H.val + d.val) / 128 * 128 = 4096 + 128 * H.val by omega, show (4096 + 128 * H.val + d.val) % 128 = d.val by omega]
  split_ifs with h1 h2
  · rfl
  · dsimp only
    rw [Nat.sub_add_cancel (by omega)]
  · dsimp only
    rw [Nat.sub_add_cancel (by omega)]

end

end Cert.Proj
-- ==== Proof.ProjRef.lean ====
/-
  The reference's projection, entry by entry, as a function of the rows and the weights.
-/
module

public import proofs.«01_k».proof.Proof.ProjHeads

@[expose] public section

set_option maxRecDepth 16384

noncomputable section

namespace Cert.Proj

open Idealize.ShloMosaic Idealize.ShloMosaic.TcCoe Idealize.SL.Sem
open Cert.Reference2Ideal Cert.Reference2Ideal.Gen Cert.Reference2Ideal.Read

variable (x : FVec Ideal ⟨2, ![8192, 2048]⟩ .bf16) (w : FVec Ideal ⟨3, ![2, 2048, 14336]⟩ .f32)

theorem log_two : (FloatOps.hostUnary (F := Ideal) .log (FloatOps.ofBits (F := Ideal) .f32 0x40000000#32) : EReal) = (Real.log 2 : ℝ) := by
  show Ideal.log (Ideal.ofBits .f32 0x40000000#32) = _
  rw [show Ideal.ofBits .f32 0x40000000#32 = ((2 : ℝ) : EReal) by simp [Ideal.ofBits, Ideal.ieee]; rw [← EReal.coe_mul]; norm_num]
  show (if (2 : ℝ) ≤ 0 then _ else _) = _
  rw [if_neg (by norm_num)]

theorem sqrt_128 : (FloatOps.hostUnary (F := Ideal) .sqrt (FloatOps.ofBits (F := Ideal) .f32 0x43000000#32) : EReal) = (Real.sqrt 128 : ℝ) := by
  show Ideal.sqrt (Ideal.ofBits .f32 0x43000000#32) = _
  rw [show Ideal.ofBits .f32 0x43000000#32 = ((128 : ℝ) : EReal) by simp [Ideal.ofBits, Ideal.ieee]; rw [← EReal.coe_mul]; norm_num]
  show (if (128 : ℝ) < 0 then _ else _) = _
  rw [if_neg (by norm_num)]

theorem mulf_eq (u v : Ideal .f32) : (FloatOps.mulf u v : Ideal .f32) = ((u : EReal) * (v : EReal) : EReal) := rfl

theorem divf_eq (u v : Ideal .f32) : (FloatOps.hostDivf u v : Ideal .f32) = Ideal.div (u : EReal) (v : EReal) := rfl

theorem truncf_eq (v : Ideal .f32) : (FloatOps.truncf .bf16 bitsLt_bf16_f32 v : Ideal .bf16) = (v : EReal) := rfl

/-- The scale of the queries: one over the product of the logarithm of two and the root of 128. -/
theorem v52_at (i : S4x2048x2048.Idx) : val_main_v52 (F := Ideal) i = qScale := by
  have hp : (Real.log 2 * Real.sqrt 128 : ℝ) ≠ 0 := (mul_pos (Real.log_pos one_lt_two) (Real.sqrt_pos.mpr (by norm_num))).ne'
  rw [val_main_v52_apply, val_main_v51_apply, val_main_v50_apply, val_main_v48_apply, val_main_v49_apply, divf_eq, mulf_eq]
  rw [show (val_main_cst_3 (F := Ideal) (idx_main_v52 i)) = FloatOps.ofBits (F := Ideal) .f32 0x40000000#32 from rfl,
    show (val_main_cst_4 (F := Ideal) (idx_main_v52 i)) = FloatOps.ofBits (F := Ideal) .f32 0x43000000#32 from rfl,
    show (val_main_cst_5 (F := Ideal) (idx_main_v52 i)) = FloatOps.ofBits (F := Ideal) .f32 0x3F800000#32 from rfl, log_two, sqrt_128, one_bits, ← EReal.coe_mul]
  unfold Ideal.div
  rw [if_neg (by rw [EReal.coe_eq_zero]; exact hp), one_mul, ← EReal.coe_inv, mul_inv]
  rfl

variable (b : Fin 4) (p : Fin 2048)

/-- The scaled queries. -/
theorem v53_at (l : Fin 2048) : val_main_v53 (F := Ideal) x w (ix3 b p l) = embedded (P x w) (rowNo b p).val (2048 + l.val) * qScale := by
  rw [val_main_v53_apply, val_main_v47_apply, v52_at, mulf_eq]
  refine congrArg (fun u : EReal => u * qScale) ?_
  refine Eq.trans (congrArg (val_main_v46 (F := Ideal) x w) (a₂ := ix4 b p (⟨l.val / 128, by omega⟩ : Fin 16) (⟨l.val % 128, by omega⟩ : Fin 128)) (funext fun a => Fin.ext ?_)) ((v46_at x w _ _ _ _).trans ?_)
  · match a with
    | ⟨0, _⟩ => simp [ix3, ix4]; omega
    | ⟨1, _⟩ => simp [ix3, ix4]; omega
    | ⟨2, _⟩ => simp [ix3, ix4]; omega
    | ⟨3, _⟩ => simp [ix3, ix4]; omega
  · rw [show 2048 + 128 * (l.val / 128) + l.val % 128 = 2048 + l.val by omega]

/-- The keys. -/
theorem v74_at (l : Fin 2048) : val_main_v74 (F := Ideal) x w (ix3 b p l) = embedded (P x w) (rowNo b p).val (4096 + l.val) := by
  rw [val_main_v74_apply]
  refine Eq.trans (congrArg (val_main_v73 (F := Ideal) x w) (a₂ := ix4 b p (⟨l.val / 128, by omega⟩ : Fin 16) (⟨l.val % 128, by omega⟩ : Fin 128)) (funext fun a => Fin.ext ?_)) ((v73_at x w _ _ _ _).trans ?_)
  · match a with
    | ⟨0, _⟩ => simp [ix3, ix4]; omega
    | ⟨1, _⟩ => simp [ix3, ix4]; omega
    | ⟨2, _⟩ => simp [ix3, ix4]; omega
    | ⟨3, _⟩ => simp [ix3, ix4]; omega
  · rw [show 4096 + 128 * (l.val / 128) + l.val % 128 = 4096 + l.val by omega]

/-- The other columns. -/
theorem v75_at (l : Fin 2048) : val_main_v75 (F := Ideal) x w (ix3 b p l) = P x w (rowNo b p).val l.val := by
  rw [val_main_v75_apply]
  exact v6_idx x w b p ⟨l.val, by omega⟩ rfl rfl rfl

theorem v76_at (l : Fin 8192) : val_main_v76 (F := Ideal) x w (ix3 b p l) = P x w (rowNo b p).val (6144 + l.val) := by
  rw [val_main_v76_apply]
  exact v6_idx x w b p ⟨6144 + l.val, by omega⟩ rfl rfl (by simp [ix3])

/-- Four groups of columns side by side. -/
theorem cols_concat (u v z : FVec Ideal S4x2048x2048 .f32) (y : FVec Ideal S4x2048x8192 .f32)
    (h : Shape.Concatenates [S4x2048x2048, S4x2048x2048, S4x2048x2048, S4x2048x8192] S4x2048x14336 2) {f g k e : ℕ → EReal}
    (hu : ∀ l : Fin 2048, u (ix3 b p l) = f l.val) (hv : ∀ l : Fin 2048, v (ix3 b p l) = g l.val) (hz : ∀ l : Fin 2048, z (ix3 b p l) = k l.val)
    (hy : ∀ l : Fin 8192, y (ix3 b p l) = e l.val) (d : Fin 14336) :
    (concatenate S4x2048x14336 2 [⟨S4x2048x2048, u⟩, ⟨S4x2048x2048, v⟩, ⟨S4x2048x2048, z⟩, ⟨S4x2048x8192, y⟩] h : FVec Ideal S4x2048x14336 .f32) (ix3 b p d)
      = if d.val < 2048 then f d.val else if d.val < 4096 then g (d.val - 2048) else if d.val < 6144 then k (d.val - 4096) else e (d.val - 6144) := by
  pointwise
  split_ifs
  all_goals first
    | exact hu _
    | exact Eq.trans (hv ⟨d.val - 2048, by omega⟩) (Eq.symm (if_pos (by omega)))
    | exact Eq.trans (hz ⟨d.val - 2048 - 2048, by omega⟩) (Eq.trans (congrArg k (by show d.val - 2048 - 2048 = d.val - 4096; omega))
        (Eq.symm ((if_neg (by omega)).trans (if_pos (by omega)))))
    | exact Eq.trans (hy ⟨d.val - 2048 - 2048 - 2048, by omega⟩) (Eq.trans (congrArg e (by show d.val - 2048 - 2048 - 2048 = d.val - 6144; omega))
        (Eq.symm ((if_neg (by omega)).trans (if_neg (by omega)))))

/-- The projection by batch and position. -/
theorem v77_at (l : Fin 14336) : val_main_v77 (F := Ideal) x w (ix3 b p l) = projVal (rowsOf x) (weightsOf w) (rowNo b p).val l.val := by
  unfold val_main_v77
  refine Eq.trans (cols_concat b p _ _ _ _ _ (f := fun l => P x w (rowNo b p).val l) (g := fun l => embedded (P x w) (rowNo b p).val (2048 + l) * qScale)
    (k := fun l => embedded (P x w) (rowNo b p).val (4096 + l)) (e := fun l => P x w (rowNo b p).val (6144 + l))
    (v75_at x w b p) (v53_at x w b p) (v74_at x w b p) (v76_at x w b p) l) ?_
  unfold projVal
  by_cases h1 : l.val < 2048
  · rw [if_pos h1, if_neg (by omega), if_neg (by omega)]
  by_cases h2 : l.val < 4096
  · rw [if_neg h1, if_pos h2, if_pos (by omega), show 2048 + (l.val - 2048) = l.val by omega]
  by_cases h3 : l.val < 6144
  · rw [if_neg h1, if_neg h2, if_pos h3, if_neg (by omega), if_pos (by omega), show 4096 + (l.val - 4096) = l.val by omega]
  · rw [if_neg h1, if_neg h2, if_neg h3, if_neg (by omega), if_neg (by omega), show 6144 + (l.val - 6144) = l.val by omega]

/-- The rows back in their chunks: chunk `a`, batch `b`, position `s` of the chunk. -/
theorem v78_at (a : Fin 128) (s : Fin 16) (L : Fin 14336) :
    val_main_v78 (F := Ideal) x w (ix4 b a s L) = projVal (rowsOf x) (weightsOf w) ((a.val * 4 + b.val) * 16 + s.val) L.val := by
  rw [val_main_v78_apply]
  refine Eq.trans (congrArg (val_main_v77 (F := Ideal) x w) (a₂ := ix3 b (⟨a.val * 16 + s.val, by omega⟩ : Fin 2048) L) (ext3 ?_ ?_ ?_)) ((v77_at x w _ _ L).trans ?_)
  · show (((b.val * 128 + a.val) * 16 + s.val) * 14336 + L.val) / 29360128 = b.val
    omega
  · show (((b.val * 128 + a.val) * 16 + s.val) * 14336 + L.val) / 14336 % 2048 = a.val * 16 + s.val
    omega
  · show (((b.val * 128 + a.val) * 16 + s.val) * 14336 + L.val) % 14336 = L.val
    omega
  · have hR : (rowNo b ⟨a.val * 16 + s.val, by omega⟩).val = (a.val * 4 + b.val) * 16 + s.val := by
      show ((a.val * 16 + s.val) / 16 * 4 + b.val) * 16 + (a.val * 16 + s.val) % 16 = _
      omega
    rw [hR]

/-- The reference's result, entry by entry. -/
theorem v81_at (R : Fin 8192) (L : Fin 14336) : val_main_v81 (F := Ideal) x w (ix2 R L) = projVal (rowsOf x) (weightsOf w) R.val L.val := by
  rw [val_main_v81_apply, truncf_eq, val_main_v80_apply, val_main_v79_apply]
  refine Eq.trans (congrArg (val_main_v78 (F := Ideal) x w)
    (a₂ := ix4 (⟨R.val / 16 % 4, by omega⟩ : Fin 4) (⟨R.val / 64, by omega⟩ : Fin 128) (⟨R.val % 16, by omega⟩ : Fin 16) L) (ext4 ?_ ?_ ?_ ?_)) ((v78_at x w _ _ _ L).trans ?_)
  · show (R.val * 14336 + L.val) / 229376 % 4 = R.val / 16 % 4
    omega
  · show (R.val * 14336 + L.val) / 917504 = R.val / 64
    omega
  · show (R.val * 14336 + L.val) / 14336 % 16 = R.val % 16
    omega
  · show (R.val * 14336 + L.val) % 14336 = L.val
    omega
  · rw [show (R.val / 64 * 4 + R.val / 16 % 4) * 16 + R.val % 16 = R.val by omega]

end Cert.Proj
-- ==== Proof.Projection.lean ====
/-
  The claims about the projection: the frames, the idealization, and that kernel and reference compute the same.
-/
module

public import proofs.«01_k».proof.Defs
public import proofs.«01_k».proof.Proof.ProjRef
public import proofs.«01_k».proof.Proof.Gen.Kernel2.Frame
public import proofs.«01_k».proof.Proof.Gen.Reference2Ideal.Run

@[expose] public section

noncomputable section

namespace Cert.Proj

open Idealize.ShloMosaic Idealize.ShloMosaic.TcCoe Idealize.SL.Sem

theorem frame_kernel : Cert.quiescent_Kernel2 := fun m ρ _ => Cert.Kernel2.Gen.frame m ρ

theorem frame_kernelIdeal : Cert.quiescent_Kernel2Ideal := fun m ρ _ => Cert.Kernel2Ideal.Gen.frame m ρ

/-- The reference writes no argument and declares no semaphore. -/
theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal :=
  IdealRules.named_const.statement Cert.Kernel2Ideal.κ "q_scale" .f32 0x3E0293EE#32 (((Real.log 2)⁻¹ * (Real.sqrt 128)⁻¹ : ℝ) : EReal) rfl

/-- The kernel's result array is the reference's result on the same rows and weights. -/
theorem array_eq (m : (ℓ : Loc Cert.Kernel2Ideal.nD Cert.Kernel2Ideal.τ Cert.Kernel2Ideal.sig) → Buf (Elt Ideal) ℓ) (c : Dev Cert.Kernel2Ideal.nD) :
    ((Cert.Kernel2Ideal.Gen.dats m 0 c).arrAt 4 Cert.Kernel2Ideal.cfg0.N : FVec Ideal ⟨2, ![8192, 14336]⟩ .bf16)
      = Cert.Reference2Ideal.Read.val_main_v81 (F := Ideal) (m ((c : Thread Cert.Kernel2Ideal.nD Cert.Kernel2Ideal.τ).loc Cert.Kernel2Ideal.main_arg0))
          (m ((c : Thread Cert.Kernel2Ideal.nD Cert.Kernel2Ideal.τ).loc Cert.Kernel2Ideal.main_arg1)) := by
  funext i
  obtain ⟨r, l, rfl⟩ : ∃ (r : Fin 8192) (l : Fin 14336), i = ix2 r l :=
    ⟨i 0, i 1, by funext k; match k with | 0 => rfl | 1 => rfl⟩
  exact (array_apply m c r l).trans (v81_at _ _ r l).symm

/-- Kernel and reference end with the same projection. -/
theorem algebraic : Cert.algebraic_Kernel2Ideal_Reference2Ideal := by
  intro m ρ m' ρ' _ hagree
  refine ⟨fun c => (Cert.Kernel2Ideal.Gen.dats m 0 c).arrAt 4 Cert.Kernel2Ideal.cfg0.N, Cert.Kernel2Ideal.Value.run_blocks m ρ, ?_⟩
  refine (θ_run Cert.Reference2Ideal.defs _ _).mono (fun _ h c => ⟨(h c).1.trans ?_, (h c).2⟩) (Cert.Reference2Ideal.Value.run (F := Ideal) m' ρ')
  rw [Cert.Reference2Ideal.Read.val_main_v81_eq, (hagree c).1, (hagree c).2]
  exact (array_eq m c).symm

end Cert.Proj

end
-- ==== Proof.TailNorm.lean ====
/-
  The output projection's rows: the products of the rows and the weights, each row divided by the root of its mean square
  and scaled by the gains, as functions of a row and a column.
-/
module

public import proofs.«01_k».proof.Proof.ProjHeads
public import proofs.«01_k».proof.Proof.Gen.Kernel3Ideal.Value
public import Idealize.ShloMosaic.Lib.Pipeline.ValueKit

@[expose] public section

set_option maxRecDepth 16384

noncomputable section

namespace Cert.Tail

open Idealize.ShloMosaic Idealize.ShloMosaic.TcCoe Idealize.SL.Sem
open Cert.Moba (Rep)
open Cert.Proj (prod ext4 ext3 load_rep0)

/-- The number of columns, and the number added to the mean of the squares. -/
def cols : EReal := FloatOps.ofBits (F := Ideal) .f32 0x45000000#32
def eps : EReal := FloatOps.ofBits (F := Ideal) .f32 0x358637BD#32

/-- The mean of the squares of a row. -/
def meanSq (P : ℕ → ℕ → EReal) (i : ℕ) : EReal := Ideal.div (∑ d : Fin 2048, P i d * P i d) cols

/-- The entry of a row, divided by the root of the row's mean square, times its gain. -/
def normed (P : ℕ → ℕ → EReal) (γ : ℕ → EReal) (i j : ℕ) : EReal := P i j * Ideal.rsqrt (meanSq P i + eps) * γ j

section
variable {a b : ℕ}

/-- The sum of every row, as a column. -/
theorem sumCols {x : FVec Ideal ⟨2, ![a, b]⟩ .f32} {f : ℕ → ℕ → EReal} (hx : Rep x f)
    (h : (⟨2, ![a, b]⟩ : Shape).Reduces [1] ⟨1, ![a]⟩) (h1 h2) (h' : (⟨1, ![a]⟩ : Shape).ShapeCasts ⟨2, ![a, 1]⟩) :
    Rep (shapeCast ⟨2, ![a, 1]⟩ (multiReduction .add [1] ⟨1, ![a]⟩ x 0x00000000#32 h h1 h2) h')
      fun i _ => ∑ d : Fin b, f i d := by
  intro i j
  refine Eq.trans (b := multiReduction .add [1] ⟨1, ![a]⟩ x 0x00000000#32 h h1 h2 (ix1 i)) ?_ ?_
  · show (multiReduction .add [1] ⟨1, ![a]⟩ x 0x00000000#32 h h1 h2) (Shape.reshapeEquiv h' (ix2 i j)) = _
    rw [Shape.reshapeEquiv_eq_of_vals h' (ix2 i j) (ix1 i) i.val i.val (rowMajor_val1 _)
      ((rowMajor_val2 _ _ rfl).trans (by rw [Subsingleton.elim j 0]; simp)) rfl]
  · pointwise
    refine Finset.sum_congr rfl fun k _ => ?_
    refine Eq.trans ?_ (hx i k)
    congr 1

/-- One column repeated. -/
theorem broadcastCol {β : Type} {x : (⟨2, ![a, 1]⟩ : Shape).Idx → β} {f : ℕ → ℕ → β} (hx : Rep x f)
    (h : (⟨2, ![a, 1]⟩ : Shape).Broadcasts ⟨2, ![a, b]⟩) :
    Rep (broadcastTo ⟨2, ![a, b]⟩ x h) fun i _ => f i 0 := by
  intro i j
  refine Eq.trans ?_ (hx i 0)
  pointwise
  congr 1
  funext q
  match q with
  | 0 =>
    by_cases ha : a = 1
    · subst ha
      exact Subsingleton.elim (α := Fin 1) _ _
    · exact dif_neg ha
  | 1 => rfl

theorem rsqrt_rep {x : FVec Ideal ⟨2, ![a, b]⟩ .f32} {f : ℕ → ℕ → EReal} (hx : Rep x f) :
    Rep (rsqrt x) fun i j => Ideal.rsqrt (f i j) :=
  fun i j => congrArg Ideal.rsqrt (hx i j)

end

open Cert.Kernel3Ideal Cert.Kernel3Ideal.Gen

/-- The rows of a block, normed, as the kernel computes them. -/
def rowsNormed (v0 : FVec Ideal S512x2048 .bf16) (v1 : FVec Ideal S2048x2048 .bf16) (v3 : FVec Ideal S1x2048 .f32) : FVec Ideal S512x2048 .f32 :=
  have v2 : FVec Ideal S512x2048 .f32 := matmul dot_S512x2048_S2048x2048_S512x2048_1_0_0_1_n_n none v0 v1 (constant S512x2048 .f32 0x00000000#32)
  have v7 : FVec Ideal S512x1 .f32 := shapeCast S512x1 (multiReduction .add [1] S512 (mulf v2 v2) 0x00000000#32 reduces_S512x2048_S512 (.inl rfl) rfl) shapeCasts_S512_S512x1
  have v11 : FVec Ideal S512x1 .f32 := addf (divf v7 (broadcast S512x1 (Scalar.ofBits .f32 0x45000000#32))) (broadcast S512x1 (Scalar.ofBits .f32 0x358637BD#32))
  mulf (mulf v2 (broadcastTo S512x2048 (rsqrt v11) broadcasts_S512x1_S512x2048))
    (broadcastTo S512x2048 (shapeCast S1x2048 v3 shapeCasts_S1x2048_S1x2048) broadcasts_S1x2048_S512x2048)

theorem rowsNormed_rep {v0 : FVec Ideal S512x2048 .bf16} {v1 : FVec Ideal S2048x2048 .bf16} {v3 : FVec Ideal S1x2048 .f32}
    {f g γ : ℕ → ℕ → EReal} (h0 : Rep v0 f) (h1 : Rep v1 g) (h3 : Rep v3 γ) :
    Rep (rowsNormed v0 v1 v3) (normed (prod f g) (γ 0)) := by
  have h2 : Rep (matmul dot_S512x2048_S2048x2048_S512x2048_1_0_0_1_n_n none v0 v1 (constant S512x2048 .f32 0x00000000#32)) (prod f g) := Rep.matmul h0 h1
  have h7 := sumCols (Rep.mulf h2 h2) reduces_S512x2048_S512 (.inl rfl) rfl shapeCasts_S512_S512x1
  have h9 := Rep.divf h7 (Rep.broadcast (a := 512) (b := 1) cols)
  have h12 := rsqrt_rep (Rep.addf h9 (Rep.broadcast (a := 512) (b := 1) eps))
  exact Rep.mulf (Rep.mulf h2 (broadcastCol h12 broadcasts_S512x1_S512x2048))
    (Rep.broadcastRow (Rep.shapeCast h3 shapeCasts_S1x2048_S1x2048) broadcasts_S1x2048_S512x2048)

/-- The block's normed rows, by chunk, batch and position. -/
theorem pay1_at {v0 : FVec Ideal S512x2048 .bf16} {v1 : FVec Ideal S2048x2048 .bf16} {v3 : FVec Ideal S1x2048 .f32}
    {f g γ : ℕ → ℕ → EReal} (h0 : Rep v0 f) (h1 : Rep v1 g) (h3 : Rep v3 γ) (k : Fin 8) (b : Fin 4) (p : Fin 16) (q : Fin 2048) :
    k0_pay1 (F := Ideal) v0 v1 v3 (ix4 k b p q) = normed (prod f g) (γ 0) ((k.val * 4 + b.val) * 16 + p.val) q.val := by
  have hr : (k.val * 4 + b.val) * 16 + p.val < 512 := by omega
  refine Eq.trans ?_ (rowsNormed_rep h0 h1 h3 ⟨(k.val * 4 + b.val) * 16 + p.val, hr⟩ q)
  show shapeCast S8x4x16x2048 (shapeCast S8x4x16x2048 (rowsNormed v0 v1 v3) shapeCasts_S512x2048_S8x4x16x2048) shapeCasts_S8x4x16x2048_S8x4x16x2048 (ix4 k b p q) = _
  rw [shapeCast_apply _ shapeCasts_S8x4x16x2048_S8x4x16x2048 (ix4 k b p q) (ix4 k b p q) rfl,
    shapeCast_apply _ shapeCasts_S512x2048_S8x4x16x2048 (ix4 k b p q) (ix2 ⟨(k.val * 4 + b.val) * 16 + p.val, hr⟩ q)
      (by rw [Shape.rowMajor_val_two, Shape.rowMajor_val_four]; rfl)]

/-- The sum that is stored: one batch's residual and its normed rows. -/
theorem pay2_at (v21 v23 : FVec Ideal S8x1x16x2048 .f32) (k : Fin 8) (p : Fin 16) (q : Fin 2048) :
    k0_pay2 (F := Ideal) v21 v23 (ix4 (0 : Fin 1) k p q) = (v21 (ix4 k (0 : Fin 1) p q) + v23 (ix4 k (0 : Fin 1) p q) : EReal) := by
  show shapeCast S1x8x16x2048 (addf (shapeCast S8x16x2048 v21 shapeCasts_S8x1x16x2048_S8x16x2048)
    (shapeCast S8x16x2048 v23 shapeCasts_S8x1x16x2048_S8x16x2048)) shapeCasts_S8x16x2048_S1x8x16x2048 (ix4 (0 : Fin 1) k p q) = _
  rw [shapeCast_apply _ shapeCasts_S8x16x2048_S1x8x16x2048 (ix4 (0 : Fin 1) k p q) (ix3 k p q)
    (by rw [Shape.rowMajor_val_three, Shape.rowMajor_val_four]
        show (k.val * 16 + p.val) * 2048 + q.val = ((0 * 8 + k.val) * 16 + p.val) * 2048 + q.val; omega)]
  have e : ∀ v : FVec Ideal S8x1x16x2048 .f32, shapeCast S8x16x2048 v shapeCasts_S8x1x16x2048_S8x16x2048 (ix3 k p q) = v (ix4 k (0 : Fin 1) p q) := fun v =>
    shapeCast_apply v shapeCasts_S8x1x16x2048_S8x16x2048 (ix3 k p q) (ix4 k (0 : Fin 1) p q)
      (by rw [Shape.rowMajor_val_three, Shape.rowMajor_val_four]
          show ((k.val * 1 + 0) * 16 + p.val) * 2048 + q.val = (k.val * 16 + p.val) * 2048 + q.val; omega)
  exact congrArg₂ (fun u v : EReal => u + v) (e v21) (e v23)

end Cert.Tail

end
-- ==== Proof.TailBlock.lean ====
/-
  The output projection kernel's output block, entry by entry: the residual's block plus the normed rows, by batch, chunk and
  position.
-/
module

public import proofs.«01_k».proof.Proof.TailNorm

@[expose] public section

set_option maxRecDepth 16384

noncomputable section

namespace Cert.Tail

open Idealize.ShloMosaic Idealize.ShloMosaic.TcCoe Idealize.SL.Sem
open Cert.Moba (Rep)
open Cert.Proj (prod ext4 ext3)
open Cert.Kernel3Ideal Cert.Kernel3Ideal.Gen

variable (c : Dev nD) (i : grid0.Coords)
variable (arg1 : Memref sig .tc .vmem S512x2048 .bf16) (harg1 : arg1.IsWhole) (arg2 : Memref sig .tc .vmem S2048x2048 .bf16) (harg2 : arg2.IsWhole)
variable (arg3 : Memref sig .tc .vmem S8x4x16x2048 .f32) (harg3 : arg3.IsWhole) (arg4 : Memref sig .tc .vmem S1x2048 .f32) (harg4 : arg4.IsWhole)
variable (arg5 : Memref sig .tc .vmem S4x8x16x2048 .f32) (harg5 : arg5.IsWhole) (arg6 : Memref sig .tc .vmem S8x4x16x2048 .f32) (harg6 : arg6.IsWhole)
variable (x0 : FVec Ideal S512x2048 .bf16) (x1 : FVec Ideal S2048x2048 .bf16) (x2 : FVec Ideal S8x4x16x2048 .f32) (x3 : FVec Ideal S1x2048 .f32)

/-- A load of a whole buffer of two dimensions. -/
theorem load_rep0 {sig : RefSig} {A W : ℕ} {e : EltTy} (arg : Memref sig .tc .vmem (⟨2, ![A, W]⟩ : Shape) e) (harg : arg.IsWhole)
    {x : (⟨2, ![A, W]⟩ : Shape).Idx → Elt Ideal e} {f : ℕ → ℕ → Elt Ideal e} (h : Rep x f) {inb} :
    Rep (View.readAt (Elt Ideal) arg.view (Rect.unit (s := (⟨2, ![A, W]⟩ : Shape)) ![0, 0] (⟨2, ![A, W]⟩ : Shape).size inb).toLoadRect (harg.unread x)
      : (⟨2, ![A, W]⟩ : Shape).Idx → Elt Ideal e) f := by
  intro i j
  rw [View.readAt_eq_ld, Memref.IsWhole.read_unread]
  refine Eq.trans (congrArg x ?_) (h i j)
  funext k
  apply Fin.ext
  match k with
  | 0 => show 0 + 1 * i.val = i.val; omega
  | 1 => show 0 + 1 * j.val = j.val; omega

section
variable {n0 n1 n2 n3 : ℕ} {e : EltTy}

/-- A load of one batch of a whole buffer. -/
theorem load_batch {sig : RefSig} (arg : Memref sig .tc .vmem (⟨4, ![n0, n1, n2, n3]⟩ : Shape) e) (harg : arg.IsWhole)
    (x : (⟨4, ![n0, n1, n2, n3]⟩ : Shape).Idx → Elt Ideal e) (o : Fin n1) {v : ℕ} (hv : v = o.val) {inb} (k : Fin n0) (p : Fin n2) (q : Fin n3) :
    (View.readAt (Elt Ideal) arg.view (Rect.unit (s := (⟨4, ![n0, n1, n2, n3]⟩ : Shape)) ![0, v, 0, 0] (⟨4, ![n0, 1, n2, n3]⟩ : Shape).size inb).toLoadRect (harg.unread x)
      : (⟨4, ![n0, 1, n2, n3]⟩ : Shape).Idx → Elt Ideal e) (ix4 k (0 : Fin 1) p q) = x (ix4 k o p q) := by
  subst hv
  rw [View.readAt_eq_ld, Memref.IsWhole.read_unread]
  refine congrArg x ?_
  funext a; apply Fin.ext
  match a with
  | ⟨0, _⟩ => show 0 + 1 * k.val = k.val; omega
  | ⟨1, _⟩ => show o.val + 1 * 0 = o.val; omega
  | ⟨2, _⟩ => show 0 + 1 * p.val = p.val; omega
  | ⟨3, _⟩ => show 0 + 1 * q.val = q.val; omega

/-- A load of one batch of a buffer, from the store of a whole. -/
theorem load_stored {sig : RefSig} (arg : Memref sig .tc .vmem (⟨4, ![n0, n1, n2, n3]⟩ : Shape) e)
    {L : List (View.Piece (Elt Ideal) (⟨4, ![n0, n1, n2, n3]⟩ : Shape) e)}
    {y : (⟨4, ![n0, n1, n2, n3]⟩ : Shape).Idx → Elt Ideal e} {inb₀} (o : Fin n1) {v : ℕ} (hv : v = o.val) {inb}
    (hL : L = [⟨Rect.unit (s := (⟨4, ![n0, n1, n2, n3]⟩ : Shape)) ![0, 0, 0, 0] (⟨4, ![n0, n1, n2, n3]⟩ : Shape).size inb₀, y⟩])
    (k : Fin n0) (p : Fin n2) (q : Fin n3) :
    (arg.view.readCov L (Rect.unit (s := (⟨4, ![n0, n1, n2, n3]⟩ : Shape)) ![0, v, 0, 0] (⟨4, ![n0, 1, n2, n3]⟩ : Shape).size inb).toLoadRect
      : (⟨4, ![n0, 1, n2, n3]⟩ : Shape).Idx → Elt Ideal e) (ix4 k (0 : Fin 1) p q) = y (ix4 k o p q) := by
  subst hv
  rw [View.readCov_eq_canon', hL]
  refine Eq.trans (congrArg (View.canon _) ?_)
    (View.canon_cons_emb (Rect.unit (s := (⟨4, ![n0, n1, n2, n3]⟩ : Shape)) ![0, 0, 0, 0] (⟨4, ![n0, n1, n2, n3]⟩ : Shape).size inb₀) y [] (ix4 k o p q))
  funext a; apply Fin.ext
  match a with
  | ⟨0, _⟩ => show 0 + 1 * k.val = 0 + 1 * k.val; rfl
  | ⟨1, _⟩ => show o.val + 1 * 0 = 0 + 1 * o.val; omega
  | ⟨2, _⟩ => show 0 + 1 * p.val = 0 + 1 * p.val; rfl
  | ⟨3, _⟩ => show 0 + 1 * q.val = 0 + 1 * q.val; rfl

/-- The newest of the stores by batch, at a position of its batch. -/
theorem batch_on (o : Fin n0) {v : ℕ} (hv : v = o.val) {inb} {x : (⟨4, ![1, n1, n2, n3]⟩ : Shape).Idx → Elt Ideal e}
    (L : List (View.Piece (Elt Ideal) (⟨4, ![n0, n1, n2, n3]⟩ : Shape) e)) (k : Fin n1) (p : Fin n2) (q : Fin n3) :
    View.canon (⟨Rect.unit (s := (⟨4, ![n0, n1, n2, n3]⟩ : Shape)) ![v, 0, 0, 0] (⟨4, ![1, n1, n2, n3]⟩ : Shape).size inb, x⟩ :: L) (ix4 o k p q)
      = x (ix4 (0 : Fin 1) k p q) := by
  subst hv
  refine Eq.trans (congrArg (View.canon _) ?_)
    (View.canon_cons_emb (Rect.unit (s := (⟨4, ![n0, n1, n2, n3]⟩ : Shape)) ![o.val, 0, 0, 0] (⟨4, ![1, n1, n2, n3]⟩ : Shape).size inb) x L (ix4 (0 : Fin 1) k p q))
  funext a; apply Fin.ext
  match a with
  | ⟨0, _⟩ => show o.val = o.val + 1 * 0; omega
  | ⟨1, _⟩ => show k.val = 0 + 1 * k.val; omega
  | ⟨2, _⟩ => show p.val = 0 + 1 * p.val; omega
  | ⟨3, _⟩ => show q.val = 0 + 1 * q.val; omega

/-- The newest of the stores by batch, at a position of another batch. -/
theorem batch_off {o : ℕ} {inb} {x : (⟨4, ![1, n1, n2, n3]⟩ : Shape).Idx → Elt Ideal e}
    (L : List (View.Piece (Elt Ideal) (⟨4, ![n0, n1, n2, n3]⟩ : Shape) e)) (b : Fin n0) (k : Fin n1) (p : Fin n2) (q : Fin n3) (h : b.val ≠ o) :
    View.canon (⟨Rect.unit (s := (⟨4, ![n0, n1, n2, n3]⟩ : Shape)) ![o, 0, 0, 0] (⟨4, ![1, n1, n2, n3]⟩ : Shape).size inb, x⟩ :: L) (ix4 b k p q)
      = View.canon L (ix4 b k p q) := by
  refine View.canon_cons_of_not_mem _ L ?_
  intro hm
  obtain ⟨i, hi, he⟩ := (LoadRect.mem_set _).mp hm (0 : Fin 4)
  have hi' : i < 1 := hi
  have he' : b.val = o + 1 * i := he
  omega

end

theorem stored : kernelRun0_A.sl.HS0_1 (F := Ideal) c arg1 harg1 arg2 harg2 arg4 harg4 x0 x1 x3
    = [⟨Rect.unit (s := S8x4x16x2048) ![0, 0, 0, 0] S8x4x16x2048.size inb_S8x4x16x2048_S8x4x16x2048_0_0_0_0,
        k0_pay1 (F := Ideal) (View.readAt (Elt Ideal) arg1.view (Rect.unit (s := S512x2048) ![0, 0] S512x2048.size inb_S512x2048_S512x2048_0_0).toLoadRect (harg1.unread x0))
          (View.readAt (Elt Ideal) arg2.view (Rect.unit (s := S2048x2048) ![0, 0] S2048x2048.size inb_S2048x2048_S2048x2048_0_0).toLoadRect (harg2.unread x1))
          (View.readAt (Elt Ideal) arg4.view (Rect.unit (s := S1x2048) ![0, 0] S1x2048.size inb_S1x2048_S1x2048_0_0).toLoadRect (harg4.unread x3))⟩] := rfl

/-- An entry of the output block. -/
theorem out_at {f g γ : ℕ → ℕ → EReal} (h0 : Rep x0 f) (h1 : Rep x1 g) (h3 : Rep x3 γ) (b : Fin 4) (k : Fin 8) (p : Fin 16) (q : Fin 2048) :
    out0_A_4 (F := Ideal) c i arg1 harg1 arg2 harg2 arg3 harg3 arg4 harg4 arg5 harg5 arg6 harg6 x0 x1 x2 x3 (ix4 b k p q)
      = (x2 (ix4 k b p q) + normed (prod f g) (γ 0) ((k.val * 4 + b.val) * 16 + p.val) q.val : EReal) := by
  have hs := fun b : Fin 4 => pay1_at (load_rep0 arg1 harg1 h0 (inb := inb_S512x2048_S512x2048_0_0)) (load_rep0 arg2 harg2 h1 (inb := inb_S2048x2048_S2048x2048_0_0))
    (load_rep0 arg4 harg4 h3 (inb := inb_S1x2048_S1x2048_0_0)) k b p q
  unfold out0_A_4
  rw [View.read_writes_junk_eq_canon]
  dsimp only [kernelRun0_A]
  have e3 : b.val ≠ 3 → b.val ≠ 2 → b.val ≠ 1 → b = 0 := fun _ _ _ => Fin.ext (by show b.val = 0; omega)
  by_cases c3 : b.val = 3
  · obtain rfl : b = 3 := Fin.ext c3
    refine (batch_on (e := .f32) (3 : Fin 4) rfl _ k p q).trans ((pay2_at _ _ k p q).trans (congrArg₂ (fun u v : EReal => u + v) (load_batch arg3 harg3 x2 (3 : Fin 4) rfl k p q) ?_))
    exact (load_stored arg6 (3 : Fin 4) rfl (stored c arg1 harg1 arg2 harg2 arg4 harg4 x0 x1 x3) k p q).trans (hs 3)
  refine (batch_off (e := .f32) _ b k p q c3).trans ?_
  by_cases c2 : b.val = 2
  · obtain rfl : b = 2 := Fin.ext c2
    refine (batch_on (e := .f32) (2 : Fin 4) rfl _ k p q).trans ((pay2_at _ _ k p q).trans (congrArg₂ (fun u v : EReal => u + v) (load_batch arg3 harg3 x2 (2 : Fin 4) rfl k p q) ?_))
    exact (load_stored arg6 (2 : Fin 4) rfl (stored c arg1 harg1 arg2 harg2 arg4 harg4 x0 x1 x3) k p q).trans (hs 2)
  refine (batch_off (e := .f32) _ b k p q c2).trans ?_
  by_cases c1 : b.val = 1
  · obtain rfl : b = 1 := Fin.ext c1
    refine (batch_on (e := .f32) (1 : Fin 4) rfl _ k p q).trans ((pay2_at _ _ k p q).trans (congrArg₂ (fun u v : EReal => u + v) (load_batch arg3 harg3 x2 (1 : Fin 4) rfl k p q) ?_))
    exact (load_stored arg6 (1 : Fin 4) rfl (stored c arg1 harg1 arg2 harg2 arg4 harg4 x0 x1 x3) k p q).trans (hs 1)
  refine (batch_off (e := .f32) _ b k p q c1).trans ?_
  obtain rfl := e3 c3 c2 c1
  refine (batch_on (e := .f32) (0 : Fin 4) rfl _ k p q).trans ((pay2_at _ _ k p q).trans (congrArg₂ (fun u v : EReal => u + v) (load_batch arg3 harg3 x2 (0 : Fin 4) rfl k p q) ?_))
  exact (load_stored arg6 (0 : Fin 4) rfl (stored c arg1 harg1 arg2 harg2 arg4 harg4 x0 x1 x3) k p q).trans (hs 0)

end Cert.Tail

end
-- ==== Proof.TailArray.lean ====
/-
  The output projection kernel's result array, entry by entry, as a function of the rows, the weights, the residual and the gains.
-/
module

public import proofs.«01_k».proof.Proof.TailBlock
public import Idealize.ShloMosaic.Lib.StableHlo.RunRead

@[expose] public section

set_option maxRecDepth 16384

noncomputable section

namespace Cert.Tail

open Idealize.ShloMosaic Idealize.ShloMosaic.TcCoe Idealize.SL.Sem
open Cert.Moba (Rep)
open Cert.Proj (prod nat2 nat2_of)
open Cert.Kernel3Ideal Cert.Kernel3Ideal.Gen

/-- A one-dimensional vector as a function of a natural number. -/
def nat1 {a : ℕ} (x : (⟨1, ![a]⟩ : Shape).Idx → EReal) (i : ℕ) : EReal := if h : i < a then x (ix1 ⟨i, h⟩) else 0

theorem nat1_of {a : ℕ} (x : (⟨1, ![a]⟩ : Shape).Idx → EReal) (i : Fin a) : nat1 x i.val = x (ix1 i) := by
  unfold nat1
  rw [dif_pos i.2]

/-- The result at a batch, a chunk, a position in the chunk and a column. -/
def tailVal (x : FVec Ideal ⟨2, ![8192, 2048]⟩ .bf16) (w : FVec Ideal ⟨2, ![2048, 2048]⟩ .bf16) (r : FVec Ideal ⟨4, ![128, 4, 16, 2048]⟩ .f32)
    (g : FVec Ideal ⟨1, ![2048]⟩ .f32) (b : Fin 4) (k : Fin 128) (p : Fin 16) (q : Fin 2048) : EReal :=
  r (ix4 k b p q) + normed (prod (nat2 x) (nat2 w)) (nat1 g) ((k.val * 4 + b.val) * 16 + p.val) q.val

variable (m : (ℓ : Loc nD τ sig) → Buf (Elt Ideal) ℓ) (c : Dev nD)

/-- Where the blocks of a grid point lie. -/
theorem idx_facts : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 4) = t.val ∧ win0_2.index t (1 : Fin 4) = 0 ∧ win0_2.index t (2 : Fin 4) = 0 ∧ win0_2.index t (3 : Fin 4) = 0) ∧
    (win0_3.index t (0 : Fin 2) = 0 ∧ win0_3.index t (1 : Fin 2) = 0) ∧
    (win0_4.index t (0 : Fin 4) = 0 ∧ win0_4.index t (1 : Fin 4) = t.val ∧ win0_4.index t (2 : Fin 4) = 0 ∧ win0_4.index t (3 : Fin 4) = 0) :=
  (by decide +kernel : ∀ t : Fin grid0.N, _)

theorem lt16 (t : Fin cfg0.N) : t.val < 16 := t.2

theorem emb0 (t : Fin cfg0.N) (r : Fin 512) (k : Fin 2048) :
    ((cfg0.win 0).blk t).view.emb (ix2 r k) = ix2 (⟨512 * t.val + r.val, by have := lt16 t; omega⟩ : Fin 8192) k := by
  obtain ⟨⟨e0, e1⟩, _⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 2048 + 1 * k.val = k.val; omega

theorem iblk0 (t : Fin cfg0.N) : Rep (iblk m c 0 t : FVec Ideal S512x2048 .bf16) fun r k =>
    nat2 (a := 8192) (b := 2048) (m ((c : Thread nD τ).loc main_arg0)) (512 * t.val + r) k := by
  intro r k
  show V m c main_arg0 (((cfg0.win 0).blk t).view.emb _) = _
  rw [emb0, V_main_arg0]
  exact (nat2_of _ _ _).symm

theorem emb1 (t : Fin cfg0.N) (k j : Fin 2048) : ((cfg0.win 1).blk t).view.emb (ix2 k j) = ix2 k j := by
  obtain ⟨_, ⟨e0, e1⟩, _⟩ := idx_facts t
  funext a; apply Fin.ext
  match a with
  | ⟨0, _⟩ => show win0_1.index t (0 : Fin 2) * 2048 + 1 * k.val = k.val; omega
  | ⟨1, _⟩ => show win0_1.index t (1 : Fin 2) * 2048 + 1 * j.val = j.val; omega

theorem iblk1 (t : Fin cfg0.N) : Rep (iblk m c 1 t : FVec Ideal S2048x2048 .bf16) (nat2 (a := 2048) (b := 2048) (m ((c : Thread nD τ).loc main_arg1))) := by
  intro k j
  show V m c main_arg1 (((cfg0.win 1).blk t).view.emb _) = _
  rw [emb1, V_main_arg1]
  exact (nat2_of _ _ _).symm

theorem emb2 (t : Fin cfg0.N) (k : Fin 8) (b : Fin 4) (p : Fin 16) (q : Fin 2048) :
    ((cfg0.win 2).blk t).view.emb (ix4 k b p q) = ix4 (⟨8 * t.val + k.val, by have := lt16 t; omega⟩ : Fin 128) b p q := by
  obtain ⟨_, _, ⟨e0, e1, e2, e3⟩, _⟩ := idx_facts t
  funext a; apply Fin.ext
  match a with
  | ⟨0, _⟩ => show win0_2.index t (0 : Fin 4) * 8 + 1 * k.val = 8 * t.val + k.val; omega
  | ⟨1, _⟩ => show win0_2.index t (1 : Fin 4) * 4 + 1 * b.val = b.val; omega
  | ⟨2, _⟩ => show win0_2.index t (2 : Fin 4) * 16 + 1 * p.val = p.val; omega
  | ⟨3, _⟩ => show win0_2.index t (3 : Fin 4) * 2048 + 1 * q.val = q.val; omega

theorem iblk2 (t : Fin cfg0.N) (k : Fin 8) (b : Fin 4) (p : Fin 16) (q : Fin 2048) :
    (iblk m c 2 t : FVec Ideal S8x4x16x2048 .f32) (ix4 k b p q)
      = (m ((c : Thread nD τ).loc main_arg2) : FVec Ideal S128x4x16x2048 .f32) (ix4 (⟨8 * t.val + k.val, by have := lt16 t; omega⟩ : Fin 128) b p q) := by
  show V m c main_arg2 (((cfg0.win 2).blk t).view.emb _) = _
  rw [emb2, V_main_arg2]

/-- The gains as one row. -/
theorem V_gain : (V m c main_v0 : FVec Ideal S1x2048 .f32) = shapeCast S1x2048 (m ((c : Thread nD τ).loc main_arg3) : FVec Ideal S2048 .f32) shapeCasts_S2048_S1x2048 := by
  unfold V hostOps0
  after_reads_simp
  rfl

theorem emb3 (t : Fin cfg0.N) (z : Fin 1) (q : Fin 2048) : ((cfg0.win 3).blk t).view.emb (ix2 z q) = ix2 z q := by
  obtain ⟨_, _, _, ⟨e0, e1⟩, _⟩ := idx_facts t
  funext a; apply Fin.ext
  match a with
  | ⟨0, _⟩ => show win0_3.index t (0 : Fin 2) * 1 + 1 * z.val = z.val; omega
  | ⟨1, _⟩ => show win0_3.index t (1 : Fin 2) * 2048 + 1 * q.val = q.val; omega

theorem iblk3 (t : Fin cfg0.N) : Rep (iblk m c 3 t : FVec Ideal S1x2048 .f32) fun _ q => nat1 (a := 2048) (m ((c : Thread nD τ).loc main_arg3)) q := by
  intro z q
  show V m c main_v0 (((cfg0.win 3).blk t).view.emb _) = _
  rw [emb3, V_gain]
  exact (Cert.Moba.row_apply _ _ z q).trans (nat1_of _ _).symm

/-- The normed entry of a block's row is the normed entry of the array's row. -/
theorem normed_block (F G : ℕ → ℕ → EReal) (γ : ℕ → EReal) (o i j : ℕ) :
    normed (prod (fun r k => F (o + r) k) G) γ i j = normed (prod F G) γ (o + i) j := by
  unfold normed meanSq prod
  rfl

theorem emb4 (t : Fin cfg0.N) (b : Fin 4) (k : Fin 8) (p : Fin 16) (q : Fin 2048) :
    ((cfg0.win 4).blk t).view.emb (ix4 b k p q) = ix4 b (⟨8 * t.val + k.val, by have := lt16 t; omega⟩ : Fin 128) p q := by
  obtain ⟨_, _, _, _, ⟨e0, e1, e2, e3⟩⟩ := idx_facts t
  funext a; apply Fin.ext
  match a with
  | ⟨0, _⟩ => show win0_4.index t (0 : Fin 4) * 4 + 1 * b.val = b.val; omega
  | ⟨1, _⟩ => show win0_4.index t (1 : Fin 4) * 8 + 1 * k.val = 8 * t.val + k.val; omega
  | ⟨2, _⟩ => show win0_4.index t (2 : Fin 4) * 16 + 1 * p.val = p.val; omega
  | ⟨3, _⟩ => show win0_4.index t (3 : Fin 4) * 2048 + 1 * q.val = q.val; omega

theorem flush4 : ∀ t : Fin cfg0.N, (cfg0.win 4).flush t = true :=
  (by decide +kernel : ∀ t : Fin grid0.N, win0_4.flush t = true)

/-- What a grid point writes back, at an entry of its block. -/
theorem flushed_at (t : Fin cfg0.N) (b : Fin 4) (k : Fin 8) (p : Fin 16) (q : Fin 2048) :
    (outsAt0 m c t : FVec Ideal S4x8x16x2048 .f32) (ix4 b k p q)
      = tailVal (m ((c : Thread nD τ).loc main_arg0)) (m ((c : Thread nD τ).loc main_arg1)) (m ((c : Thread nD τ).loc main_arg2)) (m ((c : Thread nD τ).loc main_arg3))
          b (⟨8 * t.val + k.val, by have := lt16 t; omega⟩ : Fin 128) p q := by
  have h := out_at c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) (iblk0 m c t) (iblk1 m c t) (iblk3 m c t) b k p q
  unfold outsAt0
  refine h.trans ?_
  rw [iblk2, normed_block]
  unfold tailVal
  have e : 512 * t.val + ((k.val * 4 + b.val) * 16 + p.val) = ((8 * t.val + k.val) * 4 + b.val) * 16 + p.val := by omega
  rw [e]

/-- The kernel's result, entry by entry. -/
theorem array_apply (b : Fin 4) (k : Fin 128) (p : Fin 16) (q : Fin 2048) :
    ((dats m 0 c).arrAt 4 cfg0.N : FVec Ideal S4x128x16x2048 .f32) (ix4 b k p q)
      = tailVal (m ((c : Thread nD τ).loc main_arg0)) (m ((c : Thread nD τ).loc main_arg1)) (m ((c : Thread nD τ).loc main_arg2)) (m ((c : Thread nD τ).loc main_arg3)) b k p q := by
  let t : Fin cfg0.N := ⟨k.val / 8, by show _ < 16; omega⟩
  let s : Fin 8 := ⟨k.val % 8, by omega⟩
  have hk : (⟨8 * t.val + s.val, by have := lt16 t; omega⟩ : Fin 128) = k := Fin.ext (by show 8 * (k.val / 8) + k.val % 8 = k.val; omega)
  have e := congrFun (Cert.Kernel3Ideal.Value.blocks4 m c t (flush4 _)) (ix4 b s p q)
  rw [Cert.Kernel3Ideal.Value.flushed4] at e
  have e' : ((dats m 0 c).arrAt 4 cfg0.N : FVec Ideal S4x128x16x2048 .f32) (((cfg0.win 4).blk t).view.emb (ix4 b s p q)) = _ := e
  rw [emb4, hk] at e'
  refine e'.trans (Eq.trans (flushed_at m c t b s p q) ?_)
  rw [hk]

end Cert.Tail

end
-- ==== Proof.TailRef.lean ====
/-
  The output projection's reference, entry by entry: it is the kernel's result.
-/
module

public import proofs.«01_k».proof.Proof.TailArray
public import proofs.«01_k».proof.Proof.Gen.Reference3Ideal.Read

@[expose] public section

set_option maxRecDepth 16384

noncomputable section

namespace Cert.Tail

open Idealize.ShloMosaic Idealize.ShloMosaic.TcCoe Idealize.SL.Sem
open Cert.Proj (prod nat2 nat2_of ext3 ext4)
open Cert.Reference3Ideal Cert.Reference3Ideal.Gen Cert.Reference3Ideal.Read

/-- The position of a chunk's row, and the row of a batch, a chunk and a position in it. -/
def pos (k : Fin 128) (p : Fin 16) : Fin 2048 := ⟨k.val * 16 + p.val, by omega⟩
def row (b : Fin 4) (k : Fin 128) (p : Fin 16) : Fin 8192 := ⟨(k.val * 4 + b.val) * 16 + p.val, by omega⟩

theorem ext2 {n0 n1 : ℕ} {i j : (⟨2, ![n0, n1]⟩ : Shape).Idx} (h0 : (i 0).val = (j 0).val) (h1 : (i 1).val = (j 1).val) : i = j := by
  funext a; apply Fin.ext
  match a with
  | ⟨0, _⟩ => exact h0
  | ⟨1, _⟩ => exact h1

variable (x : FVec Ideal ⟨2, ![8192, 2048]⟩ .bf16) (w : FVec Ideal ⟨2, ![2048, 2048]⟩ .bf16)
variable (r : FVec Ideal ⟨4, ![128, 4, 16, 2048]⟩ .f32) (g : FVec Ideal ⟨1, ![2048]⟩ .f32)
variable (b : Fin 4) (k : Fin 128) (p : Fin 16) (q : Fin 2048)

/-- The products of the rows and the weights. -/
abbrev P : ℕ → ℕ → EReal := prod (nat2 x) (nat2 w)

theorem v1_at : (val_main_v1 (F := Ideal) x (ix4 k b p q) : EReal) = x (ix2 (row b k p) q) := by
  rw [val_main_v1_apply, val_main_v0_apply]
  refine congrArg x (ext2 ?_ ?_)
  · show (((k.val * 4 + b.val) * 16 + p.val) * 2048 + q.val) / 2048 = (k.val * 4 + b.val) * 16 + p.val; omega
  · show (((k.val * 4 + b.val) * 16 + p.val) * 2048 + q.val) % 2048 = q.val; omega

theorem v2_at : (val_main_v2 (F := Ideal) x (ix4 b k p q) : EReal) = x (ix2 (row b k p) q) := by
  rw [val_main_v2_apply]
  exact (congrArg (val_main_v1 (F := Ideal) x) (a₂ := ix4 k b p q) (ext4 rfl rfl rfl rfl)).trans (v1_at x b k p q)

theorem split_pos : ((b.val * 2048 + (k.val * 16 + p.val)) * 2048 + q.val) / 4194304 = b.val
    ∧ ((b.val * 2048 + (k.val * 16 + p.val)) * 2048 + q.val) / 32768 % 128 = k.val
    ∧ ((b.val * 2048 + (k.val * 16 + p.val)) * 2048 + q.val) / 2048 % 16 = p.val
    ∧ ((b.val * 2048 + (k.val * 16 + p.val)) * 2048 + q.val) % 2048 = q.val := by
  have := b.2; have := k.2; have := p.2; have := q.2
  refine ⟨?_, ?_, ?_, ?_⟩ <;> omega

theorem v3_at : (val_main_v3 (F := Ideal) x (ix3 b (pos k p) q) : EReal) = x (ix2 (row b k p) q) := by
  rw [val_main_v3_apply]
  obtain ⟨h0, h1, h2, h3⟩ := split_pos b k p q
  exact (congrArg (val_main_v2 (F := Ideal) x) (a₂ := ix4 b k p q) (ext4 h0 h1 h2 h3)).trans (v2_at x b k p q)

theorem v12_at : (val_main_v12 (F := Ideal) r (ix3 b (pos k p) q) : EReal) = r (ix4 k b p q) := by
  rw [val_main_v12_apply]
  obtain ⟨h0, h1, h2, h3⟩ := split_pos b k p q
  refine (congrArg (val_main_v11 (F := Ideal) r) (a₂ := ix4 b k p q) (ext4 h0 h1 h2 h3)).trans ?_
  rw [val_main_v11_apply]
  exact congrArg r (ext4 rfl rfl rfl rfl)

/-- The products. -/
theorem v5_at : (val_main_v5 (F := Ideal) x w (ix3 b (pos k p) q) : EReal) = P x w ((k.val * 4 + b.val) * 16 + p.val) q.val := by
  rw [val_main_v5_apply]
  unfold P prod
  refine Finset.sum_congr rfl fun d _ => congrArg₂ (fun u v : EReal => u * v) ?_ ?_
  · refine (congrArg (val_main_v3 (F := Ideal) x) (a₂ := ix3 b (pos k p) d) (ext3 rfl rfl rfl)).trans ((v3_at x b k p d).trans ?_)
    exact (nat2_of x (row b k p) d).symm
  · rw [val_main_v4_apply]
    have e : ridx_main_v5 (ix3 b (pos k p) q) d = ix2 d q := ext2 rfl rfl
    rw [e]
    exact (nat2_of w d q).symm

/-- The mean of the squares of a row. -/
theorem v10_at (z : Fin 1) : (val_main_v10 (F := Ideal) x w (ix3 b (pos k p) z) : EReal) = meanSq (P x w) ((k.val * 4 + b.val) * 16 + p.val) := by
  rw [val_main_v10_apply, val_main_v8_apply, val_main_v7_apply, val_main_v9_apply, val_main_cst_0_apply, val_main_cst_apply]
  unfold meanSq
  refine congrArg₂ Ideal.div ?_ rfl
  refine (congrArg₂ (fun u v : EReal => u + v) Ideal.ofBits_zero_f32 (Finset.sum_congr rfl fun d _ => ?_)).trans (zero_add _)
  rw [val_main_v6_apply]
  have h : (val_main_v5 (F := Ideal) x w (idx_main_v7 (idx_main_v8 (ix3 b (pos k p) z)) d) : EReal) = P x w ((k.val * 4 + b.val) * 16 + p.val) d.val := by
    have e : idx_main_v7 (idx_main_v8 (ix3 b (pos k p) z)) d = ix3 b (pos k p) d := ext3 rfl rfl rfl
    rw [e]
    exact v5_at x w b k p d
  exact congrArg₂ (fun u v : EReal => u * v) h h

theorem v16_at : (val_main_v16 (F := Ideal) x w (ix3 b (pos k p) q) : EReal) = Ideal.rsqrt (meanSq (P x w) ((k.val * 4 + b.val) * 16 + p.val) + eps) := by
  rw [val_main_v16_apply, val_main_v15_apply, val_main_v14_apply, val_main_v13_apply, val_main_cst_1_apply]
  refine congrArg Ideal.rsqrt (congrArg₂ (fun u v : EReal => u + v) ?_ rfl)
  have e : idx_main_v16 (ix3 b (pos k p) q) = ix3 b (pos k p) (0 : Fin 1) := ext3 rfl rfl rfl
  rw [e]
  exact v10_at x w b k p 0

theorem v19_at : (val_main_v19 (F := Ideal) g (ix3 b (pos k p) q) : EReal) = nat1 g q.val := by
  rw [val_main_v19_apply, val_main_v18_apply]
  refine Eq.trans (congrArg g ?_) (nat1_of g q).symm
  funext a; apply Fin.ext
  match a with
  | ⟨0, _⟩ => rfl

theorem v20_at : (val_main_v20 (F := Ideal) x w g (ix3 b (pos k p) q) : EReal) = normed (P x w) (nat1 g) ((k.val * 4 + b.val) * 16 + p.val) q.val := by
  rw [val_main_v20_apply, val_main_v17_apply, v5_at, v16_at, v19_at]
  rfl

/-- The reference's result, entry by entry. -/
theorem v22_at : (val_main_v22 (F := Ideal) x w r g (ix4 b k p q) : EReal) = tailVal x w r g b k p q := by
  have h0 : (((b.val * 128 + k.val) * 16 + p.val) * 2048 + q.val) / 4194304 = b.val := by omega
  have h1 : (((b.val * 128 + k.val) * 16 + p.val) * 2048 + q.val) / 2048 % 2048 = k.val * 16 + p.val := by omega
  have h2 : (((b.val * 128 + k.val) * 16 + p.val) * 2048 + q.val) % 2048 = q.val := by omega
  rw [val_main_v22_apply]
  refine (congrArg (val_main_v21 (F := Ideal) x w r g) (a₂ := ix3 b (pos k p) q) (ext3 h0 h1 h2)).trans ?_
  rw [val_main_v21_apply, v12_at, v20_at]
  rfl

end Cert.Tail

end
-- ==== Proof.OutProjection.lean ====
/-
  The claims about the output projection: the frames, the idealization, and that kernel and reference compute the same.
-/
module

public import proofs.«01_k».proof.Defs
public import proofs.«01_k».proof.Proof.TailRef
public import proofs.«01_k».proof.Proof.Gen.Kernel3.Frame
public import proofs.«01_k».proof.Proof.Gen.Reference3Ideal.Run

@[expose] public section

noncomputable section

namespace Cert.Tail

open Idealize.ShloMosaic Idealize.ShloMosaic.TcCoe Idealize.SL.Sem

theorem frame_kernel : Cert.quiescent_Kernel3 := fun m ρ _ => Cert.Kernel3.Gen.frame m ρ

theorem frame_kernelIdeal : Cert.quiescent_Kernel3Ideal := fun m ρ _ => Cert.Kernel3Ideal.Gen.frame m ρ

/-- The reference writes no argument and declares no semaphore. -/
theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- The kernel's result array is the reference's result on the same arguments. -/
theorem array_eq (m : (ℓ : Loc Cert.Kernel3Ideal.nD Cert.Kernel3Ideal.τ Cert.Kernel3Ideal.sig) → Buf (Elt Ideal) ℓ) (c : Dev Cert.Kernel3Ideal.nD) :
    ((Cert.Kernel3Ideal.Gen.dats m 0 c).arrAt 4 Cert.Kernel3Ideal.cfg0.N : FVec Ideal ⟨4, ![4, 128, 16, 2048]⟩ .f32)
      = Cert.Reference3Ideal.Read.val_main_v22 (F := Ideal) (m ((c : Thread Cert.Kernel3Ideal.nD Cert.Kernel3Ideal.τ).loc Cert.Kernel3Ideal.main_arg0))
          (m ((c : Thread Cert.Kernel3Ideal.nD Cert.Kernel3Ideal.τ).loc Cert.Kernel3Ideal.main_arg1))
          (m ((c : Thread Cert.Kernel3Ideal.nD Cert.Kernel3Ideal.τ).loc Cert.Kernel3Ideal.main_arg2))
          (m ((c : Thread Cert.Kernel3Ideal.nD Cert.Kernel3Ideal.τ).loc Cert.Kernel3Ideal.main_arg3)) := by
  funext i
  obtain ⟨b, k, p, q, rfl⟩ : ∃ (b : Fin 4) (k : Fin 128) (p : Fin 16) (q : Fin 2048), i = ix4 b k p q :=
    ⟨i 0, i 1, i 2, i 3, by funext a; match a with | 0 => rfl | 1 => rfl | 2 => rfl | 3 => rfl⟩
  exact (array_apply m c b k p q).trans (v22_at _ _ _ _ b k p q).symm

/-- Kernel and reference end with the same result. -/
theorem algebraic : Cert.algebraic_Kernel3Ideal_Reference3Ideal := by
  intro m ρ m' ρ' _ hagree
  refine ⟨fun c => (Cert.Kernel3Ideal.Gen.dats m 0 c).arrAt 4 Cert.Kernel3Ideal.cfg0.N, Cert.Kernel3Ideal.Value.run_blocks m ρ, ?_⟩
  refine (θ_run Cert.Reference3Ideal.defs _ _).mono (fun _ h c => ⟨(h c).1.trans ?_, (h c).2⟩) (Cert.Reference3Ideal.Value.run (F := Ideal) m' ρ')
  rw [Cert.Reference3Ideal.Read.val_main_v22_eq, (hagree c).1, (hagree c).2.1, (hagree c).2.2.1, (hagree c).2.2.2]
  exact (array_eq m c).symm

end Cert.Tail

end
-- ==== Proof.MergeBlock.lean ====
/-
  The merge kernel's output blocks, entry by entry: the two branches' products, each times the logistic function of its gate,
  and the output weights.
-/
module

public import proofs.«01_k».proof.Proof.TailRef
public import proofs.«01_k».proof.Proof.Out
public import proofs.«01_k».proof.Proof.Gen.Kernel4Ideal.Value
public import Idealize.ShloMosaic.Lib.Pipeline.ValueKit

@[expose] public section

set_option maxRecDepth 16384

noncomputable section

namespace Cert.Merge

open Idealize.ShloMosaic Idealize.ShloMosaic.TcCoe Idealize.SL.Sem
open Cert.Moba (Rep)
open Cert.Tail (load_rep0)
open Cert.Kernel4Ideal Cert.Kernel4Ideal.Gen

/-- The product of rows and weights over `K` terms. -/
def dot (K : ℕ) (f g : ℕ → ℕ → EReal) (i j : ℕ) : EReal := ∑ d : Fin K, f i d * g d j

/-- The logistic function. -/
def gate (z : EReal) : EReal := Ideal.div 1 (1 + Ideal.exp (-z))

/-- The merge of two products by their gates. -/
def merged (f g f' g' s t : ℕ → ℕ → EReal) (i j : ℕ) : EReal :=
  gate (s i j) * dot 1024 f g i j + gate (t i j) * dot 2048 f' g' i j

/-- A half plus a half of the hyperbolic tangent of the half is the logistic function, at the infinities too. -/
theorem half_tanh (z : EReal) :
    ((1 / 2 : ℝ) : EReal) * Ideal.tanh (((1 / 2 : ℝ) : EReal) * z) + ((1 / 2 : ℝ) : EReal) = gate z := by
  unfold gate
  induction z with
  | bot =>
    rw [EReal.coe_mul_bot_of_pos (by norm_num), EReal.neg_bot]
    show ((1 / 2 : ℝ) : EReal) * (-1) + ((1 / 2 : ℝ) : EReal) = Ideal.div 1 (1 + ⊤)
    rw [show (-1 : EReal) = ((-1 : ℝ) : EReal) by norm_num, ← EReal.coe_mul, ← EReal.coe_add,
      show (1 : EReal) = ((1 : ℝ) : EReal) by norm_num, EReal.coe_add_top]
    unfold Ideal.div
    rw [if_neg (by simp), EReal.inv_top, mul_zero]
    norm_num
  | top =>
    rw [EReal.coe_mul_top_of_pos (by norm_num), EReal.neg_top]
    show ((1 / 2 : ℝ) : EReal) * 1 + ((1 / 2 : ℝ) : EReal) = Ideal.div 1 (1 + 0)
    rw [mul_one, ← EReal.coe_add, add_zero]
    unfold Ideal.div
    rw [if_neg (by simp), show (1 : EReal) = ((1 : ℝ) : EReal) by norm_num, ← EReal.coe_inv, ← EReal.coe_mul]
    norm_num
  | coe r =>
    have h1 : (1 : EReal) + Ideal.exp (-(r : EReal)) = ((1 + Real.exp (-r) : ℝ) : EReal) := by
      rw [EReal.coe_add, ← EReal.coe_neg]; rfl
    have h2 : (0 : ℝ) < 1 + Real.exp (-r) := by positivity
    rw [h1, Cert.Moba.div_real 1 h2, one_mul, ← EReal.coe_mul]
    show ((1 / 2 : ℝ) : EReal) * ((Real.tanh (1 / 2 * r) : ℝ) : EReal) + ((1 / 2 : ℝ) : EReal) = _
    rw [← EReal.coe_mul, ← EReal.coe_add, Cert.Moba.half_tanh_half, one_div]

section
variable {n0 n1 : ℕ} {e : EltTy}

/-- A load of a whole staged block with a leading axis of extent one. -/
theorem load_whole {sig : RefSig} (arg : Memref sig .tc .vmem (⟨3, ![1, n0, n1]⟩ : Shape) e) (harg : arg.IsWhole)
    (x : (⟨3, ![1, n0, n1]⟩ : Shape).Idx → Elt Ideal e) {inb} (k : Fin n0) (l : Fin n1) :
    (View.readAt (Elt Ideal) arg.view (Rect.unit (s := (⟨3, ![1, n0, n1]⟩ : Shape)) ![0, 0, 0] (⟨3, ![1, n0, n1]⟩ : Shape).size inb).toLoadRect (harg.unread x)
      : (⟨3, ![1, n0, n1]⟩ : Shape).Idx → Elt Ideal e) (ix3 (0 : Fin 1) k l) = x (ix3 (0 : Fin 1) k l) := by
  rw [View.readAt_eq_ld, Memref.IsWhole.read_unread]
  refine congrArg x ?_
  funext a; apply Fin.ext
  match a with
  | ⟨0, _⟩ => show 0 + 1 * 0 = 0; omega
  | ⟨1, _⟩ => show 0 + 1 * k.val = k.val; omega
  | ⟨2, _⟩ => show 0 + 1 * l.val = l.val; omega

/-- The one store of a whole buffer of two dimensions. -/
theorem canon_stored {inb} {y : (⟨2, ![n0, n1]⟩ : Shape).Idx → Elt Ideal e} {f : ℕ → ℕ → Elt Ideal e} (hy : Rep y f)
    {L : List (View.Piece (Elt Ideal) (⟨2, ![n0, n1]⟩ : Shape) e)} :
    Rep (View.canon (⟨Rect.unit (s := (⟨2, ![n0, n1]⟩ : Shape)) ![0, 0] (⟨2, ![n0, n1]⟩ : Shape).size inb, y⟩ :: L)) f := by
  intro i j
  refine Eq.trans (congrArg (View.canon _) ?_)
    ((View.canon_cons_emb (Rect.unit (s := (⟨2, ![n0, n1]⟩ : Shape)) ![0, 0] (⟨2, ![n0, n1]⟩ : Shape).size inb) y L (ix2 i j)).trans (hy i j))
  funext a; apply Fin.ext
  match a with
  | ⟨0, _⟩ => show i.val = 0 + 1 * i.val; omega
  | ⟨1, _⟩ => show j.val = 0 + 1 * j.val; omega

/-- A load of a whole buffer, from the one store of a whole. -/
theorem load_stored {sig : RefSig} (arg : Memref sig .tc .vmem (⟨2, ![n0, n1]⟩ : Shape) e) {inb₀ inb}
    {y : (⟨2, ![n0, n1]⟩ : Shape).Idx → Elt Ideal e} {f : ℕ → ℕ → Elt Ideal e} (hy : Rep y f)
    {L : List (View.Piece (Elt Ideal) (⟨2, ![n0, n1]⟩ : Shape) e)}
    (hL : L = [⟨Rect.unit (s := (⟨2, ![n0, n1]⟩ : Shape)) ![0, 0] (⟨2, ![n0, n1]⟩ : Shape).size inb₀, y⟩]) :
    Rep (arg.view.readCov L (Rect.unit (s := (⟨2, ![n0, n1]⟩ : Shape)) ![0, 0] (⟨2, ![n0, n1]⟩ : Shape).size inb).toLoadRect
      : (⟨2, ![n0, n1]⟩ : Shape).Idx → Elt Ideal e) f := by
  intro i j
  rw [View.readCov_eq_canon', hL]
  refine Eq.trans (congrArg (View.canon _) ?_) (canon_stored hy i j)
  funext a; apply Fin.ext
  match a with
  | ⟨0, _⟩ => show 0 + 1 * i.val = i.val; omega
  | ⟨1, _⟩ => show 0 + 1 * j.val = j.val; omega

/-- A block with a leading axis of extent one, rounded, as rows. -/
theorem rows_rep {w : FVec Ideal ⟨3, ![1, n0, n1]⟩ .f32} {g : ℕ → ℕ → EReal} (hb : FTy.bf16.bits < FTy.f32.bits)
    (hc : (⟨3, ![1, n0, n1]⟩ : Shape).ShapeCasts ⟨2, ![n0, n1]⟩)
    (h : ∀ (k : Fin n0) (l : Fin n1), w (ix3 (0 : Fin 1) k l) = g k.val l.val) :
    Rep (truncf .bf16 (shapeCast ⟨2, ![n0, n1]⟩ w hc : FVec Ideal ⟨2, ![n0, n1]⟩ .f32) hb : FVec Ideal ⟨2, ![n0, n1]⟩ .bf16) g := by
  intro k l
  refine Eq.trans ?_ (h k l)
  show w (Shape.reshapeEquiv _ (ix2 k l)) = _
  rw [Shape.reshapeEquiv_eq_of_vals _ (ix2 k l) (ix3 (0 : Fin 1) k l) _ _
      (rowMajor_val3 _ _ _ rfl rfl) (rowMajor_val2 _ _ rfl) (by simp)]

end

/-- The output weights' rows. -/
theorem pay2_rep {w : FVec Ideal S1x128x2048 .f32} {g : ℕ → ℕ → EReal}
    (h : ∀ (k : Fin 128) (l : Fin 2048), w (ix3 (0 : Fin 1) k l) = g k.val l.val) : Rep (k0_pay2 (F := Ideal) w) g :=
  rows_rep _ _ h

/-- The first branch's weights. -/
theorem pay3_rep {w : FVec Ideal S1x1024x1024 .f32} {g : ℕ → ℕ → EReal}
    (h : ∀ (k : Fin 1024) (l : Fin 1024), w (ix3 (0 : Fin 1) k l) = g k.val l.val) : Rep (k0_pay3 (F := Ideal) w) g :=
  (rows_rep bitsLt_bf16_f32 shapeCasts_S1x1024x1024_S1024x1024 h).shapeCast shapeCasts_S1024x1024_S1024x1024

/-- The second branch's weights. -/
theorem pay4_rep {w : FVec Ideal S1x2048x1024 .f32} {g : ℕ → ℕ → EReal}
    (h : ∀ (k : Fin 2048) (l : Fin 1024), w (ix3 (0 : Fin 1) k l) = g k.val l.val) : Rep (k0_pay4 (F := Ideal) w) g :=
  (rows_rep bitsLt_bf16_f32 shapeCasts_S1x2048x1024_S2048x1024 h).shapeCast shapeCasts_S2048x1024_S2048x1024

/-- What is stored of the two branches. -/
theorem pay1_rep {a : FVec Ideal S1024x1024 .bf16} {wa : FVec Ideal S1024x1024 .bf16} {b : FVec Ideal S1024x2048 .bf16} {wb : FVec Ideal S2048x1024 .bf16}
    {s t : FVec Ideal S1024x1024 .bf16} {f g f' g' S T : ℕ → ℕ → EReal} (ha : Rep a f) (hwa : Rep wa g) (hb : Rep b f') (hwb : Rep wb g')
    (hs : Rep s S) (ht : Rep t T) :
    Rep (k0_pay1 (F := Ideal) (k0_pay5 a wa) (k0_pay6 b wb) (k0_pay7 s) (k0_pay8 t) (Scalar.ofBits .f32 0x3F000000#32)) (merged f g f' g' S T) := by
  have h5 : Rep (k0_pay5 (F := Ideal) a wa) (dot 1024 f g) := Rep.matmul ha hwa
  have h6 : Rep (k0_pay6 (F := Ideal) b wb) (dot 2048 f' g') := Rep.matmul hb hwb
  have half : ∀ {z : FVec Ideal S1024x1024 .bf16} {Z : ℕ → ℕ → EReal}, Rep z Z →
      Rep (addf (mulf (broadcast S1024x1024 (Scalar.ofBits (F := Ideal) .f32 0x3F000000#32))
        (tanh (mulf (broadcast S1024x1024 (Scalar.ofBits (F := Ideal) .f32 0x3F000000#32)) (extf .f32 z bitsLt_bf16_f32))))
        (broadcast S1024x1024 (Scalar.ofBits (F := Ideal) .f32 0x3F000000#32)) : FVec Ideal S1024x1024 .f32) fun i j => gate (Z i j) := by
    intro z Z hz
    refine (((Rep.broadcast _).mulf (((Rep.broadcast _).mulf (hz.extf bitsLt_bf16_f32)).tanh)).addf (Rep.broadcast _)).congr fun i _ j _ => ?_
    exact (congrArg (fun h : EReal => h * Ideal.tanh (h * Z i j) + h) Cert.Moba.f32_half).trans (half_tanh _)
  exact ((half hs).mulf h5).addf ((half ht).mulf h6)

variable (c : Dev nD) (i : grid0.Coords)
variable (arg2 : Memref sig .tc .vmem S1024x1024 .bf16) (harg2 : arg2.IsWhole) (arg3 : Memref sig .tc .vmem S1x1024x1024 .f32) (harg3 : arg3.IsWhole)
variable (arg4 : Memref sig .tc .vmem S1x2048x1024 .f32) (harg4 : arg4.IsWhole) (arg5 : Memref sig .tc .vmem S1024x2048 .bf16) (harg5 : arg5.IsWhole)
variable (arg6 : Memref sig .tc .vmem S1024x1024 .bf16) (harg6 : arg6.IsWhole) (arg7 : Memref sig .tc .vmem S1024x1024 .bf16) (harg7 : arg7.IsWhole)
variable (arg8 : Memref sig .tc .vmem S1x128x2048 .f32) (harg8 : arg8.IsWhole) (arg9 : Memref sig .tc .vmem S1024x1024 .bf16) (harg9 : arg9.IsWhole)
variable (arg10 : Memref sig .tc .vmem S128x2048 .bf16) (harg10 : arg10.IsWhole) (arg11 : Memref sig .tc .vmem S1024x1024 .bf16) (harg11 : arg11.IsWhole)
variable (arg12 : Memref sig .tc .vmem S2048x1024 .bf16) (harg12 : arg12.IsWhole)
variable (x0 : FVec Ideal S1024x1024 .bf16) (x1 : FVec Ideal S1x1024x1024 .f32) (x2 : FVec Ideal S1x2048x1024 .f32) (x3 : FVec Ideal S1024x2048 .bf16)
variable (x4 x5 : FVec Ideal S1024x1024 .bf16) (x6 : FVec Ideal S1x128x2048 .f32) (xs : FVec Ideal S1024x1024 .bf16) (xa : FVec Ideal S2048x1024 .bf16)
variable {f g f' g' S T W : ℕ → ℕ → EReal}

/-- The output weights' block, where the branches' weights are newly staged. -/
theorem wout_A (hc0 : cond0_0 i) (h6 : ∀ (k : Fin 128) (l : Fin 2048), x6 (ix3 (0 : Fin 1) k l) = W k.val l.val) :
    Rep (out0_A_8 (F := Ideal) c i arg2 harg2 arg3 harg3 arg4 harg4 arg5 harg5 arg6 harg6 arg7 harg7 arg8 harg8 arg9 harg9 arg10 harg10 arg11 harg11 arg12 harg12 hc0
      x0 x1 x2 x3 x4 x5 x6) W := by
  unfold out0_A_8
  rw [View.read_writes_junk_eq_canon]
  exact canon_stored (pay2_rep fun k l => (load_whole arg8 harg8 x6 k l).trans (h6 k l))

/-- The output weights' block, where the branches' weights are kept. -/
theorem wout_B (hc0 : ¬cond0_0 i) (h6 : ∀ (k : Fin 128) (l : Fin 2048), x6 (ix3 (0 : Fin 1) k l) = W k.val l.val) :
    Rep (out0_B_8 (F := Ideal) c i arg2 harg2 arg3 harg3 arg4 harg4 arg5 harg5 arg6 harg6 arg7 harg7 arg8 harg8 arg9 harg9 arg10 harg10 arg11 harg11 arg12 harg12 hc0
      x0 x1 x2 x3 x4 x5 x6 xs xa) W := by
  unfold out0_B_8
  rw [View.read_writes_junk_eq_canon]
  exact canon_stored (pay2_rep fun k l => (load_whole arg8 harg8 x6 k l).trans (h6 k l))

/-- The first branch's weights in their scratch. -/
theorem ws_A (hc0 : cond0_0 i) (h1 : ∀ (k : Fin 1024) (l : Fin 1024), x1 (ix3 (0 : Fin 1) k l) = g k.val l.val) :
    Rep (sout0_A_0 (F := Ideal) c i arg2 harg2 arg3 harg3 arg4 harg4 arg5 harg5 arg6 harg6 arg7 harg7 arg8 harg8 arg9 harg9 arg10 harg10 arg11 harg11 arg12 harg12 hc0
      x0 x1 x2 x3 x4 x5 x6) g := by
  unfold sout0_A_0
  rw [View.read_writes_junk_eq_canon]
  exact canon_stored (pay3_rep fun k l => (load_whole arg3 harg3 x1 k l).trans (h1 k l))

/-- The second branch's weights in their scratch. -/
theorem wa_A (hc0 : cond0_0 i) (h2 : ∀ (k : Fin 2048) (l : Fin 1024), x2 (ix3 (0 : Fin 1) k l) = g' k.val l.val) :
    Rep (sout0_A_1 (F := Ideal) c i arg2 harg2 arg3 harg3 arg4 harg4 arg5 harg5 arg6 harg6 arg7 harg7 arg8 harg8 arg9 harg9 arg10 harg10 arg11 harg11 arg12 harg12 hc0
      x0 x1 x2 x3 x4 x5 x6) g' := by
  unfold sout0_A_1
  rw [View.read_writes_junk_eq_canon]
  exact canon_stored (pay4_rep fun k l => (load_whole arg4 harg4 x2 k l).trans (h2 k l))

/-- The merge, where the branches' weights are newly staged. -/
theorem merge_A (hc0 : cond0_0 i) (h0 : Rep x0 f) (h1 : ∀ (k : Fin 1024) (l : Fin 1024), x1 (ix3 (0 : Fin 1) k l) = g k.val l.val)
    (h2 : ∀ (k : Fin 2048) (l : Fin 1024), x2 (ix3 (0 : Fin 1) k l) = g' k.val l.val) (h3 : Rep x3 f') (h4 : Rep x4 S) (h5 : Rep x5 T) :
    Rep (out0_A_7 (F := Ideal) c i arg2 harg2 arg3 harg3 arg4 harg4 arg5 harg5 arg6 harg6 arg7 harg7 arg8 harg8 arg9 harg9 arg10 harg10 arg11 harg11 arg12 harg12 hc0
      x0 x1 x2 x3 x4 x5 x6) (merged f g f' g' S T) := by
  unfold out0_A_7
  rw [View.read_writes_junk_eq_canon]
  exact canon_stored (pay1_rep (load_rep0 arg2 harg2 h0)
    (load_stored arg11 (pay3_rep fun k l => (load_whole arg3 harg3 x1 k l).trans (h1 k l)) rfl)
    (load_rep0 arg5 harg5 h3)
    (load_stored arg12 (pay4_rep fun k l => (load_whole arg4 harg4 x2 k l).trans (h2 k l)) rfl)
    (load_rep0 arg6 harg6 h4) (load_rep0 arg7 harg7 h5))

/-- The merge, where the branches' weights are kept. -/
theorem merge_B (hc0 : ¬cond0_0 i) (h0 : Rep x0 f) (hs : Rep xs g) (h3 : Rep x3 f') (ha : Rep xa g') (h4 : Rep x4 S) (h5 : Rep x5 T) :
    Rep (out0_B_7 (F := Ideal) c i arg2 harg2 arg3 harg3 arg4 harg4 arg5 harg5 arg6 harg6 arg7 harg7 arg8 harg8 arg9 harg9 arg10 harg10 arg11 harg11 arg12 harg12 hc0
      x0 x1 x2 x3 x4 x5 x6 xs xa) (merged f g f' g' S T) := by
  unfold out0_B_7
  rw [View.read_writes_junk_eq_canon]
  exact canon_stored (pay1_rep (load_rep0 arg2 harg2 h0) (load_rep0 arg11 harg11 hs) (load_rep0 arg5 harg5 h3) (load_rep0 arg12 harg12 ha)
    (load_rep0 arg6 harg6 h4) (load_rep0 arg7 harg7 h5))

end Cert.Merge

end
-- ==== Proof.MergeArray.lean ====
/-
  The merge kernel's two result arrays, entry by entry, as functions of its arguments.
-/
module

public import proofs.«01_k».proof.Proof.MergeBlock

@[expose] public section

set_option maxRecDepth 16384

noncomputable section

namespace Cert.Merge

open Idealize.ShloMosaic Idealize.ShloMosaic.TcCoe Idealize.SL.Sem
open Cert.Moba (Rep)
open Cert.Proj (nat2 nat2_of)
open Cert.Kernel4Ideal Cert.Kernel4Ideal.Gen

/-- The layer whose weights the kernel reads. -/
abbrev layer : Fin 2 := 1

/-- The layer's weights, of the weights of both layers. -/
def layerOf {n0 n1 : ℕ} (w : (⟨3, ![2, n0, n1]⟩ : Shape).Idx → EReal) : ℕ → ℕ → EReal := nat2 (a := n0) (b := n1) fun i => w (ix3 layer (i 0) (i 1))

theorem layerOf_at {n0 n1 : ℕ} (w : (⟨3, ![2, n0, n1]⟩ : Shape).Idx → EReal) (k : Fin n0) (j : Fin n1) : layerOf w k.val j.val = w (ix3 layer k j) :=
  nat2_of (fun i : (⟨2, ![n0, n1]⟩ : Shape).Idx => w (ix3 layer (i 0) (i 1))) k j

/-- The merge at a row and a column: the gates are the columns from 10240 on and from 12288 on of the projection. -/
def mergeVal (x : FVec Ideal ⟨2, ![8192, 1024]⟩ .bf16) (y : FVec Ideal ⟨2, ![8192, 2048]⟩ .bf16) (p : FVec Ideal ⟨2, ![8192, 14336]⟩ .bf16)
    (u : FVec Ideal ⟨3, ![2, 1024, 2048]⟩ .f32) (v : FVec Ideal ⟨3, ![2, 2048, 2048]⟩ .f32) : ℕ → ℕ → EReal :=
  merged (nat2 x) (layerOf u) (nat2 y) (layerOf v) (fun i j => nat2 p i (10240 + j)) fun i j => nat2 p i (12288 + j)

variable (m : (ℓ : Loc nD τ sig) → Buf (Elt Ideal) ℓ) (c : Dev nD)

/-- The arguments that the memory holds. -/
abbrev xOf : FVec Ideal ⟨2, ![8192, 1024]⟩ .bf16 := m ((c : Thread nD τ).loc main_arg0)
abbrev yOf : FVec Ideal ⟨2, ![8192, 2048]⟩ .bf16 := m ((c : Thread nD τ).loc main_arg1)
abbrev pOf : FVec Ideal ⟨2, ![8192, 14336]⟩ .bf16 := m ((c : Thread nD τ).loc main_arg2)
abbrev uOf : FVec Ideal ⟨3, ![2, 1024, 2048]⟩ .f32 := m ((c : Thread nD τ).loc main_arg3)
abbrev vOf : FVec Ideal ⟨3, ![2, 2048, 2048]⟩ .f32 := m ((c : Thread nD τ).loc main_arg4)
abbrev wOf : FVec Ideal ⟨3, ![2, 2048, 2048]⟩ .f32 := m ((c : Thread nD τ).loc main_arg5)

/-- Where the blocks of a grid point lie. -/
theorem idx_facts : ∀ t : Fin cfg0.N,
    (win0_0.index t (0 : Fin 2) = t.val % 8 ∧ win0_0.index t (1 : Fin 2) = 0) ∧
    (win0_1.index t (0 : Fin 3) = layer.val ∧ win0_1.index t (1 : Fin 3) = 0 ∧ win0_1.index t (2 : Fin 3) = t.val / 8) ∧
    (win0_2.index t (0 : Fin 3) = layer.val ∧ win0_2.index t (1 : Fin 3) = 0 ∧ win0_2.index t (2 : Fin 3) = t.val / 8) ∧
    (win0_3.index t (0 : Fin 2) = t.val % 8 ∧ win0_3.index t (1 : Fin 2) = 0) ∧
    (win0_4.index t (0 : Fin 2) = t.val % 8 ∧ win0_4.index t (1 : Fin 2) = 10 + t.val / 8) ∧
    (win0_5.index t (0 : Fin 2) = t.val % 8 ∧ win0_5.index t (1 : Fin 2) = 12 + t.val / 8) ∧
    (win0_6.index t (0 : Fin 3) = layer.val ∧ win0_6.index t (1 : Fin 3) = t.val ∧ win0_6.index t (2 : Fin 3) = 0) ∧
    (win0_7.index t (0 : Fin 2) = t.val % 8 ∧ win0_7.index t (1 : Fin 2) = t.val / 8) ∧
    (win0_8.index t (0 : Fin 2) = t.val ∧ win0_8.index t (1 : Fin 2) = 0) :=
  (by decide +kernel : ∀ t : Fin grid0.N, _)

theorem lt16 (t : Fin cfg0.N) : t.val < 16 := t.2

theorem emb0 (t : Fin cfg0.N) (r : Fin 1024) (k : Fin 1024) :
    ((cfg0.win 0).blk t).view.emb (ix2 r k) = ix2 (⟨1024 * (t.val % 8) + r.val, by have := lt16 t; omega⟩ : Fin 8192) k := by
  obtain ⟨⟨e0, e1⟩, _⟩ := idx_facts t
  funext a; apply Fin.ext
  match a with
  | ⟨0, _⟩ => show win0_0.index t (0 : Fin 2) * 1024 + 1 * r.val = 1024 * (t.val % 8) + r.val; omega
  | ⟨1, _⟩ => show win0_0.index t (1 : Fin 2) * 1024 + 1 * k.val = k.val; omega

theorem iblk0 (t : Fin cfg0.N) : Rep (iblk m c 0 t : FVec Ideal S1024x1024 .bf16) fun r k => nat2 (xOf m c) (1024 * (t.val % 8) + r) k := by
  intro r k
  show V m c main_arg0 (((cfg0.win 0).blk t).view.emb _) = _
  rw [emb0, V_main_arg0]
  exact (nat2_of _ _ _).symm

theorem emb1 (t : Fin cfg0.N) (k : Fin 1024) (l : Fin 1024) :
    ((cfg0.win 1).blk t).view.emb (ix3 (0 : Fin 1) k l) = ix3 layer k (⟨1024 * (t.val / 8) + l.val, by have := lt16 t; omega⟩ : Fin 2048) := by
  obtain ⟨_, ⟨e0, e1, e2⟩, _⟩ := idx_facts t
  funext a; apply Fin.ext
  match a with
  | ⟨0, _⟩ => show win0_1.index t (0 : Fin 3) * 1 + 1 * 0 = layer.val; omega
  | ⟨1, _⟩ => show win0_1.index t (1 : Fin 3) * 1024 + 1 * k.val = k.val; omega
  | ⟨2, _⟩ => show win0_1.index t (2 : Fin 3) * 1024 + 1 * l.val = 1024 * (t.val / 8) + l.val; omega

theorem iblk1 (t : Fin cfg0.N) (k : Fin 1024) (l : Fin 1024) :
    (iblk m c 1 t : FVec Ideal S1x1024x1024 .f32) (ix3 (0 : Fin 1) k l) = layerOf (uOf m c) k.val (1024 * (t.val / 8) + l.val) := by
  show V m c main_arg3 (((cfg0.win 1).blk t).view.emb _) = _
  rw [emb1, V_main_arg3]
  exact (layerOf_at _ _ _).symm

theorem emb2 (t : Fin cfg0.N) (k : Fin 2048) (l : Fin 1024) :
    ((cfg0.win 2).blk t).view.emb (ix3 (0 : Fin 1) k l) = ix3 layer k (⟨1024 * (t.val / 8) + l.val, by have := lt16 t; omega⟩ : Fin 2048) := by
  obtain ⟨_, _, ⟨e0, e1, e2⟩, _⟩ := idx_facts t
  funext a; apply Fin.ext
  match a with
  | ⟨0, _⟩ => show win0_2.index t (0 : Fin 3) * 1 + 1 * 0 = layer.val; omega
  | ⟨1, _⟩ => show win0_2.index t (1 : Fin 3) * 2048 + 1 * k.val = k.val; omega
  | ⟨2, _⟩ => show win0_2.index t (2 : Fin 3) * 1024 + 1 * l.val = 1024 * (t.val / 8) + l.val; omega

theorem iblk2 (t : Fin cfg0.N) (k : Fin 2048) (l : Fin 1024) :
    (iblk m c 2 t : FVec Ideal S1x2048x1024 .f32) (ix3 (0 : Fin 1) k l) = layerOf (vOf m c) k.val (1024 * (t.val / 8) + l.val) := by
  show V m c main_arg4 (((cfg0.win 2).blk t).view.emb _) = _
  rw [emb2, V_main_arg4]
  exact (layerOf_at _ _ _).symm

theorem emb3 (t : Fin cfg0.N) (r : Fin 1024) (k : Fin 2048) :
    ((cfg0.win 3).blk t).view.emb (ix2 r k) = ix2 (⟨1024 * (t.val % 8) + r.val, by have := lt16 t; omega⟩ : Fin 8192) k := by
  obtain ⟨_, _, _, ⟨e0, e1⟩, _⟩ := idx_facts t
  funext a; apply Fin.ext
  match a with
  | ⟨0, _⟩ => show win0_3.index t (0 : Fin 2) * 1024 + 1 * r.val = 1024 * (t.val % 8) + r.val; omega
  | ⟨1, _⟩ => show win0_3.index t (1 : Fin 2) * 2048 + 1 * k.val = k.val; omega

theorem iblk3 (t : Fin cfg0.N) : Rep (iblk m c 3 t : FVec Ideal S1024x2048 .bf16) fun r k => nat2 (yOf m c) (1024 * (t.val % 8) + r) k := by
  intro r k
  show V m c main_arg1 (((cfg0.win 3).blk t).view.emb _) = _
  rw [emb3, V_main_arg1]
  exact (nat2_of _ _ _).symm

theorem emb4 (t : Fin cfg0.N) (r : Fin 1024) (k : Fin 1024) :
    ((cfg0.win 4).blk t).view.emb (ix2 r k) = ix2 (⟨1024 * (t.val % 8) + r.val, by have := lt16 t; omega⟩ : Fin 8192) (⟨(10240 + 1024 * (t.val / 8)) + k.val, by have := lt16 t; omega⟩ : Fin 14336) := by
  obtain ⟨_, _, _, _, ⟨e0, e1⟩, _⟩ := idx_facts t
  funext a; apply Fin.ext
  match a with
  | ⟨0, _⟩ => show win0_4.index t (0 : Fin 2) * 1024 + 1 * r.val = 1024 * (t.val % 8) + r.val; omega
  | ⟨1, _⟩ => show win0_4.index t (1 : Fin 2) * 1024 + 1 * k.val = (10240 + 1024 * (t.val / 8)) + k.val; omega

theorem iblk4 (t : Fin cfg0.N) : Rep (iblk m c 4 t : FVec Ideal S1024x1024 .bf16) fun r k => nat2 (pOf m c) (1024 * (t.val % 8) + r) (10240 + 1024 * (t.val / 8) + k) := by
  intro r k
  show V m c main_arg2 (((cfg0.win 4).blk t).view.emb _) = _
  rw [emb4, V_main_arg2]
  exact (nat2_of _ _ _).symm

theorem emb5 (t : Fin cfg0.N) (r : Fin 1024) (k : Fin 1024) :
    ((cfg0.win 5).blk t).view.emb (ix2 r k) = ix2 (⟨1024 * (t.val % 8) + r.val, by have := lt16 t; omega⟩ : Fin 8192) (⟨(12288 + 1024 * (t.val / 8)) + k.val, by have := lt16 t; omega⟩ : Fin 14336) := by
  obtain ⟨_, _, _, _, _, ⟨e0, e1⟩, _⟩ := idx_facts t
  funext a; apply Fin.ext
  match a with
  | ⟨0, _⟩ => show win0_5.index t (0 : Fin 2) * 1024 + 1 * r.val = 1024 * (t.val % 8) + r.val; omega
  | ⟨1, _⟩ => show win0_5.index t (1 : Fin 2) * 1024 + 1 * k.val = (12288 + 1024 * (t.val / 8)) + k.val; omega

theorem iblk5 (t : Fin cfg0.N) : Rep (iblk m c 5 t : FVec Ideal S1024x1024 .bf16) fun r k => nat2 (pOf m c) (1024 * (t.val % 8) + r) (12288 + 1024 * (t.val / 8) + k) := by
  intro r k
  show V m c main_arg2 (((cfg0.win 5).blk t).view.emb _) = _
  rw [emb5, V_main_arg2]
  exact (nat2_of _ _ _).symm

theorem emb6 (t : Fin cfg0.N) (k : Fin 128) (l : Fin 2048) :
    ((cfg0.win 6).blk t).view.emb (ix3 (0 : Fin 1) k l) = ix3 layer (⟨128 * t.val + k.val, by have := lt16 t; omega⟩ : Fin 2048) l := by
  obtain ⟨_, _, _, _, _, _, ⟨e0, e1, e2⟩, _⟩ := idx_facts t
  funext a; apply Fin.ext
  match a with
  | ⟨0, _⟩ => show win0_6.index t (0 : Fin 3) * 1 + 1 * 0 = layer.val; omega
  | ⟨1, _⟩ => show win0_6.index t (1 : Fin 3) * 128 + 1 * k.val = 128 * t.val + k.val; omega
  | ⟨2, _⟩ => show win0_6.index t (2 : Fin 3) * 2048 + 1 * l.val = l.val; omega

theorem iblk6 (t : Fin cfg0.N) (k : Fin 128) (l : Fin 2048) :
    (iblk m c 6 t : FVec Ideal S1x128x2048 .f32) (ix3 (0 : Fin 1) k l) = layerOf (wOf m c) (128 * t.val + k.val) l.val := by
  show V m c main_arg5 (((cfg0.win 6).blk t).view.emb _) = _
  rw [emb6, V_main_arg5]
  exact (layerOf_at _ _ _).symm

theorem emb7 (t : Fin cfg0.N) (r : Fin 1024) (k : Fin 1024) :
    ((cfg0.win 7).blk t).view.emb (ix2 r k) = ix2 (⟨1024 * (t.val % 8) + r.val, by have := lt16 t; omega⟩ : Fin 8192) (⟨1024 * (t.val / 8) + k.val, by have := lt16 t; omega⟩ : Fin 2048) := by
  obtain ⟨_, _, _, _, _, _, _, ⟨e0, e1⟩, _⟩ := idx_facts t
  funext a; apply Fin.ext
  match a with
  | ⟨0, _⟩ => show win0_7.index t (0 : Fin 2) * 1024 + 1 * r.val = 1024 * (t.val % 8) + r.val; omega
  | ⟨1, _⟩ => show win0_7.index t (1 : Fin 2) * 1024 + 1 * k.val = 1024 * (t.val / 8) + k.val; omega

theorem emb8 (t : Fin cfg0.N) (r : Fin 128) (k : Fin 2048) :
    ((cfg0.win 8).blk t).view.emb (ix2 r k) = ix2 (⟨128 * t.val + r.val, by have := lt16 t; omega⟩ : Fin 2048) k := by
  obtain ⟨_, _, _, _, _, _, _, _, ⟨e0, e1⟩⟩ := idx_facts t
  funext a; apply Fin.ext
  match a with
  | ⟨0, _⟩ => show win0_8.index t (0 : Fin 2) * 128 + 1 * r.val = 128 * t.val + r.val; omega
  | ⟨1, _⟩ => show win0_8.index t (1 : Fin 2) * 2048 + 1 * k.val = k.val; omega

theorem flush7 : ∀ t : Fin cfg0.N, (cfg0.win 7).flush t = true :=
  (by decide +kernel : ∀ t : Fin grid0.N, win0_7.flush t = true)

theorem flush8 : ∀ t : Fin cfg0.N, (cfg0.win 8).flush t = true :=
  (by decide +kernel : ∀ t : Fin grid0.N, win0_8.flush t = true)

/-- After a grid point the scratches hold the two branches' weights of the point's columns. -/
theorem scratch : ∀ (n : ℕ) (t : Fin cfg0.N), t.val = n →
    Rep ((outsAt0 m c t.val t.isLt).2.2.1 : FVec Ideal S1024x1024 .bf16) (fun k l => layerOf (uOf m c) k (1024 * (t.val / 8) + l)) ∧
    Rep ((outsAt0 m c t.val t.isLt).2.2.2 : FVec Ideal S2048x1024 .bf16) (fun k l => layerOf (vOf m c) k (1024 * (t.val / 8) + l)) := by
  intro n
  induction n with
  | zero =>
    intro t ht
    have h0 : t.val % 8 = 0 := by omega
    rw [outsAt0_A m c t h0]
    dsimp only
    exact ⟨ws_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t)
      (g := fun k l => layerOf (uOf m c) k (1024 * (t.val / 8) + l)) ((hcond0_0 t).mpr h0) (iblk1 m c t), wa_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t)
      (g' := fun k l => layerOf (vOf m c) k (1024 * (t.val / 8) + l)) ((hcond0_0 t).mpr h0) (iblk2 m c t)⟩
  | succ n ih =>
    intro t ht
    by_cases h0 : t.val % 8 = 0
    · rw [outsAt0_A m c t h0]
      dsimp only
      exact ⟨ws_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t)
        (g := fun k l => layerOf (uOf m c) k (1024 * (t.val / 8) + l)) ((hcond0_0 t).mpr h0) (iblk1 m c t), wa_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t)
        (g' := fun k l => layerOf (vOf m c) k (1024 * (t.val / 8) + l)) ((hcond0_0 t).mpr h0) (iblk2 m c t)⟩
    · have hp := ih ⟨t.val - 1, by have := lt16 t; show _ < 16; omega⟩ (by show t.val - 1 = n; omega)
      have hd : (t.val - 1) / 8 = t.val / 8 := by omega
      simp only [hd] at hp
      rw [outsAt0_B m c t h0]
      dsimp only
      exact hp

/-- Before a point that isn't the first of its column tile the scratches hold the weights of the point's columns. -/
theorem scratch_before (t : Fin cfg0.N) (h0 : ¬t.val % 8 = 0) :
    Rep ((outsAt0 m c (t.val - 1) (Nat.lt_of_le_of_lt (Nat.sub_le _ _) t.isLt)).2.2.1 : FVec Ideal S1024x1024 .bf16)
      (fun k l => layerOf (uOf m c) k (1024 * (t.val / 8) + l)) ∧
    Rep ((outsAt0 m c (t.val - 1) (Nat.lt_of_le_of_lt (Nat.sub_le _ _) t.isLt)).2.2.2 : FVec Ideal S2048x1024 .bf16)
      (fun k l => layerOf (vOf m c) k (1024 * (t.val / 8) + l)) := by
  have hp := scratch m c _ ⟨t.val - 1, Nat.lt_of_le_of_lt (Nat.sub_le _ _) t.isLt⟩ rfl
  have hd : (t.val - 1) / 8 = t.val / 8 := by omega
  simp only [hd] at hp
  exact hp

/-- The merge of a block's rows and columns is the merge of the arrays' rows and columns. -/
theorem merged_block (x y : ℕ → ℕ → EReal) (u v : ℕ → ℕ → EReal) (p : ℕ → ℕ → EReal) (I J i j : ℕ) :
    merged (fun r k => x (I + r) k) (fun k l => u k (J + l)) (fun r k => y (I + r) k) (fun k l => v k (J + l))
        (fun r k => p (I + r) (10240 + J + k)) (fun r k => p (I + r) (12288 + J + k)) i j
      = merged x u y v (fun r k => p r (10240 + k)) (fun r k => p r (12288 + k)) (I + i) (J + j) := by
  unfold merged dot
  simp only [Nat.add_assoc]

/-- What a grid point writes back of the merge. -/
theorem merge_flushed (t : Fin cfg0.N) (r q : Fin 1024) :
    ((outsAt0 m c t.val t.isLt).1 : FVec Ideal S1024x1024 .bf16) (ix2 r q)
      = mergeVal (xOf m c) (yOf m c) (pOf m c) (uOf m c) (vOf m c) (1024 * (t.val % 8) + r.val) (1024 * (t.val / 8) + q.val) := by
  refine Eq.trans ?_ (merged_block (nat2 (xOf m c)) (nat2 (yOf m c)) (layerOf (uOf m c)) (layerOf (vOf m c)) (nat2 (pOf m c)) (1024 * (t.val % 8)) (1024 * (t.val / 8)) r.val q.val)
  by_cases h0 : t.val % 8 = 0
  · rw [outsAt0_A m c t h0]
    dsimp only
    exact merge_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t)
      ((hcond0_0 t).mpr h0) (iblk0 m c t) (g := fun k l => layerOf (uOf m c) k (1024 * (t.val / 8) + l)) (iblk1 m c t)
      (g' := fun k l => layerOf (vOf m c) k (1024 * (t.val / 8) + l)) (iblk2 m c t) (iblk3 m c t) (iblk4 m c t) (iblk5 m c t) r q
  · rw [outsAt0_B m c t h0]
    dsimp only
    exact merge_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t) _ _
      (fun h => h0 ((hcond0_0 t).mp h)) (iblk0 m c t) (scratch_before m c t h0).1 (iblk3 m c t) (scratch_before m c t h0).2 (iblk4 m c t) (iblk5 m c t) r q

/-- What a grid point writes back of the output weights. -/
theorem wout_flushed (t : Fin cfg0.N) (r : Fin 128) (q : Fin 2048) :
    ((outsAt0 m c t.val t.isLt).2.1 : FVec Ideal S128x2048 .bf16) (ix2 r q) = layerOf (wOf m c) (128 * t.val + r.val) q.val := by
  by_cases h0 : t.val % 8 = 0
  · rw [outsAt0_A m c t h0]
    dsimp only
    exact wout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t)
      (W := fun k l => layerOf (wOf m c) (128 * t.val + k) l) ((hcond0_0 t).mpr h0) (iblk6 m c t) r q
  · rw [outsAt0_B m c t h0]
    dsimp only
    exact wout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
      (iblk m c 0 t) (iblk m c 1 t) (iblk m c 2 t) (iblk m c 3 t) (iblk m c 4 t) (iblk m c 5 t) (iblk m c 6 t) _ _
      (W := fun k l => layerOf (wOf m c) (128 * t.val + k) l) (fun h => h0 ((hcond0_0 t).mp h)) (iblk6 m c t) r q

/-- The merge, entry by entry. -/
theorem merge_apply (R : Fin 8192) (L : Fin 2048) :
    ((dats m 0 c).arrAt 7 cfg0.N : FVec Ideal S8192x2048 .bf16) (ix2 R L)
      = mergeVal (xOf m c) (yOf m c) (pOf m c) (uOf m c) (vOf m c) R.val L.val := by
  let t : Fin cfg0.N := ⟨8 * (L.val / 1024) + R.val / 1024, by show _ < 16; omega⟩
  let r : Fin 1024 := ⟨R.val % 1024, by omega⟩
  let q : Fin 1024 := ⟨L.val % 1024, by omega⟩
  have hR : 1024 * (t.val % 8) + r.val = R.val := by show 1024 * ((8 * (L.val / 1024) + R.val / 1024) % 8) + R.val % 1024 = _; omega
  have hL : 1024 * (t.val / 8) + q.val = L.val := by show 1024 * ((8 * (L.val / 1024) + R.val / 1024) / 8) + L.val % 1024 = _; omega
  have e := congrFun (Cert.Kernel4Ideal.Value.blocks7 m c t (flush7 _)) (ix2 r q)
  rw [Cert.Kernel4Ideal.Value.flushed7] at e
  have e' : ((dats m 0 c).arrAt 7 cfg0.N : FVec Ideal S8192x2048 .bf16) (((cfg0.win 7).blk t).view.emb (ix2 r q)) = _ := e
  rw [emb7, show (⟨1024 * (t.val % 8) + r.val, by have := lt16 t; omega⟩ : Fin 8192) = R from Fin.ext hR,
    show (⟨1024 * (t.val / 8) + q.val, by have := lt16 t; omega⟩ : Fin 2048) = L from Fin.ext hL] at e'
  refine e'.trans (Eq.trans (merge_flushed m c t r q) ?_)
  rw [hR, hL]

/-- The output weights, entry by entry. -/
theorem wout_apply (R L : Fin 2048) :
    ((dats m 0 c).arrAt 8 cfg0.N : FVec Ideal S2048x2048 .bf16) (ix2 R L) = layerOf (wOf m c) R.val L.val := by
  let t : Fin cfg0.N := ⟨R.val / 128, by show _ < 16; omega⟩
  let r : Fin 128 := ⟨R.val % 128, by omega⟩
  have hR : 128 * t.val + r.val = R.val := by show 128 * (R.val / 128) + R.val % 128 = _; omega
  have e := congrFun (Cert.Kernel4Ideal.Value.blocks8 m c t (flush8 _)) (ix2 r L)
  rw [Cert.Kernel4Ideal.Value.flushed8] at e
  have e' : ((dats m 0 c).arrAt 8 cfg0.N : FVec Ideal S2048x2048 .bf16) (((cfg0.win 8).blk t).view.emb (ix2 r L)) = _ := e
  rw [emb8, show (⟨128 * t.val + r.val, by have := lt16 t; omega⟩ : Fin 2048) = R from Fin.ext hR] at e'
  refine e'.trans (Eq.trans (wout_flushed m c t r L) ?_)
  rw [hR]

end Cert.Merge

end
-- ==== Proof.MergeRef.lean ====
/-
  The merge's reference, entry by entry: it is the kernel's two results.
-/
module

public import proofs.«01_k».proof.Proof.MergeArray
public import proofs.«01_k».proof.Proof.Gen.Reference4Ideal.Read

@[expose] public section

set_option maxRecDepth 16384

noncomputable section

namespace Cert.Merge

open Idealize.ShloMosaic Idealize.ShloMosaic.TcCoe Idealize.SL.Sem
open Cert.Proj (nat2 nat2_of ext3)
open Cert.Tail (ext2)
open Cert.Reference4Ideal Cert.Reference4Ideal.Gen Cert.Reference4Ideal.Read

variable (x : FVec Ideal ⟨2, ![8192, 1024]⟩ .bf16) (y : FVec Ideal ⟨2, ![8192, 2048]⟩ .bf16) (p : FVec Ideal ⟨2, ![8192, 14336]⟩ .bf16)
variable (u : FVec Ideal ⟨3, ![2, 1024, 2048]⟩ .f32) (v w : FVec Ideal ⟨3, ![2, 2048, 2048]⟩ .f32)
variable (i : Fin 8192) (j : Fin 2048)

/-- The first branch's gate. -/
theorem v9_at : (val_main_v9 (F := Ideal) p (ix2 i j) : EReal) = gate (nat2 p i.val (10240 + j.val)) := by
  have h : (val_main_v0 (F := Ideal) p (ix2 i j) : EReal) = nat2 p i.val (10240 + j.val) := by
    rw [val_main_v0_apply]
    have e : idx_main_v0 (ix2 i j) = ix2 i (⟨10240 + j.val, by omega⟩ : Fin 14336) := ext2 rfl rfl
    rw [e]
    exact (nat2_of p i (⟨10240 + j.val, by omega⟩ : Fin 14336)).symm
  rw [val_main_v9_apply, val_main_v8_apply, val_main_cst_0_apply, val_main_v7_apply, val_main_v6_apply, val_main_cst_apply, val_main_v5_apply, val_main_v4_apply, val_main_v1_apply]
  exact (congrArg₂ (fun o z : EReal => Ideal.div o (o + Ideal.exp (-z))) Cert.Proj.one_bits h)

/-- The second branch's gate. -/
theorem v20_at : (val_main_v20 (F := Ideal) p (ix2 i j) : EReal) = gate (nat2 p i.val (12288 + j.val)) := by
  have h : (val_main_v2 (F := Ideal) p (ix2 i j) : EReal) = nat2 p i.val (12288 + j.val) := by
    rw [val_main_v2_apply]
    have e : idx_main_v2 (ix2 i j) = ix2 i (⟨12288 + j.val, by omega⟩ : Fin 14336) := ext2 rfl rfl
    rw [e]
    exact (nat2_of p i (⟨12288 + j.val, by omega⟩ : Fin 14336)).symm
  rw [val_main_v20_apply, val_main_v19_apply, val_main_cst_2_apply, val_main_v18_apply, val_main_v17_apply, val_main_cst_1_apply, val_main_v16_apply, val_main_v15_apply, val_main_v3_apply]
  exact (congrArg₂ (fun o z : EReal => Ideal.div o (o + Ideal.exp (-z))) Cert.Proj.one_bits h)

/-- The first branch's weights, and its product. -/
theorem v12_at (k : Fin 1024) (j : Fin 2048) : (val_main_v12 (F := Ideal) u (ix2 k j) : EReal) = layerOf u k.val j.val := by
  rw [val_main_v12_apply, val_main_v11_apply]
  refine Eq.trans (congrArg u (a₂ := ix3 layer k j) (ext3 rfl ?_ ?_)) (layerOf_at u k j).symm
  · show (k.val * 2048 + j.val) / 2048 % 1024 = k.val; omega
  · show (k.val * 2048 + j.val) % 2048 = j.val; omega

theorem v13_at : (val_main_v13 (F := Ideal) x u (ix2 i j) : EReal) = dot 1024 (nat2 x) (layerOf u) i.val j.val := by
  rw [val_main_v13_apply]
  unfold dot
  refine Finset.sum_congr rfl fun d _ => congrArg₂ (fun a b : EReal => a * b) ?_ ?_
  · rw [val_main_v10_apply]
    have e : lidx_main_v13 (ix2 i j) d = ix2 i d := ext2 rfl rfl
    rw [e]
    exact (nat2_of x i d).symm
  · have e : ridx_main_v13 (ix2 i j) d = ix2 d j := ext2 rfl rfl
    rw [e]
    exact v12_at u d j

/-- The second branch's weights, and its product. -/
theorem v23_at (k : Fin 2048) (j : Fin 2048) : (val_main_v23 (F := Ideal) v (ix2 k j) : EReal) = layerOf v k.val j.val := by
  rw [val_main_v23_apply, val_main_v22_apply]
  refine Eq.trans (congrArg v (a₂ := ix3 layer k j) (ext3 rfl ?_ ?_)) (layerOf_at v k j).symm
  · show (k.val * 2048 + j.val) / 2048 % 2048 = k.val; omega
  · show (k.val * 2048 + j.val) % 2048 = j.val; omega

theorem v24_at : (val_main_v24 (F := Ideal) y v (ix2 i j) : EReal) = dot 2048 (nat2 y) (layerOf v) i.val j.val := by
  rw [val_main_v24_apply]
  unfold dot
  refine Finset.sum_congr rfl fun d _ => congrArg₂ (fun a b : EReal => a * b) ?_ ?_
  · rw [val_main_v21_apply]
    have e : lidx_main_v24 (ix2 i j) d = ix2 i d := ext2 rfl rfl
    rw [e]
    exact (nat2_of y i d).symm
  · have e : ridx_main_v24 (ix2 i j) d = ix2 d j := ext2 rfl rfl
    rw [e]
    exact v23_at v d j

/-- The output weights. -/
theorem v29_at (k : Fin 2048) (j : Fin 2048) : (val_main_v29 (F := Ideal) w (ix2 k j) : EReal) = layerOf w k.val j.val := by
  rw [val_main_v29_apply, val_main_v28_apply]
  refine Eq.trans (congrArg w (a₂ := ix3 layer k j) (ext3 rfl ?_ ?_)) (layerOf_at w k j).symm
  · show (k.val * 2048 + j.val) / 2048 % 2048 = k.val; omega
  · show (k.val * 2048 + j.val) % 2048 = j.val; omega

/-- The reference's merge, entry by entry. -/
theorem v27_at : (val_main_v27 (F := Ideal) x y p u v (ix2 i j) : EReal) = mergeVal x y p u v i.val j.val := by
  rw [val_main_v27_apply, val_main_v26_apply, val_main_v14_apply, val_main_v25_apply, v9_at, v13_at, v20_at, v24_at]
  rfl

/-- The reference's output weights, entry by entry. -/
theorem v30_at (k : Fin 2048) : (val_main_v30 (F := Ideal) w (ix2 k j) : EReal) = layerOf w k.val j.val := by
  rw [val_main_v30_apply]
  exact v29_at w k j

end Cert.Merge

end
-- ==== Proof.Merge.lean ====
/-
  The claims about the merge: the frames, the idealization, and that kernel and reference compute the same.
-/
module

public import proofs.«01_k».proof.Defs
public import proofs.«01_k».proof.Proof.MergeRef
public import proofs.«01_k».proof.Proof.Gen.Kernel4.Frame
public import proofs.«01_k».proof.Proof.Gen.Reference4Ideal.Run

@[expose] public section

noncomputable section

namespace Cert.Merge

open Idealize.ShloMosaic Idealize.ShloMosaic.TcCoe Idealize.SL.Sem

theorem frame_kernel : Cert.quiescent_Kernel4 := fun m ρ _ => Cert.Kernel4.Gen.frame m ρ

theorem frame_kernelIdeal : Cert.quiescent_Kernel4Ideal := fun m ρ _ => Cert.Kernel4Ideal.Gen.frame m ρ

/-- The reference writes no argument and declares no semaphore. -/
theorem frame_referenceIdeal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem preserves : Cert.preserves_Kernel4_Kernel4Ideal := trivial

/-- The kernel's first result array is the reference's merge on the same arguments. -/
theorem merge_eq (m : (ℓ : Loc Cert.Kernel4Ideal.nD Cert.Kernel4Ideal.τ Cert.Kernel4Ideal.sig) → Buf (Elt Ideal) ℓ) (c : Dev Cert.Kernel4Ideal.nD) :
    ((Cert.Kernel4Ideal.Gen.dats m 0 c).arrAt 7 Cert.Kernel4Ideal.cfg0.N : FVec Ideal ⟨2, ![8192, 2048]⟩ .bf16)
      = Cert.Reference4Ideal.Read.val_main_v27 (F := Ideal) (m ((c : Thread Cert.Kernel4Ideal.nD Cert.Kernel4Ideal.τ).loc Cert.Kernel4Ideal.main_arg0))
          (m ((c : Thread Cert.Kernel4Ideal.nD Cert.Kernel4Ideal.τ).loc Cert.Kernel4Ideal.main_arg1))
          (m ((c : Thread Cert.Kernel4Ideal.nD Cert.Kernel4Ideal.τ).loc Cert.Kernel4Ideal.main_arg2))
          (m ((c : Thread Cert.Kernel4Ideal.nD Cert.Kernel4Ideal.τ).loc Cert.Kernel4Ideal.main_arg3))
          (m ((c : Thread Cert.Kernel4Ideal.nD Cert.Kernel4Ideal.τ).loc Cert.Kernel4Ideal.main_arg4)) := by
  funext i
  obtain ⟨r, q, rfl⟩ : ∃ (r : Fin 8192) (q : Fin 2048), i = ix2 r q := ⟨i 0, i 1, by funext a; match a with | 0 => rfl | 1 => rfl⟩
  exact (merge_apply m c r q).trans (v27_at _ _ _ _ _ r q).symm

/-- The kernel's second result array is the reference's output weights. -/
theorem wout_eq (m : (ℓ : Loc Cert.Kernel4Ideal.nD Cert.Kernel4Ideal.τ Cert.Kernel4Ideal.sig) → Buf (Elt Ideal) ℓ) (c : Dev Cert.Kernel4Ideal.nD) :
    ((Cert.Kernel4Ideal.Gen.dats m 0 c).arrAt 8 Cert.Kernel4Ideal.cfg0.N : FVec Ideal ⟨2, ![2048, 2048]⟩ .bf16)
      = Cert.Reference4Ideal.Read.val_main_v30 (F := Ideal) (m ((c : Thread Cert.Kernel4Ideal.nD Cert.Kernel4Ideal.τ).loc Cert.Kernel4Ideal.main_arg5)) := by
  funext i
  obtain ⟨r, q, rfl⟩ : ∃ r q : Fin 2048, i = ix2 r q := ⟨i 0, i 1, by funext a; match a with | 0 => rfl | 1 => rfl⟩
  exact (wout_apply m c r q).trans (v30_at _ q r).symm

/-- Kernel and reference end with the same two results. -/
theorem algebraic : Cert.algebraic_Kernel4Ideal_Reference4Ideal := by
  intro m ρ m' ρ' _ hagree
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N, Cert.Kernel4Ideal.Value.run_blocks m ρ, ?_⟩
  refine (θ_run Cert.Reference4Ideal.defs _ _).mono (fun _ h c => ⟨(h c).1.trans ?_, (h c).2.1.trans ?_, (h c).2.2⟩)
    (Cert.Reference4Ideal.Value.run (F := Ideal) m' ρ')
  · rw [Cert.Reference4Ideal.Read.val_main_v27_eq, (hagree c).1, (hagree c).2.1, (hagree c).2.2.1, (hagree c).2.2.2.1, (hagree c).2.2.2.2.1]
    exact (merge_eq m c).symm
  · rw [Cert.Reference4Ideal.Read.val_main_v30_eq, (hagree c).2.2.2.2.2]
    exact (wout_eq m c).symm

end Cert.Merge

end
-- ==== Proof.FirstNorm.lean ====
/-
  The first layer's output projection adds each batch's residual to its normed rows and norms the sums for the next layer:
  the two blocks that are stored for a batch, entry by entry.
-/
module

public import proofs.«01_k».proof.Proof.TailRef
public import proofs.«01_k».proof.Proof.Gen.Kernel5Ideal.Value

@[expose] public section

set_option maxRecDepth 16384

noncomputable section

namespace Cert.First

open Idealize.ShloMosaic Idealize.ShloMosaic.TcCoe Idealize.SL.Sem
open Cert.Moba (Rep)
open Cert.Tail (cols eps meanSq normed)

section
variable {a b n : ℕ}

/-- The sum over the last axis, kept as an axis of one. -/
theorem sum3 (x : FVec Ideal ⟨3, ![a, b, n]⟩ .f32) (h : (⟨3, ![a, b, n]⟩ : Shape).Reduces [2] ⟨2, ![a, b]⟩) (h1 h2)
    (h' : (⟨2, ![a, b]⟩ : Shape).ShapeCasts ⟨3, ![a, b, 1]⟩) (k : Fin a) (p : Fin b) (z : Fin 1) :
    (shapeCast ⟨3, ![a, b, 1]⟩ (multiReduction .add [2] ⟨2, ![a, b]⟩ x 0x00000000#32 h h1 h2) h' (ix3 k p z) : EReal) = ∑ d : Fin n, (x (ix3 k p d) : EReal) := by
  rw [shapeCast_apply _ h' (ix3 k p z) (ix2 k p) (by
    rw [Shape.rowMajor_val_two, Shape.rowMajor_val_three]
    show k.val * b + p.val = (k.val * b + p.val) * 1 + z.val
    omega)]
  pointwise
/-- One column repeated along the last axis. -/
theorem col3 {β : Type} (x : (⟨3, ![a, b, 1]⟩ : Shape).Idx → β) (h : (⟨3, ![a, b, 1]⟩ : Shape).Broadcasts ⟨3, ![a, b, n]⟩) (k : Fin a) (p : Fin b) (q : Fin n) :
    broadcastTo ⟨3, ![a, b, n]⟩ x h (ix3 k p q) = x (ix3 k p (0 : Fin 1)) := by
  pointwise
  congr 1
  funext i
  match i with
  | 0 =>
    by_cases ha : a = 1
    · subst ha
      exact Subsingleton.elim (α := Fin 1) _ _
    · exact dif_neg ha
  | 1 =>
    by_cases hb : b = 1
    · subst hb
      exact Subsingleton.elim (α := Fin 1) _ _
    · exact dif_neg hb
  | 2 => rfl

/-- One row repeated along the first two axes. -/
theorem row3 {β : Type} (x : (⟨3, ![1, 1, n]⟩ : Shape).Idx → β) (h : (⟨3, ![1, 1, n]⟩ : Shape).Broadcasts ⟨3, ![a, b, n]⟩) (k : Fin a) (p : Fin b) (q : Fin n) :
    broadcastTo ⟨3, ![a, b, n]⟩ x h (ix3 k p q) = x (ix3 (0 : Fin 1) (0 : Fin 1) q) := by
  pointwise
  congr 1
  funext i
  match i with
  | 0 => rfl
  | 1 => rfl
  | 2 =>
    by_cases hn : n = 1
    · subst hn
      exact Subsingleton.elim (α := Fin 1) _ _
    · exact dif_neg hn

end

open Cert.Kernel5Ideal Cert.Kernel5Ideal.Gen

/-- A batch's sums, normed, as the kernel computes them. -/
def sumsNormed (v : FVec Ideal S8x16x2048 .f32) (g : FVec Ideal S1x2048 .f32) : FVec Ideal S8x16x2048 .f32 :=
  have s : FVec Ideal S8x16x1 .f32 := shapeCast S8x16x1 (multiReduction .add [2] S8x16 (mulf v v) 0x00000000#32 reduces_S8x16x2048_S8x16 (.inl rfl) rfl) shapeCasts_S8x16_S8x16x1
  have r : FVec Ideal S8x16x1 .f32 := addf (divf s (broadcast S8x16x1 (Scalar.ofBits .f32 0x45000000#32))) (broadcast S8x16x1 (Scalar.ofBits .f32 0x358637BD#32))
  mulf (mulf v (broadcastTo S8x16x2048 (rsqrt r) broadcasts_S8x16x1_S8x16x2048))
    (broadcastTo S8x16x2048 (shapeCast S1x1x2048 (shapeCast S1x2048 g shapeCasts_S1x2048_S1x2048) shapeCasts_S1x2048_S1x1x2048) broadcasts_S1x1x2048_S8x16x2048)

theorem sumsNormed_at (v : FVec Ideal S8x16x2048 .f32) {g : FVec Ideal S1x2048 .f32} {γ Y : ℕ → ℕ → EReal} {row : Fin 8 → Fin 16 → ℕ}
    (hv : ∀ k p (q : Fin 2048), (v (ix3 k p q) : EReal) = Y (row k p) q.val) (hg : Rep g γ) (k : Fin 8) (p : Fin 16) (q : Fin 2048) :
    (sumsNormed v g (ix3 k p q) : EReal) = normed Y (γ 0) (row k p) q.val := by
  have hs := sum3 (mulf v v) reduces_S8x16x2048_S8x16 (.inl rfl) rfl shapeCasts_S8x16_S8x16x1 k p 0
  have hm : (∑ d : Fin 2048, (mulf v v (ix3 k p d) : EReal)) = ∑ d : Fin 2048, Y (row k p) d.val * Y (row k p) d.val :=
    Finset.sum_congr rfl fun d _ => congrArg₂ (fun x y : EReal => x * y) (hv k p d) (hv k p d)
  have hr : (broadcastTo S8x16x2048 (rsqrt (addf (divf (shapeCast S8x16x1 (multiReduction .add [2] S8x16 (mulf v v) 0x00000000#32 reduces_S8x16x2048_S8x16 (.inl rfl) rfl) shapeCasts_S8x16_S8x16x1)
      (broadcast S8x16x1 (Scalar.ofBits .f32 0x45000000#32))) (broadcast S8x16x1 (Scalar.ofBits .f32 0x358637BD#32)) : FVec Ideal S8x16x1 .f32)) broadcasts_S8x16x1_S8x16x2048 (ix3 k p q) : EReal)
      = Ideal.rsqrt (meanSq Y (row k p) + eps) :=
    (col3 _ broadcasts_S8x16x1_S8x16x2048 k p q).trans (congrArg (fun s : EReal => Ideal.rsqrt (Ideal.div s cols + eps)) (hs.trans hm))
  have hγ : (broadcastTo S8x16x2048 (shapeCast S1x1x2048 (shapeCast S1x2048 g shapeCasts_S1x2048_S1x2048) shapeCasts_S1x2048_S1x1x2048) broadcasts_S1x1x2048_S8x16x2048 (ix3 k p q) : EReal) = γ 0 q.val := by
    refine (row3 _ broadcasts_S1x1x2048_S8x16x2048 k p q).trans ?_
    rw [shapeCast_apply _ shapeCasts_S1x2048_S1x1x2048 (ix3 (0 : Fin 1) (0 : Fin 1) q) (ix2 (0 : Fin 1) q)
      (by rw [Shape.rowMajor_val_two, Shape.rowMajor_val_three]; show 0 * 2048 + q.val = (0 * 1 + 0) * 2048 + q.val; omega)]
    exact hg.shapeCast shapeCasts_S1x2048_S1x2048 0 q
  exact congrArg₂ (fun x y : EReal => x * y) (congrArg₂ (fun x y : EReal => x * y) (hv k p q) hr) hγ

/-- A batch's sums, as they are stored. -/
theorem stack_at {e : FTy} (v : FVec Ideal S8x16x2048 e) (k : Fin 8) (p : Fin 16) (q : Fin 2048) :
    shapeCast S8x1x16x2048 v shapeCasts_S8x16x2048_S8x1x16x2048 (ix4 k (0 : Fin 1) p q) = v (ix3 k p q) :=
  shapeCast_apply v shapeCasts_S8x16x2048_S8x1x16x2048 (ix4 k (0 : Fin 1) p q) (ix3 k p q)
    (by rw [Shape.rowMajor_val_three, Shape.rowMajor_val_four]
        show (k.val * 16 + p.val) * 2048 + q.val = ((k.val * 1 + 0) * 16 + p.val) * 2048 + q.val; omega)

/-- The sum of one batch's residual and its normed rows. -/
theorem pay2_at (v21 : FVec Ideal S1x8x16x2048 .f32) (v23 : FVec Ideal S8x1x16x2048 .f32) (k : Fin 8) (p : Fin 16) (q : Fin 2048) :
    (k0_pay2 (F := Ideal) v21 v23 (ix3 k p q) : EReal) = (v21 (ix4 (0 : Fin 1) k p q) + v23 (ix4 k (0 : Fin 1) p q) : EReal) := by
  refine congrArg₂ (fun u v : EReal => u + v) ?_ ?_
  · exact shapeCast_apply v21 shapeCasts_S1x8x16x2048_S8x16x2048 (ix3 k p q) (ix4 (0 : Fin 1) k p q)
      (by rw [Shape.rowMajor_val_three, Shape.rowMajor_val_four]
          show ((0 * 8 + k.val) * 16 + p.val) * 2048 + q.val = (k.val * 16 + p.val) * 2048 + q.val; omega)
  · exact shapeCast_apply v23 shapeCasts_S8x1x16x2048_S8x16x2048 (ix3 k p q) (ix4 k (0 : Fin 1) p q)
      (by rw [Shape.rowMajor_val_three, Shape.rowMajor_val_four]
          show ((k.val * 1 + 0) * 16 + p.val) * 2048 + q.val = (k.val * 16 + p.val) * 2048 + q.val; omega)

section
variable {v21 : FVec Ideal S1x8x16x2048 .f32} {v23 : FVec Ideal S8x1x16x2048 .f32} {g : FVec Ideal S1x2048 .f32} {X N γ : ℕ → ℕ → EReal} {row : Fin 8 → Fin 16 → ℕ}

/-- The sums of a batch, stored. -/
theorem pay3_at (hx : ∀ k p (q : Fin 2048), (v21 (ix4 (0 : Fin 1) k p q) : EReal) = X (row k p) q.val)
    (hn : ∀ k p (q : Fin 2048), (v23 (ix4 k (0 : Fin 1) p q) : EReal) = N (row k p) q.val) (k : Fin 8) (p : Fin 16) (q : Fin 2048) :
    (k0_pay3 (F := Ideal) v21 v23 (ix4 k (0 : Fin 1) p q) : EReal) = X (row k p) q.val + N (row k p) q.val :=
  (stack_at (k0_pay2 (F := Ideal) v21 v23) k p q).trans ((pay2_at v21 v23 k p q).trans (congrArg₂ (fun u v : EReal => u + v) (hx k p q) (hn k p q)))

/-- The normed sums of a batch, stored. -/
theorem pay4_at (hx : ∀ k p (q : Fin 2048), (v21 (ix4 (0 : Fin 1) k p q) : EReal) = X (row k p) q.val)
    (hn : ∀ k p (q : Fin 2048), (v23 (ix4 k (0 : Fin 1) p q) : EReal) = N (row k p) q.val) (hg : Rep g γ) (k : Fin 8) (p : Fin 16) (q : Fin 2048) :
    (k0_pay4 (F := Ideal) (k0_pay2 (F := Ideal) v21 v23) g (ix4 k (0 : Fin 1) p q) : EReal) = normed (fun i j => X i j + N i j) (γ 0) (row k p) q.val := by
  refine (stack_at (truncf .bf16 (sumsNormed (k0_pay2 (F := Ideal) v21 v23) g) bitsLt_bf16_f32) k p q).trans ?_
  exact sumsNormed_at (k0_pay2 (F := Ideal) v21 v23) (Y := fun i j => X i j + N i j)
    (fun k p q => (pay2_at v21 v23 k p q).trans (congrArg₂ (fun u v : EReal => u + v) (hx k p q) (hn k p q))) hg k p q

end

/-- The other batches compute what the first does. -/
theorem pay6_eq (v21 : FVec Ideal S1x8x16x2048 .f32) (v23 : FVec Ideal S8x1x16x2048 .f32) : k0_pay6 (F := Ideal) v21 v23 = k0_pay3 (F := Ideal) v21 v23 := rfl
theorem pay11_eq (v21 : FVec Ideal S1x8x16x2048 .f32) (v23 : FVec Ideal S8x1x16x2048 .f32) : k0_pay11 (F := Ideal) v21 v23 = k0_pay3 (F := Ideal) v21 v23 := rfl
theorem pay15_eq (v21 : FVec Ideal S1x8x16x2048 .f32) (v23 : FVec Ideal S8x1x16x2048 .f32) : k0_pay15 (F := Ideal) v21 v23 = k0_pay3 (F := Ideal) v21 v23 := rfl
theorem pay9_eq (v21 : FVec Ideal S1x8x16x2048 .f32) (v23 : FVec Ideal S8x1x16x2048 .f32) (g : FVec Ideal S1x2048 .f32) :
    k0_pay9 (F := Ideal) (k0_pay5 (F := Ideal) v21 v23) (k0_pay7 (F := Ideal) g) (k0_pay8 (F := Ideal) v21 v23) (Scalar.ofBits .f32 0x358637BD#32)
      = k0_pay4 (F := Ideal) (k0_pay2 (F := Ideal) v21 v23) g := rfl
theorem pay13_eq (v21 : FVec Ideal S1x8x16x2048 .f32) (v23 : FVec Ideal S8x1x16x2048 .f32) (g : FVec Ideal S1x2048 .f32) :
    k0_pay13 (F := Ideal) (k0_pay12 (F := Ideal) v21 v23 g) = k0_pay4 (F := Ideal) (k0_pay2 (F := Ideal) v21 v23) g := rfl
theorem pay16_eq (v21 : FVec Ideal S1x8x16x2048 .f32) (v23 : FVec Ideal S8x1x16x2048 .f32) (g : FVec Ideal S1x2048 .f32) :
    k0_pay16 (F := Ideal) v21 v23 g = k0_pay4 (F := Ideal) (k0_pay2 (F := Ideal) v21 v23) g := rfl

/-- The block's normed rows are computed as the last layer's are. -/
theorem pay1_eq (v0 : FVec Ideal S512x2048 .bf16) (v1 : FVec Ideal S2048x2048 .bf16) (v3 : FVec Ideal S1x2048 .f32) :
    k0_pay1 (F := Ideal) v0 v1 v3 = Cert.Kernel3Ideal.Gen.k0_pay1 (F := Ideal) v0 v1 v3 := rfl

end Cert.First

end
-- ==== Proof.FirstBlock.lean ====
/-
  The first layer's output projection's two output blocks, entry by entry: the residual's block plus the normed rows, and
  these sums normed for the next layer, by chunk, batch and position.
-/
module

public import proofs.«01_k».proof.Proof.FirstNorm

@[expose] public section

set_option maxRecDepth 16384

noncomputable section

namespace Cert.First

open Idealize.ShloMosaic Idealize.ShloMosaic.TcCoe Idealize.SL.Sem
open Cert.Moba (Rep)
open Cert.Proj (prod)
open Cert.Tail (normed load_rep0 load_stored)
open Cert.Kernel5Ideal Cert.Kernel5Ideal.Gen

section
variable {n0 n1 n2 n3 : ℕ} {e : EltTy}

/-- A load of one batch of a whole buffer whose first axis is the batch. -/
theorem load_first {sig : RefSig} (arg : Memref sig .tc .vmem (⟨4, ![n0, n1, n2, n3]⟩ : Shape) e) (harg : arg.IsWhole)
    (x : (⟨4, ![n0, n1, n2, n3]⟩ : Shape).Idx → Elt Ideal e) (o : Fin n0) {v : ℕ} (hv : v = o.val) {inb} (k : Fin n1) (p : Fin n2) (q : Fin n3) :
    (View.readAt (Elt Ideal) arg.view (Rect.unit (s := (⟨4, ![n0, n1, n2, n3]⟩ : Shape)) ![v, 0, 0, 0] (⟨4, ![1, n1, n2, n3]⟩ : Shape).size inb).toLoadRect (harg.unread x)
      : (⟨4, ![1, n1, n2, n3]⟩ : Shape).Idx → Elt Ideal e) (ix4 (0 : Fin 1) k p q) = x (ix4 o k p q) := by
  subst hv
  rw [View.readAt_eq_ld, Memref.IsWhole.read_unread]
  refine congrArg x ?_
  funext a; apply Fin.ext
  match a with
  | ⟨0, _⟩ => show o.val + 1 * 0 = o.val; omega
  | ⟨1, _⟩ => show 0 + 1 * k.val = k.val; omega
  | ⟨2, _⟩ => show 0 + 1 * p.val = p.val; omega
  | ⟨3, _⟩ => show 0 + 1 * q.val = q.val; omega

/-- The newest of the stores by batch along the second axis, at a position of its batch. -/
theorem second_on (o : Fin n1) {v : ℕ} (hv : v = o.val) {inb} {x : (⟨4, ![n0, 1, n2, n3]⟩ : Shape).Idx → Elt Ideal e}
    (L : List (View.Piece (Elt Ideal) (⟨4, ![n0, n1, n2, n3]⟩ : Shape) e)) (k : Fin n0) (p : Fin n2) (q : Fin n3) :
    View.canon (⟨Rect.unit (s := (⟨4, ![n0, n1, n2, n3]⟩ : Shape)) ![0, v, 0, 0] (⟨4, ![n0, 1, n2, n3]⟩ : Shape).size inb, x⟩ :: L) (ix4 k o p q)
      = x (ix4 k (0 : Fin 1) p q) := by
  subst hv
  refine Eq.trans (congrArg (View.canon _) ?_)
    (View.canon_cons_emb (Rect.unit (s := (⟨4, ![n0, n1, n2, n3]⟩ : Shape)) ![0, o.val, 0, 0] (⟨4, ![n0, 1, n2, n3]⟩ : Shape).size inb) x L (ix4 k (0 : Fin 1) p q))
  funext a; apply Fin.ext
  match a with
  | ⟨0, _⟩ => show k.val = 0 + 1 * k.val; omega
  | ⟨1, _⟩ => show o.val = o.val + 1 * 0; omega
  | ⟨2, _⟩ => show p.val = 0 + 1 * p.val; omega
  | ⟨3, _⟩ => show q.val = 0 + 1 * q.val; omega

/-- The newest of the stores by batch along the second axis, at a position of another batch. -/
theorem second_off {o : ℕ} {inb} {x : (⟨4, ![n0, 1, n2, n3]⟩ : Shape).Idx → Elt Ideal e}
    (L : List (View.Piece (Elt Ideal) (⟨4, ![n0, n1, n2, n3]⟩ : Shape) e)) (b : Fin n1) (k : Fin n0) (p : Fin n2) (q : Fin n3) (h : b.val ≠ o) :
    View.canon (⟨Rect.unit (s := (⟨4, ![n0, n1, n2, n3]⟩ : Shape)) ![0, o, 0, 0] (⟨4, ![n0, 1, n2, n3]⟩ : Shape).size inb, x⟩ :: L) (ix4 k b p q)
      = View.canon L (ix4 k b p q) := by
  refine View.canon_cons_of_not_mem _ L ?_
  intro hm
  obtain ⟨i, hi, he⟩ := (LoadRect.mem_set _).mp hm (1 : Fin 4)
  have hi' : i < 1 := hi
  have he' : b.val = o + 1 * i := he
  omega

/-- A buffer of four batches, each stored by itself, holds what each store holds. -/
theorem four {inb0 inb1 inb2 inb3} {x0 x1 x2 x3 : (⟨4, ![n0, 1, n2, n3]⟩ : Shape).Idx → Elt Ideal e} {k : Fin n0} {p : Fin n2} {q : Fin n3}
    (val : Fin 4 → Elt Ideal e) (h0 : x0 (ix4 k (0 : Fin 1) p q) = val 0) (h1 : x1 (ix4 k (0 : Fin 1) p q) = val 1)
    (h2 : x2 (ix4 k (0 : Fin 1) p q) = val 2) (h3 : x3 (ix4 k (0 : Fin 1) p q) = val 3) (b : Fin 4) :
    View.canon [⟨Rect.unit (s := (⟨4, ![n0, 4, n2, n3]⟩ : Shape)) ![0, 3, 0, 0] (⟨4, ![n0, 1, n2, n3]⟩ : Shape).size inb3, x3⟩,
      ⟨Rect.unit (s := (⟨4, ![n0, 4, n2, n3]⟩ : Shape)) ![0, 2, 0, 0] (⟨4, ![n0, 1, n2, n3]⟩ : Shape).size inb2, x2⟩,
      ⟨Rect.unit (s := (⟨4, ![n0, 4, n2, n3]⟩ : Shape)) ![0, 1, 0, 0] (⟨4, ![n0, 1, n2, n3]⟩ : Shape).size inb1, x1⟩,
      ⟨Rect.unit (s := (⟨4, ![n0, 4, n2, n3]⟩ : Shape)) ![0, 0, 0, 0] (⟨4, ![n0, 1, n2, n3]⟩ : Shape).size inb0, x0⟩] (ix4 k b p q) = val b := by
  by_cases c3 : b.val = 3
  · obtain rfl : b = 3 := Fin.ext c3
    exact (second_on (3 : Fin 4) rfl _ k p q).trans h3
  refine (second_off _ b k p q c3).trans ?_
  by_cases c2 : b.val = 2
  · obtain rfl : b = 2 := Fin.ext c2
    exact (second_on (2 : Fin 4) rfl _ k p q).trans h2
  refine (second_off _ b k p q c2).trans ?_
  by_cases c1 : b.val = 1
  · obtain rfl : b = 1 := Fin.ext c1
    exact (second_on (1 : Fin 4) rfl _ k p q).trans h1
  refine (second_off _ b k p q c1).trans ?_
  obtain rfl : b = 0 := Fin.ext (by show b.val = 0; omega)
  exact (second_on (0 : Fin 4) rfl _ k p q).trans h0

end

variable (c : Dev nD) (i : grid0.Coords)
variable (arg1 : Memref sig .tc .vmem S512x2048 .bf16) (harg1 : arg1.IsWhole) (arg2 : Memref sig .tc .vmem S2048x2048 .bf16) (harg2 : arg2.IsWhole)
variable (arg3 : Memref sig .tc .vmem S4x8x16x2048 .f32) (harg3 : arg3.IsWhole) (arg4 : Memref sig .tc .vmem S1x2048 .f32) (harg4 : arg4.IsWhole)
variable (arg5 : Memref sig .tc .vmem S1x2048 .f32) (harg5 : arg5.IsWhole) (arg6 : Memref sig .tc .vmem S8x4x16x2048 .f32) (harg6 : arg6.IsWhole)
variable (arg7 : Memref sig .tc .vmem S8x4x16x2048 .bf16) (harg7 : arg7.IsWhole) (arg8 : Memref sig .tc .vmem S8x4x16x2048 .f32) (harg8 : arg8.IsWhole)
variable (x0 : FVec Ideal S512x2048 .bf16) (x1 : FVec Ideal S2048x2048 .bf16) (x2 : FVec Ideal S4x8x16x2048 .f32) (x3 x4 : FVec Ideal S1x2048 .f32)

theorem stored : kernelRun0_A.sl.HS0_1 (F := Ideal) c arg1 harg1 arg2 harg2 arg4 harg4 x0 x1 x3
    = [⟨Rect.unit (s := S8x4x16x2048) ![0, 0, 0, 0] S8x4x16x2048.size inb_S8x4x16x2048_S8x4x16x2048_0_0_0_0,
        k0_pay1 (F := Ideal) (View.readAt (Elt Ideal) arg1.view (Rect.unit (s := S512x2048) ![0, 0] S512x2048.size inb_S512x2048_S512x2048_0_0).toLoadRect (harg1.unread x0))
          (View.readAt (Elt Ideal) arg2.view (Rect.unit (s := S2048x2048) ![0, 0] S2048x2048.size inb_S2048x2048_S2048x2048_0_0).toLoadRect (harg2.unread x1))
          (View.readAt (Elt Ideal) arg4.view (Rect.unit (s := S1x2048) ![0, 0] S1x2048.size inb_S1x2048_S1x2048_0_0).toLoadRect (harg4.unread x3))⟩] := rfl

/-- The row of a block's chunk, batch and position. -/
abbrev rowOf (b : Fin 4) (k : Fin 8) (p : Fin 16) : ℕ := (k.val * 4 + b.val) * 16 + p.val

variable {f g γ γ' X : ℕ → ℕ → EReal}

/-- The normed rows of one batch, as they are read back. -/
theorem rows_at (h0 : Rep x0 f) (h1 : Rep x1 g) (h3 : Rep x3 γ) (b : Fin 4) {v : ℕ} (hv : v = b.val) {inb} (k : Fin 8) (p : Fin 16) (q : Fin 2048) :
    (arg8.view.readCov (kernelRun0_A.sl.HS0_1 (F := Ideal) c arg1 harg1 arg2 harg2 arg4 harg4 x0 x1 x3)
      (Rect.unit (s := S8x4x16x2048) ![0, v, 0, 0] S8x1x16x2048.size inb).toLoadRect : S8x1x16x2048.Idx → EReal) (ix4 k (0 : Fin 1) p q)
      = normed (prod f g) (γ 0) (rowOf b k p) q.val :=
  (load_stored arg8 b hv (stored c arg1 harg1 arg2 harg2 arg4 harg4 x0 x1 x3) k p q).trans
    ((congrFun (pay1_eq _ _ _) _).trans (Cert.Tail.pay1_at (load_rep0 arg1 harg1 h0 (inb := inb_S512x2048_S512x2048_0_0))
      (load_rep0 arg2 harg2 h1 (inb := inb_S2048x2048_S2048x2048_0_0)) (load_rep0 arg4 harg4 h3 (inb := inb_S1x2048_S1x2048_0_0)) k b p q))

/-- The residual of one batch, as it is read. -/
theorem resid_at (h2 : ∀ b k p (q : Fin 2048), (x2 (ix4 b k p q) : EReal) = X (rowOf b k p) q.val) (b : Fin 4) {v : ℕ} (hv : v = b.val) {inb}
    (k : Fin 8) (p : Fin 16) (q : Fin 2048) :
    (View.readAt (Elt Ideal) arg3.view (Rect.unit (s := S4x8x16x2048) ![v, 0, 0, 0] S1x8x16x2048.size inb).toLoadRect (harg3.unread x2) : S1x8x16x2048.Idx → EReal) (ix4 (0 : Fin 1) k p q)
      = X (rowOf b k p) q.val :=
  (load_first arg3 harg3 x2 b hv k p q).trans (h2 b k p q)

/-- An entry of the first output block. -/
theorem out5_at (h0 : Rep x0 f) (h1 : Rep x1 g) (h2 : ∀ b k p (q : Fin 2048), (x2 (ix4 b k p q) : EReal) = X (rowOf b k p) q.val) (h3 : Rep x3 γ)
    (b : Fin 4) (k : Fin 8) (p : Fin 16) (q : Fin 2048) :
    (out0_A_5 (F := Ideal) c i arg1 harg1 arg2 harg2 arg3 harg3 arg4 harg4 arg5 harg5 arg6 harg6 arg7 harg7 arg8 harg8 x0 x1 x2 x3 x4 (ix4 k b p q) : EReal)
      = X (rowOf b k p) q.val + normed (prod f g) (γ 0) (rowOf b k p) q.val := by
  unfold out0_A_5
  rw [View.read_writes_junk_eq_canon]
  dsimp only [kernelRun0_A]
  exact four (e := .f32) (fun b => X (rowOf b k p) q.val + normed (prod f g) (γ 0) (rowOf b k p) q.val)
    (pay3_at (resid_at arg3 harg3 x2 h2 0 rfl) (rows_at c arg1 harg1 arg2 harg2 arg4 harg4 arg8 x0 x1 x3 h0 h1 h3 0 rfl) k p q)
    ((congrFun (pay6_eq _ _) _).trans (pay3_at (resid_at arg3 harg3 x2 h2 1 rfl) (rows_at c arg1 harg1 arg2 harg2 arg4 harg4 arg8 x0 x1 x3 h0 h1 h3 1 rfl) k p q))
    ((congrFun (pay11_eq _ _) _).trans (pay3_at (resid_at arg3 harg3 x2 h2 2 rfl) (rows_at c arg1 harg1 arg2 harg2 arg4 harg4 arg8 x0 x1 x3 h0 h1 h3 2 rfl) k p q))
    ((congrFun (pay15_eq _ _) _).trans (pay3_at (resid_at arg3 harg3 x2 h2 3 rfl) (rows_at c arg1 harg1 arg2 harg2 arg4 harg4 arg8 x0 x1 x3 h0 h1 h3 3 rfl) k p q)) b

/-- An entry of the second output block. -/
theorem out6_at (h0 : Rep x0 f) (h1 : Rep x1 g) (h2 : ∀ b k p (q : Fin 2048), (x2 (ix4 b k p q) : EReal) = X (rowOf b k p) q.val) (h3 : Rep x3 γ)
    (h4 : Rep x4 γ') (b : Fin 4) (k : Fin 8) (p : Fin 16) (q : Fin 2048) :
    (out0_A_6 (F := Ideal) c i arg1 harg1 arg2 harg2 arg3 harg3 arg4 harg4 arg5 harg5 arg6 harg6 arg7 harg7 arg8 harg8 x0 x1 x2 x3 x4 (ix4 k b p q) : EReal)
      = normed (fun i j => X i j + normed (prod f g) (γ 0) i j) (γ' 0) (rowOf b k p) q.val := by
  have hg := load_rep0 arg5 harg5 h4 (inb := inb_S1x2048_S1x2048_0_0)
  unfold out0_A_6
  rw [View.read_writes_junk_eq_canon]
  dsimp only [kernelRun0_A]
  exact four (e := .bf16) (fun b => normed (fun i j => X i j + normed (prod f g) (γ 0) i j) (γ' 0) (rowOf b k p) q.val)
    (pay4_at (resid_at arg3 harg3 x2 h2 0 rfl) (rows_at c arg1 harg1 arg2 harg2 arg4 harg4 arg8 x0 x1 x3 h0 h1 h3 0 rfl) hg k p q)
    ((congrFun (pay9_eq _ _ _) _).trans (pay4_at (resid_at arg3 harg3 x2 h2 1 rfl) (rows_at c arg1 harg1 arg2 harg2 arg4 harg4 arg8 x0 x1 x3 h0 h1 h3 1 rfl) hg k p q))
    ((congrFun (pay13_eq _ _ _) _).trans (pay4_at (resid_at arg3 harg3 x2 h2 2 rfl) (rows_at c arg1 harg1 arg2 harg2 arg4 harg4 arg8 x0 x1 x3 h0 h1 h3 2 rfl) hg k p q))
    ((congrFun (pay16_eq _ _ _) _).trans (pay4_at (resid_at arg3 harg3 x2 h2 3 rfl) (rows_at c arg1 harg1 arg2 harg2 arg4 harg4 arg8 x0 x1 x3 h0 h1 h3 3 rfl) hg k p q)) b

end Cert.First

end
-- ==== Proof.FirstArray.lean ====
/-
  The first layer's output projection's two result arrays, entry by entry, as functions of its arguments.
-/
module

public import proofs.«01_k».proof.Proof.FirstBlock
public import Idealize.ShloMosaic.Lib.StableHlo.RunRead

@[expose] public section

set_option maxRecDepth 16384

noncomputable section

namespace Cert.First

open Idealize.ShloMosaic Idealize.ShloMosaic.TcCoe Idealize.SL.Sem
open Cert.Moba (Rep)
open Cert.Proj (prod nat2 nat2_of)
open Cert.Tail (normed meanSq nat1 nat1_of pos)
open Cert.Kernel5Ideal Cert.Kernel5Ideal.Gen

/-- The residual at a row of the chunks, batch by batch in each chunk, and a column. -/
def resid (r : FVec Ideal ⟨3, ![4, 2048, 2048]⟩ .f32) (R q : ℕ) : EReal :=
  if h : R < 8192 ∧ q < 2048 then r (ix3 (⟨R / 16 % 4, by omega⟩ : Fin 4) (⟨R / 64 * 16 + R % 16, by omega⟩ : Fin 2048) (⟨q, h.2⟩ : Fin 2048)) else 0

theorem resid_of (r : FVec Ideal ⟨3, ![4, 2048, 2048]⟩ .f32) (b : Fin 4) (k : Fin 128) (p : Fin 16) (q : Fin 2048) :
    resid r ((k.val * 4 + b.val) * 16 + p.val) q.val = r (ix3 b (pos k p) q) := by
  have hR : (k.val * 4 + b.val) * 16 + p.val < 8192 := by omega
  unfold resid
  rw [dif_pos ⟨hR, q.2⟩]
  refine congrArg r (Cert.Proj.ext3 ?_ ?_ rfl)
  · show ((k.val * 4 + b.val) * 16 + p.val) / 16 % 4 = b.val; omega
  · show ((k.val * 4 + b.val) * 16 + p.val) / 64 * 16 + ((k.val * 4 + b.val) * 16 + p.val) % 16 = k.val * 16 + p.val; omega

/-- The layer's output at a row and a column: the residual plus the normed products. -/
def sumVal (x : FVec Ideal ⟨2, ![8192, 2048]⟩ .bf16) (w : FVec Ideal ⟨2, ![2048, 2048]⟩ .bf16) (r : FVec Ideal ⟨3, ![4, 2048, 2048]⟩ .f32)
    (g : FVec Ideal ⟨1, ![2048]⟩ .f32) (R q : ℕ) : EReal :=
  resid r R q + normed (prod (nat2 x) (nat2 w)) (nat1 g) R q

/-- The next layer's input at a row and a column: the layer's output, normed. -/
def nextVal (x : FVec Ideal ⟨2, ![8192, 2048]⟩ .bf16) (w : FVec Ideal ⟨2, ![2048, 2048]⟩ .bf16) (r : FVec Ideal ⟨3, ![4, 2048, 2048]⟩ .f32)
    (g g' : FVec Ideal ⟨1, ![2048]⟩ .f32) : ℕ → ℕ → EReal := normed (sumVal x w r g) (nat1 g')

variable (m : (ℓ : Loc nD τ sig) → Buf (Elt Ideal) ℓ) (c : Dev nD)

/-- The arguments that the memory holds. -/
abbrev xOf : FVec Ideal ⟨2, ![8192, 2048]⟩ .bf16 := m ((c : Thread nD τ).loc main_arg0)
abbrev wOf : FVec Ideal ⟨2, ![2048, 2048]⟩ .bf16 := m ((c : Thread nD τ).loc main_arg1)
abbrev rOf : FVec Ideal ⟨3, ![4, 2048, 2048]⟩ .f32 := m ((c : Thread nD τ).loc main_arg2)
abbrev gOf : FVec Ideal ⟨1, ![2048]⟩ .f32 := m ((c : Thread nD τ).loc main_arg3)
abbrev nOf : FVec Ideal ⟨1, ![2048]⟩ .f32 := m ((c : Thread nD τ).loc main_arg4)

/-- Where the blocks of a grid point lie. -/
theorem idx_facts : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 4) = 0 ∧ win0_2.index t (1 : Fin 4) = t.val ∧ win0_2.index t (2 : Fin 4) = 0 ∧ win0_2.index t (3 : Fin 4) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 4) = t.val ∧ win0_5.index t (1 : Fin 4) = 0 ∧ win0_5.index t (2 : Fin 4) = 0 ∧ win0_5.index t (3 : Fin 4) = 0) ∧
    (win0_6.index t (0 : Fin 4) = t.val ∧ win0_6.index t (1 : Fin 4) = 0 ∧ win0_6.index t (2 : Fin 4) = 0 ∧ win0_6.index t (3 : Fin 4) = 0) :=
  (by decide +kernel : ∀ t : Fin grid0.N, _)

theorem lt16 (t : Fin cfg0.N) : t.val < 16 := t.2

theorem emb0 (t : Fin cfg0.N) (r : Fin 512) (k : Fin 2048) :
    ((cfg0.win 0).blk t).view.emb (ix2 r k) = ix2 (⟨512 * t.val + r.val, by have := lt16 t; omega⟩ : Fin 8192) k := by
  obtain ⟨⟨e0, e1⟩, _⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 2048 + 1 * k.val = k.val; omega

theorem iblk0 (t : Fin cfg0.N) : Rep (iblk m c 0 t : FVec Ideal S512x2048 .bf16) fun r k => nat2 (xOf m c) (512 * t.val + r) k := by
  intro r k
  show V m c main_arg0 (((cfg0.win 0).blk t).view.emb _) = _
  rw [emb0, V_main_arg0]
  exact (nat2_of _ _ _).symm

theorem emb1 (t : Fin cfg0.N) (k j : Fin 2048) : ((cfg0.win 1).blk t).view.emb (ix2 k j) = ix2 k j := by
  obtain ⟨_, ⟨e0, e1⟩, _⟩ := idx_facts t
  funext a; apply Fin.ext
  match a with
  | ⟨0, _⟩ => show win0_1.index t (0 : Fin 2) * 2048 + 1 * k.val = k.val; omega
  | ⟨1, _⟩ => show win0_1.index t (1 : Fin 2) * 2048 + 1 * j.val = j.val; omega

theorem iblk1 (t : Fin cfg0.N) : Rep (iblk m c 1 t : FVec Ideal S2048x2048 .bf16) (nat2 (wOf m c)) := by
  intro k j
  show V m c main_arg1 (((cfg0.win 1).blk t).view.emb _) = _
  rw [emb1, V_main_arg1]
  exact (nat2_of _ _ _).symm

/-- The residual in chunks. -/
theorem V_resid : (V m c main_v0 : FVec Ideal S4x128x16x2048 .f32) = shapeCast S4x128x16x2048 (rOf m c) shapeCasts_S4x2048x2048_S4x128x16x2048 := by
  unfold V hostOps0
  after_reads_simp
  rfl

theorem chunked_at (r : FVec Ideal S4x2048x2048 .f32) (b : Fin 4) (k : Fin 128) (p : Fin 16) (q : Fin 2048) :
    shapeCast S4x128x16x2048 r shapeCasts_S4x2048x2048_S4x128x16x2048 (ix4 b k p q) = r (ix3 b (pos k p) q) :=
  shapeCast_apply r shapeCasts_S4x2048x2048_S4x128x16x2048 (ix4 b k p q) (ix3 b (pos k p) q)
    (by rw [Shape.rowMajor_val_three, Shape.rowMajor_val_four]
        show (b.val * 2048 + (k.val * 16 + p.val)) * 2048 + q.val = ((b.val * 128 + k.val) * 16 + p.val) * 2048 + q.val; omega)

theorem emb2 (t : Fin cfg0.N) (b : Fin 4) (k : Fin 8) (p : Fin 16) (q : Fin 2048) :
    ((cfg0.win 2).blk t).view.emb (ix4 b k p q) = ix4 b (⟨8 * t.val + k.val, by have := lt16 t; omega⟩ : Fin 128) p q := by
  obtain ⟨_, _, ⟨e0, e1, e2, e3⟩, _⟩ := idx_facts t
  funext a; apply Fin.ext
  match a with
  | ⟨0, _⟩ => show win0_2.index t (0 : Fin 4) * 4 + 1 * b.val = b.val; omega
  | ⟨1, _⟩ => show win0_2.index t (1 : Fin 4) * 8 + 1 * k.val = 8 * t.val + k.val; omega
  | ⟨2, _⟩ => show win0_2.index t (2 : Fin 4) * 16 + 1 * p.val = p.val; omega
  | ⟨3, _⟩ => show win0_2.index t (3 : Fin 4) * 2048 + 1 * q.val = q.val; omega

theorem iblk2 (t : Fin cfg0.N) (b : Fin 4) (k : Fin 8) (p : Fin 16) (q : Fin 2048) :
    ((iblk m c 2 t : FVec Ideal S4x8x16x2048 .f32) (ix4 b k p q) : EReal) = resid (rOf m c) (512 * t.val + rowOf b k p) q.val := by
  show V m c main_v0 (((cfg0.win 2).blk t).view.emb _) = _
  rw [emb2, V_resid]
  refine (chunked_at _ b _ p q).trans ((resid_of _ b _ p q).symm.trans ?_)
  refine congrArg (fun R : ℕ => resid (rOf m c) R q.val) ?_
  show ((8 * t.val + k.val) * 4 + b.val) * 16 + p.val = 512 * t.val + ((k.val * 4 + b.val) * 16 + p.val)
  omega

/-- The gains as one row, and the next layer's. -/
theorem V_gain : (V m c main_v1 : FVec Ideal S1x2048 .f32) = shapeCast S1x2048 (gOf m c) shapeCasts_S2048_S1x2048 := by
  unfold V hostOps0
  after_reads_simp
  rfl

theorem V_next : (V m c main_v2 : FVec Ideal S1x2048 .f32) = shapeCast S1x2048 (nOf m c) shapeCasts_S2048_S1x2048 := by
  unfold V hostOps0
  after_reads_simp
  rfl

theorem emb3 (t : Fin cfg0.N) (z : Fin 1) (q : Fin 2048) : ((cfg0.win 3).blk t).view.emb (ix2 z q) = ix2 z q := by
  obtain ⟨_, _, _, ⟨e0, e1⟩, _⟩ := idx_facts t
  funext a; apply Fin.ext
  match a with
  | ⟨0, _⟩ => show win0_3.index t (0 : Fin 2) * 1 + 1 * z.val = z.val; omega
  | ⟨1, _⟩ => show win0_3.index t (1 : Fin 2) * 2048 + 1 * q.val = q.val; omega

theorem iblk3 (t : Fin cfg0.N) : Rep (iblk m c 3 t : FVec Ideal S1x2048 .f32) fun _ q => nat1 (gOf m c) q := by
  intro z q
  show V m c main_v1 (((cfg0.win 3).blk t).view.emb _) = _
  rw [emb3, V_gain]
  exact (Cert.Moba.row_apply _ _ z q).trans (nat1_of _ _).symm

theorem emb4 (t : Fin cfg0.N) (z : Fin 1) (q : Fin 2048) : ((cfg0.win 4).blk t).view.emb (ix2 z q) = ix2 z q := by
  obtain ⟨_, _, _, _, ⟨e0, e1⟩, _⟩ := idx_facts t
  funext a; apply Fin.ext
  match a with
  | ⟨0, _⟩ => show win0_4.index t (0 : Fin 2) * 1 + 1 * z.val = z.val; omega
  | ⟨1, _⟩ => show win0_4.index t (1 : Fin 2) * 2048 + 1 * q.val = q.val; omega

theorem iblk4 (t : Fin cfg0.N) : Rep (iblk m c 4 t : FVec Ideal S1x2048 .f32) fun _ q => nat1 (nOf m c) q := by
  intro z q
  show V m c main_v2 (((cfg0.win 4).blk t).view.emb _) = _
  rw [emb4, V_next]
  exact (Cert.Moba.row_apply _ _ z q).trans (nat1_of _ _).symm

theorem emb5 (t : Fin cfg0.N) (k : Fin 8) (b : Fin 4) (p : Fin 16) (q : Fin 2048) :
    ((cfg0.win 5).blk t).view.emb (ix4 k b p q) = ix4 (⟨8 * t.val + k.val, by have := lt16 t; omega⟩ : Fin 128) b p q := by
  obtain ⟨_, _, _, _, _, ⟨e0, e1, e2, e3⟩, _⟩ := idx_facts t
  funext a; apply Fin.ext
  match a with
  | ⟨0, _⟩ => show win0_5.index t (0 : Fin 4) * 8 + 1 * k.val = 8 * t.val + k.val; omega
  | ⟨1, _⟩ => show win0_5.index t (1 : Fin 4) * 4 + 1 * b.val = b.val; omega
  | ⟨2, _⟩ => show win0_5.index t (2 : Fin 4) * 16 + 1 * p.val = p.val; omega
  | ⟨3, _⟩ => show win0_5.index t (3 : Fin 4) * 2048 + 1 * q.val = q.val; omega

theorem emb6 (t : Fin cfg0.N) (k : Fin 8) (b : Fin 4) (p : Fin 16) (q : Fin 2048) :
    ((cfg0.win 6).blk t).view.emb (ix4 k b p q) = ix4 (⟨8 * t.val + k.val, by have := lt16 t; omega⟩ : Fin 128) b p q := by
  obtain ⟨_, _, _, _, _, _, ⟨e0, e1, e2, e3⟩⟩ := idx_facts t
  funext a; apply Fin.ext
  match a with
  | ⟨0, _⟩ => show win0_6.index t (0 : Fin 4) * 8 + 1 * k.val = 8 * t.val + k.val; omega
  | ⟨1, _⟩ => show win0_6.index t (1 : Fin 4) * 4 + 1 * b.val = b.val; omega
  | ⟨2, _⟩ => show win0_6.index t (2 : Fin 4) * 16 + 1 * p.val = p.val; omega
  | ⟨3, _⟩ => show win0_6.index t (3 : Fin 4) * 2048 + 1 * q.val = q.val; omega

theorem flush5 : ∀ t : Fin cfg0.N, (cfg0.win 5).flush t = true :=
  (by decide +kernel : ∀ t : Fin grid0.N, win0_5.flush t = true)

theorem flush6 : ∀ t : Fin cfg0.N, (cfg0.win 6).flush t = true :=
  (by decide +kernel : ∀ t : Fin grid0.N, win0_6.flush t = true)

/-- A block's rows are the array's rows from the block's first row on. -/
theorem sum_block (x r : ℕ → ℕ → EReal) (w : ℕ → ℕ → EReal) (γ : ℕ → EReal) (o i j : ℕ) :
    r (o + i) j + normed (prod (fun R k => x (o + R) k) w) γ i j = r (o + i) j + normed (prod x w) γ (o + i) j := by
  unfold normed meanSq prod
  rfl

theorem next_block (x r : ℕ → ℕ → EReal) (w : ℕ → ℕ → EReal) (γ γ' : ℕ → EReal) (o i j : ℕ) :
    normed (fun R q => r (o + R) q + normed (prod (fun R k => x (o + R) k) w) γ R q) γ' i j
      = normed (fun R q => r R q + normed (prod x w) γ R q) γ' (o + i) j := by
  unfold normed meanSq prod
  rfl

/-- The row of a grid point's block, in the array. -/
theorem row_eq (t : Fin cfg0.N) (k : Fin 8) (b : Fin 4) (p : Fin 16) : 512 * t.val + rowOf b k p = ((8 * t.val + k.val) * 4 + b.val) * 16 + p.val := by
  show 512 * t.val + ((k.val * 4 + b.val) * 16 + p.val) = _
  omega

/-- What a grid point writes back of the layer's output. -/
theorem flushed5_at (t : Fin cfg0.N) (k : Fin 8) (b : Fin 4) (p : Fin 16) (q : Fin 2048) :
    ((outsAt0 m c t).1 (ix4 k b p q) : EReal)
      = sumVal (xOf m c) (wOf m c) (rOf m c) (gOf m c) (((8 * t.val + k.val) * 4 + b.val) * 16 + p.val) q.val := by
  have e := sum_block (nat2 (xOf m c)) (resid (rOf m c)) (nat2 (wOf m c)) (nat1 (gOf m c)) (512 * t.val) (rowOf b k p) q.val
  refine Eq.trans ?_ (congrArg (fun R : ℕ => sumVal (xOf m c) (wOf m c) (rOf m c) (gOf m c) R q.val) (row_eq t k b p))
  refine Eq.trans ?_ e
  unfold outsAt0
  dsimp only
  exact out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) (iblk m c 0 t) (iblk m c 1 t) (iblk m c 2 t) (iblk m c 3 t) (iblk m c 4 t)
    (X := fun R q => resid (rOf m c) (512 * t.val + R) q) (iblk0 m c t) (iblk1 m c t) (iblk2 m c t) (iblk3 m c t) b k p q

/-- What a grid point writes back of the next layer's input. -/
theorem flushed6_at (t : Fin cfg0.N) (k : Fin 8) (b : Fin 4) (p : Fin 16) (q : Fin 2048) :
    ((outsAt0 m c t).2 (ix4 k b p q) : EReal)
      = nextVal (xOf m c) (wOf m c) (rOf m c) (gOf m c) (nOf m c) (((8 * t.val + k.val) * 4 + b.val) * 16 + p.val) q.val := by
  have e := next_block (nat2 (xOf m c)) (resid (rOf m c)) (nat2 (wOf m c)) (nat1 (gOf m c)) (nat1 (nOf m c)) (512 * t.val) (rowOf b k p) q.val
  refine Eq.trans ?_ (congrArg (fun R : ℕ => nextVal (xOf m c) (wOf m c) (rOf m c) (gOf m c) (nOf m c) R q.val) (row_eq t k b p))
  refine Eq.trans ?_ e
  unfold outsAt0
  dsimp only
  exact out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) (iblk m c 0 t) (iblk m c 1 t) (iblk m c 2 t) (iblk m c 3 t) (iblk m c 4 t)
    (X := fun R q => resid (rOf m c) (512 * t.val + R) q) (iblk0 m c t) (iblk1 m c t) (iblk2 m c t) (iblk3 m c t) (iblk4 m c t) b k p q

/-- The layer's output, entry by entry. -/
theorem sum_apply (k : Fin 128) (b : Fin 4) (p : Fin 16) (q : Fin 2048) :
    (((dats m 0 c).arrAt 5 cfg0.N : FVec Ideal S128x4x16x2048 .f32) (ix4 k b p q) : EReal)
      = sumVal (xOf m c) (wOf m c) (rOf m c) (gOf m c) ((k.val * 4 + b.val) * 16 + p.val) q.val := by
  let t : Fin cfg0.N := ⟨k.val / 8, by show _ < 16; omega⟩
  let s : Fin 8 := ⟨k.val % 8, by omega⟩
  have hk : 8 * t.val + s.val = k.val := by show 8 * (k.val / 8) + k.val % 8 = k.val; omega
  have e := congrFun (Cert.Kernel5Ideal.Value.blocks5 m c t (flush5 _)) (ix4 s b p q)
  rw [Cert.Kernel5Ideal.Value.flushed5] at e
  have e' : ((dats m 0 c).arrAt 5 cfg0.N : FVec Ideal S128x4x16x2048 .f32) (((cfg0.win 5).blk t).view.emb (ix4 s b p q)) = _ := e
  rw [emb5, show (⟨8 * t.val + s.val, by have := lt16 t; omega⟩ : Fin 128) = k from Fin.ext hk] at e'
  refine e'.trans (Eq.trans (flushed5_at m c t s b p q) ?_)
  rw [hk]

/-- The next layer's input, entry by entry. -/
theorem next_apply (k : Fin 128) (b : Fin 4) (p : Fin 16) (q : Fin 2048) :
    (((dats m 0 c).arrAt 6 cfg0.N : FVec Ideal S128x4x16x2048 .bf16) (ix4 k b p q) : EReal)
      = nextVal (xOf m c) (wOf m c) (rOf m c) (gOf m c) (nOf m c) ((k.val * 4 + b.val) * 16 + p.val) q.val := by
  let t : Fin cfg0.N := ⟨k.val / 8, by show _ < 16; omega⟩
  let s : Fin 8 := ⟨k.val % 8, by omega⟩
  have hk : 8 * t.val + s.val = k.val := by show 8 * (k.val / 8) + k.val % 8 = k.val; omega
  have e := congrFun (Cert.Kernel5Ideal.Value.blocks6 m c t (flush6 _)) (ix4 s b p q)
  rw [Cert.Kernel5Ideal.Value.flushed6] at e
  have e' : ((dats m 0 c).arrAt 6 cfg0.N : FVec Ideal S128x4x16x2048 .bf16) (((cfg0.win 6).blk t).view.emb (ix4 s b p q)) = _ := e
  rw [emb6, show (⟨8 * t.val + s.val, by have := lt16 t; omega⟩ : Fin 128) = k from Fin.ext hk] at e'
  refine e'.trans (Eq.trans (flushed6_at m c t s b p q) ?_)
  rw [hk]

end Cert.First

end
-- ==== Proof.FirstRef.lean ====
/-
  The reference of the first layer's output projection, entry by entry: it is the kernel's two results.
-/
module

public import proofs.«01_k».proof.Proof.FirstArray
public import proofs.«01_k».proof.Proof.Gen.Reference5Ideal.Read

@[expose] public section

set_option maxRecDepth 16384

noncomputable section

namespace Cert.First

open Idealize.ShloMosaic Idealize.ShloMosaic.TcCoe Idealize.SL.Sem
open Cert.Proj (prod nat2 nat2_of ext3 ext4)
open Cert.Tail (ext2 eps meanSq normed nat1 nat1_of pos row split_pos)
open Cert.Reference5Ideal Cert.Reference5Ideal.Gen Cert.Reference5Ideal.Read

variable (x : FVec Ideal ⟨2, ![8192, 2048]⟩ .bf16) (w : FVec Ideal ⟨2, ![2048, 2048]⟩ .bf16)
variable (r : FVec Ideal ⟨3, ![4, 2048, 2048]⟩ .f32) (g g' : FVec Ideal ⟨1, ![2048]⟩ .f32)
variable (b : Fin 4) (k : Fin 128) (p : Fin 16) (q : Fin 2048)

/-- The products of the rows and the weights, and the row of a chunk, a batch and a position. -/
abbrev P : ℕ → ℕ → EReal := prod (nat2 x) (nat2 w)
abbrev R (b : Fin 4) (k : Fin 128) (p : Fin 16) : ℕ := (k.val * 4 + b.val) * 16 + p.val

theorem v2_at : (val_main_v2 (F := Ideal) x (ix4 b k p q) : EReal) = x (ix2 (row b k p) q) := by
  rw [val_main_v2_apply]
  have e : idx_main_v2 (ix4 b k p q) = ix4 k b p q := ext4 rfl rfl rfl rfl
  rw [e, val_main_v1_apply, val_main_v0_apply]
  refine congrArg x (ext2 ?_ ?_)
  · show (((k.val * 4 + b.val) * 16 + p.val) * 2048 + q.val) / 2048 = (k.val * 4 + b.val) * 16 + p.val; omega
  · show (((k.val * 4 + b.val) * 16 + p.val) * 2048 + q.val) % 2048 = q.val; omega

theorem v3_at : (val_main_v3 (F := Ideal) x (ix3 b (pos k p) q) : EReal) = x (ix2 (row b k p) q) := by
  rw [val_main_v3_apply]
  obtain ⟨h0, h1, h2, h3⟩ := split_pos b k p q
  exact (congrArg (val_main_v2 (F := Ideal) x) (a₂ := ix4 b k p q) (ext4 h0 h1 h2 h3)).trans (v2_at x b k p q)

/-- The products. -/
theorem v5_at : (val_main_v5 (F := Ideal) x w (ix3 b (pos k p) q) : EReal) = P x w (R b k p) q.val := by
  rw [val_main_v5_apply]
  unfold P prod
  refine Finset.sum_congr rfl fun d _ => congrArg₂ (fun u v : EReal => u * v) ?_ ?_
  · refine (congrArg (val_main_v3 (F := Ideal) x) (a₂ := ix3 b (pos k p) d) (ext3 rfl rfl rfl)).trans ((v3_at x b k p d).trans ?_)
    exact (nat2_of x (row b k p) d).symm
  · rw [val_main_v4_apply]
    have e : ridx_main_v5 (ix3 b (pos k p) q) d = ix2 d q := ext2 rfl rfl
    rw [e]
    exact (nat2_of w d q).symm

/-- The mean of the squares of a row of products. -/
theorem v10_at (z : Fin 1) : (val_main_v10 (F := Ideal) x w (ix3 b (pos k p) z) : EReal) = meanSq (P x w) (R b k p) := by
  rw [val_main_v10_apply, val_main_v8_apply, val_main_v7_apply, val_main_v9_apply, val_main_cst_0_apply, val_main_cst_apply]
  unfold meanSq
  refine congrArg₂ Ideal.div ?_ rfl
  refine (congrArg₂ (fun u v : EReal => u + v) Ideal.ofBits_zero_f32 (Finset.sum_congr rfl fun d _ => ?_)).trans (zero_add _)
  rw [val_main_v6_apply]
  have h : (val_main_v5 (F := Ideal) x w (idx_main_v7 (idx_main_v8 (ix3 b (pos k p) z)) d) : EReal) = P x w (R b k p) d.val := by
    have e : idx_main_v7 (idx_main_v8 (ix3 b (pos k p) z)) d = ix3 b (pos k p) d := ext3 rfl rfl rfl
    rw [e]
    exact v5_at x w b k p d
  exact congrArg₂ (fun u v : EReal => u * v) h h

theorem v14_at : (val_main_v14 (F := Ideal) x w (ix3 b (pos k p) q) : EReal) = Ideal.rsqrt (meanSq (P x w) (R b k p) + eps) := by
  rw [val_main_v14_apply, val_main_v13_apply, val_main_v12_apply, val_main_v11_apply, val_main_cst_1_apply]
  refine congrArg Ideal.rsqrt (congrArg₂ (fun u v : EReal => u + v) ?_ rfl)
  have e : idx_main_v14 (ix3 b (pos k p) q) = ix3 b (pos k p) (0 : Fin 1) := ext3 rfl rfl rfl
  rw [e]
  exact v10_at x w b k p 0

theorem v17_at : (val_main_v17 (F := Ideal) g (ix3 b (pos k p) q) : EReal) = nat1 g q.val := by
  rw [val_main_v17_apply, val_main_v16_apply]
  refine Eq.trans (congrArg g ?_) (nat1_of g q).symm
  funext a; apply Fin.ext
  match a with
  | ⟨0, _⟩ => rfl

/-- The layer's output. -/
theorem v19_at : (val_main_v19 (F := Ideal) x w r g (ix3 b (pos k p) q) : EReal) = sumVal x w r g (R b k p) q.val := by
  rw [val_main_v19_apply, val_main_v18_apply, val_main_v15_apply, v5_at, v14_at, v17_at]
  exact congrArg (fun u : EReal => u + normed (P x w) (nat1 g) (R b k p) q.val) (resid_of r b k p q).symm

/-- The mean of the squares of a row of the layer's output. -/
theorem v26_at (z : Fin 1) : (val_main_v26 (F := Ideal) x w r g (ix3 b (pos k p) z) : EReal) = meanSq (sumVal x w r g) (R b k p) := by
  rw [val_main_v26_apply, val_main_v24_apply, val_main_v23_apply, val_main_v25_apply, val_main_cst_3_apply, val_main_cst_2_apply]
  unfold meanSq
  refine congrArg₂ Ideal.div ?_ rfl
  refine (congrArg₂ (fun u v : EReal => u + v) Ideal.ofBits_zero_f32 (Finset.sum_congr rfl fun d _ => ?_)).trans (zero_add _)
  rw [val_main_v22_apply]
  have h : (val_main_v19 (F := Ideal) x w r g (idx_main_v23 (idx_main_v24 (ix3 b (pos k p) z)) d) : EReal) = sumVal x w r g (R b k p) d.val := by
    have e : idx_main_v23 (idx_main_v24 (ix3 b (pos k p) z)) d = ix3 b (pos k p) d := ext3 rfl rfl rfl
    rw [e]
    exact v19_at x w r g b k p d
  exact congrArg₂ (fun u v : EReal => u * v) h h

theorem v30_at : (val_main_v30 (F := Ideal) x w r g (ix3 b (pos k p) q) : EReal) = Ideal.rsqrt (meanSq (sumVal x w r g) (R b k p) + eps) := by
  rw [val_main_v30_apply, val_main_v29_apply, val_main_v28_apply, val_main_v27_apply, val_main_cst_4_apply]
  refine congrArg Ideal.rsqrt (congrArg₂ (fun u v : EReal => u + v) ?_ rfl)
  have e : idx_main_v30 (ix3 b (pos k p) q) = ix3 b (pos k p) (0 : Fin 1) := ext3 rfl rfl rfl
  rw [e]
  exact v26_at x w r g b k p 0

theorem v33_at : (val_main_v33 (F := Ideal) g' (ix3 b (pos k p) q) : EReal) = nat1 g' q.val := by
  rw [val_main_v33_apply, val_main_v32_apply]
  refine Eq.trans (congrArg g' ?_) (nat1_of g' q).symm
  funext a; apply Fin.ext
  match a with
  | ⟨0, _⟩ => rfl

/-- The next layer's input. -/
theorem v34_at : (val_main_v34 (F := Ideal) x w r g g' (ix3 b (pos k p) q) : EReal) = nextVal x w r g g' (R b k p) q.val := by
  rw [val_main_v34_apply, val_main_v31_apply, v19_at, v30_at, v33_at]
  rfl

theorem join_pos : (((b.val * 128 + k.val) * 16 + p.val) * 2048 + q.val) / 4194304 = b.val
    ∧ (((b.val * 128 + k.val) * 16 + p.val) * 2048 + q.val) / 2048 % 2048 = k.val * 16 + p.val
    ∧ (((b.val * 128 + k.val) * 16 + p.val) * 2048 + q.val) % 2048 = q.val := by
  refine ⟨?_, ?_, ?_⟩ <;> omega

/-- The reference's first result, entry by entry. -/
theorem v21_at : (val_main_v21 (F := Ideal) x w r g (ix4 k b p q) : EReal) = sumVal x w r g (R b k p) q.val := by
  rw [val_main_v21_apply]
  have e : idx_main_v21 (ix4 k b p q) = ix4 b k p q := ext4 rfl rfl rfl rfl
  rw [e, val_main_v20_apply]
  obtain ⟨h0, h1, h2⟩ := join_pos b k p q
  exact (congrArg (val_main_v19 (F := Ideal) x w r g) (a₂ := ix3 b (pos k p) q) (ext3 h0 h1 h2)).trans (v19_at x w r g b k p q)

/-- The reference's second result, entry by entry. -/
theorem v37_at : (val_main_v37 (F := Ideal) x w r g g' (ix4 k b p q) : EReal) = nextVal x w r g g' (R b k p) q.val := by
  rw [val_main_v37_apply, val_main_v36_apply]
  have e : idx_main_v36 (ix4 k b p q) = ix4 b k p q := ext4 rfl rfl rfl rfl
  rw [e, val_main_v35_apply]
  obtain ⟨h0, h1, h2⟩ := join_pos b k p q
  exact (congrArg (val_main_v34 (F := Ideal) x w r g g') (a₂ := ix3 b (pos k p) q) (ext3 h0 h1 h2)).trans (v34_at x w r g g' b k p q)

end Cert.First

end
-- ==== Proof.FirstProjection.lean ====
/-
  The claims about the first layer's output projection: the frames, the idealization, and that kernel and reference
  compute the same.
-/
module

public import proofs.«01_k».proof.Defs
public import proofs.«01_k».proof.Proof.FirstRef
public import proofs.«01_k».proof.Proof.Gen.Kernel5.Frame
public import proofs.«01_k».proof.Proof.Gen.Reference5Ideal.Run

@[expose] public section

noncomputable section

namespace Cert.First

open Idealize.ShloMosaic Idealize.ShloMosaic.TcCoe Idealize.SL.Sem

theorem frame_kernel : Cert.quiescent_Kernel5 := fun m ρ _ => Cert.Kernel5.Gen.frame m ρ

theorem frame_kernelIdeal : Cert.quiescent_Kernel5Ideal := fun m ρ _ => Cert.Kernel5Ideal.Gen.frame m ρ

/-- The reference writes no argument and declares no semaphore. -/
theorem frame_referenceIdeal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem preserves : Cert.preserves_Kernel5_Kernel5Ideal := trivial

/-- The kernel's first result array is the reference's layer output on the same arguments. -/
theorem sum_eq (m : (ℓ : Loc Cert.Kernel5Ideal.nD Cert.Kernel5Ideal.τ Cert.Kernel5Ideal.sig) → Buf (Elt Ideal) ℓ) (c : Dev Cert.Kernel5Ideal.nD) :
    ((Cert.Kernel5Ideal.Gen.dats m 0 c).arrAt 5 Cert.Kernel5Ideal.cfg0.N : FVec Ideal ⟨4, ![128, 4, 16, 2048]⟩ .f32)
      = Cert.Reference5Ideal.Read.val_main_v21 (F := Ideal) (m ((c : Thread Cert.Kernel5Ideal.nD Cert.Kernel5Ideal.τ).loc Cert.Kernel5Ideal.main_arg0))
          (m ((c : Thread Cert.Kernel5Ideal.nD Cert.Kernel5Ideal.τ).loc Cert.Kernel5Ideal.main_arg1))
          (m ((c : Thread Cert.Kernel5Ideal.nD Cert.Kernel5Ideal.τ).loc Cert.Kernel5Ideal.main_arg2))
          (m ((c : Thread Cert.Kernel5Ideal.nD Cert.Kernel5Ideal.τ).loc Cert.Kernel5Ideal.main_arg3)) := by
  funext i
  obtain ⟨k, b, p, q, rfl⟩ : ∃ (k : Fin 128) (b : Fin 4) (p : Fin 16) (q : Fin 2048), i = ix4 k b p q :=
    ⟨i 0, i 1, i 2, i 3, by funext a; match a with | 0 => rfl | 1 => rfl | 2 => rfl | 3 => rfl⟩
  exact (sum_apply m c k b p q).trans (v21_at _ _ _ _ b k p q).symm

/-- The kernel's second result array is the reference's input of the next layer. -/
theorem next_eq (m : (ℓ : Loc Cert.Kernel5Ideal.nD Cert.Kernel5Ideal.τ Cert.Kernel5Ideal.sig) → Buf (Elt Ideal) ℓ) (c : Dev Cert.Kernel5Ideal.nD) :
    ((Cert.Kernel5Ideal.Gen.dats m 0 c).arrAt 6 Cert.Kernel5Ideal.cfg0.N : FVec Ideal ⟨4, ![128, 4, 16, 2048]⟩ .bf16)
      = Cert.Reference5Ideal.Read.val_main_v37 (F := Ideal) (m ((c : Thread Cert.Kernel5Ideal.nD Cert.Kernel5Ideal.τ).loc Cert.Kernel5Ideal.main_arg0))
          (m ((c : Thread Cert.Kernel5Ideal.nD Cert.Kernel5Ideal.τ).loc Cert.Kernel5Ideal.main_arg1))
          (m ((c : Thread Cert.Kernel5Ideal.nD Cert.Kernel5Ideal.τ).loc Cert.Kernel5Ideal.main_arg2))
          (m ((c : Thread Cert.Kernel5Ideal.nD Cert.Kernel5Ideal.τ).loc Cert.Kernel5Ideal.main_arg3))
          (m ((c : Thread Cert.Kernel5Ideal.nD Cert.Kernel5Ideal.τ).loc Cert.Kernel5Ideal.main_arg4)) := by
  funext i
  obtain ⟨k, b, p, q, rfl⟩ : ∃ (k : Fin 128) (b : Fin 4) (p : Fin 16) (q : Fin 2048), i = ix4 k b p q :=
    ⟨i 0, i 1, i 2, i 3, by funext a; match a with | 0 => rfl | 1 => rfl | 2 => rfl | 3 => rfl⟩
  exact (next_apply m c k b p q).trans (v37_at _ _ _ _ _ b k p q).symm

/-- Kernel and reference end with the same two results. -/
theorem algebraic : Cert.algebraic_Kernel5Ideal_Reference5Ideal := by
  intro m ρ m' ρ' _ hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N, Cert.Kernel5Ideal.Value.run_blocks m ρ, ?_⟩
  refine (θ_run Cert.Reference5Ideal.defs _ _).mono (fun _ h c => ⟨(h c).1.trans ?_, (h c).2.1.trans ?_, (h c).2.2⟩)
    (Cert.Reference5Ideal.Value.run (F := Ideal) m' ρ')
  · refine (Cert.Reference5Ideal.Read.val_main_v21_eq _ _ _ _).trans ?_
    rw [(hagree c).1, (hagree c).2.1, (hagree c).2.2.1, (hagree c).2.2.2.1]
    exact (sum_eq m c).symm
  · rw [Cert.Reference5Ideal.Read.val_main_v37_eq, (hagree c).1, (hagree c).2.1, (hagree c).2.2.1, (hagree c).2.2.2.1, (hagree c).2.2.2.2]
    exact (next_eq m c).symm

end Cert.First

end
-- ==== Proof.GluBlock.lean ====
/-
  The gated linear unit's output block, entry by entry: GELU of the state space's output with its skip term, times the
  logistic function of its products with the weights, times the SiLU of the gate.
-/
module

public import proofs.«01_k».proof.Proof.MergeBlock
public import proofs.«01_k».proof.Proof.Gen.Kernel6Ideal.Value

@[expose] public section

set_option maxRecDepth 16384

noncomputable section

namespace Cert.Glu

open Idealize.ShloMosaic Idealize.ShloMosaic.TcCoe Idealize.SL.Sem
open Cert.Moba (Rep)
open Cert.Tail (load_rep0)
open Cert.Merge (gate dot half_tanh load_whole load_stored canon_stored rows_rep)
open Cert.Kernel6Ideal Cert.Kernel6Ideal.Gen

/-- The literals of the GELU's hyperbolic form: the factor of the cube, the factor of the argument, one and a half. -/
def cube : EReal := FloatOps.ofBits (F := Ideal) .f32 0x3D372713#32
def slope : EReal := FloatOps.ofBits (F := Ideal) .f32 0x3F4C422A#32
def one : EReal := FloatOps.ofBits (F := Ideal) .f32 0x3F800000#32
def half : EReal := FloatOps.ofBits (F := Ideal) .f32 0x3F000000#32

/-- GELU in its hyperbolic form. -/
def gelu (z : EReal) : EReal := z * (half * (one + Ideal.tanh (slope * (z + cube * (z * (z * z))))))

/-- GELU of the state space's output with its skip term. -/
def active (y u : ℕ → ℕ → EReal) (d : ℕ → EReal) (i j : ℕ) : EReal := gelu (y i j + d j * u i j)

/-- The gated linear unit of rows, times the SiLU of a gate. -/
def glued (s w z : ℕ → ℕ → EReal) (b : ℕ → EReal) (i j : ℕ) : EReal :=
  s i j * gate (dot 1024 s w i j + b j) * (z i j * gate (z i j))

theorem lit_rep (x : EReal) : Rep (broadcast S1024x1024 x : FVec Ideal S1024x1024 .f32) fun _ _ => x := Rep.broadcast x

/-- The active rows as the kernel computes them. -/
theorem pay3_rep {v3 : FVec Ideal S1024x1024 .f32} {v4 : FVec Ideal S1x1024 .f32} {v6 : FVec Ideal S1024x1024 .bf16} {y u d : ℕ → ℕ → EReal}
    (h3 : Rep v3 y) (h4 : Rep v4 d) (h6 : Rep v6 u) : Rep (k0_pay3 (F := Ideal) v3 v4 v6) (active y u (d 0)) := by
  have h10 := h3.addf ((Rep.broadcastRow (h4.shapeCast shapeCasts_S1x1024_S1x1024) broadcasts_S1x1024_S1024x1024).mulf (h6.extf bitsLt_bf16_f32))
  exact h10.mulf ((lit_rep half).mulf ((lit_rep one).addf ((lit_rep slope).mulf (h10.addf ((lit_rep cube).mulf (h10.mulf (h10.mulf h10))))).tanh))

/-- The weights. -/
theorem pay2_rep {w : FVec Ideal S1x1024x1024 .f32} {g : ℕ → ℕ → EReal}
    (h : ∀ (k : Fin 1024) (l : Fin 1024), w (ix3 (0 : Fin 1) k l) = g k.val l.val) : Rep (k0_pay2 (F := Ideal) w) g :=
  (rows_rep bitsLt_bf16_f32 shapeCasts_S1x1024x1024_S1024x1024 h).shapeCast shapeCasts_S1024x1024_S1024x1024

/-- A half plus a half of the hyperbolic tangent of the half. -/
theorem sigmoid_rep {v : FVec Ideal S1024x1024 .f32} {Z : ℕ → ℕ → EReal} (h : Rep v Z) :
    Rep (addf (mulf (broadcast S1024x1024 (Scalar.ofBits (F := Ideal) .f32 0x3F000000#32))
        (tanh (mulf (broadcast S1024x1024 (Scalar.ofBits (F := Ideal) .f32 0x3F000000#32)) v)))
        (broadcast S1024x1024 (Scalar.ofBits (F := Ideal) .f32 0x3F000000#32)) : FVec Ideal S1024x1024 .f32) fun i j => gate (Z i j) := by
  refine (((Rep.broadcast _).mulf (((Rep.broadcast _).mulf h).tanh)).addf (Rep.broadcast _)).congr fun i _ j _ => ?_
  exact (congrArg (fun h : EReal => h * Ideal.tanh (h * Z i j) + h) Cert.Moba.f32_half).trans (half_tanh _)

/-- What is stored. -/
theorem pay1_rep {v3 : FVec Ideal S1024x1024 .f32} {v4 : FVec Ideal S1x1024 .f32} {v6 : FVec Ideal S1024x1024 .bf16} {v25 : FVec Ideal S1024x1024 .bf16}
    {v27 : FVec Ideal S1x1024 .f32} {v31 : FVec Ideal S1024x1024 .bf16} {y u z w d b : ℕ → ℕ → EReal}
    (h3 : Rep v3 y) (h4 : Rep v4 d) (h6 : Rep v6 u) (h25 : Rep v25 w) (h27 : Rep v27 b) (h31 : Rep v31 z) :
    Rep (k0_pay1 (F := Ideal) (k0_pay3 v3 v4 v6) (k0_pay4 v31) (k0_pay5 v3 v4 v6 v25 v27) k0_pay6) (glued (active y u (d 0)) w z (b 0)) := by
  have hs := pay3_rep h3 h4 h6
  have hm : Rep (matmul dot_S1024x1024_S1024x1024_S1024x1024_1_0_0_1_n_n none (truncf .bf16 (k0_pay3 (F := Ideal) v3 v4 v6) bitsLt_bf16_f32) v25
      (constant S1024x1024 .f32 0x00000000#32)) (dot 1024 (active y u (d 0)) w) := Rep.matmul (hs.truncf bitsLt_bf16_f32) h25
  have hg := sigmoid_rep (hm.addf (Rep.broadcastRow (h27.shapeCast shapeCasts_S1x1024_S1x1024) broadcasts_S1x1024_S1024x1024))
  have hz := h31.extf bitsLt_bf16_f32
  exact ((hs.mulf hg).mulf (hz.mulf (sigmoid_rep hz))).truncf bitsLt_bf16_f32

variable (c : Dev nD) (i : grid0.Coords)
variable (arg1 : Memref sig .tc .vmem S1024x1024 .f32) (harg1 : arg1.IsWhole) (arg2 : Memref sig .tc .vmem S1024x1024 .bf16) (harg2 : arg2.IsWhole)
variable (arg3 : Memref sig .tc .vmem S1024x1024 .bf16) (harg3 : arg3.IsWhole) (arg4 : Memref sig .tc .vmem S1x1024 .f32) (harg4 : arg4.IsWhole)
variable (arg5 : Memref sig .tc .vmem S1x1024x1024 .f32) (harg5 : arg5.IsWhole) (arg6 : Memref sig .tc .vmem S1x1024 .f32) (harg6 : arg6.IsWhole)
variable (arg7 : Memref sig .tc .vmem S1024x1024 .bf16) (harg7 : arg7.IsWhole) (arg8 : Memref sig .tc .vmem S1024x1024 .bf16) (harg8 : arg8.IsWhole)
variable (x0 : FVec Ideal S1024x1024 .f32) (x1 x2 : FVec Ideal S1024x1024 .bf16) (x3 : FVec Ideal S1x1024 .f32) (x4 : FVec Ideal S1x1024x1024 .f32)
variable (x5 : FVec Ideal S1x1024 .f32) (xs : FVec Ideal S1024x1024 .bf16)
variable {y u z w d b : ℕ → ℕ → EReal}

/-- The weights in their scratch. -/
theorem ws_A (hc0 : cond0_0 i) (h4 : ∀ (k : Fin 1024) (l : Fin 1024), x4 (ix3 (0 : Fin 1) k l) = w k.val l.val) :
    Rep (sout0_A_0 (F := Ideal) c i arg1 harg1 arg2 harg2 arg3 harg3 arg4 harg4 arg5 harg5 arg6 harg6 arg7 harg7 arg8 harg8 hc0 x0 x1 x2 x3 x4 x5) w := by
  unfold sout0_A_0
  rw [View.read_writes_junk_eq_canon]
  exact canon_stored (pay2_rep fun k l => (load_whole arg5 harg5 x4 k l).trans (h4 k l))

/-- The output block, where the weights are newly staged. -/
theorem out_A (hc0 : cond0_0 i) (h0 : Rep x0 y) (h1 : Rep x1 u) (h2 : Rep x2 z) (h3 : Rep x3 d)
    (h4 : ∀ (k : Fin 1024) (l : Fin 1024), x4 (ix3 (0 : Fin 1) k l) = w k.val l.val) (h5 : Rep x5 b) :
    Rep (out0_A_6 (F := Ideal) c i arg1 harg1 arg2 harg2 arg3 harg3 arg4 harg4 arg5 harg5 arg6 harg6 arg7 harg7 arg8 harg8 hc0 x0 x1 x2 x3 x4 x5)
      (glued (active y u (d 0)) w z (b 0)) := by
  unfold out0_A_6
  rw [View.read_writes_junk_eq_canon]
  exact canon_stored (pay1_rep (load_rep0 arg1 harg1 h0) (load_rep0 arg4 harg4 h3) (load_rep0 arg2 harg2 h1)
    (load_stored arg8 (pay2_rep fun k l => (load_whole arg5 harg5 x4 k l).trans (h4 k l)) rfl)
    (load_rep0 arg6 harg6 h5) (load_rep0 arg3 harg3 h2))

/-- The output block, where the weights are kept. -/
theorem out_B (hc0 : ¬cond0_0 i) (h0 : Rep x0 y) (h1 : Rep x1 u) (h2 : Rep x2 z) (h3 : Rep x3 d) (hs : Rep xs w) (h5 : Rep x5 b) :
    Rep (out0_B_6 (F := Ideal) c i arg1 harg1 arg2 harg2 arg3 harg3 arg4 harg4 arg5 harg5 arg6 harg6 arg7 harg7 arg8 harg8 hc0 x0 x1 x2 x3 x4 x5 xs)
      (glued (active y u (d 0)) w z (b 0)) := by
  unfold out0_B_6
  rw [View.read_writes_junk_eq_canon]
  exact canon_stored (pay1_rep (load_rep0 arg1 harg1 h0) (load_rep0 arg4 harg4 h3) (load_rep0 arg2 harg2 h1) (load_rep0 arg8 harg8 hs)
    (load_rep0 arg6 harg6 h5) (load_rep0 arg3 harg3 h2))

end Cert.Glu

end
-- ==== Proof.GluArray.lean ====
/-
  The gated linear unit kernel's result array, entry by entry, as a function of its arguments.
-/
module

public import proofs.«01_k».proof.Proof.GluBlock
public import proofs.«01_k».proof.Proof.MergeArray
public import Idealize.ShloMosaic.Lib.StableHlo.RunRead

@[expose] public section

set_option maxRecDepth 16384

noncomputable section

namespace Cert.Glu

open Idealize.ShloMosaic Idealize.ShloMosaic.TcCoe Idealize.SL.Sem
open Cert.Moba (Rep)
open Cert.Proj (nat2 nat2_of)
open Cert.Tail (nat1 nat1_of)
open Cert.Merge (layer layerOf layerOf_at dot gate)
open Cert.Kernel6Ideal Cert.Kernel6Ideal.Gen

/-- The gated linear unit at a row and a column: the first 1024 columns of the projection are the state space's input,
    the next 1024 are the gate. -/
def gluVal (y : FVec Ideal ⟨2, ![8192, 1024]⟩ .f32) (p : FVec Ideal ⟨2, ![8192, 14336]⟩ .bf16) (d : FVec Ideal ⟨1, ![1024]⟩ .f32)
    (w : FVec Ideal ⟨3, ![2, 1024, 1024]⟩ .f32) (b : FVec Ideal ⟨1, ![1024]⟩ .f32) : ℕ → ℕ → EReal :=
  glued (active (nat2 y) (nat2 p) (nat1 d)) (layerOf w) (fun i j => nat2 p i (1024 + j)) (nat1 b)

variable (m : (ℓ : Loc nD τ sig) → Buf (Elt Ideal) ℓ) (c : Dev nD)

/-- The arguments that the memory holds. -/
abbrev yOf : FVec Ideal ⟨2, ![8192, 1024]⟩ .f32 := m ((c : Thread nD τ).loc main_arg0)
abbrev pOf : FVec Ideal ⟨2, ![8192, 14336]⟩ .bf16 := m ((c : Thread nD τ).loc main_arg1)
abbrev dOf : FVec Ideal ⟨1, ![1024]⟩ .f32 := m ((c : Thread nD τ).loc main_arg2)
abbrev wOf : FVec Ideal ⟨3, ![2, 1024, 1024]⟩ .f32 := m ((c : Thread nD τ).loc main_arg3)
abbrev bOf : FVec Ideal ⟨1, ![1024]⟩ .f32 := m ((c : Thread nD τ).loc main_arg4)

/-- Where the blocks of a grid point lie. -/
theorem idx_facts : ∀ t : Fin cfg0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = t.val ∧ win0_2.index t (1 : Fin 2) = 1) ∧
    (win0_3.index t (0 : Fin 2) = 0 ∧ win0_3.index t (1 : Fin 2) = 0) ∧
    (win0_4.index t (0 : Fin 3) = layer.val ∧ win0_4.index t (1 : Fin 3) = 0 ∧ win0_4.index t (2 : Fin 3) = 0) ∧
    (win0_5.index t (0 : Fin 2) = 0 ∧ win0_5.index t (1 : Fin 2) = 0) ∧
    (win0_6.index t (0 : Fin 2) = t.val ∧ win0_6.index t (1 : Fin 2) = 0) :=
  (by decide +kernel : ∀ t : Fin grid0.N, _)

theorem lt8 (t : Fin cfg0.N) : t.val < 8 := t.2

theorem emb0 (t : Fin cfg0.N) (r : Fin 1024) (k : Fin 1024) :
    ((cfg0.win 0).blk t).view.emb (ix2 r k) = ix2 (⟨1024 * t.val + r.val, by have := lt8 t; omega⟩ : Fin 8192) k := by
  obtain ⟨⟨e0, e1⟩, _⟩ := idx_facts t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * k.val = k.val; omega

theorem iblk0 (t : Fin cfg0.N) : Rep (iblk m c 0 t : FVec Ideal S1024x1024 .f32) fun r k => nat2 (yOf m c) (1024 * t.val + r) k := by
  intro r k
  show V m c main_arg0 (((cfg0.win 0).blk t).view.emb _) = _
  rw [emb0, V_main_arg0]
  exact (nat2_of _ _ _).symm

theorem emb1 (t : Fin cfg0.N) (r : Fin 1024) (k : Fin 1024) :
    ((cfg0.win 1).blk t).view.emb (ix2 r k) = ix2 (⟨1024 * t.val + r.val, by have := lt8 t; omega⟩ : Fin 8192) (⟨k.val, by omega⟩ : Fin 14336) := by
  obtain ⟨_, ⟨e0, e1⟩, _⟩ := idx_facts t
  funext a; apply Fin.ext
  match a with
  | ⟨0, _⟩ => show win0_1.index t (0 : Fin 2) * 1024 + 1 * r.val = 1024 * t.val + r.val; omega
  | ⟨1, _⟩ => show win0_1.index t (1 : Fin 2) * 1024 + 1 * k.val = k.val; omega

theorem iblk1 (t : Fin cfg0.N) : Rep (iblk m c 1 t : FVec Ideal S1024x1024 .bf16) fun r k => nat2 (pOf m c) (1024 * t.val + r) k := by
  intro r k
  show V m c main_arg1 (((cfg0.win 1).blk t).view.emb _) = _
  rw [emb1, V_main_arg1]
  exact (nat2_of _ _ _).symm

theorem emb2 (t : Fin cfg0.N) (r : Fin 1024) (k : Fin 1024) :
    ((cfg0.win 2).blk t).view.emb (ix2 r k) = ix2 (⟨1024 * t.val + r.val, by have := lt8 t; omega⟩ : Fin 8192) (⟨1024 + k.val, by omega⟩ : Fin 14336) := by
  obtain ⟨_, _, ⟨e0, e1⟩, _⟩ := idx_facts t
  funext a; apply Fin.ext
  match a with
  | ⟨0, _⟩ => show win0_2.index t (0 : Fin 2) * 1024 + 1 * r.val = 1024 * t.val + r.val; omega
  | ⟨1, _⟩ => show win0_2.index t (1 : Fin 2) * 1024 + 1 * k.val = 1024 + k.val; omega

theorem iblk2 (t : Fin cfg0.N) : Rep (iblk m c 2 t : FVec Ideal S1024x1024 .bf16) fun r k => nat2 (pOf m c) (1024 * t.val + r) (1024 + k) := by
  intro r k
  show V m c main_arg1 (((cfg0.win 2).blk t).view.emb _) = _
  rw [emb2, V_main_arg1]
  exact (nat2_of _ _ _).symm

/-- The skip's factors as one row. -/
theorem V_v0 : (V m c main_v0 : FVec Ideal S1x1024 .f32) = shapeCast S1x1024 (dOf m c) shapeCasts_S1024_S1x1024 := by
  unfold V hostOps0
  after_reads_simp
  rfl

theorem emb3 (t : Fin cfg0.N) (z : Fin 1) (q : Fin 1024) : ((cfg0.win 3).blk t).view.emb (ix2 z q) = ix2 z q := by
  obtain ⟨_, _, _, ⟨e0, e1⟩, _⟩ := idx_facts t
  funext a; apply Fin.ext
  match a with
  | ⟨0, _⟩ => show win0_3.index t (0 : Fin 2) * 1 + 1 * z.val = z.val; omega
  | ⟨1, _⟩ => show win0_3.index t (1 : Fin 2) * 1024 + 1 * q.val = q.val; omega

theorem iblk3 (t : Fin cfg0.N) : Rep (iblk m c 3 t : FVec Ideal S1x1024 .f32) fun _ q => nat1 (dOf m c) q := by
  intro z q
  show V m c main_v0 (((cfg0.win 3).blk t).view.emb _) = _
  rw [emb3, V_v0]
  exact (Cert.Moba.row_apply _ _ z q).trans (nat1_of _ _).symm

theorem emb4 (t : Fin cfg0.N) (k l : Fin 1024) : ((cfg0.win 4).blk t).view.emb (ix3 (0 : Fin 1) k l) = ix3 layer k l := by
  obtain ⟨_, _, _, _, ⟨e0, e1, e2⟩, _⟩ := idx_facts t
  funext a; apply Fin.ext
  match a with
  | ⟨0, _⟩ => show win0_4.index t (0 : Fin 3) * 1 + 1 * 0 = layer.val; omega
  | ⟨1, _⟩ => show win0_4.index t (1 : Fin 3) * 1024 + 1 * k.val = k.val; omega
  | ⟨2, _⟩ => show win0_4.index t (2 : Fin 3) * 1024 + 1 * l.val = l.val; omega

theorem iblk4 (t : Fin cfg0.N) (k l : Fin 1024) :
    (iblk m c 4 t : FVec Ideal S1x1024x1024 .f32) (ix3 (0 : Fin 1) k l) = layerOf (wOf m c) k.val l.val := by
  show V m c main_arg3 (((cfg0.win 4).blk t).view.emb _) = _
  rw [emb4, V_main_arg3]
  exact (layerOf_at _ _ _).symm

/-- The bias as one row. -/
theorem V_v1 : (V m c main_v1 : FVec Ideal S1x1024 .f32) = shapeCast S1x1024 (bOf m c) shapeCasts_S1024_S1x1024 := by
  unfold V hostOps0
  after_reads_simp
  rfl

theorem emb5 (t : Fin cfg0.N) (z : Fin 1) (q : Fin 1024) : ((cfg0.win 5).blk t).view.emb (ix2 z q) = ix2 z q := by
  obtain ⟨_, _, _, _, _, ⟨e0, e1⟩, _⟩ := idx_facts t
  funext a; apply Fin.ext
  match a with
  | ⟨0, _⟩ => show win0_5.index t (0 : Fin 2) * 1 + 1 * z.val = z.val; omega
  | ⟨1, _⟩ => show win0_5.index t (1 : Fin 2) * 1024 + 1 * q.val = q.val; omega

theorem iblk5 (t : Fin cfg0.N) : Rep (iblk m c 5 t : FVec Ideal S1x1024 .f32) fun _ q => nat1 (bOf m c) q := by
  intro z q
  show V m c main_v1 (((cfg0.win 5).blk t).view.emb _) = _
  rw [emb5, V_v1]
  exact (Cert.Moba.row_apply _ _ z q).trans (nat1_of _ _).symm

theorem emb6 (t : Fin cfg0.N) (r : Fin 1024) (k : Fin 1024) :
    ((cfg0.win 6).blk t).view.emb (ix2 r k) = ix2 (⟨1024 * t.val + r.val, by have := lt8 t; omega⟩ : Fin 8192) k := by
  obtain ⟨_, _, _, _, _, _, ⟨e0, e1⟩⟩ := idx_facts t
  funext a; apply Fin.ext
  match a with
  | ⟨0, _⟩ => show win0_6.index t (0 : Fin 2) * 1024 + 1 * r.val = 1024 * t.val + r.val; omega
  | ⟨1, _⟩ => show win0_6.index t (1 : Fin 2) * 1024 + 1 * k.val = k.val; omega

theorem flush6 : ∀ t : Fin cfg0.N, (cfg0.win 6).flush t = true :=
  (by decide +kernel : ∀ t : Fin grid0.N, win0_6.flush t = true)

/-- After a grid point the scratch holds the weights. -/
theorem scratch : ∀ (n : ℕ) (t : Fin cfg0.N), t.val = n →
    Rep ((outsAt0 m c t.val t.isLt).2 : FVec Ideal S1024x1024 .bf16) (layerOf (wOf m c)) := by
  intro n
  induction n with
  | zero =>
    intro t ht
    have h0 : t.val % 8 = 0 := by omega
    rw [outsAt0_A m c t h0]
    dsimp only
    exact ws_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t)
      (w := layerOf (wOf m c)) ((hcond0_0 t).mpr h0) (iblk4 m c t)
  | succ n ih =>
    intro t ht
    have h0 : ¬t.val % 8 = 0 := by have := lt8 t; omega
    have hp := ih ⟨t.val - 1, by have := lt8 t; show _ < 8; omega⟩ (by show t.val - 1 = n; omega)
    rw [outsAt0_B m c t h0]
    dsimp only
    exact hp

/-- What a grid point writes back. -/
theorem flushed (t : Fin cfg0.N) (r q : Fin 1024) :
    ((outsAt0 m c t.val t.isLt).1 : FVec Ideal S1024x1024 .bf16) (ix2 r q)
      = gluVal (yOf m c) (pOf m c) (dOf m c) (wOf m c) (bOf m c) (1024 * t.val + r.val) q.val := by
  by_cases h0 : t.val % 8 = 0
  · rw [outsAt0_A m c t h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t)
      ((hcond0_0 t).mpr h0) (iblk0 m c t) (iblk1 m c t) (iblk2 m c t) (iblk3 m c t) (w := layerOf (wOf m c)) (iblk4 m c t) (iblk5 m c t) r q
  · rw [outsAt0_B m c t h0]
    dsimp only
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t) _
      (fun h => h0 ((hcond0_0 t).mp h)) (iblk0 m c t) (iblk1 m c t) (iblk2 m c t) (iblk3 m c t)
      (scratch m c _ ⟨t.val - 1, Nat.lt_of_le_of_lt (Nat.sub_le _ _) t.isLt⟩ rfl) (iblk5 m c t) r q

/-- The result, entry by entry. -/
theorem glu_apply (R : Fin 8192) (q : Fin 1024) :
    ((dats m 0 c).arrAt 6 cfg0.N : FVec Ideal S8192x1024 .bf16) (ix2 R q)
      = gluVal (yOf m c) (pOf m c) (dOf m c) (wOf m c) (bOf m c) R.val q.val := by
  let t : Fin cfg0.N := ⟨R.val / 1024, by show _ < 8; omega⟩
  let r : Fin 1024 := ⟨R.val % 1024, by omega⟩
  have hR : 1024 * t.val + r.val = R.val := by show 1024 * (R.val / 1024) + R.val % 1024 = _; omega
  have e := congrFun (Cert.Kernel6Ideal.Value.blocks6 m c t (flush6 _)) (ix2 r q)
  rw [Cert.Kernel6Ideal.Value.flushed6] at e
  have e' : ((dats m 0 c).arrAt 6 cfg0.N : FVec Ideal S8192x1024 .bf16) (((cfg0.win 6).blk t).view.emb (ix2 r q)) = _ := e
  rw [emb6, show (⟨1024 * t.val + r.val, by have := lt8 t; omega⟩ : Fin 8192) = R from Fin.ext hR] at e'
  refine e'.trans (Eq.trans (flushed m c t r q) ?_)
  rw [hR]

end Cert.Glu

end
-- ==== Proof.GluRef.lean ====
/-
  The gated linear unit's reference, entry by entry: it is the kernel's result.
-/
module

public import proofs.«01_k».proof.Proof.GluArray
public import proofs.«01_k».proof.Proof.Gen.Reference6Ideal.Read

@[expose] public section

set_option maxRecDepth 16384

noncomputable section

namespace Cert.Glu

open Idealize.ShloMosaic Idealize.ShloMosaic.TcCoe Idealize.SL.Sem
open Cert.Proj (nat2 nat2_of ext3)
open Cert.Tail (ext2 nat1 nat1_of)
open Cert.Merge (layer layerOf layerOf_at dot gate)
open Cert.Reference6Ideal Cert.Reference6Ideal.Gen Cert.Reference6Ideal.Read

variable (y : FVec Ideal ⟨2, ![8192, 1024]⟩ .f32) (p : FVec Ideal ⟨2, ![8192, 14336]⟩ .bf16) (d : FVec Ideal ⟨1, ![1024]⟩ .f32)
variable (w : FVec Ideal ⟨3, ![2, 1024, 1024]⟩ .f32) (b : FVec Ideal ⟨1, ![1024]⟩ .f32)
variable (i : Fin 8192) (j : Fin 1024)

/-- The state space's input and the gate, columns of the projection. -/
theorem v1_at : (val_main_v1 (F := Ideal) p (ix2 i j) : EReal) = nat2 p i.val j.val := by
  rw [val_main_v1_apply, val_main_v0_apply]
  have e : idx_main_v0 (ix2 i j) = ix2 i (⟨j.val, by omega⟩ : Fin 14336) := ext2 rfl rfl
  rw [e]
  exact (nat2_of p i (⟨j.val, by omega⟩ : Fin 14336)).symm

theorem v3_at : (val_main_v3 (F := Ideal) p (ix2 i j) : EReal) = nat2 p i.val (1024 + j.val) := by
  rw [val_main_v3_apply, val_main_v2_apply]
  have e : idx_main_v2 (ix2 i j) = ix2 i (⟨1024 + j.val, by omega⟩ : Fin 14336) := ext2 rfl rfl
  rw [e]
  exact (nat2_of p i (⟨1024 + j.val, by omega⟩ : Fin 14336)).symm

/-- The skip's factors and the bias, one per column. -/
theorem v5_at : (val_main_v5 (F := Ideal) d (ix2 i j) : EReal) = nat1 d j.val := by
  rw [val_main_v5_apply, val_main_v4_apply]
  have e : idx_main_v4 (idx_main_v5 (ix2 i j)) = ix1 j := by funext a; match a with | 0 => rfl
  rw [e]
  exact (nat1_of d j).symm

theorem v25_at : (val_main_v25 (F := Ideal) b (ix2 i j) : EReal) = nat1 b j.val := by
  rw [val_main_v25_apply, val_main_v24_apply]
  have e : idx_main_v24 (idx_main_v25 (ix2 i j)) = ix1 j := by funext a; match a with | 0 => rfl
  rw [e]
  exact (nat1_of b j).symm

/-- The state space's output with its skip term. -/
theorem v7_at : (val_main_v7 (F := Ideal) y p d (ix2 i j) : EReal) = nat2 y i.val j.val + nat1 d j.val * nat2 p i.val j.val := by
  rw [val_main_v7_apply, val_main_v6_apply, v1_at, v5_at]
  exact congrArg (fun a : EReal => a + nat1 d j.val * nat2 p i.val j.val) (nat2_of y i j).symm

/-- Its GELU. -/
theorem v20_at : (val_main_v20 (F := Ideal) y p d (ix2 i j) : EReal) = active (nat2 y) (nat2 p) (nat1 d) i.val j.val := by
  rw [val_main_v20_apply, val_main_v19_apply, val_main_v18_apply, val_main_cst_2_apply, val_main_v17_apply, val_main_v16_apply, val_main_cst_1_apply,
    val_main_v15_apply, val_main_v14_apply, val_main_v13_apply, val_main_cst_0_apply, val_main_v12_apply, val_main_v11_apply, val_main_v10_apply,
    val_main_cst_apply, val_main_v9_apply, val_main_v8_apply, v7_at]
  unfold active gelu
  generalize nat2 y i.val j.val + nat1 d j.val * nat2 p i.val j.val = z
  exact congrArg (fun k : EReal => z * (half * (one + Ideal.tanh (slope * (z + cube * k))))) (mul_comm (z * z) z)

/-- The weights, and the product with them. -/
theorem v22_at (k : Fin 1024) : (val_main_v22 (F := Ideal) w (ix2 k j) : EReal) = layerOf w k.val j.val := by
  rw [val_main_v22_apply, val_main_v21_apply]
  refine Eq.trans (congrArg w (a₂ := ix3 layer k j) (ext3 rfl ?_ ?_)) (layerOf_at w k j).symm
  · show (k.val * 1024 + j.val) / 1024 % 1024 = k.val; omega
  · show (k.val * 1024 + j.val) % 1024 = j.val; omega

theorem v23_at : (val_main_v23 (F := Ideal) y p d w (ix2 i j) : EReal) = dot 1024 (active (nat2 y) (nat2 p) (nat1 d)) (layerOf w) i.val j.val := by
  rw [val_main_v23_apply]
  unfold dot
  refine Finset.sum_congr rfl fun k _ => congrArg₂ (fun a b : EReal => a * b) ?_ ?_
  · have e : lidx_main_v23 (ix2 i j) k = ix2 i k := ext2 rfl rfl
    rw [e]
    exact v20_at y p d i k
  · have e : ridx_main_v23 (ix2 i j) k = ix2 k j := ext2 rfl rfl
    rw [e]
    exact v22_at w j k

/-- The two logistic gates. -/
theorem v32_at : (val_main_v32 (F := Ideal) y p d w b (ix2 i j) : EReal)
    = gate (dot 1024 (active (nat2 y) (nat2 p) (nat1 d)) (layerOf w) i.val j.val + nat1 b j.val) := by
  rw [val_main_v32_apply, val_main_v31_apply, val_main_cst_4_apply, val_main_v30_apply, val_main_v29_apply, val_main_cst_3_apply, val_main_v28_apply,
    val_main_v27_apply, val_main_v26_apply, v23_at, v25_at]
  exact congrArg (fun o : EReal => Ideal.div o (o + Ideal.exp (-(dot 1024 (active (nat2 y) (nat2 p) (nat1 d)) (layerOf w) i.val j.val + nat1 b j.val)))) Cert.Proj.one_bits

theorem v39_at : (val_main_v39 (F := Ideal) p (ix2 i j) : EReal) = gate (nat2 p i.val (1024 + j.val)) := by
  rw [val_main_v39_apply, val_main_v38_apply, val_main_cst_6_apply, val_main_v37_apply, val_main_v36_apply, val_main_cst_5_apply, val_main_v35_apply,
    val_main_v34_apply, v3_at]
  exact congrArg (fun o : EReal => Ideal.div o (o + Ideal.exp (-(nat2 p i.val (1024 + j.val))))) Cert.Proj.one_bits

/-- The reference's result, entry by entry. -/
theorem v42_at : (val_main_v42 (F := Ideal) y p d w b (ix2 i j) : EReal) = gluVal y p d w b i.val j.val := by
  rw [val_main_v42_apply, val_main_v41_apply, val_main_v33_apply, val_main_v40_apply, v20_at, v32_at, v3_at, v39_at]
  rfl

end Cert.Glu

end
-- ==== Proof.Glu.lean ====
/-
  The claims about the gated linear unit: the frames, the idealization, and that kernel and reference compute the same.
-/
module

public import proofs.«01_k».proof.Defs
public import proofs.«01_k».proof.Proof.GluRef
public import proofs.«01_k».proof.Proof.Gen.Kernel6.Frame
public import proofs.«01_k».proof.Proof.Gen.Reference6Ideal.Run

@[expose] public section

noncomputable section

namespace Cert.Glu

open Idealize.ShloMosaic Idealize.ShloMosaic.TcCoe Idealize.SL.Sem

theorem frame_kernel : Cert.quiescent_Kernel6 := fun m ρ _ => Cert.Kernel6.Gen.frame m ρ

theorem frame_kernelIdeal : Cert.quiescent_Kernel6Ideal := fun m ρ _ => Cert.Kernel6Ideal.Gen.frame m ρ

/-- The reference writes no argument and declares no semaphore. -/
theorem frame_referenceIdeal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

/-- The kernel's result array is the reference's on the same arguments. -/
theorem array_eq (m : (ℓ : Loc Cert.Kernel6Ideal.nD Cert.Kernel6Ideal.τ Cert.Kernel6Ideal.sig) → Buf (Elt Ideal) ℓ) (c : Dev Cert.Kernel6Ideal.nD) :
    ((Cert.Kernel6Ideal.Gen.dats m 0 c).arrAt 6 Cert.Kernel6Ideal.cfg0.N : FVec Ideal ⟨2, ![8192, 1024]⟩ .bf16)
      = Cert.Reference6Ideal.Read.val_main_v42 (F := Ideal) (m ((c : Thread Cert.Kernel6Ideal.nD Cert.Kernel6Ideal.τ).loc Cert.Kernel6Ideal.main_arg0))
          (m ((c : Thread Cert.Kernel6Ideal.nD Cert.Kernel6Ideal.τ).loc Cert.Kernel6Ideal.main_arg1))
          (m ((c : Thread Cert.Kernel6Ideal.nD Cert.Kernel6Ideal.τ).loc Cert.Kernel6Ideal.main_arg2))
          (m ((c : Thread Cert.Kernel6Ideal.nD Cert.Kernel6Ideal.τ).loc Cert.Kernel6Ideal.main_arg3))
          (m ((c : Thread Cert.Kernel6Ideal.nD Cert.Kernel6Ideal.τ).loc Cert.Kernel6Ideal.main_arg4)) := by
  funext i
  obtain ⟨r, q, rfl⟩ : ∃ (r : Fin 8192) (q : Fin 1024), i = ix2 r q := ⟨i 0, i 1, by funext a; match a with | 0 => rfl | 1 => rfl⟩
  exact (glu_apply m c r q).trans (v42_at _ _ _ _ _ r q).symm

/-- Kernel and reference end with the same result. -/
theorem algebraic : Cert.algebraic_Kernel6Ideal_Reference6Ideal := by
  intro m ρ m' ρ' _ hagree
  refine ⟨fun c => (Cert.Kernel6Ideal.Gen.dats m 0 c).arrAt 6 Cert.Kernel6Ideal.cfg0.N, Cert.Kernel6Ideal.Value.run_blocks m ρ, ?_⟩
  refine (θ_run Cert.Reference6Ideal.defs _ _).mono (fun _ h c => ⟨(h c).1.trans ?_, (h c).2⟩)
    (Cert.Reference6Ideal.Value.run (F := Ideal) m' ρ')
  rw [Cert.Reference6Ideal.Read.val_main_v42_eq, (hagree c).1, (hagree c).2.1, (hagree c).2.2.1, (hagree c).2.2.2.1, (hagree c).2.2.2.2]
  exact (array_eq m c).symm

end Cert.Glu

end
-- ==== Proof.Start.lean ====
/-
  The norm that the first layer begins with: the kernel's array and the reference's, entry by entry.
-/
module

public import proofs.«01_k».proof.Proof.FirstArray
public import proofs.«01_k».proof.Proof.FirstRef
public import proofs.«01_k».proof.Proof.Gen.Kernel7Ideal.Value

@[expose] public section

set_option maxRecDepth 16384

noncomputable section

namespace Cert.Start

open Idealize.ShloMosaic Idealize.ShloMosaic.TcCoe Idealize.SL.Sem
open Cert.Moba (Rep)
open Cert.Tail (cols eps meanSq normed nat1 nat1_of pos)
open Cert.First (sum3 col3 row3 four resid resid_of)
open Cert.Kernel7Ideal Cert.Kernel7Ideal.Gen

/-- One batch's rows, normed, as the kernel computes them. -/
def rowsNormed (x : FVec Ideal S1x16x16x2048 .f32) (g : FVec Ideal S1x2048 .f32) : FVec Ideal S16x16x2048 .f32 :=
  have v : FVec Ideal S16x16x2048 .f32 := shapeCast S16x16x2048 x shapeCasts_S1x16x16x2048_S16x16x2048
  have s : FVec Ideal S16x16x1 .f32 := shapeCast S16x16x1 (multiReduction .add [2] S16x16 (mulf v v) 0x00000000#32 reduces_S16x16x2048_S16x16 (.inl rfl) rfl) shapeCasts_S16x16_S16x16x1
  have r : FVec Ideal S16x16x1 .f32 := addf (divf s (broadcast S16x16x1 (Scalar.ofBits .f32 0x45000000#32))) (broadcast S16x16x1 (Scalar.ofBits .f32 0x358637BD#32))
  mulf (mulf v (broadcastTo S16x16x2048 (rsqrt r) broadcasts_S16x16x1_S16x16x2048))
    (broadcastTo S16x16x2048 (shapeCast S1x1x2048 (shapeCast S1x2048 g shapeCasts_S1x2048_S1x2048) shapeCasts_S1x2048_S1x1x2048) broadcasts_S1x1x2048_S16x16x2048)

variable {x : FVec Ideal S1x16x16x2048 .f32} {g : FVec Ideal S1x2048 .f32} {γ Y : ℕ → ℕ → EReal} {row : Fin 16 → Fin 16 → ℕ}

theorem rowsNormed_at (hx : ∀ k p (q : Fin 2048), (x (ix4 (0 : Fin 1) k p q) : EReal) = Y (row k p) q.val) (hg : Rep g γ)
    (k p : Fin 16) (q : Fin 2048) : (rowsNormed x g (ix3 k p q) : EReal) = normed Y (γ 0) (row k p) q.val := by
  have hv : ∀ (k p : Fin 16) (q : Fin 2048), (shapeCast S16x16x2048 x shapeCasts_S1x16x16x2048_S16x16x2048 (ix3 k p q) : EReal) = Y (row k p) q.val := fun k p q =>
    (shapeCast_apply x shapeCasts_S1x16x16x2048_S16x16x2048 (ix3 k p q) (ix4 (0 : Fin 1) k p q)
      (by rw [Shape.rowMajor_val_three, Shape.rowMajor_val_four]
          show ((0 * 16 + k.val) * 16 + p.val) * 2048 + q.val = (k.val * 16 + p.val) * 2048 + q.val; omega)).trans (hx k p q)
  unfold rowsNormed
  generalize shapeCast S16x16x2048 x shapeCasts_S1x16x16x2048_S16x16x2048 = v at hv ⊢
  have hs := sum3 (mulf v v) reduces_S16x16x2048_S16x16 (.inl rfl) rfl shapeCasts_S16x16_S16x16x1 k p 0
  have hm : (∑ d : Fin 2048, (mulf v v (ix3 k p d) : EReal)) = ∑ d : Fin 2048, Y (row k p) d.val * Y (row k p) d.val :=
    Finset.sum_congr rfl fun d _ => congrArg₂ (fun x y : EReal => x * y) (hv k p d) (hv k p d)
  have hr : (broadcastTo S16x16x2048 (rsqrt (addf (divf (shapeCast S16x16x1 (multiReduction .add [2] S16x16 (mulf v v) 0x00000000#32 reduces_S16x16x2048_S16x16 (.inl rfl) rfl) shapeCasts_S16x16_S16x16x1)
      (broadcast S16x16x1 (Scalar.ofBits .f32 0x45000000#32))) (broadcast S16x16x1 (Scalar.ofBits .f32 0x358637BD#32)) : FVec Ideal S16x16x1 .f32)) broadcasts_S16x16x1_S16x16x2048 (ix3 k p q) : EReal)
      = Ideal.rsqrt (meanSq Y (row k p) + eps) :=
    (col3 _ broadcasts_S16x16x1_S16x16x2048 k p q).trans (congrArg (fun s : EReal => Ideal.rsqrt (Ideal.div s cols + eps)) (hs.trans hm))
  have hγ : (broadcastTo S16x16x2048 (shapeCast S1x1x2048 (shapeCast S1x2048 g shapeCasts_S1x2048_S1x2048) shapeCasts_S1x2048_S1x1x2048) broadcasts_S1x1x2048_S16x16x2048 (ix3 k p q) : EReal) = γ 0 q.val := by
    refine (row3 _ broadcasts_S1x1x2048_S16x16x2048 k p q).trans ?_
    rw [shapeCast_apply _ shapeCasts_S1x2048_S1x1x2048 (ix3 (0 : Fin 1) (0 : Fin 1) q) (ix2 (0 : Fin 1) q)
      (by rw [Shape.rowMajor_val_two, Shape.rowMajor_val_three]; show 0 * 2048 + q.val = (0 * 1 + 0) * 2048 + q.val; omega)]
    exact hg.shapeCast shapeCasts_S1x2048_S1x2048 0 q
  exact congrArg₂ (fun x y : EReal => x * y) (congrArg₂ (fun x y : EReal => x * y) (hv k p q) hr) hγ

/-- A batch's normed rows, stored. -/
theorem pay2_at (hx : ∀ k p (q : Fin 2048), (x (ix4 (0 : Fin 1) k p q) : EReal) = Y (row k p) q.val) (hg : Rep g γ)
    (k p : Fin 16) (q : Fin 2048) : (k0_pay2 (F := Ideal) x g (ix4 k (0 : Fin 1) p q) : EReal) = normed Y (γ 0) (row k p) q.val :=
  (shapeCast_apply (truncf .bf16 (rowsNormed x g) bitsLt_bf16_f32) shapeCasts_S16x16x2048_S16x1x16x2048 (ix4 k (0 : Fin 1) p q) (ix3 k p q)
    (by rw [Shape.rowMajor_val_three, Shape.rowMajor_val_four]
        show (k.val * 16 + p.val) * 2048 + q.val = ((k.val * 1 + 0) * 16 + p.val) * 2048 + q.val; omega)).trans (rowsNormed_at hx hg k p q)

/-- The other batches compute what the first does. -/
theorem pay5_eq (x : FVec Ideal S1x16x16x2048 .f32) (g : FVec Ideal S1x2048 .f32) :
    k0_pay5 (F := Ideal) (k0_pay3 (F := Ideal) x) (k0_pay4 (F := Ideal) g) = k0_pay2 (F := Ideal) x g := rfl
theorem pay6_eq (x : FVec Ideal S1x16x16x2048 .f32) (g : FVec Ideal S1x2048 .f32) : k0_pay6 (F := Ideal) x g = k0_pay2 (F := Ideal) x g := rfl
theorem pay1_eq (x : FVec Ideal S1x16x16x2048 .f32) (g : FVec Ideal S1x2048 .f32) :
    k0_pay1 (F := Ideal) (k0_pay7 (F := Ideal) x) (k0_pay8 (F := Ideal) g) (k0_pay9 (F := Ideal) x) = k0_pay2 (F := Ideal) x g := rfl

/-- A load of one batch, at an index. -/
theorem ld_first {n0 n1 n2 n3 : ℕ} {e : EltTy} (x : (⟨4, ![n0, n1, n2, n3]⟩ : Shape).Idx → Elt Ideal e) (o : Fin n0) {v : ℕ} (hv : v = o.val) {inb} (k : Fin n1) (p : Fin n2) (q : Fin n3) :
    (View.ld x (Rect.unit (s := (⟨4, ![n0, n1, n2, n3]⟩ : Shape)) ![v, 0, 0, 0] (⟨4, ![1, n1, n2, n3]⟩ : Shape).size inb)
      : (⟨4, ![1, n1, n2, n3]⟩ : Shape).Idx → Elt Ideal e) (ix4 (0 : Fin 1) k p q) = x (ix4 o k p q) := by
  subst hv
  refine congrArg x ?_
  funext a; apply Fin.ext
  match a with
  | ⟨0, _⟩ => show o.val + 1 * 0 = o.val; omega
  | ⟨1, _⟩ => show 0 + 1 * k.val = k.val; omega
  | ⟨2, _⟩ => show 0 + 1 * p.val = p.val; omega
  | ⟨3, _⟩ => show 0 + 1 * q.val = q.val; omega

/-- A load of a whole buffer of two axes. -/
theorem ld_rep {n0 n1 : ℕ} {e : EltTy} {x : (⟨2, ![n0, n1]⟩ : Shape).Idx → Elt Ideal e} {f : ℕ → ℕ → Elt Ideal e} (h : Rep x f) {inb} :
    Rep (View.ld x (Rect.unit (s := (⟨2, ![n0, n1]⟩ : Shape)) ![0, 0] (⟨2, ![n0, n1]⟩ : Shape).size inb)
      : (⟨2, ![n0, n1]⟩ : Shape).Idx → Elt Ideal e) f := by
  intro i j
  refine Eq.trans (congrArg x ?_) (h i j)
  funext a; apply Fin.ext
  match a with
  | ⟨0, _⟩ => show 0 + 1 * i.val = i.val; omega
  | ⟨1, _⟩ => show 0 + 1 * j.val = j.val; omega

/-- The row of a block's chunk, batch and position. -/
abbrev rowOf (b : Fin 4) (k p : Fin 16) : ℕ := (k.val * 4 + b.val) * 16 + p.val

/-- An entry of the output block. -/
theorem out_at (x0 : FVec Ideal S4x16x16x2048 .f32) (x1 : FVec Ideal S1x2048 .f32) {X γ : ℕ → ℕ → EReal}
    (h0 : ∀ b k p (q : Fin 2048), (x0 (ix4 b k p q) : EReal) = X (rowOf b k p) q.val) (h1 : Rep x1 γ) (b : Fin 4) (k p : Fin 16) (q : Fin 2048) :
    (out0_2 (F := Ideal) x0 x1 (ix4 k b p q) : EReal) = normed X (γ 0) (rowOf b k p) q.val := by
  have hg := ld_rep (e := .f32) (x := x1) h1 (inb := inb_S1x2048_S1x2048_0_0)
  unfold out0_2
  exact four (e := .bf16) (fun b => normed X (γ 0) (rowOf b k p) q.val)
    (pay2_at (row := rowOf 0) (fun k p q => (ld_first (e := .f32) x0 0 (v := 0) rfl (inb := inb_S4x16x16x2048_S1x16x16x2048_0_0_0_0) k p q).trans (h0 0 k p q)) hg k p q)
    ((congrFun (pay5_eq _ _) _).trans (pay2_at (row := rowOf 1) (fun k p q => (ld_first (e := .f32) x0 1 (v := 1) rfl (inb := inb_S4x16x16x2048_S1x16x16x2048_1_0_0_0) k p q).trans (h0 1 k p q)) hg k p q))
    ((congrFun (pay6_eq _ _) _).trans (pay2_at (row := rowOf 2) (fun k p q => (ld_first (e := .f32) x0 2 (v := 2) rfl (inb := inb_S4x16x16x2048_S1x16x16x2048_2_0_0_0) k p q).trans (h0 2 k p q)) hg k p q))
    ((congrFun (pay1_eq _ _) _).trans (pay2_at (row := rowOf 3) (fun k p q => (ld_first (e := .f32) x0 3 (v := 3) rfl (inb := inb_S4x16x16x2048_S1x16x16x2048_3_0_0_0) k p q).trans (h0 3 k p q)) hg k p q)) b

/-- The normed input at a row and a column. -/
def startVal (x : FVec Ideal ⟨3, ![4, 2048, 2048]⟩ .f32) (g : FVec Ideal ⟨1, ![2048]⟩ .f32) : ℕ → ℕ → EReal := normed (resid x) (nat1 g)

section
variable (m : (ℓ : Loc nD τ sig) → Buf (Elt Ideal) ℓ) (c : Dev nD)

/-- The arguments that the memory holds. -/
abbrev xOf : FVec Ideal ⟨3, ![4, 2048, 2048]⟩ .f32 := m ((c : Thread nD τ).loc main_arg0)
abbrev gOf : FVec Ideal ⟨1, ![2048]⟩ .f32 := m ((c : Thread nD τ).loc main_arg1)

/-- Where the blocks of a grid point lie. -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0) ∧
    (win0_1.index t (0 : Fin 2) = 0 ∧ win0_1.index t (1 : Fin 2) = 0) ∧
    (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

theorem lt8 (t : Fin cfg0.N) : t.val < 8 := t.2

theorem V_x : (V m c main_v0 : FVec Ideal S4x128x16x2048 .f32) = shapeCast S4x128x16x2048 (xOf m c) shapeCasts_S4x2048x2048_S4x128x16x2048 := by
  unfold V hostOps0
  after_reads_simp
  rfl

theorem V_gain : (V m c main_v1 : FVec Ideal S1x2048 .f32) = shapeCast S1x2048 (gOf m c) shapeCasts_S2048_S1x2048 := by
  unfold V hostOps0
  after_reads_simp
  rfl

theorem emb0 (t : Fin cfg0.N) (b : Fin 4) (k p : Fin 16) (q : Fin 2048) :
    ((cfg0.win 0).blk t).view.emb (ix4 b k p q) = ix4 b (⟨16 * t.val + k.val, by have := lt8 t; omega⟩ : Fin 128) p q := by
  obtain ⟨⟨e0, e1, e2, e3⟩, _⟩ := idx_facts t
  funext a; apply Fin.ext
  match a with
  | ⟨0, _⟩ => show win0_0.index t (0 : Fin 4) * 4 + 1 * b.val = b.val; omega
  | ⟨1, _⟩ => show win0_0.index t (1 : Fin 4) * 16 + 1 * k.val = 16 * t.val + k.val; omega
  | ⟨2, _⟩ => show win0_0.index t (2 : Fin 4) * 16 + 1 * p.val = p.val; omega
  | ⟨3, _⟩ => show win0_0.index t (3 : Fin 4) * 2048 + 1 * q.val = q.val; omega

/-- The row of a grid point's block, in the array. -/
theorem row_eq (t : Fin cfg0.N) (b : Fin 4) (k p : Fin 16) : 1024 * t.val + rowOf b k p = ((16 * t.val + k.val) * 4 + b.val) * 16 + p.val := by
  show 1024 * t.val + ((k.val * 4 + b.val) * 16 + p.val) = _
  omega

theorem iblk0 (t : Fin cfg0.N) (b : Fin 4) (k p : Fin 16) (q : Fin 2048) :
    ((iblk m c 0 t : FVec Ideal S4x16x16x2048 .f32) (ix4 b k p q) : EReal) = resid (xOf m c) (1024 * t.val + rowOf b k p) q.val := by
  show V m c main_v0 (((cfg0.win 0).blk t).view.emb _) = _
  rw [emb0, V_x]
  refine (Cert.First.chunked_at _ b _ p q).trans ((resid_of _ b _ p q).symm.trans ?_)
  exact congrArg (fun R : ℕ => resid (xOf m c) R q.val) (row_eq t b k p).symm

theorem emb1 (t : Fin cfg0.N) (z : Fin 1) (q : Fin 2048) : ((cfg0.win 1).blk t).view.emb (ix2 z q) = ix2 z q := by
  obtain ⟨_, ⟨e0, e1⟩, _⟩ := idx_facts t
  funext a; apply Fin.ext
  match a with
  | ⟨0, _⟩ => show win0_1.index t (0 : Fin 2) * 1 + 1 * z.val = z.val; omega
  | ⟨1, _⟩ => show win0_1.index t (1 : Fin 2) * 2048 + 1 * q.val = q.val; omega

theorem iblk1 (t : Fin cfg0.N) : Rep (iblk m c 1 t : FVec Ideal S1x2048 .f32) fun _ q => nat1 (gOf m c) q := by
  intro z q
  show V m c main_v1 (((cfg0.win 1).blk t).view.emb _) = _
  rw [emb1, V_gain]
  exact (Cert.Moba.row_apply _ _ z q).trans (nat1_of _ _).symm

theorem emb2 (t : Fin cfg0.N) (k : Fin 16) (b : Fin 4) (p : Fin 16) (q : Fin 2048) :
    ((cfg0.win 2).blk t).view.emb (ix4 k b p q) = ix4 (⟨16 * t.val + k.val, by have := lt8 t; omega⟩ : Fin 128) b p q := by
  obtain ⟨_, _, ⟨e0, e1, e2, e3⟩⟩ := idx_facts t
  funext a; apply Fin.ext
  match a with
  | ⟨0, _⟩ => show win0_2.index t (0 : Fin 4) * 16 + 1 * k.val = 16 * t.val + k.val; omega
  | ⟨1, _⟩ => show win0_2.index t (1 : Fin 4) * 4 + 1 * b.val = b.val; omega
  | ⟨2, _⟩ => show win0_2.index t (2 : Fin 4) * 16 + 1 * p.val = p.val; omega
  | ⟨3, _⟩ => show win0_2.index t (3 : Fin 4) * 2048 + 1 * q.val = q.val; omega

theorem flush2 : ∀ t : Fin cfg0.N, (cfg0.win 2).flush t = true :=
  (by decide +kernel : ∀ t : Fin grid0.N, win0_2.flush t = true)

/-- A block's normed rows are the array's from the block's first row on. -/
theorem start_block (r : ℕ → ℕ → EReal) (γ : ℕ → EReal) (o i j : ℕ) : normed (fun R q => r (o + R) q) γ i j = normed r γ (o + i) j := by
  unfold normed meanSq
  rfl

/-- What a grid point writes back. -/
theorem flushed_at (t : Fin cfg0.N) (k : Fin 16) (b : Fin 4) (p : Fin 16) (q : Fin 2048) :
    (out0_2 (iblk m c 0 t) (iblk m c 1 t) (ix4 k b p q) : EReal)
      = startVal (xOf m c) (gOf m c) (((16 * t.val + k.val) * 4 + b.val) * 16 + p.val) q.val := by
  have e := start_block (resid (xOf m c)) (nat1 (gOf m c)) (1024 * t.val) (rowOf b k p) q.val
  refine Eq.trans ?_ (congrArg (fun R : ℕ => startVal (xOf m c) (gOf m c) R q.val) (row_eq t b k p))
  refine Eq.trans ?_ e
  exact out_at (iblk m c 0 t) (iblk m c 1 t) (X := fun R q => resid (xOf m c) (1024 * t.val + R) q) (iblk0 m c t) (iblk1 m c t) b k p q

/-- The kernel's result, entry by entry. -/
theorem start_apply (k : Fin 128) (b : Fin 4) (p : Fin 16) (q : Fin 2048) :
    (((dats m 0 c).arrAt 2 cfg0.N : FVec Ideal S128x4x16x2048 .bf16) (ix4 k b p q) : EReal)
      = startVal (xOf m c) (gOf m c) ((k.val * 4 + b.val) * 16 + p.val) q.val := by
  let t : Fin cfg0.N := ⟨k.val / 16, by show _ < 8; omega⟩
  let s : Fin 16 := ⟨k.val % 16, by omega⟩
  have hk : 16 * t.val + s.val = k.val := by show 16 * (k.val / 16) + k.val % 16 = k.val; omega
  have e := congrFun (Cert.Kernel7Ideal.Value.blocks2 m c t (flush2 _)) (ix4 s b p q)
  rw [Cert.Kernel7Ideal.Value.flushed2] at e
  have e' : ((dats m 0 c).arrAt 2 cfg0.N : FVec Ideal S128x4x16x2048 .bf16) (((cfg0.win 2).blk t).view.emb (ix4 s b p q)) = _ := e
  rw [emb2, show (⟨16 * t.val + s.val, by have := lt8 t; omega⟩ : Fin 128) = k from Fin.ext hk] at e'
  refine e'.trans (Eq.trans (flushed_at m c t s b p q) ?_)
  rw [hk]

end

end Cert.Start

end
-- ==== Proof.StartNorm.lean ====
/-
  The claims about the norm that the first layer begins with: the frames, the idealization, and that kernel and reference
  compute the same.
-/
module

public import proofs.«01_k».proof.Defs
public import proofs.«01_k».proof.Proof.Start
public import proofs.«01_k».proof.Proof.Gen.Kernel7.Frame
public import proofs.«01_k».proof.Proof.Gen.Reference7Ideal.Read

@[expose] public section

set_option maxRecDepth 16384

noncomputable section

namespace Cert.Start

open Idealize.ShloMosaic Idealize.ShloMosaic.TcCoe Idealize.SL.Sem
open Cert.Proj (ext3 ext4)
open Cert.Tail (eps meanSq normed nat1 nat1_of pos)
open Cert.First (resid resid_of join_pos R)

theorem frame_kernel : Cert.quiescent_Kernel7 := fun m ρ _ => Cert.Kernel7.Gen.frame m ρ

theorem frame_kernelIdeal : Cert.quiescent_Kernel7Ideal := fun m ρ _ => Cert.Kernel7Ideal.Gen.frame m ρ

/-- The reference writes no argument and declares no semaphore. -/
theorem frame_referenceIdeal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

section
open Cert.Reference7Ideal Cert.Reference7Ideal.Gen Cert.Reference7Ideal.Read

variable (x : FVec Ideal ⟨3, ![4, 2048, 2048]⟩ .f32) (g : FVec Ideal ⟨1, ![2048]⟩ .f32)
variable (b : Fin 4) (k : Fin 128) (p : Fin 16) (q : Fin 2048)

/-- The mean of the squares of a row of the input. -/
theorem v4_at (z : Fin 1) : (val_main_v4 (F := Ideal) x (ix3 b (pos k p) z) : EReal) = meanSq (resid x) (R b k p) := by
  rw [val_main_v4_apply, val_main_v2_apply, val_main_v1_apply, val_main_v3_apply, val_main_cst_0_apply, val_main_cst_apply]
  unfold meanSq
  refine congrArg₂ Ideal.div ?_ rfl
  refine (congrArg₂ (fun u v : EReal => u + v) Ideal.ofBits_zero_f32 (Finset.sum_congr rfl fun d _ => ?_)).trans (zero_add _)
  rw [val_main_v0_apply]
  have h : (x (idx_main_v1 (idx_main_v2 (ix3 b (pos k p) z)) d) : EReal) = resid x (R b k p) d.val := by
    have e : idx_main_v1 (idx_main_v2 (ix3 b (pos k p) z)) d = ix3 b (pos k p) d := ext3 rfl rfl rfl
    rw [e]
    exact (resid_of x b k p d).symm
  exact congrArg₂ (fun u v : EReal => u * v) h h

theorem v8_at : (val_main_v8 (F := Ideal) x (ix3 b (pos k p) q) : EReal) = Ideal.rsqrt (meanSq (resid x) (R b k p) + eps) := by
  rw [val_main_v8_apply, val_main_v7_apply, val_main_v6_apply, val_main_v5_apply, val_main_cst_1_apply]
  refine congrArg Ideal.rsqrt (congrArg₂ (fun u v : EReal => u + v) ?_ rfl)
  have e : idx_main_v8 (ix3 b (pos k p) q) = ix3 b (pos k p) (0 : Fin 1) := ext3 rfl rfl rfl
  rw [e]
  exact v4_at x b k p 0

theorem v11_at : (val_main_v11 (F := Ideal) g (ix3 b (pos k p) q) : EReal) = nat1 g q.val := by
  rw [val_main_v11_apply, val_main_v10_apply]
  refine Eq.trans (congrArg g ?_) (nat1_of g q).symm
  funext a; apply Fin.ext
  match a with
  | ⟨0, _⟩ => rfl

theorem v12_at : (val_main_v12 (F := Ideal) x g (ix3 b (pos k p) q) : EReal) = startVal x g (R b k p) q.val := by
  rw [val_main_v12_apply, val_main_v9_apply, v8_at, v11_at]
  exact congrArg (fun u : EReal => u * Ideal.rsqrt (meanSq (resid x) (R b k p) + eps) * nat1 g q.val) (resid_of x b k p q).symm

/-- The reference's result, entry by entry. -/
theorem v15_at : (val_main_v15 (F := Ideal) x g (ix4 k b p q) : EReal) = startVal x g (R b k p) q.val := by
  rw [val_main_v15_apply, val_main_v14_apply]
  have e : idx_main_v14 (ix4 k b p q) = ix4 b k p q := ext4 rfl rfl rfl rfl
  rw [e, val_main_v13_apply]
  obtain ⟨h0, h1, h2⟩ := join_pos b k p q
  exact (congrArg (val_main_v12 (F := Ideal) x g) (a₂ := ix3 b (pos k p) q) (ext3 h0 h1 h2)).trans (v12_at x g b k p q)

end

/-- The kernel's result array is the reference's on the same arguments. -/
theorem array_eq (m : (ℓ : Loc Cert.Kernel7Ideal.nD Cert.Kernel7Ideal.τ Cert.Kernel7Ideal.sig) → Buf (Elt Ideal) ℓ) (c : Dev Cert.Kernel7Ideal.nD) :
    ((Cert.Kernel7Ideal.Gen.dats m 0 c).arrAt 2 Cert.Kernel7Ideal.cfg0.N : FVec Ideal ⟨4, ![128, 4, 16, 2048]⟩ .bf16)
      = Cert.Reference7Ideal.Read.val_main_v15 (F := Ideal) (m ((c : Thread Cert.Kernel7Ideal.nD Cert.Kernel7Ideal.τ).loc Cert.Kernel7Ideal.main_arg0))
          (m ((c : Thread Cert.Kernel7Ideal.nD Cert.Kernel7Ideal.τ).loc Cert.Kernel7Ideal.main_arg1)) := by
  funext i
  obtain ⟨k, b, p, q, rfl⟩ : ∃ (k : Fin 128) (b : Fin 4) (p : Fin 16) (q : Fin 2048), i = ix4 k b p q :=
    ⟨i 0, i 1, i 2, i 3, by funext a; match a with | 0 => rfl | 1 => rfl | 2 => rfl | 3 => rfl⟩
  exact (start_apply m c k b p q).trans (v15_at _ _ b k p q).symm

/-- Kernel and reference end with the same result. -/
theorem algebraic : Cert.algebraic_Kernel7Ideal_Reference7Ideal := by
  intro m ρ m' ρ' _ hagree
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun _ h c => ⟨(h c).1.trans ?_, (h c).2⟩)
    (Cert.Reference7Ideal.Value.run (F := Ideal) m' ρ')
  refine (Cert.Reference7Ideal.Read.val_main_v15_eq _ _).trans ?_
  rw [(hagree c).1, (hagree c).2]
  exact (array_eq m c).symm

end Cert.Start

end
-- ==== Proof.lean ====
/- The proof of the claims: the frames of the kernel, of its idealization and of the reference, the idealization, and that
   the idealized kernel and the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Attention
public import proofs.«01_k».proof.Proof.Projection
public import proofs.«01_k».proof.Proof.OutProjection
public import proofs.«01_k».proof.Proof.Merge
public import proofs.«01_k».proof.Proof.FirstProjection
public import proofs.«01_k».proof.Proof.Glu
public import proofs.«01_k».proof.Proof.StartNorm
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Moba.preFacts,
  Cert.Moba.frame_kernel, Cert.Moba.frame_kernelIdeal, Cert.Moba.frame_kernelIdeal_pre, Cert.Moba.frame_referenceIdeal,
  Cert.Moba.frame_referenceIdeal_pre, Cert.Proj.frame_kernel, Cert.Proj.frame_kernelIdeal, Cert.Proj.frame_referenceIdeal,
  Cert.Tail.frame_kernel, Cert.Tail.frame_kernelIdeal, Cert.Tail.frame_referenceIdeal,
  Cert.Merge.frame_kernel, Cert.Merge.frame_kernelIdeal, Cert.Merge.frame_referenceIdeal,
  Cert.First.frame_kernel, Cert.First.frame_kernelIdeal, Cert.First.frame_referenceIdeal,
  Cert.Glu.frame_kernel, Cert.Glu.frame_kernelIdeal, Cert.Glu.frame_referenceIdeal,
  Cert.Start.frame_kernel, Cert.Start.frame_kernelIdeal, Cert.Start.frame_referenceIdeal,
  Cert.Moba.preserves, Cert.Moba.algebraic, Cert.Proj.preserves, Cert.Proj.algebraic,
  Cert.Tail.preserves, Cert.Tail.algebraic, Cert.Merge.preserves, Cert.Merge.algebraic,
  Cert.First.preserves, Cert.First.algebraic, Cert.Glu.preserves, Cert.Glu.algebraic,
  Cert.Start.preserves, Cert.Start.algebraic⟩

end Cert.Proof

end
